-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16 : Shape := ⟨1, ![16]⟩
abbrev S4097x1024 : Shape := ⟨2, ![4097, 1024]⟩
abbrev S_ : Shape := ⟨0, ![]⟩
abbrev S1x1024 : Shape := ⟨2, ![1, 1024]⟩
abbrev S1024 : Shape := ⟨1, ![1024]⟩

class Facts : Prop where
  bcast_S_S16 : S_.BroadcastsInDim S16 (![] : Fin 0 → Fin S16.rank)
  reducesTo_S16_S_d0 : S16.ReducesTo [0] S_
  h_S_ : 0 < S_.numel
  slices_S4097x1024_S1x1024_0_0 : S4097x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S16 32) (main_arg1 : FVec F S4097x1024 .f32) : IVec S_ 1 :=
  let main_c : IVec S_ 32 := constantI S_ 32 2147487712#32
  let main_v0 : IVec S16 32 := broadcastInDim S16 ![] bcast_S_S16 main_c
  let main_v1 : IVec S16 1 := cmpi .sge main_arg0 main_v0
  let main_c_0 : IVec S_ 1 := constantI S_ 1 1#1
  let main_v2 : IVec S_ 1 := (fun x v => Host.reduce IntOp.andi x v reducesTo_S16_S_d0 h_S_) main_v1 main_c_0
  let main_v3 : FVec F S1x1024 .f32 := (extractStridedSlice S1x1024 ![0, 0] · slices_S4097x1024_S1x1024_0_0) main_arg1
  let main_v4 : FVec F S1024 .f32 := shapeCast S1024 main_v3 shapeCasts_S1x1024_S1024
  let main_cst : FVec F S_ .f32 := constant S_ .f32 0x00000000#32
  let main_v5 : FVec F S1024 .f32 := broadcastInDim S1024 ![] bcast_S_S1024 main_cst
  let main_v6 : IVec S1024 1 := cmpf .oeq main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v2 main_v7
  main_v8
-- ==== Kernel.lean ====
abbrev S16 : Shape := ⟨1, ![16]⟩
abbrev S4097x1024 : Shape := ⟨2, ![4097, 1024]⟩
abbrev S4096x1024 : Shape := ⟨2, ![4096, 1024]⟩
abbrev S_ : Shape := ⟨0, ![]⟩
abbrev S32x1024 : Shape := ⟨2, ![32, 1024]⟩
abbrev S16x4096x1024 : Shape := ⟨3, ![16, 4096, 1024]⟩
abbrev S65536 : Shape := ⟨1, ![65536]⟩
abbrev S128 : Shape := ⟨1, ![128]⟩
abbrev S1 : Shape := ⟨1, ![1]⟩
abbrev S1x16 : Shape := ⟨2, ![1, 16]⟩
abbrev S1x32x1024 : Shape := ⟨3, ![1, 32, 1024]⟩
abbrev S16x4096 : Shape := ⟨2, ![16, 4096]⟩

abbrev nBuf : Table → Nat
  | .hbm => 8
  | .local .scVector .vmem => 5
  | _ => 0

abbrev bufTy : (tb : Table) → Fin (nBuf tb) → BufTy
  | .hbm, ⟨0, _⟩ => ⟨S16, .i32⟩
  | .hbm, ⟨1, _⟩ => ⟨S4097x1024, .f32⟩
  | .hbm, ⟨2, _⟩ => ⟨S4096x1024, .f32⟩
  | .hbm, ⟨3, _⟩ => ⟨S_, .f32⟩
  | .hbm, ⟨4, _⟩ => ⟨S32x1024, .f32⟩
  | .hbm, ⟨5, _⟩ => ⟨S16x4096x1024, .f32⟩
  | .hbm, ⟨6, _⟩ => ⟨S65536, .i32⟩
  | .hbm, ⟨7, _⟩ => ⟨S16x4096, .i32⟩
  | .local .scVector .vmem, ⟨0, _⟩ => ⟨S16, .i32⟩
  | .local .scVector .vmem, ⟨1, _⟩ => ⟨S32x1024, .f32⟩
  | .local .scVector .vmem, ⟨2, _⟩ => ⟨S32x1024, .f32⟩
  | .local .scVector .vmem, ⟨3, _⟩ => ⟨S32x1024, .f32⟩
  | .local .scVector .vmem, ⟨4, _⟩ => ⟨S128, .i32⟩
  | _, _ => ⟨S16, .i32⟩

abbrev dmaSemScopedAt0_0 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => false
  | 32 => false
  | 33 => false
  | 34 => false
  | 35 => false
  | 36 => false
  | 37 => false
  | 38 => false
  | 39 => false
  | 40 => false
  | 41 => false
  | 42 => false
  | 43 => false
  | 44 => false
  | 45 => false
  | 46 => false
  | 47 => false
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => false
  | 88 => false
  | 89 => false
  | 90 => false
  | 91 => false
  | 92 => false
  | 93 => false
  | 94 => false
  | 95 => false
  | 96 => false
  | 97 => false
  | 98 => false
  | 99 => false
  | 100 => false
  | 101 => false
  | 102 => false
  | 103 => false
  | 104 => false
  | 105 => false
  | 106 => false
  | 107 => false
  | 108 => false
  | 109 => false
  | 110 => false
  | 111 => false
  | 112 => false
  | 113 => false
  | 114 => false
  | 115 => false
  | 116 => false
  | 117 => false
  | 118 => false
  | 119 => false
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => false
  | 16 => false
  | 17 => false
  | 18 => false
  | 19 => false
  | 20 => false
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 149 → Bool
  | ⟨i, _⟩ => dmaSemScopedAt i

abbrev sig : RefSig :=
  ofTables nBuf rfl bufTy 4 149 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_arg0_scv : Ref sig .scVector := ⟨.hbm, 0, rfl⟩
abbrev main_v0_scv : Ref sig .scVector := ⟨.hbm, 2, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v4 : BitVec 32 := Scalar.muli v1 c4_i32
  let c0_i32 : BitVec 32 := 0#32
  let v5 : BitVec 32 := Scalar.addi v4 c0_i32
  let c32_i32 : BitVec 32 := 32#32
  let v6 : BitVec 32 := Scalar.muli v5 c32_i32
  let c0_i32_0 : BitVec 32 := 0#32
  ![v6.toNat, 0]
@[reducible] def k0_t1_loop : Scf.Loop 32 :=
  let c0_i32_3 : BitVec 32 := 0#32
  let c8_i32 : BitVec 32 := 8#32
  let v12 : BitVec 32 := Scalar.addi c0_i32_3 c8_i32
  let c1_i32 : BitVec 32 := 1#32
  ⟨c0_i32_3, v12, c1_i32⟩
def k0_off2 (k0_t1 : Fin k0_t1_loop.trips) : Fin 1 → Nat :=
  let c0_i32_3 : BitVec 32 := 0#32
  let c1_i32 : BitVec 32 := 1#32
  let arg15 : BitVec 32 := Scf.iv c0_i32_3 c1_i32 k0_t1
  let c16_i32_833 : BitVec 32 := 16#32
  let v1795 : BitVec 32 := Scalar.muli arg15 c16_i32_833
  let v1796 : Index := Scalar.indexCast v1795
  ![v1796.toNat]
def k0_off3 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v9 : BitVec 32 := Scalar.muli v1 c128_i32
  let v13 : BitVec 32 := Scalar.addi c0_i32_5 v9
  ![v13.toNat]
@[reducible] def k0_t2_loop : Scf.Loop 32 :=
  let c0_i32_7 : BitVec 32 := 0#32
  let c8_i32_8 : BitVec 32 := 8#32
  let v16 : BitVec 32 := Scalar.addi c0_i32_7 c8_i32_8
  let c1_i32_9 : BitVec 32 := 1#32
  ⟨c0_i32_7, v16, c1_i32_9⟩
def k0_off4 (k0_t2 : Fin k0_t2_loop.trips) : Fin 1 → Nat :=
  let c0_i32_7 : BitVec 32 := 0#32
  let c1_i32_9 : BitVec 32 := 1#32
  let arg15 : BitVec 32 := Scf.iv c0_i32_7 c1_i32_9 k0_t2
  let c16_i32_833 : BitVec 32 := 16#32
  let v1795 : BitVec 32 := Scalar.muli arg15 c16_i32_833
  let v1796 : Index := Scalar.indexCast v1795
  ![v1796.toNat]
@[reducible] def k0_t3_loop : Scf.Loop 32 :=
  let c0_i32_12 : BitVec 32 := 0#32
  let c8_i32_13 : BitVec 32 := 8#32
  let v20 : BitVec 32 := Scalar.addi c0_i32_12 c8_i32_13
  let c1_i32_14 : BitVec 32 := 1#32
  ⟨c0_i32_12, v20, c1_i32_14⟩
def k0_off5 (k0_t3 : Fin k0_t3_loop.trips) : Fin 1 → Nat :=
  let c0_i32_12 : BitVec 32 := 0#32
  let c1_i32_14 : BitVec 32 := 1#32
  let arg15 : BitVec 32 := Scf.iv c0_i32_12 c1_i32_14 k0_t3
  let c16_i32_833 : BitVec 32 := 16#32
  let v1795 : BitVec 32 := Scalar.muli arg15 c16_i32_833
  let v1796 : Index := Scalar.indexCast v1795
  ![v1796.toNat]
@[reducible] def k0_t4_loop : Scf.Loop 32 :=
  let c0_i32_17 : BitVec 32 := 0#32
  let c8_i32_18 : BitVec 32 := 8#32
  let v24 : BitVec 32 := Scalar.addi c0_i32_17 c8_i32_18
  let c1_i32_19 : BitVec 32 := 1#32
  ⟨c0_i32_17, v24, c1_i32_19⟩
def k0_off6 (k0_t4 : Fin k0_t4_loop.trips) : Fin 1 → Nat :=
  let c0_i32_17 : BitVec 32 := 0#32
  let c1_i32_19 : BitVec 32 := 1#32
  let arg15 : BitVec 32 := Scf.iv c0_i32_17 c1_i32_19 k0_t4
  let c16_i32_833 : BitVec 32 := 16#32
  let v1795 : BitVec 32 := Scalar.muli arg15 c16_i32_833
  let v1796 : Index := Scalar.indexCast v1795
  ![v1796.toNat]
@[reducible] def k0_t5_loop : Scf.Loop 32 :=
  let c0_i32_22 : BitVec 32 := 0#32
  let c8_i32_23 : BitVec 32 := 8#32
  let v28 : BitVec 32 := Scalar.addi c0_i32_22 c8_i32_23
  let c1_i32_24 : BitVec 32 := 1#32
  ⟨c0_i32_22, v28, c1_i32_24⟩
def k0_off7 (k0_t5 : Fin k0_t5_loop.trips) : Fin 1 → Nat :=
  let c0_i32_22 : BitVec 32 := 0#32
  let c1_i32_24 : BitVec 32 := 1#32
  let arg15 : BitVec 32 := Scf.iv c0_i32_22 c1_i32_24 k0_t5
  let c16_i32_833 : BitVec 32 := 16#32
  let v1795 : BitVec 32 := Scalar.muli arg15 c16_i32_833
  let v1796 : Index := Scalar.indexCast v1795
  ![v1796.toNat]
@[reducible] def k0_t6_loop : Scf.Loop 32 :=
  let c0_i32_27 : BitVec 32 := 0#32
  let c8_i32_28 : BitVec 32 := 8#32
  let v32 : BitVec 32 := Scalar.addi c0_i32_27 c8_i32_28
  let c1_i32_29 : BitVec 32 := 1#32
  ⟨c0_i32_27, v32, c1_i32_29⟩
def k0_off8 (k0_t6 : Fin k0_t6_loop.trips) : Fin 1 → Nat :=
  let c0_i32_27 : BitVec 32 := 0#32
  let c1_i32_29 : BitVec 32 := 1#32
  let arg15 : BitVec 32 := Scf.iv c0_i32_27 c1_i32_29 k0_t6
  let c16_i32_833 : BitVec 32 := 16#32
  let v1795 : BitVec 32 := Scalar.muli arg15 c16_i32_833
  let v1796 : Index := Scalar.indexCast v1795
  ![v1796.toNat]
@[reducible] def k0_t7_loop : Scf.Loop 32 :=
  let c0_i32_32 : BitVec 32 := 0#32
  let c8_i32_33 : BitVec 32 := 8#32
  let v36 : BitVec 32 := Scalar.addi c0_i32_32 c8_i32_33
  let c1_i32_34 : BitVec 32 := 1#32
  ⟨c0_i32_32, v36, c1_i32_34⟩
def k0_off9 (k0_t7 : Fin k0_t7_loop.trips) : Fin 1 → Nat :=
  let c0_i32_32 : BitVec 32 := 0#32
  let c1_i32_34 : BitVec 32 := 1#32
  let arg15 : BitVec 32 := Scf.iv c0_i32_32 c1_i32_34 k0_t7
  let c16_i32_833 : BitVec 32 := 16#32
  let v1795 : BitVec 32 := Scalar.muli arg15 c16_i32_833
  let v1796 : Index := Scalar.indexCast v1795
  ![v1796.toNat]
@[reducible] def k0_t8_loop : Scf.Loop 32 :=
  let c0_i32_37 : BitVec 32 := 0#32
  let c8_i32_38 : BitVec 32 := 8#32
  let v40 : BitVec 32 := Scalar.addi c0_i32_37 c8_i32_38
  let c1_i32_39 : BitVec 32 := 1#32
  ⟨c0_i32_37, v40, c1_i32_39⟩
def k0_off10 (k0_t8 : Fin k0_t8_loop.trips) : Fin 1 → Nat :=
  let c0_i32_37 : BitVec 32 := 0#32
  let c1_i32_39 : BitVec 32 := 1#32
  let arg15 : BitVec 32 := Scf.iv c0_i32_37 c1_i32_39 k0_t8
  let c16_i32_833 : BitVec 32 := 16#32
  let v1795 : BitVec 32 := Scalar.muli arg15 c16_i32_833
  let v1796 : Index := Scalar.indexCast v1795
  ![v1796.toNat]
@[reducible] def k0_t9_loop : Scf.Loop 32 :=
  let c0_i32_42 : BitVec 32 := 0#32
  let c8_i32_43 : BitVec 32 := 8#32
  let v44 : BitVec 32 := Scalar.addi c0_i32_42 c8_i32_43
  let c1_i32_44 : BitVec 32 := 1#32
  ⟨c0_i32_42, v44, c1_i32_44⟩
def k0_off11 (k0_t9 : Fin k0_t9_loop.trips) : Fin 1 → Nat :=
  let c0_i32_42 : BitVec 32 := 0#32
  let c1_i32_44 : BitVec 32 := 1#32
  let arg15 : BitVec 32 := Scf.iv c0_i32_42 c1_i32_44 k0_t9
  let c16_i32_833 : BitVec 32 := 16#32
  let v1795 : BitVec 32 := Scalar.muli arg15 c16_i32_833
  let v1796 : Index := Scalar.indexCast v1795
  ![v1796.toNat]
@[reducible] def k0_t10_loop : Scf.Loop 32 :=
  let c0_i32_47 : BitVec 32 := 0#32
  let c8_i32_48 : BitVec 32 := 8#32
  let v48 : BitVec 32 := Scalar.addi c0_i32_47 c8_i32_48
  let c1_i32_49 : BitVec 32 := 1#32
  ⟨c0_i32_47, v48, c1_i32_49⟩
def k0_off12 (k0_t10 : Fin k0_t10_loop.trips) : Fin 1 → Nat :=
  let c0_i32_47 : BitVec 32 := 0#32
  let c1_i32_49 : BitVec 32 := 1#32
  let arg15 : BitVec 32 := Scf.iv c0_i32_47 c1_i32_49 k0_t10
  let c16_i32_833 : BitVec 32 := 16#32
  let v1795 : BitVec 32 := Scalar.muli arg15 c16_i32_833
  let v1796 : Index := Scalar.indexCast v1795
  ![v1796.toNat]
@[reducible] def k0_t11_loop : Scf.Loop 32 :=
  let c0_i32_52 : BitVec 32 := 0#32
  let c8_i32_53 : BitVec 32 := 8#32
  let v52 : BitVec 32 := Scalar.addi c0_i32_52 c8_i32_53
  let c1_i32_54 : BitVec 32 := 1#32
  ⟨c0_i32_52, v52, c1_i32_54⟩
def k0_off13 (k0_t11 : Fin k0_t11_loop.trips) : Fin 1 → Nat :=
  let c0_i32_52 : BitVec 32 := 0#32
  let c1_i32_54 : BitVec 32 := 1#32
  let arg15 : BitVec 32 := Scf.iv c0_i32_52 c1_i32_54 k0_t11
  let c16_i32_833 : BitVec 32 := 16#32
  let v1795 : BitVec 32 := Scalar.muli arg15 c16_i32_833
  let v1796 : Index := Scalar.indexCast v1795
  ![v1796.toNat]
@[reducible] def k0_t12_loop : Scf.Loop 32 :=
  let c0_i32_57 : BitVec 32 := 0#32
  let c8_i32_58 : BitVec 32 := 8#32
  let v56 : BitVec 32 := Scalar.addi c0_i32_57 c8_i32_58
  let c1_i32_59 : BitVec 32 := 1#32
  ⟨c0_i32_57, v56, c1_i32_59⟩
def k0_off14 (k0_t12 : Fin k0_t12_loop.trips) : Fin 1 → Nat :=
  let c0_i32_57 : BitVec 32 := 0#32
  let c1_i32_59 : BitVec 32 := 1#32
  let arg15 : BitVec 32 := Scf.iv c0_i32_57 c1_i32_59 k0_t12
  let c16_i32_833 : BitVec 32 := 16#32
  let v1795 : BitVec 32 := Scalar.muli arg15 c16_i32_833
  let v1796 : Index := Scalar.indexCast v1795
  ![v1796.toNat]
@[reducible] def k0_t13_loop : Scf.Loop 32 :=
  let c0_i32_62 : BitVec 32 := 0#32
  let c8_i32_63 : BitVec 32 := 8#32
  let v60 : BitVec 32 := Scalar.addi c0_i32_62 c8_i32_63
  let c1_i32_64 : BitVec 32 := 1#32
  ⟨c0_i32_62, v60, c1_i32_64⟩
def k0_off15 (k0_t13 : Fin k0_t13_loop.trips) : Fin 1 → Nat :=
  let c0_i32_62 : BitVec 32 := 0#32
  let c1_i32_64 : BitVec 32 := 1#32
  let arg15 : BitVec 32 := Scf.iv c0_i32_62 c1_i32_64 k0_t13
  let c16_i32_833 : BitVec 32 := 16#32
  let v1795 : BitVec 32 := Scalar.muli arg15 c16_i32_833
  let v1796 : Index := Scalar.indexCast v1795
  ![v1796.toNat]
@[reducible] def k0_t14_loop : Scf.Loop 32 :=
  let c0_i32_67 : BitVec 32 := 0#32
  let c8_i32_68 : BitVec 32 := 8#32
  let v64 : BitVec 32 := Scalar.addi c0_i32_67 c8_i32_68
  let c1_i32_69 : BitVec 32 := 1#32
  ⟨c0_i32_67, v64, c1_i32_69⟩
def k0_off16 (k0_t14 : Fin k0_t14_loop.trips) : Fin 1 → Nat :=
  let c0_i32_67 : BitVec 32 := 0#32
  let c1_i32_69 : BitVec 32 := 1#32
  let arg15 : BitVec 32 := Scf.iv c0_i32_67 c1_i32_69 k0_t14
  let c16_i32_833 : BitVec 32 := 16#32
  let v1795 : BitVec 32 := Scalar.muli arg15 c16_i32_833
  let v1796 : Index := Scalar.indexCast v1795
  ![v1796.toNat]
@[reducible] def k0_t15_loop : Scf.Loop 32 :=
  let c0_i32_72 : BitVec 32 := 0#32
  let c8_i32_73 : BitVec 32 := 8#32
  let v68 : BitVec 32 := Scalar.addi c0_i32_72 c8_i32_73
  let c1_i32_74 : BitVec 32 := 1#32
  ⟨c0_i32_72, v68, c1_i32_74⟩
def k0_off17 (k0_t15 : Fin k0_t15_loop.trips) : Fin 1 → Nat :=
  let c0_i32_72 : BitVec 32 := 0#32
  let c1_i32_74 : BitVec 32 := 1#32
  let arg15 : BitVec 32 := Scf.iv c0_i32_72 c1_i32_74 k0_t15
  let c16_i32_833 : BitVec 32 := 16#32
  let v1795 : BitVec 32 := Scalar.muli arg15 c16_i32_833
  let v1796 : Index := Scalar.indexCast v1795
  ![v1796.toNat]
@[reducible] def k0_t16_loop : Scf.Loop 32 :=
  let c0_i32_77 : BitVec 32 := 0#32
  let c8_i32_78 : BitVec 32 := 8#32
  let v72 : BitVec 32 := Scalar.addi c0_i32_77 c8_i32_78
  let c1_i32_79 : BitVec 32 := 1#32
  ⟨c0_i32_77, v72, c1_i32_79⟩
def k0_off18 (k0_t16 : Fin k0_t16_loop.trips) : Fin 1 → Nat :=
  let c0_i32_77 : BitVec 32 := 0#32
  let c1_i32_79 : BitVec 32 := 1#32
  let arg15 : BitVec 32 := Scf.iv c0_i32_77 c1_i32_79 k0_t16
  let c16_i32_833 : BitVec 32 := 16#32
  let v1795 : BitVec 32 := Scalar.muli arg15 c16_i32_833
  let v1796 : Index := Scalar.indexCast v1795
  ![v1796.toNat]
@[reducible] def k0_t17_loop (i : grid0.Coords) (v80 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v81 : BitVec 32 := Scalar.subi v80 v76
  let c32_i32_832 : BitVec 32 := 32#32
  let v1785 : BitVec 32 := Scalar.subi c32_i32_832 v81
  let c1_i32_833 : BitVec 32 := 1#32
  let v1787 : BitVec 32 := Scalar.divsi v1785 c1_i32_833
  let v1788 : BitVec 32 := Scalar.muli v1787 c1_i32_833
  let v1789 : BitVec 32 := Scalar.addi v81 v1788
  let c1_i32_834 : BitVec 32 := 1#32
  ⟨v81, v1789, c1_i32_834⟩
def k0_cond1 (i : grid0.Coords) (v80 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v81 : BitVec 32 := Scalar.subi v80 v76
  let c0_i32_86 : BitVec 32 := 0#32
  let v82 : BitVec 1 := Scalar.cmpi .sgt v81 c0_i32_86
  let c32_i32_87 : BitVec 32 := 32#32
  let v83 : BitVec 1 := Scalar.cmpi .slt v81 c32_i32_87
  let v84 : BitVec 1 := Scalar.andi v82 v83
  let v85 : BitVec 32 := Scalar.extui v84
  let c0_i32_88 : BitVec 32 := 0#32
  let v86 : BitVec 1 := Scalar.cmpi .ne v85 c0_i32_88
  v86

@[reducible] def k0_t18_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off19 (i : grid0.Coords) (v80 : BitVec 32) (k0_t17 : Fin (k0_t17_loop i v80).trips) (k0_t18 : Fin k0_t18_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v81 : BitVec 32 := Scalar.subi v80 v76
  let c1_i32_834 : BitVec 32 := 1#32
  let arg15 : BitVec 32 := Scf.iv v81 c1_i32_834 k0_t17
  let v1793 : Index := Scalar.indexCast arg15
  let c0_i32_838 : BitVec 32 := 0#32
  let c1_i32_839 : BitVec 32 := 1#32
  let arg16 : BitVec 32 := Scf.iv c0_i32_838 c1_i32_839 k0_t18
  let c16_i32 : BitVec 32 := 16#32
  let v1792 : BitVec 32 := Scalar.muli arg16 c16_i32
  let v1794 : Index := Scalar.indexCast v1792
  ![v1793.toNat, v1794.toNat]
@[reducible] def k0_t19_loop (i : grid0.Coords) (v80 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v81 : BitVec 32 := Scalar.subi v80 v76
  let c32_i32_832 : BitVec 32 := 32#32
  let v1785 : BitVec 32 := Scalar.subi c32_i32_832 v81
  let c1_i32_833 : BitVec 32 := 1#32
  let v1787 : BitVec 32 := Scalar.divsi v1785 c1_i32_833
  let v1788 : BitVec 32 := Scalar.muli v1787 c1_i32_833
  let v1789 : BitVec 32 := Scalar.addi v81 v1788
  let v1786 : BitVec 32 := Scalar.addi v81 v1785
  let c1_i32_835 : BitVec 32 := 1#32
  ⟨v1789, v1786, c1_i32_835⟩
@[reducible] def k0_t20_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off20 (i : grid0.Coords) (v80 : BitVec 32) (k0_t19 : Fin (k0_t19_loop i v80).trips) (k0_t20 : Fin k0_t20_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v81 : BitVec 32 := Scalar.subi v80 v76
  let c32_i32_832 : BitVec 32 := 32#32
  let v1785 : BitVec 32 := Scalar.subi c32_i32_832 v81
  let c1_i32_833 : BitVec 32 := 1#32
  let v1787 : BitVec 32 := Scalar.divsi v1785 c1_i32_833
  let v1788 : BitVec 32 := Scalar.muli v1787 c1_i32_833
  let v1789 : BitVec 32 := Scalar.addi v81 v1788
  let c1_i32_835 : BitVec 32 := 1#32
  let arg15 : BitVec 32 := Scf.iv v1789 c1_i32_835 k0_t19
  let v1793 : Index := Scalar.indexCast arg15
  let c0_i32_838 : BitVec 32 := 0#32
  let c1_i32_839 : BitVec 32 := 1#32
  let arg16 : BitVec 32 := Scf.iv c0_i32_838 c1_i32_839 k0_t20
  let c16_i32 : BitVec 32 := 16#32
  let v1792 : BitVec 32 := Scalar.muli arg16 c16_i32
  let v1794 : Index := Scalar.indexCast v1792
  ![v1793.toNat, v1794.toNat]

def k0_chk1 (i : grid0.Coords) (v80 : BitVec 32) : Prop :=
  (∀ (k0_h1 : k0_cond1 i v80 = 1#1), (k0_t17_loop i v80).OK) ∧
  (∀ (k0_t17 : Fin (k0_t17_loop i v80).trips) (k0_t18 : Fin k0_t18_loop.trips), ∀ (k0_h1 : k0_cond1 i v80 = 1#1), ∀ a, (k0_off19 i v80 k0_t17 k0_t18) a + S1x16.size a ≤ S32x1024.size a) ∧
  (∀ (k0_h1 : k0_cond1 i v80 = 1#1), (k0_t19_loop i v80).OK) ∧
  (∀ (k0_t19 : Fin (k0_t19_loop i v80).trips) (k0_t20 : Fin k0_t20_loop.trips), ∀ (k0_h1 : k0_cond1 i v80 = 1#1), ∀ a, (k0_off20 i v80 k0_t19 k0_t20) a + S1x16.size a ≤ S32x1024.size a)
theorem k0_t17_ok : ∀ (i : grid0.Coords) (v80 : BitVec 32) (k0_hw1 : k0_chk1 i v80), ∀ (k0_h1 : k0_cond1 i v80 = 1#1), (k0_t17_loop i v80).OK := fun i v80 k0_hw1 k0_h1 => k0_hw1.1 k0_h1
theorem k0_off19_inb : ∀ (i : grid0.Coords) (v80 : BitVec 32) (k0_hw1 : k0_chk1 i v80) (k0_t17 : Fin (k0_t17_loop i v80).trips) (k0_t18 : Fin k0_t18_loop.trips), ∀ (k0_h1 : k0_cond1 i v80 = 1#1), ∀ a, (k0_off19 i v80 k0_t17 k0_t18) a + S1x16.size a ≤ S32x1024.size a := fun i v80 k0_hw1 k0_t17 k0_t18 k0_h1 => k0_hw1.2.1 k0_t17 k0_t18 k0_h1
theorem k0_t19_ok : ∀ (i : grid0.Coords) (v80 : BitVec 32) (k0_hw1 : k0_chk1 i v80), ∀ (k0_h1 : k0_cond1 i v80 = 1#1), (k0_t19_loop i v80).OK := fun i v80 k0_hw1 k0_h1 => k0_hw1.2.2.1 k0_h1
theorem k0_off20_inb : ∀ (i : grid0.Coords) (v80 : BitVec 32) (k0_hw1 : k0_chk1 i v80) (k0_t19 : Fin (k0_t19_loop i v80).trips) (k0_t20 : Fin k0_t20_loop.trips), ∀ (k0_h1 : k0_cond1 i v80 = 1#1), ∀ a, (k0_off20 i v80 k0_t19 k0_t20) a + S1x16.size a ≤ S32x1024.size a := fun i v80 k0_hw1 k0_t19 k0_t20 k0_h1 => k0_hw1.2.2.2 k0_t19 k0_t20 k0_h1

def k0_off21 (i : grid0.Coords) : Fin 3 → Nat :=
  let c0_i32_836 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r18 : BitVec 32 := 0#32
  ![0, v76.toNat, 0]
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r19 : BitVec 32 := 0#32
  ![v76.toNat, 0]
@[reducible] def k0_t21_loop (i : grid0.Coords) (v88 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v89 : BitVec 32 := Scalar.subi v88 v76
  let c32_i32_832 : BitVec 32 := 32#32
  let v1785 : BitVec 32 := Scalar.subi c32_i32_832 v89
  let c1_i32_833 : BitVec 32 := 1#32
  let v1787 : BitVec 32 := Scalar.divsi v1785 c1_i32_833
  let v1788 : BitVec 32 := Scalar.muli v1787 c1_i32_833
  let v1789 : BitVec 32 := Scalar.addi v89 v1788
  let c1_i32_834 : BitVec 32 := 1#32
  ⟨v89, v1789, c1_i32_834⟩
def k0_cond2 (i : grid0.Coords) (v88 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v89 : BitVec 32 := Scalar.subi v88 v76
  let c0_i32_89 : BitVec 32 := 0#32
  let v90 : BitVec 1 := Scalar.cmpi .sgt v89 c0_i32_89
  let c32_i32_90 : BitVec 32 := 32#32
  let v91 : BitVec 1 := Scalar.cmpi .slt v89 c32_i32_90
  let v92 : BitVec 1 := Scalar.andi v90 v91
  let v93 : BitVec 32 := Scalar.extui v92
  let c0_i32_91 : BitVec 32 := 0#32
  let v94 : BitVec 1 := Scalar.cmpi .ne v93 c0_i32_91
  v94

@[reducible] def k0_t22_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off23 (i : grid0.Coords) (v88 : BitVec 32) (k0_t21 : Fin (k0_t21_loop i v88).trips) (k0_t22 : Fin k0_t22_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v89 : BitVec 32 := Scalar.subi v88 v76
  let c1_i32_834 : BitVec 32 := 1#32
  let arg15 : BitVec 32 := Scf.iv v89 c1_i32_834 k0_t21
  let v1793 : Index := Scalar.indexCast arg15
  let c0_i32_838 : BitVec 32 := 0#32
  let c1_i32_839 : BitVec 32 := 1#32
  let arg16 : BitVec 32 := Scf.iv c0_i32_838 c1_i32_839 k0_t22
  let c16_i32 : BitVec 32 := 16#32
  let v1792 : BitVec 32 := Scalar.muli arg16 c16_i32
  let v1794 : Index := Scalar.indexCast v1792
  ![v1793.toNat, v1794.toNat]
@[reducible] def k0_t23_loop (i : grid0.Coords) (v88 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v89 : BitVec 32 := Scalar.subi v88 v76
  let c32_i32_832 : BitVec 32 := 32#32
  let v1785 : BitVec 32 := Scalar.subi c32_i32_832 v89
  let c1_i32_833 : BitVec 32 := 1#32
  let v1787 : BitVec 32 := Scalar.divsi v1785 c1_i32_833
  let v1788 : BitVec 32 := Scalar.muli v1787 c1_i32_833
  let v1789 : BitVec 32 := Scalar.addi v89 v1788
  let v1786 : BitVec 32 := Scalar.addi v89 v1785
  let c1_i32_835 : BitVec 32 := 1#32
  ⟨v1789, v1786, c1_i32_835⟩
@[reducible] def k0_t24_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off24 (i : grid0.Coords) (v88 : BitVec 32) (k0_t23 : Fin (k0_t23_loop i v88).trips) (k0_t24 : Fin k0_t24_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v89 : BitVec 32 := Scalar.subi v88 v76
  let c32_i32_832 : BitVec 32 := 32#32
  let v1785 : BitVec 32 := Scalar.subi c32_i32_832 v89
  let c1_i32_833 : BitVec 32 := 1#32
  let v1787 : BitVec 32 := Scalar.divsi v1785 c1_i32_833
  let v1788 : BitVec 32 := Scalar.muli v1787 c1_i32_833
  let v1789 : BitVec 32 := Scalar.addi v89 v1788
  let c1_i32_835 : BitVec 32 := 1#32
  let arg15 : BitVec 32 := Scf.iv v1789 c1_i32_835 k0_t23
  let v1793 : Index := Scalar.indexCast arg15
  let c0_i32_838 : BitVec 32 := 0#32
  let c1_i32_839 : BitVec 32 := 1#32
  let arg16 : BitVec 32 := Scf.iv c0_i32_838 c1_i32_839 k0_t24
  let c16_i32 : BitVec 32 := 16#32
  let v1792 : BitVec 32 := Scalar.muli arg16 c16_i32
  let v1794 : Index := Scalar.indexCast v1792
  ![v1793.toNat, v1794.toNat]

def k0_chk2 (i : grid0.Coords) (v88 : BitVec 32) : Prop :=
  (∀ (k0_h2 : k0_cond2 i v88 = 1#1), (k0_t21_loop i v88).OK) ∧
  (∀ (k0_t21 : Fin (k0_t21_loop i v88).trips) (k0_t22 : Fin k0_t22_loop.trips), ∀ (k0_h2 : k0_cond2 i v88 = 1#1), ∀ a, (k0_off23 i v88 k0_t21 k0_t22) a + S1x16.size a ≤ S32x1024.size a) ∧
  (∀ (k0_h2 : k0_cond2 i v88 = 1#1), (k0_t23_loop i v88).OK) ∧
  (∀ (k0_t23 : Fin (k0_t23_loop i v88).trips) (k0_t24 : Fin k0_t24_loop.trips), ∀ (k0_h2 : k0_cond2 i v88 = 1#1), ∀ a, (k0_off24 i v88 k0_t23 k0_t24) a + S1x16.size a ≤ S32x1024.size a)
theorem k0_t21_ok : ∀ (i : grid0.Coords) (v88 : BitVec 32) (k0_hw2 : k0_chk2 i v88), ∀ (k0_h2 : k0_cond2 i v88 = 1#1), (k0_t21_loop i v88).OK := fun i v88 k0_hw2 k0_h2 => k0_hw2.1 k0_h2
theorem k0_off23_inb : ∀ (i : grid0.Coords) (v88 : BitVec 32) (k0_hw2 : k0_chk2 i v88) (k0_t21 : Fin (k0_t21_loop i v88).trips) (k0_t22 : Fin k0_t22_loop.trips), ∀ (k0_h2 : k0_cond2 i v88 = 1#1), ∀ a, (k0_off23 i v88 k0_t21 k0_t22) a + S1x16.size a ≤ S32x1024.size a := fun i v88 k0_hw2 k0_t21 k0_t22 k0_h2 => k0_hw2.2.1 k0_t21 k0_t22 k0_h2
theorem k0_t23_ok : ∀ (i : grid0.Coords) (v88 : BitVec 32) (k0_hw2 : k0_chk2 i v88), ∀ (k0_h2 : k0_cond2 i v88 = 1#1), (k0_t23_loop i v88).OK := fun i v88 k0_hw2 k0_h2 => k0_hw2.2.2.1 k0_h2
theorem k0_off24_inb : ∀ (i : grid0.Coords) (v88 : BitVec 32) (k0_hw2 : k0_chk2 i v88) (k0_t23 : Fin (k0_t23_loop i v88).trips) (k0_t24 : Fin k0_t24_loop.trips), ∀ (k0_h2 : k0_cond2 i v88 = 1#1), ∀ a, (k0_off24 i v88 k0_t23 k0_t24) a + S1x16.size a ≤ S32x1024.size a := fun i v88 k0_hw2 k0_t23 k0_t24 k0_h2 => k0_hw2.2.2.2 k0_t23 k0_t24 k0_h2

def k0_off25 (i : grid0.Coords) : Fin 3 → Nat :=
  let c1_i32_836 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r20 : BitVec 32 := 0#32
  ![1, v76.toNat, 0]
def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r21 : BitVec 32 := 0#32
  ![v76.toNat, 0]
@[reducible] def k0_t25_loop (i : grid0.Coords) (v96 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v97 : BitVec 32 := Scalar.subi v96 v76
  let c32_i32_832 : BitVec 32 := 32#32
  let v1785 : BitVec 32 := Scalar.subi c32_i32_832 v97
  let c1_i32_833 : BitVec 32 := 1#32
  let v1787 : BitVec 32 := Scalar.divsi v1785 c1_i32_833
  let v1788 : BitVec 32 := Scalar.muli v1787 c1_i32_833
  let v1789 : BitVec 32 := Scalar.addi v97 v1788
  let c1_i32_834 : BitVec 32 := 1#32
  ⟨v97, v1789, c1_i32_834⟩
def k0_cond3 (i : grid0.Coords) (v96 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v97 : BitVec 32 := Scalar.subi v96 v76
  let c0_i32_92 : BitVec 32 := 0#32
  let v98 : BitVec 1 := Scalar.cmpi .sgt v97 c0_i32_92
  let c32_i32_93 : BitVec 32 := 32#32
  let v99 : BitVec 1 := Scalar.cmpi .slt v97 c32_i32_93
  let v100 : BitVec 1 := Scalar.andi v98 v99
  let v101 : BitVec 32 := Scalar.extui v100
  let c0_i32_94 : BitVec 32 := 0#32
  let v102 : BitVec 1 := Scalar.cmpi .ne v101 c0_i32_94
  v102

@[reducible] def k0_t26_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off27 (i : grid0.Coords) (v96 : BitVec 32) (k0_t25 : Fin (k0_t25_loop i v96).trips) (k0_t26 : Fin k0_t26_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v97 : BitVec 32 := Scalar.subi v96 v76
  let c1_i32_834 : BitVec 32 := 1#32
  let arg15 : BitVec 32 := Scf.iv v97 c1_i32_834 k0_t25
  let v1793 : Index := Scalar.indexCast arg15
  let c0_i32_838 : BitVec 32 := 0#32
  let c1_i32_839 : BitVec 32 := 1#32
  let arg16 : BitVec 32 := Scf.iv c0_i32_838 c1_i32_839 k0_t26
  let c16_i32 : BitVec 32 := 16#32
  let v1792 : BitVec 32 := Scalar.muli arg16 c16_i32
  let v1794 : Index := Scalar.indexCast v1792
  ![v1793.toNat, v1794.toNat]
@[reducible] def k0_t27_loop (i : grid0.Coords) (v96 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v97 : BitVec 32 := Scalar.subi v96 v76
  let c32_i32_832 : BitVec 32 := 32#32
  let v1785 : BitVec 32 := Scalar.subi c32_i32_832 v97
  let c1_i32_833 : BitVec 32 := 1#32
  let v1787 : BitVec 32 := Scalar.divsi v1785 c1_i32_833
  let v1788 : BitVec 32 := Scalar.muli v1787 c1_i32_833
  let v1789 : BitVec 32 := Scalar.addi v97 v1788
  let v1786 : BitVec 32 := Scalar.addi v97 v1785
  let c1_i32_835 : BitVec 32 := 1#32
  ⟨v1789, v1786, c1_i32_835⟩
@[reducible] def k0_t28_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off28 (i : grid0.Coords) (v96 : BitVec 32) (k0_t27 : Fin (k0_t27_loop i v96).trips) (k0_t28 : Fin k0_t28_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v97 : BitVec 32 := Scalar.subi v96 v76
  let c32_i32_832 : BitVec 32 := 32#32
  let v1785 : BitVec 32 := Scalar.subi c32_i32_832 v97
  let c1_i32_833 : BitVec 32 := 1#32
  let v1787 : BitVec 32 := Scalar.divsi v1785 c1_i32_833
  let v1788 : BitVec 32 := Scalar.muli v1787 c1_i32_833
  let v1789 : BitVec 32 := Scalar.addi v97 v1788
  let c1_i32_835 : BitVec 32 := 1#32
  let arg15 : BitVec 32 := Scf.iv v1789 c1_i32_835 k0_t27
  let v1793 : Index := Scalar.indexCast arg15
  let c0_i32_838 : BitVec 32 := 0#32
  let c1_i32_839 : BitVec 32 := 1#32
  let arg16 : BitVec 32 := Scf.iv c0_i32_838 c1_i32_839 k0_t28
  let c16_i32 : BitVec 32 := 16#32
  let v1792 : BitVec 32 := Scalar.muli arg16 c16_i32
  let v1794 : Index := Scalar.indexCast v1792
  ![v1793.toNat, v1794.toNat]

def k0_chk3 (i : grid0.Coords) (v96 : BitVec 32) : Prop :=
  (∀ (k0_h3 : k0_cond3 i v96 = 1#1), (k0_t25_loop i v96).OK) ∧
  (∀ (k0_t25 : Fin (k0_t25_loop i v96).trips) (k0_t26 : Fin k0_t26_loop.trips), ∀ (k0_h3 : k0_cond3 i v96 = 1#1), ∀ a, (k0_off27 i v96 k0_t25 k0_t26) a + S1x16.size a ≤ S32x1024.size a) ∧
  (∀ (k0_h3 : k0_cond3 i v96 = 1#1), (k0_t27_loop i v96).OK) ∧
  (∀ (k0_t27 : Fin (k0_t27_loop i v96).trips) (k0_t28 : Fin k0_t28_loop.trips), ∀ (k0_h3 : k0_cond3 i v96 = 1#1), ∀ a, (k0_off28 i v96 k0_t27 k0_t28) a + S1x16.size a ≤ S32x1024.size a)
theorem k0_t25_ok : ∀ (i : grid0.Coords) (v96 : BitVec 32) (k0_hw3 : k0_chk3 i v96), ∀ (k0_h3 : k0_cond3 i v96 = 1#1), (k0_t25_loop i v96).OK := fun i v96 k0_hw3 k0_h3 => k0_hw3.1 k0_h3
theorem k0_off27_inb : ∀ (i : grid0.Coords) (v96 : BitVec 32) (k0_hw3 : k0_chk3 i v96) (k0_t25 : Fin (k0_t25_loop i v96).trips) (k0_t26 : Fin k0_t26_loop.trips), ∀ (k0_h3 : k0_cond3 i v96 = 1#1), ∀ a, (k0_off27 i v96 k0_t25 k0_t26) a + S1x16.size a ≤ S32x1024.size a := fun i v96 k0_hw3 k0_t25 k0_t26 k0_h3 => k0_hw3.2.1 k0_t25 k0_t26 k0_h3
theorem k0_t27_ok : ∀ (i : grid0.Coords) (v96 : BitVec 32) (k0_hw3 : k0_chk3 i v96), ∀ (k0_h3 : k0_cond3 i v96 = 1#1), (k0_t27_loop i v96).OK := fun i v96 k0_hw3 k0_h3 => k0_hw3.2.2.1 k0_h3
theorem k0_off28_inb : ∀ (i : grid0.Coords) (v96 : BitVec 32) (k0_hw3 : k0_chk3 i v96) (k0_t27 : Fin (k0_t27_loop i v96).trips) (k0_t28 : Fin k0_t28_loop.trips), ∀ (k0_h3 : k0_cond3 i v96 = 1#1), ∀ a, (k0_off28 i v96 k0_t27 k0_t28) a + S1x16.size a ≤ S32x1024.size a := fun i v96 k0_hw3 k0_t27 k0_t28 k0_h3 => k0_hw3.2.2.2 k0_t27 k0_t28 k0_h3

def k0_off29 (i : grid0.Coords) : Fin 3 → Nat :=
  let c2_i32_836 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r22 : BitVec 32 := 0#32
  ![2, v76.toNat, 0]
def k0_off30 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r23 : BitVec 32 := 0#32
  ![v76.toNat, 0]
@[reducible] def k0_t29_loop (i : grid0.Coords) (v104 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v105 : BitVec 32 := Scalar.subi v104 v76
  let c32_i32_832 : BitVec 32 := 32#32
  let v1785 : BitVec 32 := Scalar.subi c32_i32_832 v105
  let c1_i32_833 : BitVec 32 := 1#32
  let v1787 : BitVec 32 := Scalar.divsi v1785 c1_i32_833
  let v1788 : BitVec 32 := Scalar.muli v1787 c1_i32_833
  let v1789 : BitVec 32 := Scalar.addi v105 v1788
  let c1_i32_834 : BitVec 32 := 1#32
  ⟨v105, v1789, c1_i32_834⟩
def k0_cond4 (i : grid0.Coords) (v104 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v105 : BitVec 32 := Scalar.subi v104 v76
  let c0_i32_95 : BitVec 32 := 0#32
  let v106 : BitVec 1 := Scalar.cmpi .sgt v105 c0_i32_95
  let c32_i32_96 : BitVec 32 := 32#32
  let v107 : BitVec 1 := Scalar.cmpi .slt v105 c32_i32_96
  let v108 : BitVec 1 := Scalar.andi v106 v107
  let v109 : BitVec 32 := Scalar.extui v108
  let c0_i32_97 : BitVec 32 := 0#32
  let v110 : BitVec 1 := Scalar.cmpi .ne v109 c0_i32_97
  v110

@[reducible] def k0_t30_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off31 (i : grid0.Coords) (v104 : BitVec 32) (k0_t29 : Fin (k0_t29_loop i v104).trips) (k0_t30 : Fin k0_t30_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v105 : BitVec 32 := Scalar.subi v104 v76
  let c1_i32_834 : BitVec 32 := 1#32
  let arg15 : BitVec 32 := Scf.iv v105 c1_i32_834 k0_t29
  let v1793 : Index := Scalar.indexCast arg15
  let c0_i32_838 : BitVec 32 := 0#32
  let c1_i32_839 : BitVec 32 := 1#32
  let arg16 : BitVec 32 := Scf.iv c0_i32_838 c1_i32_839 k0_t30
  let c16_i32 : BitVec 32 := 16#32
  let v1792 : BitVec 32 := Scalar.muli arg16 c16_i32
  let v1794 : Index := Scalar.indexCast v1792
  ![v1793.toNat, v1794.toNat]
@[reducible] def k0_t31_loop (i : grid0.Coords) (v104 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v105 : BitVec 32 := Scalar.subi v104 v76
  let c32_i32_832 : BitVec 32 := 32#32
  let v1785 : BitVec 32 := Scalar.subi c32_i32_832 v105
  let c1_i32_833 : BitVec 32 := 1#32
  let v1787 : BitVec 32 := Scalar.divsi v1785 c1_i32_833
  let v1788 : BitVec 32 := Scalar.muli v1787 c1_i32_833
  let v1789 : BitVec 32 := Scalar.addi v105 v1788
  let v1786 : BitVec 32 := Scalar.addi v105 v1785
  let c1_i32_835 : BitVec 32 := 1#32
  ⟨v1789, v1786, c1_i32_835⟩
@[reducible] def k0_t32_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off32 (i : grid0.Coords) (v104 : BitVec 32) (k0_t31 : Fin (k0_t31_loop i v104).trips) (k0_t32 : Fin k0_t32_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v105 : BitVec 32 := Scalar.subi v104 v76
  let c32_i32_832 : BitVec 32 := 32#32
  let v1785 : BitVec 32 := Scalar.subi c32_i32_832 v105
  let c1_i32_833 : BitVec 32 := 1#32
  let v1787 : BitVec 32 := Scalar.divsi v1785 c1_i32_833
  let v1788 : BitVec 32 := Scalar.muli v1787 c1_i32_833
  let v1789 : BitVec 32 := Scalar.addi v105 v1788
  let c1_i32_835 : BitVec 32 := 1#32
  let arg15 : BitVec 32 := Scf.iv v1789 c1_i32_835 k0_t31
  let v1793 : Index := Scalar.indexCast arg15
  let c0_i32_838 : BitVec 32 := 0#32
  let c1_i32_839 : BitVec 32 := 1#32
  let arg16 : BitVec 32 := Scf.iv c0_i32_838 c1_i32_839 k0_t32
  let c16_i32 : BitVec 32 := 16#32
  let v1792 : BitVec 32 := Scalar.muli arg16 c16_i32
  let v1794 : Index := Scalar.indexCast v1792
  ![v1793.toNat, v1794.toNat]

def k0_chk4 (i : grid0.Coords) (v104 : BitVec 32) : Prop :=
  (∀ (k0_h4 : k0_cond4 i v104 = 1#1), (k0_t29_loop i v104).OK) ∧
  (∀ (k0_t29 : Fin (k0_t29_loop i v104).trips) (k0_t30 : Fin k0_t30_loop.trips), ∀ (k0_h4 : k0_cond4 i v104 = 1#1), ∀ a, (k0_off31 i v104 k0_t29 k0_t30) a + S1x16.size a ≤ S32x1024.size a) ∧
  (∀ (k0_h4 : k0_cond4 i v104 = 1#1), (k0_t31_loop i v104).OK) ∧
  (∀ (k0_t31 : Fin (k0_t31_loop i v104).trips) (k0_t32 : Fin k0_t32_loop.trips), ∀ (k0_h4 : k0_cond4 i v104 = 1#1), ∀ a, (k0_off32 i v104 k0_t31 k0_t32) a + S1x16.size a ≤ S32x1024.size a)
theorem k0_t29_ok : ∀ (i : grid0.Coords) (v104 : BitVec 32) (k0_hw4 : k0_chk4 i v104), ∀ (k0_h4 : k0_cond4 i v104 = 1#1), (k0_t29_loop i v104).OK := fun i v104 k0_hw4 k0_h4 => k0_hw4.1 k0_h4
theorem k0_off31_inb : ∀ (i : grid0.Coords) (v104 : BitVec 32) (k0_hw4 : k0_chk4 i v104) (k0_t29 : Fin (k0_t29_loop i v104).trips) (k0_t30 : Fin k0_t30_loop.trips), ∀ (k0_h4 : k0_cond4 i v104 = 1#1), ∀ a, (k0_off31 i v104 k0_t29 k0_t30) a + S1x16.size a ≤ S32x1024.size a := fun i v104 k0_hw4 k0_t29 k0_t30 k0_h4 => k0_hw4.2.1 k0_t29 k0_t30 k0_h4
theorem k0_t31_ok : ∀ (i : grid0.Coords) (v104 : BitVec 32) (k0_hw4 : k0_chk4 i v104), ∀ (k0_h4 : k0_cond4 i v104 = 1#1), (k0_t31_loop i v104).OK := fun i v104 k0_hw4 k0_h4 => k0_hw4.2.2.1 k0_h4
theorem k0_off32_inb : ∀ (i : grid0.Coords) (v104 : BitVec 32) (k0_hw4 : k0_chk4 i v104) (k0_t31 : Fin (k0_t31_loop i v104).trips) (k0_t32 : Fin k0_t32_loop.trips), ∀ (k0_h4 : k0_cond4 i v104 = 1#1), ∀ a, (k0_off32 i v104 k0_t31 k0_t32) a + S1x16.size a ≤ S32x1024.size a := fun i v104 k0_hw4 k0_t31 k0_t32 k0_h4 => k0_hw4.2.2.2 k0_t31 k0_t32 k0_h4

def k0_off33 (i : grid0.Coords) : Fin 3 → Nat :=
  let c3_i32_836 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r24 : BitVec 32 := 0#32
  ![3, v76.toNat, 0]
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r25 : BitVec 32 := 0#32
  ![v76.toNat, 0]
@[reducible] def k0_t33_loop (i : grid0.Coords) (v112 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v113 : BitVec 32 := Scalar.subi v112 v76
  let c32_i32_832 : BitVec 32 := 32#32
  let v1785 : BitVec 32 := Scalar.subi c32_i32_832 v113
  let c1_i32_833 : BitVec 32 := 1#32
  let v1787 : BitVec 32 := Scalar.divsi v1785 c1_i32_833
  let v1788 : BitVec 32 := Scalar.muli v1787 c1_i32_833
  let v1789 : BitVec 32 := Scalar.addi v113 v1788
  let c1_i32_834 : BitVec 32 := 1#32
  ⟨v113, v1789, c1_i32_834⟩
def k0_cond5 (i : grid0.Coords) (v112 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v113 : BitVec 32 := Scalar.subi v112 v76
  let c0_i32_98 : BitVec 32 := 0#32
  let v114 : BitVec 1 := Scalar.cmpi .sgt v113 c0_i32_98
  let c32_i32_99 : BitVec 32 := 32#32
  let v115 : BitVec 1 := Scalar.cmpi .slt v113 c32_i32_99
  let v116 : BitVec 1 := Scalar.andi v114 v115
  let v117 : BitVec 32 := Scalar.extui v116
  let c0_i32_100 : BitVec 32 := 0#32
  let v118 : BitVec 1 := Scalar.cmpi .ne v117 c0_i32_100
  v118

@[reducible] def k0_t34_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off35 (i : grid0.Coords) (v112 : BitVec 32) (k0_t33 : Fin (k0_t33_loop i v112).trips) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v113 : BitVec 32 := Scalar.subi v112 v76
  let c1_i32_834 : BitVec 32 := 1#32
  let arg15 : BitVec 32 := Scf.iv v113 c1_i32_834 k0_t33
  let v1793 : Index := Scalar.indexCast arg15
  let c0_i32_838 : BitVec 32 := 0#32
  let c1_i32_839 : BitVec 32 := 1#32
  let arg16 : BitVec 32 := Scf.iv c0_i32_838 c1_i32_839 k0_t34
  let c16_i32 : BitVec 32 := 16#32
  let v1792 : BitVec 32 := Scalar.muli arg16 c16_i32
  let v1794 : Index := Scalar.indexCast v1792
  ![v1793.toNat, v1794.toNat]
@[reducible] def k0_t35_loop (i : grid0.Coords) (v112 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v113 : BitVec 32 := Scalar.subi v112 v76
  let c32_i32_832 : BitVec 32 := 32#32
  let v1785 : BitVec 32 := Scalar.subi c32_i32_832 v113
  let c1_i32_833 : BitVec 32 := 1#32
  let v1787 : BitVec 32 := Scalar.divsi v1785 c1_i32_833
  let v1788 : BitVec 32 := Scalar.muli v1787 c1_i32_833
  let v1789 : BitVec 32 := Scalar.addi v113 v1788
  let v1786 : BitVec 32 := Scalar.addi v113 v1785
  let c1_i32_835 : BitVec 32 := 1#32
  ⟨v1789, v1786, c1_i32_835⟩
@[reducible] def k0_t36_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off36 (i : grid0.Coords) (v112 : BitVec 32) (k0_t35 : Fin (k0_t35_loop i v112).trips) (k0_t36 : Fin k0_t36_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v113 : BitVec 32 := Scalar.subi v112 v76
  let c32_i32_832 : BitVec 32 := 32#32
  let v1785 : BitVec 32 := Scalar.subi c32_i32_832 v113
  let c1_i32_833 : BitVec 32 := 1#32
  let v1787 : BitVec 32 := Scalar.divsi v1785 c1_i32_833
  let v1788 : BitVec 32 := Scalar.muli v1787 c1_i32_833
  let v1789 : BitVec 32 := Scalar.addi v113 v1788
  let c1_i32_835 : BitVec 32 := 1#32
  let arg15 : BitVec 32 := Scf.iv v1789 c1_i32_835 k0_t35
  let v1793 : Index := Scalar.indexCast arg15
  let c0_i32_838 : BitVec 32 := 0#32
  let c1_i32_839 : BitVec 32 := 1#32
  let arg16 : BitVec 32 := Scf.iv c0_i32_838 c1_i32_839 k0_t36
  let c16_i32 : BitVec 32 := 16#32
  let v1792 : BitVec 32 := Scalar.muli arg16 c16_i32
  let v1794 : Index := Scalar.indexCast v1792
  ![v1793.toNat, v1794.toNat]

def k0_chk5 (i : grid0.Coords) (v112 : BitVec 32) : Prop :=
  (∀ (k0_h5 : k0_cond5 i v112 = 1#1), (k0_t33_loop i v112).OK) ∧
  (∀ (k0_t33 : Fin (k0_t33_loop i v112).trips) (k0_t34 : Fin k0_t34_loop.trips), ∀ (k0_h5 : k0_cond5 i v112 = 1#1), ∀ a, (k0_off35 i v112 k0_t33 k0_t34) a + S1x16.size a ≤ S32x1024.size a) ∧
  (∀ (k0_h5 : k0_cond5 i v112 = 1#1), (k0_t35_loop i v112).OK) ∧
  (∀ (k0_t35 : Fin (k0_t35_loop i v112).trips) (k0_t36 : Fin k0_t36_loop.trips), ∀ (k0_h5 : k0_cond5 i v112 = 1#1), ∀ a, (k0_off36 i v112 k0_t35 k0_t36) a + S1x16.size a ≤ S32x1024.size a)
theorem k0_t33_ok : ∀ (i : grid0.Coords) (v112 : BitVec 32) (k0_hw5 : k0_chk5 i v112), ∀ (k0_h5 : k0_cond5 i v112 = 1#1), (k0_t33_loop i v112).OK := fun i v112 k0_hw5 k0_h5 => k0_hw5.1 k0_h5
theorem k0_off35_inb : ∀ (i : grid0.Coords) (v112 : BitVec 32) (k0_hw5 : k0_chk5 i v112) (k0_t33 : Fin (k0_t33_loop i v112).trips) (k0_t34 : Fin k0_t34_loop.trips), ∀ (k0_h5 : k0_cond5 i v112 = 1#1), ∀ a, (k0_off35 i v112 k0_t33 k0_t34) a + S1x16.size a ≤ S32x1024.size a := fun i v112 k0_hw5 k0_t33 k0_t34 k0_h5 => k0_hw5.2.1 k0_t33 k0_t34 k0_h5
theorem k0_t35_ok : ∀ (i : grid0.Coords) (v112 : BitVec 32) (k0_hw5 : k0_chk5 i v112), ∀ (k0_h5 : k0_cond5 i v112 = 1#1), (k0_t35_loop i v112).OK := fun i v112 k0_hw5 k0_h5 => k0_hw5.2.2.1 k0_h5
theorem k0_off36_inb : ∀ (i : grid0.Coords) (v112 : BitVec 32) (k0_hw5 : k0_chk5 i v112) (k0_t35 : Fin (k0_t35_loop i v112).trips) (k0_t36 : Fin k0_t36_loop.trips), ∀ (k0_h5 : k0_cond5 i v112 = 1#1), ∀ a, (k0_off36 i v112 k0_t35 k0_t36) a + S1x16.size a ≤ S32x1024.size a := fun i v112 k0_hw5 k0_t35 k0_t36 k0_h5 => k0_hw5.2.2.2 k0_t35 k0_t36 k0_h5

def k0_off37 (i : grid0.Coords) : Fin 3 → Nat :=
  let c4_i32_836 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r26 : BitVec 32 := 0#32
  ![4, v76.toNat, 0]
def k0_off38 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r27 : BitVec 32 := 0#32
  ![v76.toNat, 0]
@[reducible] def k0_t37_loop (i : grid0.Coords) (v120 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v121 : BitVec 32 := Scalar.subi v120 v76
  let c32_i32_832 : BitVec 32 := 32#32
  let v1785 : BitVec 32 := Scalar.subi c32_i32_832 v121
  let c1_i32_833 : BitVec 32 := 1#32
  let v1787 : BitVec 32 := Scalar.divsi v1785 c1_i32_833
  let v1788 : BitVec 32 := Scalar.muli v1787 c1_i32_833
  let v1789 : BitVec 32 := Scalar.addi v121 v1788
  let c1_i32_834 : BitVec 32 := 1#32
  ⟨v121, v1789, c1_i32_834⟩
def k0_cond6 (i : grid0.Coords) (v120 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v121 : BitVec 32 := Scalar.subi v120 v76
  let c0_i32_101 : BitVec 32 := 0#32
  let v122 : BitVec 1 := Scalar.cmpi .sgt v121 c0_i32_101
  let c32_i32_102 : BitVec 32 := 32#32
  let v123 : BitVec 1 := Scalar.cmpi .slt v121 c32_i32_102
  let v124 : BitVec 1 := Scalar.andi v122 v123
  let v125 : BitVec 32 := Scalar.extui v124
  let c0_i32_103 : BitVec 32 := 0#32
  let v126 : BitVec 1 := Scalar.cmpi .ne v125 c0_i32_103
  v126

@[reducible] def k0_t38_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off39 (i : grid0.Coords) (v120 : BitVec 32) (k0_t37 : Fin (k0_t37_loop i v120).trips) (k0_t38 : Fin k0_t38_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v121 : BitVec 32 := Scalar.subi v120 v76
  let c1_i32_834 : BitVec 32 := 1#32
  let arg15 : BitVec 32 := Scf.iv v121 c1_i32_834 k0_t37
  let v1793 : Index := Scalar.indexCast arg15
  let c0_i32_837 : BitVec 32 := 0#32
  let c1_i32_838 : BitVec 32 := 1#32
  let arg16 : BitVec 32 := Scf.iv c0_i32_837 c1_i32_838 k0_t38
  let c16_i32 : BitVec 32 := 16#32
  let v1792 : BitVec 32 := Scalar.muli arg16 c16_i32
  let v1794 : Index := Scalar.indexCast v1792
  ![v1793.toNat, v1794.toNat]
@[reducible] def k0_t39_loop (i : grid0.Coords) (v120 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v121 : BitVec 32 := Scalar.subi v120 v76
  let c32_i32_832 : BitVec 32 := 32#32
  let v1785 : BitVec 32 := Scalar.subi c32_i32_832 v121
  let c1_i32_833 : BitVec 32 := 1#32
  let v1787 : BitVec 32 := Scalar.divsi v1785 c1_i32_833
  let v1788 : BitVec 32 := Scalar.muli v1787 c1_i32_833
  let v1789 : BitVec 32 := Scalar.addi v121 v1788
  let v1786 : BitVec 32 := Scalar.addi v121 v1785
  let c1_i32_835 : BitVec 32 := 1#32
  ⟨v1789, v1786, c1_i32_835⟩
@[reducible] def k0_t40_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off40 (i : grid0.Coords) (v120 : BitVec 32) (k0_t39 : Fin (k0_t39_loop i v120).trips) (k0_t40 : Fin k0_t40_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v121 : BitVec 32 := Scalar.subi v120 v76
  let c32_i32_832 : BitVec 32 := 32#32
  let v1785 : BitVec 32 := Scalar.subi c32_i32_832 v121
  let c1_i32_833 : BitVec 32 := 1#32
  let v1787 : BitVec 32 := Scalar.divsi v1785 c1_i32_833
  let v1788 : BitVec 32 := Scalar.muli v1787 c1_i32_833
  let v1789 : BitVec 32 := Scalar.addi v121 v1788
  let c1_i32_835 : BitVec 32 := 1#32
  let arg15 : BitVec 32 := Scf.iv v1789 c1_i32_835 k0_t39
  let v1793 : Index := Scalar.indexCast arg15
  let c0_i32_837 : BitVec 32 := 0#32
  let c1_i32_838 : BitVec 32 := 1#32
  let arg16 : BitVec 32 := Scf.iv c0_i32_837 c1_i32_838 k0_t40
  let c16_i32 : BitVec 32 := 16#32
  let v1792 : BitVec 32 := Scalar.muli arg16 c16_i32
  let v1794 : Index := Scalar.indexCast v1792
  ![v1793.toNat, v1794.toNat]

def k0_chk6 (i : grid0.Coords) (v120 : BitVec 32) : Prop :=
  (∀ (k0_h6 : k0_cond6 i v120 = 1#1), (k0_t37_loop i v120).OK) ∧
  (∀ (k0_t37 : Fin (k0_t37_loop i v120).trips) (k0_t38 : Fin k0_t38_loop.trips), ∀ (k0_h6 : k0_cond6 i v120 = 1#1), ∀ a, (k0_off39 i v120 k0_t37 k0_t38) a + S1x16.size a ≤ S32x1024.size a) ∧
  (∀ (k0_h6 : k0_cond6 i v120 = 1#1), (k0_t39_loop i v120).OK) ∧
  (∀ (k0_t39 : Fin (k0_t39_loop i v120).trips) (k0_t40 : Fin k0_t40_loop.trips), ∀ (k0_h6 : k0_cond6 i v120 = 1#1), ∀ a, (k0_off40 i v120 k0_t39 k0_t40) a + S1x16.size a ≤ S32x1024.size a)
theorem k0_t37_ok : ∀ (i : grid0.Coords) (v120 : BitVec 32) (k0_hw6 : k0_chk6 i v120), ∀ (k0_h6 : k0_cond6 i v120 = 1#1), (k0_t37_loop i v120).OK := fun i v120 k0_hw6 k0_h6 => k0_hw6.1 k0_h6
theorem k0_off39_inb : ∀ (i : grid0.Coords) (v120 : BitVec 32) (k0_hw6 : k0_chk6 i v120) (k0_t37 : Fin (k0_t37_loop i v120).trips) (k0_t38 : Fin k0_t38_loop.trips), ∀ (k0_h6 : k0_cond6 i v120 = 1#1), ∀ a, (k0_off39 i v120 k0_t37 k0_t38) a + S1x16.size a ≤ S32x1024.size a := fun i v120 k0_hw6 k0_t37 k0_t38 k0_h6 => k0_hw6.2.1 k0_t37 k0_t38 k0_h6
theorem k0_t39_ok : ∀ (i : grid0.Coords) (v120 : BitVec 32) (k0_hw6 : k0_chk6 i v120), ∀ (k0_h6 : k0_cond6 i v120 = 1#1), (k0_t39_loop i v120).OK := fun i v120 k0_hw6 k0_h6 => k0_hw6.2.2.1 k0_h6
theorem k0_off40_inb : ∀ (i : grid0.Coords) (v120 : BitVec 32) (k0_hw6 : k0_chk6 i v120) (k0_t39 : Fin (k0_t39_loop i v120).trips) (k0_t40 : Fin k0_t40_loop.trips), ∀ (k0_h6 : k0_cond6 i v120 = 1#1), ∀ a, (k0_off40 i v120 k0_t39 k0_t40) a + S1x16.size a ≤ S32x1024.size a := fun i v120 k0_hw6 k0_t39 k0_t40 k0_h6 => k0_hw6.2.2.2 k0_t39 k0_t40 k0_h6

def k0_off41 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r28 : BitVec 32 := 0#32
  ![5, v76.toNat, 0]
def k0_off42 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r29 : BitVec 32 := 0#32
  ![v76.toNat, 0]
@[reducible] def k0_t41_loop (i : grid0.Coords) (v128 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v129 : BitVec 32 := Scalar.subi v128 v76
  let c32_i32_832 : BitVec 32 := 32#32
  let v1785 : BitVec 32 := Scalar.subi c32_i32_832 v129
  let c1_i32_833 : BitVec 32 := 1#32
  let v1787 : BitVec 32 := Scalar.divsi v1785 c1_i32_833
  let v1788 : BitVec 32 := Scalar.muli v1787 c1_i32_833
  let v1789 : BitVec 32 := Scalar.addi v129 v1788
  let c1_i32_834 : BitVec 32 := 1#32
  ⟨v129, v1789, c1_i32_834⟩
def k0_cond7 (i : grid0.Coords) (v128 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v129 : BitVec 32 := Scalar.subi v128 v76
  let c0_i32_104 : BitVec 32 := 0#32
  let v130 : BitVec 1 := Scalar.cmpi .sgt v129 c0_i32_104
  let c32_i32_105 : BitVec 32 := 32#32
  let v131 : BitVec 1 := Scalar.cmpi .slt v129 c32_i32_105
  let v132 : BitVec 1 := Scalar.andi v130 v131
  let v133 : BitVec 32 := Scalar.extui v132
  let c0_i32_106 : BitVec 32 := 0#32
  let v134 : BitVec 1 := Scalar.cmpi .ne v133 c0_i32_106
  v134

@[reducible] def k0_t42_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off43 (i : grid0.Coords) (v128 : BitVec 32) (k0_t41 : Fin (k0_t41_loop i v128).trips) (k0_t42 : Fin k0_t42_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v129 : BitVec 32 := Scalar.subi v128 v76
  let c1_i32_834 : BitVec 32 := 1#32
  let arg15 : BitVec 32 := Scf.iv v129 c1_i32_834 k0_t41
  let v1793 : Index := Scalar.indexCast arg15
  let c0_i32_837 : BitVec 32 := 0#32
  let c1_i32_838 : BitVec 32 := 1#32
  let arg16 : BitVec 32 := Scf.iv c0_i32_837 c1_i32_838 k0_t42
  let c16_i32 : BitVec 32 := 16#32
  let v1792 : BitVec 32 := Scalar.muli arg16 c16_i32
  let v1794 : Index := Scalar.indexCast v1792
  ![v1793.toNat, v1794.toNat]
@[reducible] def k0_t43_loop (i : grid0.Coords) (v128 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v129 : BitVec 32 := Scalar.subi v128 v76
  let c32_i32_832 : BitVec 32 := 32#32
  let v1785 : BitVec 32 := Scalar.subi c32_i32_832 v129
  let c1_i32_833 : BitVec 32 := 1#32
  let v1787 : BitVec 32 := Scalar.divsi v1785 c1_i32_833
  let v1788 : BitVec 32 := Scalar.muli v1787 c1_i32_833
  let v1789 : BitVec 32 := Scalar.addi v129 v1788
  let v1786 : BitVec 32 := Scalar.addi v129 v1785
  let c1_i32_835 : BitVec 32 := 1#32
  ⟨v1789, v1786, c1_i32_835⟩
@[reducible] def k0_t44_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off44 (i : grid0.Coords) (v128 : BitVec 32) (k0_t43 : Fin (k0_t43_loop i v128).trips) (k0_t44 : Fin k0_t44_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v129 : BitVec 32 := Scalar.subi v128 v76
  let c32_i32_832 : BitVec 32 := 32#32
  let v1785 : BitVec 32 := Scalar.subi c32_i32_832 v129
  let c1_i32_833 : BitVec 32 := 1#32
  let v1787 : BitVec 32 := Scalar.divsi v1785 c1_i32_833
  let v1788 : BitVec 32 := Scalar.muli v1787 c1_i32_833
  let v1789 : BitVec 32 := Scalar.addi v129 v1788
  let c1_i32_835 : BitVec 32 := 1#32
  let arg15 : BitVec 32 := Scf.iv v1789 c1_i32_835 k0_t43
  let v1793 : Index := Scalar.indexCast arg15
  let c0_i32_837 : BitVec 32 := 0#32
  let c1_i32_838 : BitVec 32 := 1#32
  let arg16 : BitVec 32 := Scf.iv c0_i32_837 c1_i32_838 k0_t44
  let c16_i32 : BitVec 32 := 16#32
  let v1792 : BitVec 32 := Scalar.muli arg16 c16_i32
  let v1794 : Index := Scalar.indexCast v1792
  ![v1793.toNat, v1794.toNat]

def k0_chk7 (i : grid0.Coords) (v128 : BitVec 32) : Prop :=
  (∀ (k0_h7 : k0_cond7 i v128 = 1#1), (k0_t41_loop i v128).OK) ∧
  (∀ (k0_t41 : Fin (k0_t41_loop i v128).trips) (k0_t42 : Fin k0_t42_loop.trips), ∀ (k0_h7 : k0_cond7 i v128 = 1#1), ∀ a, (k0_off43 i v128 k0_t41 k0_t42) a + S1x16.size a ≤ S32x1024.size a) ∧
  (∀ (k0_h7 : k0_cond7 i v128 = 1#1), (k0_t43_loop i v128).OK) ∧
  (∀ (k0_t43 : Fin (k0_t43_loop i v128).trips) (k0_t44 : Fin k0_t44_loop.trips), ∀ (k0_h7 : k0_cond7 i v128 = 1#1), ∀ a, (k0_off44 i v128 k0_t43 k0_t44) a + S1x16.size a ≤ S32x1024.size a)
theorem k0_t41_ok : ∀ (i : grid0.Coords) (v128 : BitVec 32) (k0_hw7 : k0_chk7 i v128), ∀ (k0_h7 : k0_cond7 i v128 = 1#1), (k0_t41_loop i v128).OK := fun i v128 k0_hw7 k0_h7 => k0_hw7.1 k0_h7
theorem k0_off43_inb : ∀ (i : grid0.Coords) (v128 : BitVec 32) (k0_hw7 : k0_chk7 i v128) (k0_t41 : Fin (k0_t41_loop i v128).trips) (k0_t42 : Fin k0_t42_loop.trips), ∀ (k0_h7 : k0_cond7 i v128 = 1#1), ∀ a, (k0_off43 i v128 k0_t41 k0_t42) a + S1x16.size a ≤ S32x1024.size a := fun i v128 k0_hw7 k0_t41 k0_t42 k0_h7 => k0_hw7.2.1 k0_t41 k0_t42 k0_h7
theorem k0_t43_ok : ∀ (i : grid0.Coords) (v128 : BitVec 32) (k0_hw7 : k0_chk7 i v128), ∀ (k0_h7 : k0_cond7 i v128 = 1#1), (k0_t43_loop i v128).OK := fun i v128 k0_hw7 k0_h7 => k0_hw7.2.2.1 k0_h7
theorem k0_off44_inb : ∀ (i : grid0.Coords) (v128 : BitVec 32) (k0_hw7 : k0_chk7 i v128) (k0_t43 : Fin (k0_t43_loop i v128).trips) (k0_t44 : Fin k0_t44_loop.trips), ∀ (k0_h7 : k0_cond7 i v128 = 1#1), ∀ a, (k0_off44 i v128 k0_t43 k0_t44) a + S1x16.size a ≤ S32x1024.size a := fun i v128 k0_hw7 k0_t43 k0_t44 k0_h7 => k0_hw7.2.2.2 k0_t43 k0_t44 k0_h7

def k0_off45 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r30 : BitVec 32 := 0#32
  ![6, v76.toNat, 0]
def k0_off46 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r31 : BitVec 32 := 0#32
  ![v76.toNat, 0]
@[reducible] def k0_t45_loop (i : grid0.Coords) (v136 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v137 : BitVec 32 := Scalar.subi v136 v76
  let c32_i32_832 : BitVec 32 := 32#32
  let v1785 : BitVec 32 := Scalar.subi c32_i32_832 v137
  let c1_i32_833 : BitVec 32 := 1#32
  let v1787 : BitVec 32 := Scalar.divsi v1785 c1_i32_833
  let v1788 : BitVec 32 := Scalar.muli v1787 c1_i32_833
  let v1789 : BitVec 32 := Scalar.addi v137 v1788
  let c1_i32_834 : BitVec 32 := 1#32
  ⟨v137, v1789, c1_i32_834⟩
def k0_cond8 (i : grid0.Coords) (v136 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v137 : BitVec 32 := Scalar.subi v136 v76
  let c0_i32_107 : BitVec 32 := 0#32
  let v138 : BitVec 1 := Scalar.cmpi .sgt v137 c0_i32_107
  let c32_i32_108 : BitVec 32 := 32#32
  let v139 : BitVec 1 := Scalar.cmpi .slt v137 c32_i32_108
  let v140 : BitVec 1 := Scalar.andi v138 v139
  let v141 : BitVec 32 := Scalar.extui v140
  let c0_i32_109 : BitVec 32 := 0#32
  let v142 : BitVec 1 := Scalar.cmpi .ne v141 c0_i32_109
  v142

@[reducible] def k0_t46_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off47 (i : grid0.Coords) (v136 : BitVec 32) (k0_t45 : Fin (k0_t45_loop i v136).trips) (k0_t46 : Fin k0_t46_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v137 : BitVec 32 := Scalar.subi v136 v76
  let c1_i32_834 : BitVec 32 := 1#32
  let arg15 : BitVec 32 := Scf.iv v137 c1_i32_834 k0_t45
  let v1793 : Index := Scalar.indexCast arg15
  let c0_i32_837 : BitVec 32 := 0#32
  let c1_i32_838 : BitVec 32 := 1#32
  let arg16 : BitVec 32 := Scf.iv c0_i32_837 c1_i32_838 k0_t46
  let c16_i32 : BitVec 32 := 16#32
  let v1792 : BitVec 32 := Scalar.muli arg16 c16_i32
  let v1794 : Index := Scalar.indexCast v1792
  ![v1793.toNat, v1794.toNat]
@[reducible] def k0_t47_loop (i : grid0.Coords) (v136 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v137 : BitVec 32 := Scalar.subi v136 v76
  let c32_i32_832 : BitVec 32 := 32#32
  let v1785 : BitVec 32 := Scalar.subi c32_i32_832 v137
  let c1_i32_833 : BitVec 32 := 1#32
  let v1787 : BitVec 32 := Scalar.divsi v1785 c1_i32_833
  let v1788 : BitVec 32 := Scalar.muli v1787 c1_i32_833
  let v1789 : BitVec 32 := Scalar.addi v137 v1788
  let v1786 : BitVec 32 := Scalar.addi v137 v1785
  let c1_i32_835 : BitVec 32 := 1#32
  ⟨v1789, v1786, c1_i32_835⟩
@[reducible] def k0_t48_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off48 (i : grid0.Coords) (v136 : BitVec 32) (k0_t47 : Fin (k0_t47_loop i v136).trips) (k0_t48 : Fin k0_t48_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v137 : BitVec 32 := Scalar.subi v136 v76
  let c32_i32_832 : BitVec 32 := 32#32
  let v1785 : BitVec 32 := Scalar.subi c32_i32_832 v137
  let c1_i32_833 : BitVec 32 := 1#32
  let v1787 : BitVec 32 := Scalar.divsi v1785 c1_i32_833
  let v1788 : BitVec 32 := Scalar.muli v1787 c1_i32_833
  let v1789 : BitVec 32 := Scalar.addi v137 v1788
  let c1_i32_835 : BitVec 32 := 1#32
  let arg15 : BitVec 32 := Scf.iv v1789 c1_i32_835 k0_t47
  let v1793 : Index := Scalar.indexCast arg15
  let c0_i32_837 : BitVec 32 := 0#32
  let c1_i32_838 : BitVec 32 := 1#32
  let arg16 : BitVec 32 := Scf.iv c0_i32_837 c1_i32_838 k0_t48
  let c16_i32 : BitVec 32 := 16#32
  let v1792 : BitVec 32 := Scalar.muli arg16 c16_i32
  let v1794 : Index := Scalar.indexCast v1792
  ![v1793.toNat, v1794.toNat]

def k0_chk8 (i : grid0.Coords) (v136 : BitVec 32) : Prop :=
  (∀ (k0_h8 : k0_cond8 i v136 = 1#1), (k0_t45_loop i v136).OK) ∧
  (∀ (k0_t45 : Fin (k0_t45_loop i v136).trips) (k0_t46 : Fin k0_t46_loop.trips), ∀ (k0_h8 : k0_cond8 i v136 = 1#1), ∀ a, (k0_off47 i v136 k0_t45 k0_t46) a + S1x16.size a ≤ S32x1024.size a) ∧
  (∀ (k0_h8 : k0_cond8 i v136 = 1#1), (k0_t47_loop i v136).OK) ∧
  (∀ (k0_t47 : Fin (k0_t47_loop i v136).trips) (k0_t48 : Fin k0_t48_loop.trips), ∀ (k0_h8 : k0_cond8 i v136 = 1#1), ∀ a, (k0_off48 i v136 k0_t47 k0_t48) a + S1x16.size a ≤ S32x1024.size a)
theorem k0_t45_ok : ∀ (i : grid0.Coords) (v136 : BitVec 32) (k0_hw8 : k0_chk8 i v136), ∀ (k0_h8 : k0_cond8 i v136 = 1#1), (k0_t45_loop i v136).OK := fun i v136 k0_hw8 k0_h8 => k0_hw8.1 k0_h8
theorem k0_off47_inb : ∀ (i : grid0.Coords) (v136 : BitVec 32) (k0_hw8 : k0_chk8 i v136) (k0_t45 : Fin (k0_t45_loop i v136).trips) (k0_t46 : Fin k0_t46_loop.trips), ∀ (k0_h8 : k0_cond8 i v136 = 1#1), ∀ a, (k0_off47 i v136 k0_t45 k0_t46) a + S1x16.size a ≤ S32x1024.size a := fun i v136 k0_hw8 k0_t45 k0_t46 k0_h8 => k0_hw8.2.1 k0_t45 k0_t46 k0_h8
theorem k0_t47_ok : ∀ (i : grid0.Coords) (v136 : BitVec 32) (k0_hw8 : k0_chk8 i v136), ∀ (k0_h8 : k0_cond8 i v136 = 1#1), (k0_t47_loop i v136).OK := fun i v136 k0_hw8 k0_h8 => k0_hw8.2.2.1 k0_h8
theorem k0_off48_inb : ∀ (i : grid0.Coords) (v136 : BitVec 32) (k0_hw8 : k0_chk8 i v136) (k0_t47 : Fin (k0_t47_loop i v136).trips) (k0_t48 : Fin k0_t48_loop.trips), ∀ (k0_h8 : k0_cond8 i v136 = 1#1), ∀ a, (k0_off48 i v136 k0_t47 k0_t48) a + S1x16.size a ≤ S32x1024.size a := fun i v136 k0_hw8 k0_t47 k0_t48 k0_h8 => k0_hw8.2.2.2 k0_t47 k0_t48 k0_h8

def k0_off49 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r32 : BitVec 32 := 0#32
  ![7, v76.toNat, 0]
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r33 : BitVec 32 := 0#32
  ![v76.toNat, 0]
@[reducible] def k0_t49_loop (i : grid0.Coords) (v144 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v145 : BitVec 32 := Scalar.subi v144 v76
  let c32_i32_832 : BitVec 32 := 32#32
  let v1785 : BitVec 32 := Scalar.subi c32_i32_832 v145
  let c1_i32_833 : BitVec 32 := 1#32
  let v1787 : BitVec 32 := Scalar.divsi v1785 c1_i32_833
  let v1788 : BitVec 32 := Scalar.muli v1787 c1_i32_833
  let v1789 : BitVec 32 := Scalar.addi v145 v1788
  let c1_i32_834 : BitVec 32 := 1#32
  ⟨v145, v1789, c1_i32_834⟩
def k0_cond9 (i : grid0.Coords) (v144 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v145 : BitVec 32 := Scalar.subi v144 v76
  let c0_i32_110 : BitVec 32 := 0#32
  let v146 : BitVec 1 := Scalar.cmpi .sgt v145 c0_i32_110
  let c32_i32_111 : BitVec 32 := 32#32
  let v147 : BitVec 1 := Scalar.cmpi .slt v145 c32_i32_111
  let v148 : BitVec 1 := Scalar.andi v146 v147
  let v149 : BitVec 32 := Scalar.extui v148
  let c0_i32_112 : BitVec 32 := 0#32
  let v150 : BitVec 1 := Scalar.cmpi .ne v149 c0_i32_112
  v150

@[reducible] def k0_t50_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off51 (i : grid0.Coords) (v144 : BitVec 32) (k0_t49 : Fin (k0_t49_loop i v144).trips) (k0_t50 : Fin k0_t50_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v145 : BitVec 32 := Scalar.subi v144 v76
  let c1_i32_834 : BitVec 32 := 1#32
  let arg15 : BitVec 32 := Scf.iv v145 c1_i32_834 k0_t49
  let v1793 : Index := Scalar.indexCast arg15
  let c0_i32_838 : BitVec 32 := 0#32
  let c1_i32_839 : BitVec 32 := 1#32
  let arg16 : BitVec 32 := Scf.iv c0_i32_838 c1_i32_839 k0_t50
  let c16_i32 : BitVec 32 := 16#32
  let v1792 : BitVec 32 := Scalar.muli arg16 c16_i32
  let v1794 : Index := Scalar.indexCast v1792
  ![v1793.toNat, v1794.toNat]
@[reducible] def k0_t51_loop (i : grid0.Coords) (v144 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v145 : BitVec 32 := Scalar.subi v144 v76
  let c32_i32_832 : BitVec 32 := 32#32
  let v1785 : BitVec 32 := Scalar.subi c32_i32_832 v145
  let c1_i32_833 : BitVec 32 := 1#32
  let v1787 : BitVec 32 := Scalar.divsi v1785 c1_i32_833
  let v1788 : BitVec 32 := Scalar.muli v1787 c1_i32_833
  let v1789 : BitVec 32 := Scalar.addi v145 v1788
  let v1786 : BitVec 32 := Scalar.addi v145 v1785
  let c1_i32_835 : BitVec 32 := 1#32
  ⟨v1789, v1786, c1_i32_835⟩
@[reducible] def k0_t52_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off52 (i : grid0.Coords) (v144 : BitVec 32) (k0_t51 : Fin (k0_t51_loop i v144).trips) (k0_t52 : Fin k0_t52_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v145 : BitVec 32 := Scalar.subi v144 v76
  let c32_i32_832 : BitVec 32 := 32#32
  let v1785 : BitVec 32 := Scalar.subi c32_i32_832 v145
  let c1_i32_833 : BitVec 32 := 1#32
  let v1787 : BitVec 32 := Scalar.divsi v1785 c1_i32_833
  let v1788 : BitVec 32 := Scalar.muli v1787 c1_i32_833
  let v1789 : BitVec 32 := Scalar.addi v145 v1788
  let c1_i32_835 : BitVec 32 := 1#32
  let arg15 : BitVec 32 := Scf.iv v1789 c1_i32_835 k0_t51
  let v1793 : Index := Scalar.indexCast arg15
  let c0_i32_838 : BitVec 32 := 0#32
  let c1_i32_839 : BitVec 32 := 1#32
  let arg16 : BitVec 32 := Scf.iv c0_i32_838 c1_i32_839 k0_t52
  let c16_i32 : BitVec 32 := 16#32
  let v1792 : BitVec 32 := Scalar.muli arg16 c16_i32
  let v1794 : Index := Scalar.indexCast v1792
  ![v1793.toNat, v1794.toNat]

def k0_chk9 (i : grid0.Coords) (v144 : BitVec 32) : Prop :=
  (∀ (k0_h9 : k0_cond9 i v144 = 1#1), (k0_t49_loop i v144).OK) ∧
  (∀ (k0_t49 : Fin (k0_t49_loop i v144).trips) (k0_t50 : Fin k0_t50_loop.trips), ∀ (k0_h9 : k0_cond9 i v144 = 1#1), ∀ a, (k0_off51 i v144 k0_t49 k0_t50) a + S1x16.size a ≤ S32x1024.size a) ∧
  (∀ (k0_h9 : k0_cond9 i v144 = 1#1), (k0_t51_loop i v144).OK) ∧
  (∀ (k0_t51 : Fin (k0_t51_loop i v144).trips) (k0_t52 : Fin k0_t52_loop.trips), ∀ (k0_h9 : k0_cond9 i v144 = 1#1), ∀ a, (k0_off52 i v144 k0_t51 k0_t52) a + S1x16.size a ≤ S32x1024.size a)
theorem k0_t49_ok : ∀ (i : grid0.Coords) (v144 : BitVec 32) (k0_hw9 : k0_chk9 i v144), ∀ (k0_h9 : k0_cond9 i v144 = 1#1), (k0_t49_loop i v144).OK := fun i v144 k0_hw9 k0_h9 => k0_hw9.1 k0_h9
theorem k0_off51_inb : ∀ (i : grid0.Coords) (v144 : BitVec 32) (k0_hw9 : k0_chk9 i v144) (k0_t49 : Fin (k0_t49_loop i v144).trips) (k0_t50 : Fin k0_t50_loop.trips), ∀ (k0_h9 : k0_cond9 i v144 = 1#1), ∀ a, (k0_off51 i v144 k0_t49 k0_t50) a + S1x16.size a ≤ S32x1024.size a := fun i v144 k0_hw9 k0_t49 k0_t50 k0_h9 => k0_hw9.2.1 k0_t49 k0_t50 k0_h9
theorem k0_t51_ok : ∀ (i : grid0.Coords) (v144 : BitVec 32) (k0_hw9 : k0_chk9 i v144), ∀ (k0_h9 : k0_cond9 i v144 = 1#1), (k0_t51_loop i v144).OK := fun i v144 k0_hw9 k0_h9 => k0_hw9.2.2.1 k0_h9
theorem k0_off52_inb : ∀ (i : grid0.Coords) (v144 : BitVec 32) (k0_hw9 : k0_chk9 i v144) (k0_t51 : Fin (k0_t51_loop i v144).trips) (k0_t52 : Fin k0_t52_loop.trips), ∀ (k0_h9 : k0_cond9 i v144 = 1#1), ∀ a, (k0_off52 i v144 k0_t51 k0_t52) a + S1x16.size a ≤ S32x1024.size a := fun i v144 k0_hw9 k0_t51 k0_t52 k0_h9 => k0_hw9.2.2.2 k0_t51 k0_t52 k0_h9

def k0_off53 (i : grid0.Coords) : Fin 3 → Nat :=
  let c8_i32_836 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r34 : BitVec 32 := 0#32
  ![8, v76.toNat, 0]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_837_r35 : BitVec 32 := 0#32
  ![v76.toNat, 0]
@[reducible] def k0_t53_loop (i : grid0.Coords) (v152 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v153 : BitVec 32 := Scalar.subi v152 v76
  let c32_i32_832 : BitVec 32 := 32#32
  let v1785 : BitVec 32 := Scalar.subi c32_i32_832 v153
  let c1_i32_833 : BitVec 32 := 1#32
  let v1787 : BitVec 32 := Scalar.divsi v1785 c1_i32_833
  let v1788 : BitVec 32 := Scalar.muli v1787 c1_i32_833
  let v1789 : BitVec 32 := Scalar.addi v153 v1788
  let c1_i32_834 : BitVec 32 := 1#32
  ⟨v153, v1789, c1_i32_834⟩
def k0_cond10 (i : grid0.Coords) (v152 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v153 : BitVec 32 := Scalar.subi v152 v76
  let c0_i32_113 : BitVec 32 := 0#32
  let v154 : BitVec 1 := Scalar.cmpi .sgt v153 c0_i32_113
  let c32_i32_114 : BitVec 32 := 32#32
  let v155 : BitVec 1 := Scalar.cmpi .slt v153 c32_i32_114
  let v156 : BitVec 1 := Scalar.andi v154 v155
  let v157 : BitVec 32 := Scalar.extui v156
  let c0_i32_115 : BitVec 32 := 0#32
  let v158 : BitVec 1 := Scalar.cmpi .ne v157 c0_i32_115
  v158

@[reducible] def k0_t54_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off55 (i : grid0.Coords) (v152 : BitVec 32) (k0_t53 : Fin (k0_t53_loop i v152).trips) (k0_t54 : Fin k0_t54_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v153 : BitVec 32 := Scalar.subi v152 v76
  let c1_i32_834 : BitVec 32 := 1#32
  let arg15 : BitVec 32 := Scf.iv v153 c1_i32_834 k0_t53
  let v1793 : Index := Scalar.indexCast arg15
  let c0_i32_837 : BitVec 32 := 0#32
  let c1_i32_838 : BitVec 32 := 1#32
  let arg16 : BitVec 32 := Scf.iv c0_i32_837 c1_i32_838 k0_t54
  let c16_i32 : BitVec 32 := 16#32
  let v1792 : BitVec 32 := Scalar.muli arg16 c16_i32
  let v1794 : Index := Scalar.indexCast v1792
  ![v1793.toNat, v1794.toNat]
@[reducible] def k0_t55_loop (i : grid0.Coords) (v152 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v153 : BitVec 32 := Scalar.subi v152 v76
  let c32_i32_832 : BitVec 32 := 32#32
  let v1785 : BitVec 32 := Scalar.subi c32_i32_832 v153
  let c1_i32_833 : BitVec 32 := 1#32
  let v1787 : BitVec 32 := Scalar.divsi v1785 c1_i32_833
  let v1788 : BitVec 32 := Scalar.muli v1787 c1_i32_833
  let v1789 : BitVec 32 := Scalar.addi v153 v1788
  let v1786 : BitVec 32 := Scalar.addi v153 v1785
  let c1_i32_835 : BitVec 32 := 1#32
  ⟨v1789, v1786, c1_i32_835⟩
@[reducible] def k0_t56_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off56 (i : grid0.Coords) (v152 : BitVec 32) (k0_t55 : Fin (k0_t55_loop i v152).trips) (k0_t56 : Fin k0_t56_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v153 : BitVec 32 := Scalar.subi v152 v76
  let c32_i32_832 : BitVec 32 := 32#32
  let v1785 : BitVec 32 := Scalar.subi c32_i32_832 v153
  let c1_i32_833 : BitVec 32 := 1#32
  let v1787 : BitVec 32 := Scalar.divsi v1785 c1_i32_833
  let v1788 : BitVec 32 := Scalar.muli v1787 c1_i32_833
  let v1789 : BitVec 32 := Scalar.addi v153 v1788
  let c1_i32_835 : BitVec 32 := 1#32
  let arg15 : BitVec 32 := Scf.iv v1789 c1_i32_835 k0_t55
  let v1793 : Index := Scalar.indexCast arg15
  let c0_i32_837 : BitVec 32 := 0#32
  let c1_i32_838 : BitVec 32 := 1#32
  let arg16 : BitVec 32 := Scf.iv c0_i32_837 c1_i32_838 k0_t56
  let c16_i32 : BitVec 32 := 16#32
  let v1792 : BitVec 32 := Scalar.muli arg16 c16_i32
  let v1794 : Index := Scalar.indexCast v1792
  ![v1793.toNat, v1794.toNat]

def k0_chk10 (i : grid0.Coords) (v152 : BitVec 32) : Prop :=
  (∀ (k0_h10 : k0_cond10 i v152 = 1#1), (k0_t53_loop i v152).OK) ∧
  (∀ (k0_t53 : Fin (k0_t53_loop i v152).trips) (k0_t54 : Fin k0_t54_loop.trips), ∀ (k0_h10 : k0_cond10 i v152 = 1#1), ∀ a, (k0_off55 i v152 k0_t53 k0_t54) a + S1x16.size a ≤ S32x1024.size a) ∧
  (∀ (k0_h10 : k0_cond10 i v152 = 1#1), (k0_t55_loop i v152).OK) ∧
  (∀ (k0_t55 : Fin (k0_t55_loop i v152).trips) (k0_t56 : Fin k0_t56_loop.trips), ∀ (k0_h10 : k0_cond10 i v152 = 1#1), ∀ a, (k0_off56 i v152 k0_t55 k0_t56) a + S1x16.size a ≤ S32x1024.size a)
theorem k0_t53_ok : ∀ (i : grid0.Coords) (v152 : BitVec 32) (k0_hw10 : k0_chk10 i v152), ∀ (k0_h10 : k0_cond10 i v152 = 1#1), (k0_t53_loop i v152).OK := fun i v152 k0_hw10 k0_h10 => k0_hw10.1 k0_h10
theorem k0_off55_inb : ∀ (i : grid0.Coords) (v152 : BitVec 32) (k0_hw10 : k0_chk10 i v152) (k0_t53 : Fin (k0_t53_loop i v152).trips) (k0_t54 : Fin k0_t54_loop.trips), ∀ (k0_h10 : k0_cond10 i v152 = 1#1), ∀ a, (k0_off55 i v152 k0_t53 k0_t54) a + S1x16.size a ≤ S32x1024.size a := fun i v152 k0_hw10 k0_t53 k0_t54 k0_h10 => k0_hw10.2.1 k0_t53 k0_t54 k0_h10
theorem k0_t55_ok : ∀ (i : grid0.Coords) (v152 : BitVec 32) (k0_hw10 : k0_chk10 i v152), ∀ (k0_h10 : k0_cond10 i v152 = 1#1), (k0_t55_loop i v152).OK := fun i v152 k0_hw10 k0_h10 => k0_hw10.2.2.1 k0_h10
theorem k0_off56_inb : ∀ (i : grid0.Coords) (v152 : BitVec 32) (k0_hw10 : k0_chk10 i v152) (k0_t55 : Fin (k0_t55_loop i v152).trips) (k0_t56 : Fin k0_t56_loop.trips), ∀ (k0_h10 : k0_cond10 i v152 = 1#1), ∀ a, (k0_off56 i v152 k0_t55 k0_t56) a + S1x16.size a ≤ S32x1024.size a := fun i v152 k0_hw10 k0_t55 k0_t56 k0_h10 => k0_hw10.2.2.2 k0_t55 k0_t56 k0_h10

def k0_off57 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r36 : BitVec 32 := 0#32
  ![9, v76.toNat, 0]
def k0_off58 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r37 : BitVec 32 := 0#32
  ![v76.toNat, 0]
@[reducible] def k0_t57_loop (i : grid0.Coords) (v160 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v161 : BitVec 32 := Scalar.subi v160 v76
  let c32_i32_832 : BitVec 32 := 32#32
  let v1785 : BitVec 32 := Scalar.subi c32_i32_832 v161
  let c1_i32_833 : BitVec 32 := 1#32
  let v1787 : BitVec 32 := Scalar.divsi v1785 c1_i32_833
  let v1788 : BitVec 32 := Scalar.muli v1787 c1_i32_833
  let v1789 : BitVec 32 := Scalar.addi v161 v1788
  let c1_i32_834 : BitVec 32 := 1#32
  ⟨v161, v1789, c1_i32_834⟩
def k0_cond11 (i : grid0.Coords) (v160 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v161 : BitVec 32 := Scalar.subi v160 v76
  let c0_i32_116 : BitVec 32 := 0#32
  let v162 : BitVec 1 := Scalar.cmpi .sgt v161 c0_i32_116
  let c32_i32_117 : BitVec 32 := 32#32
  let v163 : BitVec 1 := Scalar.cmpi .slt v161 c32_i32_117
  let v164 : BitVec 1 := Scalar.andi v162 v163
  let v165 : BitVec 32 := Scalar.extui v164
  let c0_i32_118 : BitVec 32 := 0#32
  let v166 : BitVec 1 := Scalar.cmpi .ne v165 c0_i32_118
  v166

@[reducible] def k0_t58_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off59 (i : grid0.Coords) (v160 : BitVec 32) (k0_t57 : Fin (k0_t57_loop i v160).trips) (k0_t58 : Fin k0_t58_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v161 : BitVec 32 := Scalar.subi v160 v76
  let c1_i32_834 : BitVec 32 := 1#32
  let arg15 : BitVec 32 := Scf.iv v161 c1_i32_834 k0_t57
  let v1793 : Index := Scalar.indexCast arg15
  let c0_i32_837 : BitVec 32 := 0#32
  let c1_i32_838 : BitVec 32 := 1#32
  let arg16 : BitVec 32 := Scf.iv c0_i32_837 c1_i32_838 k0_t58
  let c16_i32 : BitVec 32 := 16#32
  let v1792 : BitVec 32 := Scalar.muli arg16 c16_i32
  let v1794 : Index := Scalar.indexCast v1792
  ![v1793.toNat, v1794.toNat]
@[reducible] def k0_t59_loop (i : grid0.Coords) (v160 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v161 : BitVec 32 := Scalar.subi v160 v76
  let c32_i32_832 : BitVec 32 := 32#32
  let v1785 : BitVec 32 := Scalar.subi c32_i32_832 v161
  let c1_i32_833 : BitVec 32 := 1#32
  let v1787 : BitVec 32 := Scalar.divsi v1785 c1_i32_833
  let v1788 : BitVec 32 := Scalar.muli v1787 c1_i32_833
  let v1789 : BitVec 32 := Scalar.addi v161 v1788
  let v1786 : BitVec 32 := Scalar.addi v161 v1785
  let c1_i32_835 : BitVec 32 := 1#32
  ⟨v1789, v1786, c1_i32_835⟩
@[reducible] def k0_t60_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off60 (i : grid0.Coords) (v160 : BitVec 32) (k0_t59 : Fin (k0_t59_loop i v160).trips) (k0_t60 : Fin k0_t60_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v161 : BitVec 32 := Scalar.subi v160 v76
  let c32_i32_832 : BitVec 32 := 32#32
  let v1785 : BitVec 32 := Scalar.subi c32_i32_832 v161
  let c1_i32_833 : BitVec 32 := 1#32
  let v1787 : BitVec 32 := Scalar.divsi v1785 c1_i32_833
  let v1788 : BitVec 32 := Scalar.muli v1787 c1_i32_833
  let v1789 : BitVec 32 := Scalar.addi v161 v1788
  let c1_i32_835 : BitVec 32 := 1#32
  let arg15 : BitVec 32 := Scf.iv v1789 c1_i32_835 k0_t59
  let v1793 : Index := Scalar.indexCast arg15
  let c0_i32_837 : BitVec 32 := 0#32
  let c1_i32_838 : BitVec 32 := 1#32
  let arg16 : BitVec 32 := Scf.iv c0_i32_837 c1_i32_838 k0_t60
  let c16_i32 : BitVec 32 := 16#32
  let v1792 : BitVec 32 := Scalar.muli arg16 c16_i32
  let v1794 : Index := Scalar.indexCast v1792
  ![v1793.toNat, v1794.toNat]

def k0_chk11 (i : grid0.Coords) (v160 : BitVec 32) : Prop :=
  (∀ (k0_h11 : k0_cond11 i v160 = 1#1), (k0_t57_loop i v160).OK) ∧
  (∀ (k0_t57 : Fin (k0_t57_loop i v160).trips) (k0_t58 : Fin k0_t58_loop.trips), ∀ (k0_h11 : k0_cond11 i v160 = 1#1), ∀ a, (k0_off59 i v160 k0_t57 k0_t58) a + S1x16.size a ≤ S32x1024.size a) ∧
  (∀ (k0_h11 : k0_cond11 i v160 = 1#1), (k0_t59_loop i v160).OK) ∧
  (∀ (k0_t59 : Fin (k0_t59_loop i v160).trips) (k0_t60 : Fin k0_t60_loop.trips), ∀ (k0_h11 : k0_cond11 i v160 = 1#1), ∀ a, (k0_off60 i v160 k0_t59 k0_t60) a + S1x16.size a ≤ S32x1024.size a)
theorem k0_t57_ok : ∀ (i : grid0.Coords) (v160 : BitVec 32) (k0_hw11 : k0_chk11 i v160), ∀ (k0_h11 : k0_cond11 i v160 = 1#1), (k0_t57_loop i v160).OK := fun i v160 k0_hw11 k0_h11 => k0_hw11.1 k0_h11
theorem k0_off59_inb : ∀ (i : grid0.Coords) (v160 : BitVec 32) (k0_hw11 : k0_chk11 i v160) (k0_t57 : Fin (k0_t57_loop i v160).trips) (k0_t58 : Fin k0_t58_loop.trips), ∀ (k0_h11 : k0_cond11 i v160 = 1#1), ∀ a, (k0_off59 i v160 k0_t57 k0_t58) a + S1x16.size a ≤ S32x1024.size a := fun i v160 k0_hw11 k0_t57 k0_t58 k0_h11 => k0_hw11.2.1 k0_t57 k0_t58 k0_h11
theorem k0_t59_ok : ∀ (i : grid0.Coords) (v160 : BitVec 32) (k0_hw11 : k0_chk11 i v160), ∀ (k0_h11 : k0_cond11 i v160 = 1#1), (k0_t59_loop i v160).OK := fun i v160 k0_hw11 k0_h11 => k0_hw11.2.2.1 k0_h11
theorem k0_off60_inb : ∀ (i : grid0.Coords) (v160 : BitVec 32) (k0_hw11 : k0_chk11 i v160) (k0_t59 : Fin (k0_t59_loop i v160).trips) (k0_t60 : Fin k0_t60_loop.trips), ∀ (k0_h11 : k0_cond11 i v160 = 1#1), ∀ a, (k0_off60 i v160 k0_t59 k0_t60) a + S1x16.size a ≤ S32x1024.size a := fun i v160 k0_hw11 k0_t59 k0_t60 k0_h11 => k0_hw11.2.2.2 k0_t59 k0_t60 k0_h11

def k0_off61 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r38 : BitVec 32 := 0#32
  ![10, v76.toNat, 0]
def k0_off62 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r39 : BitVec 32 := 0#32
  ![v76.toNat, 0]
@[reducible] def k0_t61_loop (i : grid0.Coords) (v168 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v169 : BitVec 32 := Scalar.subi v168 v76
  let c32_i32_832 : BitVec 32 := 32#32
  let v1785 : BitVec 32 := Scalar.subi c32_i32_832 v169
  let c1_i32_833 : BitVec 32 := 1#32
  let v1787 : BitVec 32 := Scalar.divsi v1785 c1_i32_833
  let v1788 : BitVec 32 := Scalar.muli v1787 c1_i32_833
  let v1789 : BitVec 32 := Scalar.addi v169 v1788
  let c1_i32_834 : BitVec 32 := 1#32
  ⟨v169, v1789, c1_i32_834⟩
def k0_cond12 (i : grid0.Coords) (v168 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v169 : BitVec 32 := Scalar.subi v168 v76
  let c0_i32_119 : BitVec 32 := 0#32
  let v170 : BitVec 1 := Scalar.cmpi .sgt v169 c0_i32_119
  let c32_i32_120 : BitVec 32 := 32#32
  let v171 : BitVec 1 := Scalar.cmpi .slt v169 c32_i32_120
  let v172 : BitVec 1 := Scalar.andi v170 v171
  let v173 : BitVec 32 := Scalar.extui v172
  let c0_i32_121 : BitVec 32 := 0#32
  let v174 : BitVec 1 := Scalar.cmpi .ne v173 c0_i32_121
  v174

@[reducible] def k0_t62_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off63 (i : grid0.Coords) (v168 : BitVec 32) (k0_t61 : Fin (k0_t61_loop i v168).trips) (k0_t62 : Fin k0_t62_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v169 : BitVec 32 := Scalar.subi v168 v76
  let c1_i32_834 : BitVec 32 := 1#32
  let arg15 : BitVec 32 := Scf.iv v169 c1_i32_834 k0_t61
  let v1793 : Index := Scalar.indexCast arg15
  let c0_i32_837 : BitVec 32 := 0#32
  let c1_i32_838 : BitVec 32 := 1#32
  let arg16 : BitVec 32 := Scf.iv c0_i32_837 c1_i32_838 k0_t62
  let c16_i32 : BitVec 32 := 16#32
  let v1792 : BitVec 32 := Scalar.muli arg16 c16_i32
  let v1794 : Index := Scalar.indexCast v1792
  ![v1793.toNat, v1794.toNat]
@[reducible] def k0_t63_loop (i : grid0.Coords) (v168 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v169 : BitVec 32 := Scalar.subi v168 v76
  let c32_i32_832 : BitVec 32 := 32#32
  let v1785 : BitVec 32 := Scalar.subi c32_i32_832 v169
  let c1_i32_833 : BitVec 32 := 1#32
  let v1787 : BitVec 32 := Scalar.divsi v1785 c1_i32_833
  let v1788 : BitVec 32 := Scalar.muli v1787 c1_i32_833
  let v1789 : BitVec 32 := Scalar.addi v169 v1788
  let v1786 : BitVec 32 := Scalar.addi v169 v1785
  let c1_i32_835 : BitVec 32 := 1#32
  ⟨v1789, v1786, c1_i32_835⟩
@[reducible] def k0_t64_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off64 (i : grid0.Coords) (v168 : BitVec 32) (k0_t63 : Fin (k0_t63_loop i v168).trips) (k0_t64 : Fin k0_t64_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v169 : BitVec 32 := Scalar.subi v168 v76
  let c32_i32_832 : BitVec 32 := 32#32
  let v1785 : BitVec 32 := Scalar.subi c32_i32_832 v169
  let c1_i32_833 : BitVec 32 := 1#32
  let v1787 : BitVec 32 := Scalar.divsi v1785 c1_i32_833
  let v1788 : BitVec 32 := Scalar.muli v1787 c1_i32_833
  let v1789 : BitVec 32 := Scalar.addi v169 v1788
  let c1_i32_835 : BitVec 32 := 1#32
  let arg15 : BitVec 32 := Scf.iv v1789 c1_i32_835 k0_t63
  let v1793 : Index := Scalar.indexCast arg15
  let c0_i32_837 : BitVec 32 := 0#32
  let c1_i32_838 : BitVec 32 := 1#32
  let arg16 : BitVec 32 := Scf.iv c0_i32_837 c1_i32_838 k0_t64
  let c16_i32 : BitVec 32 := 16#32
  let v1792 : BitVec 32 := Scalar.muli arg16 c16_i32
  let v1794 : Index := Scalar.indexCast v1792
  ![v1793.toNat, v1794.toNat]

def k0_chk12 (i : grid0.Coords) (v168 : BitVec 32) : Prop :=
  (∀ (k0_h12 : k0_cond12 i v168 = 1#1), (k0_t61_loop i v168).OK) ∧
  (∀ (k0_t61 : Fin (k0_t61_loop i v168).trips) (k0_t62 : Fin k0_t62_loop.trips), ∀ (k0_h12 : k0_cond12 i v168 = 1#1), ∀ a, (k0_off63 i v168 k0_t61 k0_t62) a + S1x16.size a ≤ S32x1024.size a) ∧
  (∀ (k0_h12 : k0_cond12 i v168 = 1#1), (k0_t63_loop i v168).OK) ∧
  (∀ (k0_t63 : Fin (k0_t63_loop i v168).trips) (k0_t64 : Fin k0_t64_loop.trips), ∀ (k0_h12 : k0_cond12 i v168 = 1#1), ∀ a, (k0_off64 i v168 k0_t63 k0_t64) a + S1x16.size a ≤ S32x1024.size a)
theorem k0_t61_ok : ∀ (i : grid0.Coords) (v168 : BitVec 32) (k0_hw12 : k0_chk12 i v168), ∀ (k0_h12 : k0_cond12 i v168 = 1#1), (k0_t61_loop i v168).OK := fun i v168 k0_hw12 k0_h12 => k0_hw12.1 k0_h12
theorem k0_off63_inb : ∀ (i : grid0.Coords) (v168 : BitVec 32) (k0_hw12 : k0_chk12 i v168) (k0_t61 : Fin (k0_t61_loop i v168).trips) (k0_t62 : Fin k0_t62_loop.trips), ∀ (k0_h12 : k0_cond12 i v168 = 1#1), ∀ a, (k0_off63 i v168 k0_t61 k0_t62) a + S1x16.size a ≤ S32x1024.size a := fun i v168 k0_hw12 k0_t61 k0_t62 k0_h12 => k0_hw12.2.1 k0_t61 k0_t62 k0_h12
theorem k0_t63_ok : ∀ (i : grid0.Coords) (v168 : BitVec 32) (k0_hw12 : k0_chk12 i v168), ∀ (k0_h12 : k0_cond12 i v168 = 1#1), (k0_t63_loop i v168).OK := fun i v168 k0_hw12 k0_h12 => k0_hw12.2.2.1 k0_h12
theorem k0_off64_inb : ∀ (i : grid0.Coords) (v168 : BitVec 32) (k0_hw12 : k0_chk12 i v168) (k0_t63 : Fin (k0_t63_loop i v168).trips) (k0_t64 : Fin k0_t64_loop.trips), ∀ (k0_h12 : k0_cond12 i v168 = 1#1), ∀ a, (k0_off64 i v168 k0_t63 k0_t64) a + S1x16.size a ≤ S32x1024.size a := fun i v168 k0_hw12 k0_t63 k0_t64 k0_h12 => k0_hw12.2.2.2 k0_t63 k0_t64 k0_h12

def k0_off65 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r40 : BitVec 32 := 0#32
  ![11, v76.toNat, 0]
def k0_off66 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r41 : BitVec 32 := 0#32
  ![v76.toNat, 0]
@[reducible] def k0_t65_loop (i : grid0.Coords) (v176 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v177 : BitVec 32 := Scalar.subi v176 v76
  let c32_i32_832 : BitVec 32 := 32#32
  let v1785 : BitVec 32 := Scalar.subi c32_i32_832 v177
  let c1_i32_833 : BitVec 32 := 1#32
  let v1787 : BitVec 32 := Scalar.divsi v1785 c1_i32_833
  let v1788 : BitVec 32 := Scalar.muli v1787 c1_i32_833
  let v1789 : BitVec 32 := Scalar.addi v177 v1788
  let c1_i32_834 : BitVec 32 := 1#32
  ⟨v177, v1789, c1_i32_834⟩
def k0_cond13 (i : grid0.Coords) (v176 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v177 : BitVec 32 := Scalar.subi v176 v76
  let c0_i32_122 : BitVec 32 := 0#32
  let v178 : BitVec 1 := Scalar.cmpi .sgt v177 c0_i32_122
  let c32_i32_123 : BitVec 32 := 32#32
  let v179 : BitVec 1 := Scalar.cmpi .slt v177 c32_i32_123
  let v180 : BitVec 1 := Scalar.andi v178 v179
  let v181 : BitVec 32 := Scalar.extui v180
  let c0_i32_124 : BitVec 32 := 0#32
  let v182 : BitVec 1 := Scalar.cmpi .ne v181 c0_i32_124
  v182

@[reducible] def k0_t66_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off67 (i : grid0.Coords) (v176 : BitVec 32) (k0_t65 : Fin (k0_t65_loop i v176).trips) (k0_t66 : Fin k0_t66_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v177 : BitVec 32 := Scalar.subi v176 v76
  let c1_i32_834 : BitVec 32 := 1#32
  let arg15 : BitVec 32 := Scf.iv v177 c1_i32_834 k0_t65
  let v1793 : Index := Scalar.indexCast arg15
  let c0_i32_837 : BitVec 32 := 0#32
  let c1_i32_838 : BitVec 32 := 1#32
  let arg16 : BitVec 32 := Scf.iv c0_i32_837 c1_i32_838 k0_t66
  let c16_i32 : BitVec 32 := 16#32
  let v1792 : BitVec 32 := Scalar.muli arg16 c16_i32
  let v1794 : Index := Scalar.indexCast v1792
  ![v1793.toNat, v1794.toNat]
@[reducible] def k0_t67_loop (i : grid0.Coords) (v176 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v177 : BitVec 32 := Scalar.subi v176 v76
  let c32_i32_832 : BitVec 32 := 32#32
  let v1785 : BitVec 32 := Scalar.subi c32_i32_832 v177
  let c1_i32_833 : BitVec 32 := 1#32
  let v1787 : BitVec 32 := Scalar.divsi v1785 c1_i32_833
  let v1788 : BitVec 32 := Scalar.muli v1787 c1_i32_833
  let v1789 : BitVec 32 := Scalar.addi v177 v1788
  let v1786 : BitVec 32 := Scalar.addi v177 v1785
  let c1_i32_835 : BitVec 32 := 1#32
  ⟨v1789, v1786, c1_i32_835⟩
@[reducible] def k0_t68_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off68 (i : grid0.Coords) (v176 : BitVec 32) (k0_t67 : Fin (k0_t67_loop i v176).trips) (k0_t68 : Fin k0_t68_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v177 : BitVec 32 := Scalar.subi v176 v76
  let c32_i32_832 : BitVec 32 := 32#32
  let v1785 : BitVec 32 := Scalar.subi c32_i32_832 v177
  let c1_i32_833 : BitVec 32 := 1#32
  let v1787 : BitVec 32 := Scalar.divsi v1785 c1_i32_833
  let v1788 : BitVec 32 := Scalar.muli v1787 c1_i32_833
  let v1789 : BitVec 32 := Scalar.addi v177 v1788
  let c1_i32_835 : BitVec 32 := 1#32
  let arg15 : BitVec 32 := Scf.iv v1789 c1_i32_835 k0_t67
  let v1793 : Index := Scalar.indexCast arg15
  let c0_i32_837 : BitVec 32 := 0#32
  let c1_i32_838 : BitVec 32 := 1#32
  let arg16 : BitVec 32 := Scf.iv c0_i32_837 c1_i32_838 k0_t68
  let c16_i32 : BitVec 32 := 16#32
  let v1792 : BitVec 32 := Scalar.muli arg16 c16_i32
  let v1794 : Index := Scalar.indexCast v1792
  ![v1793.toNat, v1794.toNat]

def k0_chk13 (i : grid0.Coords) (v176 : BitVec 32) : Prop :=
  (∀ (k0_h13 : k0_cond13 i v176 = 1#1), (k0_t65_loop i v176).OK) ∧
  (∀ (k0_t65 : Fin (k0_t65_loop i v176).trips) (k0_t66 : Fin k0_t66_loop.trips), ∀ (k0_h13 : k0_cond13 i v176 = 1#1), ∀ a, (k0_off67 i v176 k0_t65 k0_t66) a + S1x16.size a ≤ S32x1024.size a) ∧
  (∀ (k0_h13 : k0_cond13 i v176 = 1#1), (k0_t67_loop i v176).OK) ∧
  (∀ (k0_t67 : Fin (k0_t67_loop i v176).trips) (k0_t68 : Fin k0_t68_loop.trips), ∀ (k0_h13 : k0_cond13 i v176 = 1#1), ∀ a, (k0_off68 i v176 k0_t67 k0_t68) a + S1x16.size a ≤ S32x1024.size a)
theorem k0_t65_ok : ∀ (i : grid0.Coords) (v176 : BitVec 32) (k0_hw13 : k0_chk13 i v176), ∀ (k0_h13 : k0_cond13 i v176 = 1#1), (k0_t65_loop i v176).OK := fun i v176 k0_hw13 k0_h13 => k0_hw13.1 k0_h13
theorem k0_off67_inb : ∀ (i : grid0.Coords) (v176 : BitVec 32) (k0_hw13 : k0_chk13 i v176) (k0_t65 : Fin (k0_t65_loop i v176).trips) (k0_t66 : Fin k0_t66_loop.trips), ∀ (k0_h13 : k0_cond13 i v176 = 1#1), ∀ a, (k0_off67 i v176 k0_t65 k0_t66) a + S1x16.size a ≤ S32x1024.size a := fun i v176 k0_hw13 k0_t65 k0_t66 k0_h13 => k0_hw13.2.1 k0_t65 k0_t66 k0_h13
theorem k0_t67_ok : ∀ (i : grid0.Coords) (v176 : BitVec 32) (k0_hw13 : k0_chk13 i v176), ∀ (k0_h13 : k0_cond13 i v176 = 1#1), (k0_t67_loop i v176).OK := fun i v176 k0_hw13 k0_h13 => k0_hw13.2.2.1 k0_h13
theorem k0_off68_inb : ∀ (i : grid0.Coords) (v176 : BitVec 32) (k0_hw13 : k0_chk13 i v176) (k0_t67 : Fin (k0_t67_loop i v176).trips) (k0_t68 : Fin k0_t68_loop.trips), ∀ (k0_h13 : k0_cond13 i v176 = 1#1), ∀ a, (k0_off68 i v176 k0_t67 k0_t68) a + S1x16.size a ≤ S32x1024.size a := fun i v176 k0_hw13 k0_t67 k0_t68 k0_h13 => k0_hw13.2.2.2 k0_t67 k0_t68 k0_h13

def k0_off69 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r42 : BitVec 32 := 0#32
  ![12, v76.toNat, 0]
def k0_off70 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r43 : BitVec 32 := 0#32
  ![v76.toNat, 0]
@[reducible] def k0_t69_loop (i : grid0.Coords) (v184 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v185 : BitVec 32 := Scalar.subi v184 v76
  let c32_i32_832 : BitVec 32 := 32#32
  let v1785 : BitVec 32 := Scalar.subi c32_i32_832 v185
  let c1_i32_833 : BitVec 32 := 1#32
  let v1787 : BitVec 32 := Scalar.divsi v1785 c1_i32_833
  let v1788 : BitVec 32 := Scalar.muli v1787 c1_i32_833
  let v1789 : BitVec 32 := Scalar.addi v185 v1788
  let c1_i32_834 : BitVec 32 := 1#32
  ⟨v185, v1789, c1_i32_834⟩
def k0_cond14 (i : grid0.Coords) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v185 : BitVec 32 := Scalar.subi v184 v76
  let c0_i32_125 : BitVec 32 := 0#32
  let v186 : BitVec 1 := Scalar.cmpi .sgt v185 c0_i32_125
  let c32_i32_126 : BitVec 32 := 32#32
  let v187 : BitVec 1 := Scalar.cmpi .slt v185 c32_i32_126
  let v188 : BitVec 1 := Scalar.andi v186 v187
  let v189 : BitVec 32 := Scalar.extui v188
  let c0_i32_127 : BitVec 32 := 0#32
  let v190 : BitVec 1 := Scalar.cmpi .ne v189 c0_i32_127
  v190

@[reducible] def k0_t70_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off71 (i : grid0.Coords) (v184 : BitVec 32) (k0_t69 : Fin (k0_t69_loop i v184).trips) (k0_t70 : Fin k0_t70_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v185 : BitVec 32 := Scalar.subi v184 v76
  let c1_i32_834 : BitVec 32 := 1#32
  let arg15 : BitVec 32 := Scf.iv v185 c1_i32_834 k0_t69
  let v1793 : Index := Scalar.indexCast arg15
  let c0_i32_837 : BitVec 32 := 0#32
  let c1_i32_838 : BitVec 32 := 1#32
  let arg16 : BitVec 32 := Scf.iv c0_i32_837 c1_i32_838 k0_t70
  let c16_i32 : BitVec 32 := 16#32
  let v1792 : BitVec 32 := Scalar.muli arg16 c16_i32
  let v1794 : Index := Scalar.indexCast v1792
  ![v1793.toNat, v1794.toNat]
@[reducible] def k0_t71_loop (i : grid0.Coords) (v184 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v185 : BitVec 32 := Scalar.subi v184 v76
  let c32_i32_832 : BitVec 32 := 32#32
  let v1785 : BitVec 32 := Scalar.subi c32_i32_832 v185
  let c1_i32_833 : BitVec 32 := 1#32
  let v1787 : BitVec 32 := Scalar.divsi v1785 c1_i32_833
  let v1788 : BitVec 32 := Scalar.muli v1787 c1_i32_833
  let v1789 : BitVec 32 := Scalar.addi v185 v1788
  let v1786 : BitVec 32 := Scalar.addi v185 v1785
  let c1_i32_835 : BitVec 32 := 1#32
  ⟨v1789, v1786, c1_i32_835⟩
@[reducible] def k0_t72_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off72 (i : grid0.Coords) (v184 : BitVec 32) (k0_t71 : Fin (k0_t71_loop i v184).trips) (k0_t72 : Fin k0_t72_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v185 : BitVec 32 := Scalar.subi v184 v76
  let c32_i32_832 : BitVec 32 := 32#32
  let v1785 : BitVec 32 := Scalar.subi c32_i32_832 v185
  let c1_i32_833 : BitVec 32 := 1#32
  let v1787 : BitVec 32 := Scalar.divsi v1785 c1_i32_833
  let v1788 : BitVec 32 := Scalar.muli v1787 c1_i32_833
  let v1789 : BitVec 32 := Scalar.addi v185 v1788
  let c1_i32_835 : BitVec 32 := 1#32
  let arg15 : BitVec 32 := Scf.iv v1789 c1_i32_835 k0_t71
  let v1793 : Index := Scalar.indexCast arg15
  let c0_i32_837 : BitVec 32 := 0#32
  let c1_i32_838 : BitVec 32 := 1#32
  let arg16 : BitVec 32 := Scf.iv c0_i32_837 c1_i32_838 k0_t72
  let c16_i32 : BitVec 32 := 16#32
  let v1792 : BitVec 32 := Scalar.muli arg16 c16_i32
  let v1794 : Index := Scalar.indexCast v1792
  ![v1793.toNat, v1794.toNat]

def k0_chk14 (i : grid0.Coords) (v184 : BitVec 32) : Prop :=
  (∀ (k0_h14 : k0_cond14 i v184 = 1#1), (k0_t69_loop i v184).OK) ∧
  (∀ (k0_t69 : Fin (k0_t69_loop i v184).trips) (k0_t70 : Fin k0_t70_loop.trips), ∀ (k0_h14 : k0_cond14 i v184 = 1#1), ∀ a, (k0_off71 i v184 k0_t69 k0_t70) a + S1x16.size a ≤ S32x1024.size a) ∧
  (∀ (k0_h14 : k0_cond14 i v184 = 1#1), (k0_t71_loop i v184).OK) ∧
  (∀ (k0_t71 : Fin (k0_t71_loop i v184).trips) (k0_t72 : Fin k0_t72_loop.trips), ∀ (k0_h14 : k0_cond14 i v184 = 1#1), ∀ a, (k0_off72 i v184 k0_t71 k0_t72) a + S1x16.size a ≤ S32x1024.size a)
theorem k0_t69_ok : ∀ (i : grid0.Coords) (v184 : BitVec 32) (k0_hw14 : k0_chk14 i v184), ∀ (k0_h14 : k0_cond14 i v184 = 1#1), (k0_t69_loop i v184).OK := fun i v184 k0_hw14 k0_h14 => k0_hw14.1 k0_h14
theorem k0_off71_inb : ∀ (i : grid0.Coords) (v184 : BitVec 32) (k0_hw14 : k0_chk14 i v184) (k0_t69 : Fin (k0_t69_loop i v184).trips) (k0_t70 : Fin k0_t70_loop.trips), ∀ (k0_h14 : k0_cond14 i v184 = 1#1), ∀ a, (k0_off71 i v184 k0_t69 k0_t70) a + S1x16.size a ≤ S32x1024.size a := fun i v184 k0_hw14 k0_t69 k0_t70 k0_h14 => k0_hw14.2.1 k0_t69 k0_t70 k0_h14
theorem k0_t71_ok : ∀ (i : grid0.Coords) (v184 : BitVec 32) (k0_hw14 : k0_chk14 i v184), ∀ (k0_h14 : k0_cond14 i v184 = 1#1), (k0_t71_loop i v184).OK := fun i v184 k0_hw14 k0_h14 => k0_hw14.2.2.1 k0_h14
theorem k0_off72_inb : ∀ (i : grid0.Coords) (v184 : BitVec 32) (k0_hw14 : k0_chk14 i v184) (k0_t71 : Fin (k0_t71_loop i v184).trips) (k0_t72 : Fin k0_t72_loop.trips), ∀ (k0_h14 : k0_cond14 i v184 = 1#1), ∀ a, (k0_off72 i v184 k0_t71 k0_t72) a + S1x16.size a ≤ S32x1024.size a := fun i v184 k0_hw14 k0_t71 k0_t72 k0_h14 => k0_hw14.2.2.2 k0_t71 k0_t72 k0_h14

def k0_off73 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r44 : BitVec 32 := 0#32
  ![13, v76.toNat, 0]
def k0_off74 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r45 : BitVec 32 := 0#32
  ![v76.toNat, 0]
@[reducible] def k0_t73_loop (i : grid0.Coords) (v192 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v193 : BitVec 32 := Scalar.subi v192 v76
  let c32_i32_832 : BitVec 32 := 32#32
  let v1785 : BitVec 32 := Scalar.subi c32_i32_832 v193
  let c1_i32_833 : BitVec 32 := 1#32
  let v1787 : BitVec 32 := Scalar.divsi v1785 c1_i32_833
  let v1788 : BitVec 32 := Scalar.muli v1787 c1_i32_833
  let v1789 : BitVec 32 := Scalar.addi v193 v1788
  let c1_i32_834 : BitVec 32 := 1#32
  ⟨v193, v1789, c1_i32_834⟩
def k0_cond15 (i : grid0.Coords) (v192 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v193 : BitVec 32 := Scalar.subi v192 v76
  let c0_i32_128 : BitVec 32 := 0#32
  let v194 : BitVec 1 := Scalar.cmpi .sgt v193 c0_i32_128
  let c32_i32_129 : BitVec 32 := 32#32
  let v195 : BitVec 1 := Scalar.cmpi .slt v193 c32_i32_129
  let v196 : BitVec 1 := Scalar.andi v194 v195
  let v197 : BitVec 32 := Scalar.extui v196
  let c0_i32_130 : BitVec 32 := 0#32
  let v198 : BitVec 1 := Scalar.cmpi .ne v197 c0_i32_130
  v198

@[reducible] def k0_t74_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off75 (i : grid0.Coords) (v192 : BitVec 32) (k0_t73 : Fin (k0_t73_loop i v192).trips) (k0_t74 : Fin k0_t74_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v193 : BitVec 32 := Scalar.subi v192 v76
  let c1_i32_834 : BitVec 32 := 1#32
  let arg15 : BitVec 32 := Scf.iv v193 c1_i32_834 k0_t73
  let v1793 : Index := Scalar.indexCast arg15
  let c0_i32_837 : BitVec 32 := 0#32
  let c1_i32_838 : BitVec 32 := 1#32
  let arg16 : BitVec 32 := Scf.iv c0_i32_837 c1_i32_838 k0_t74
  let c16_i32 : BitVec 32 := 16#32
  let v1792 : BitVec 32 := Scalar.muli arg16 c16_i32
  let v1794 : Index := Scalar.indexCast v1792
  ![v1793.toNat, v1794.toNat]
@[reducible] def k0_t75_loop (i : grid0.Coords) (v192 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v193 : BitVec 32 := Scalar.subi v192 v76
  let c32_i32_832 : BitVec 32 := 32#32
  let v1785 : BitVec 32 := Scalar.subi c32_i32_832 v193
  let c1_i32_833 : BitVec 32 := 1#32
  let v1787 : BitVec 32 := Scalar.divsi v1785 c1_i32_833
  let v1788 : BitVec 32 := Scalar.muli v1787 c1_i32_833
  let v1789 : BitVec 32 := Scalar.addi v193 v1788
  let v1786 : BitVec 32 := Scalar.addi v193 v1785
  let c1_i32_835 : BitVec 32 := 1#32
  ⟨v1789, v1786, c1_i32_835⟩
@[reducible] def k0_t76_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off76 (i : grid0.Coords) (v192 : BitVec 32) (k0_t75 : Fin (k0_t75_loop i v192).trips) (k0_t76 : Fin k0_t76_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v193 : BitVec 32 := Scalar.subi v192 v76
  let c32_i32_832 : BitVec 32 := 32#32
  let v1785 : BitVec 32 := Scalar.subi c32_i32_832 v193
  let c1_i32_833 : BitVec 32 := 1#32
  let v1787 : BitVec 32 := Scalar.divsi v1785 c1_i32_833
  let v1788 : BitVec 32 := Scalar.muli v1787 c1_i32_833
  let v1789 : BitVec 32 := Scalar.addi v193 v1788
  let c1_i32_835 : BitVec 32 := 1#32
  let arg15 : BitVec 32 := Scf.iv v1789 c1_i32_835 k0_t75
  let v1793 : Index := Scalar.indexCast arg15
  let c0_i32_837 : BitVec 32 := 0#32
  let c1_i32_838 : BitVec 32 := 1#32
  let arg16 : BitVec 32 := Scf.iv c0_i32_837 c1_i32_838 k0_t76
  let c16_i32 : BitVec 32 := 16#32
  let v1792 : BitVec 32 := Scalar.muli arg16 c16_i32
  let v1794 : Index := Scalar.indexCast v1792
  ![v1793.toNat, v1794.toNat]

def k0_chk15 (i : grid0.Coords) (v192 : BitVec 32) : Prop :=
  (∀ (k0_h15 : k0_cond15 i v192 = 1#1), (k0_t73_loop i v192).OK) ∧
  (∀ (k0_t73 : Fin (k0_t73_loop i v192).trips) (k0_t74 : Fin k0_t74_loop.trips), ∀ (k0_h15 : k0_cond15 i v192 = 1#1), ∀ a, (k0_off75 i v192 k0_t73 k0_t74) a + S1x16.size a ≤ S32x1024.size a) ∧
  (∀ (k0_h15 : k0_cond15 i v192 = 1#1), (k0_t75_loop i v192).OK) ∧
  (∀ (k0_t75 : Fin (k0_t75_loop i v192).trips) (k0_t76 : Fin k0_t76_loop.trips), ∀ (k0_h15 : k0_cond15 i v192 = 1#1), ∀ a, (k0_off76 i v192 k0_t75 k0_t76) a + S1x16.size a ≤ S32x1024.size a)
theorem k0_t73_ok : ∀ (i : grid0.Coords) (v192 : BitVec 32) (k0_hw15 : k0_chk15 i v192), ∀ (k0_h15 : k0_cond15 i v192 = 1#1), (k0_t73_loop i v192).OK := fun i v192 k0_hw15 k0_h15 => k0_hw15.1 k0_h15
theorem k0_off75_inb : ∀ (i : grid0.Coords) (v192 : BitVec 32) (k0_hw15 : k0_chk15 i v192) (k0_t73 : Fin (k0_t73_loop i v192).trips) (k0_t74 : Fin k0_t74_loop.trips), ∀ (k0_h15 : k0_cond15 i v192 = 1#1), ∀ a, (k0_off75 i v192 k0_t73 k0_t74) a + S1x16.size a ≤ S32x1024.size a := fun i v192 k0_hw15 k0_t73 k0_t74 k0_h15 => k0_hw15.2.1 k0_t73 k0_t74 k0_h15
theorem k0_t75_ok : ∀ (i : grid0.Coords) (v192 : BitVec 32) (k0_hw15 : k0_chk15 i v192), ∀ (k0_h15 : k0_cond15 i v192 = 1#1), (k0_t75_loop i v192).OK := fun i v192 k0_hw15 k0_h15 => k0_hw15.2.2.1 k0_h15
theorem k0_off76_inb : ∀ (i : grid0.Coords) (v192 : BitVec 32) (k0_hw15 : k0_chk15 i v192) (k0_t75 : Fin (k0_t75_loop i v192).trips) (k0_t76 : Fin k0_t76_loop.trips), ∀ (k0_h15 : k0_cond15 i v192 = 1#1), ∀ a, (k0_off76 i v192 k0_t75 k0_t76) a + S1x16.size a ≤ S32x1024.size a := fun i v192 k0_hw15 k0_t75 k0_t76 k0_h15 => k0_hw15.2.2.2 k0_t75 k0_t76 k0_h15

def k0_off77 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r46 : BitVec 32 := 0#32
  ![14, v76.toNat, 0]
def k0_off78 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r47 : BitVec 32 := 0#32
  ![v76.toNat, 0]
@[reducible] def k0_t77_loop (i : grid0.Coords) (v200 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v201 : BitVec 32 := Scalar.subi v200 v76
  let c32_i32_832 : BitVec 32 := 32#32
  let v1785 : BitVec 32 := Scalar.subi c32_i32_832 v201
  let c1_i32_833 : BitVec 32 := 1#32
  let v1787 : BitVec 32 := Scalar.divsi v1785 c1_i32_833
  let v1788 : BitVec 32 := Scalar.muli v1787 c1_i32_833
  let v1789 : BitVec 32 := Scalar.addi v201 v1788
  let c1_i32_834 : BitVec 32 := 1#32
  ⟨v201, v1789, c1_i32_834⟩
def k0_cond16 (i : grid0.Coords) (v200 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v201 : BitVec 32 := Scalar.subi v200 v76
  let c0_i32_131 : BitVec 32 := 0#32
  let v202 : BitVec 1 := Scalar.cmpi .sgt v201 c0_i32_131
  let c32_i32_132 : BitVec 32 := 32#32
  let v203 : BitVec 1 := Scalar.cmpi .slt v201 c32_i32_132
  let v204 : BitVec 1 := Scalar.andi v202 v203
  let v205 : BitVec 32 := Scalar.extui v204
  let c0_i32_133 : BitVec 32 := 0#32
  let v206 : BitVec 1 := Scalar.cmpi .ne v205 c0_i32_133
  v206

@[reducible] def k0_t78_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off79 (i : grid0.Coords) (v200 : BitVec 32) (k0_t77 : Fin (k0_t77_loop i v200).trips) (k0_t78 : Fin k0_t78_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v201 : BitVec 32 := Scalar.subi v200 v76
  let c1_i32_834 : BitVec 32 := 1#32
  let arg15 : BitVec 32 := Scf.iv v201 c1_i32_834 k0_t77
  let v1793 : Index := Scalar.indexCast arg15
  let c0_i32_837 : BitVec 32 := 0#32
  let c1_i32_838 : BitVec 32 := 1#32
  let arg16 : BitVec 32 := Scf.iv c0_i32_837 c1_i32_838 k0_t78
  let c16_i32 : BitVec 32 := 16#32
  let v1792 : BitVec 32 := Scalar.muli arg16 c16_i32
  let v1794 : Index := Scalar.indexCast v1792
  ![v1793.toNat, v1794.toNat]
@[reducible] def k0_t79_loop (i : grid0.Coords) (v200 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v201 : BitVec 32 := Scalar.subi v200 v76
  let c32_i32_832 : BitVec 32 := 32#32
  let v1785 : BitVec 32 := Scalar.subi c32_i32_832 v201
  let c1_i32_833 : BitVec 32 := 1#32
  let v1787 : BitVec 32 := Scalar.divsi v1785 c1_i32_833
  let v1788 : BitVec 32 := Scalar.muli v1787 c1_i32_833
  let v1789 : BitVec 32 := Scalar.addi v201 v1788
  let v1786 : BitVec 32 := Scalar.addi v201 v1785
  let c1_i32_835 : BitVec 32 := 1#32
  ⟨v1789, v1786, c1_i32_835⟩
@[reducible] def k0_t80_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off80 (i : grid0.Coords) (v200 : BitVec 32) (k0_t79 : Fin (k0_t79_loop i v200).trips) (k0_t80 : Fin k0_t80_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let v201 : BitVec 32 := Scalar.subi v200 v76
  let c32_i32_832 : BitVec 32 := 32#32
  let v1785 : BitVec 32 := Scalar.subi c32_i32_832 v201
  let c1_i32_833 : BitVec 32 := 1#32
  let v1787 : BitVec 32 := Scalar.divsi v1785 c1_i32_833
  let v1788 : BitVec 32 := Scalar.muli v1787 c1_i32_833
  let v1789 : BitVec 32 := Scalar.addi v201 v1788
  let c1_i32_835 : BitVec 32 := 1#32
  let arg15 : BitVec 32 := Scf.iv v1789 c1_i32_835 k0_t79
  let v1793 : Index := Scalar.indexCast arg15
  let c0_i32_837 : BitVec 32 := 0#32
  let c1_i32_838 : BitVec 32 := 1#32
  let arg16 : BitVec 32 := Scf.iv c0_i32_837 c1_i32_838 k0_t80
  let c16_i32 : BitVec 32 := 16#32
  let v1792 : BitVec 32 := Scalar.muli arg16 c16_i32
  let v1794 : Index := Scalar.indexCast v1792
  ![v1793.toNat, v1794.toNat]

def k0_chk16 (i : grid0.Coords) (v200 : BitVec 32) : Prop :=
  (∀ (k0_h16 : k0_cond16 i v200 = 1#1), (k0_t77_loop i v200).OK) ∧
  (∀ (k0_t77 : Fin (k0_t77_loop i v200).trips) (k0_t78 : Fin k0_t78_loop.trips), ∀ (k0_h16 : k0_cond16 i v200 = 1#1), ∀ a, (k0_off79 i v200 k0_t77 k0_t78) a + S1x16.size a ≤ S32x1024.size a) ∧
  (∀ (k0_h16 : k0_cond16 i v200 = 1#1), (k0_t79_loop i v200).OK) ∧
  (∀ (k0_t79 : Fin (k0_t79_loop i v200).trips) (k0_t80 : Fin k0_t80_loop.trips), ∀ (k0_h16 : k0_cond16 i v200 = 1#1), ∀ a, (k0_off80 i v200 k0_t79 k0_t80) a + S1x16.size a ≤ S32x1024.size a)
theorem k0_t77_ok : ∀ (i : grid0.Coords) (v200 : BitVec 32) (k0_hw16 : k0_chk16 i v200), ∀ (k0_h16 : k0_cond16 i v200 = 1#1), (k0_t77_loop i v200).OK := fun i v200 k0_hw16 k0_h16 => k0_hw16.1 k0_h16
theorem k0_off79_inb : ∀ (i : grid0.Coords) (v200 : BitVec 32) (k0_hw16 : k0_chk16 i v200) (k0_t77 : Fin (k0_t77_loop i v200).trips) (k0_t78 : Fin k0_t78_loop.trips), ∀ (k0_h16 : k0_cond16 i v200 = 1#1), ∀ a, (k0_off79 i v200 k0_t77 k0_t78) a + S1x16.size a ≤ S32x1024.size a := fun i v200 k0_hw16 k0_t77 k0_t78 k0_h16 => k0_hw16.2.1 k0_t77 k0_t78 k0_h16
theorem k0_t79_ok : ∀ (i : grid0.Coords) (v200 : BitVec 32) (k0_hw16 : k0_chk16 i v200), ∀ (k0_h16 : k0_cond16 i v200 = 1#1), (k0_t79_loop i v200).OK := fun i v200 k0_hw16 k0_h16 => k0_hw16.2.2.1 k0_h16
theorem k0_off80_inb : ∀ (i : grid0.Coords) (v200 : BitVec 32) (k0_hw16 : k0_chk16 i v200) (k0_t79 : Fin (k0_t79_loop i v200).trips) (k0_t80 : Fin k0_t80_loop.trips), ∀ (k0_h16 : k0_cond16 i v200 = 1#1), ∀ a, (k0_off80 i v200 k0_t79 k0_t80) a + S1x16.size a ≤ S32x1024.size a := fun i v200 k0_hw16 k0_t79 k0_t80 k0_h16 => k0_hw16.2.2.2 k0_t79 k0_t80 k0_h16

def k0_off81 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r48 : BitVec 32 := 0#32
  ![15, v76.toNat, 0]
def k0_off82 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_836_r49 : BitVec 32 := 0#32
  ![v76.toNat, 0]
def k0_off83 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_134 : BitVec 32 := 4#32
  let v207 : BitVec 32 := Scalar.muli v1 c4_i32_134
  let c1_i32_135 : BitVec 32 := 1#32
  let v208 : BitVec 32 := Scalar.addi v207 c1_i32_135
  let c32_i32_136 : BitVec 32 := 32#32
  let v209 : BitVec 32 := Scalar.muli v208 c32_i32_136
  let c0_i32_137 : BitVec 32 := 0#32
  ![v209.toNat, 0]
def k0_off84 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![0, v76.toNat, 0]
def k0_off85 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![0, v76.toNat, 0]
def k0_off86 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![1, v76.toNat, 0]
def k0_off87 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![1, v76.toNat, 0]
def k0_off88 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![2, v76.toNat, 0]
def k0_off89 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![2, v76.toNat, 0]
def k0_off90 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![3, v76.toNat, 0]
def k0_off91 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![3, v76.toNat, 0]
def k0_off92 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![4, v76.toNat, 0]
def k0_off93 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![4, v76.toNat, 0]
def k0_off94 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![5, v76.toNat, 0]
def k0_off95 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![5, v76.toNat, 0]
def k0_off96 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![6, v76.toNat, 0]
def k0_off97 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![6, v76.toNat, 0]
def k0_off98 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![7, v76.toNat, 0]
def k0_off99 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![7, v76.toNat, 0]
def k0_off100 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![8, v76.toNat, 0]
def k0_off101 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_832 : BitVec 32 := 0#32
  ![8, v76.toNat, 0]
def k0_off102 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![9, v76.toNat, 0]
def k0_off103 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![9, v76.toNat, 0]
def k0_off104 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![10, v76.toNat, 0]
def k0_off105 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![10, v76.toNat, 0]
def k0_off106 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![11, v76.toNat, 0]
def k0_off107 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![11, v76.toNat, 0]
def k0_off108 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![12, v76.toNat, 0]
def k0_off109 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![12, v76.toNat, 0]
def k0_off110 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![13, v76.toNat, 0]
def k0_off111 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![13, v76.toNat, 0]
def k0_off112 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![14, v76.toNat, 0]
def k0_off113 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![14, v76.toNat, 0]
def k0_off114 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![15, v76.toNat, 0]
def k0_off115 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_81 : BitVec 32 := 4#32
  let v74 : BitVec 32 := Scalar.muli v1 c4_i32_81
  let c0_i32_82 : BitVec 32 := 0#32
  let v75 : BitVec 32 := Scalar.addi v74 c0_i32_82
  let c32_i32_83 : BitVec 32 := 32#32
  let v76 : BitVec 32 := Scalar.muli v75 c32_i32_83
  let c0_i32_831 : BitVec 32 := 0#32
  ![15, v76.toNat, 0]
def k0_off116 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_206 : BitVec 32 := 0#32
  ![v358.toNat, 0]
@[reducible] def k0_t81_loop (i : grid0.Coords) (v362 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v363 : BitVec 32 := Scalar.subi v362 v358
  let c32_i32_832 : BitVec 32 := 32#32
  let v1785 : BitVec 32 := Scalar.subi c32_i32_832 v363
  let c1_i32_833 : BitVec 32 := 1#32
  let v1787 : BitVec 32 := Scalar.divsi v1785 c1_i32_833
  let v1788 : BitVec 32 := Scalar.muli v1787 c1_i32_833
  let v1789 : BitVec 32 := Scalar.addi v363 v1788
  let c1_i32_834 : BitVec 32 := 1#32
  ⟨v363, v1789, c1_i32_834⟩
def k0_cond49 (i : grid0.Coords) (v362 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v363 : BitVec 32 := Scalar.subi v362 v358
  let c0_i32_208 : BitVec 32 := 0#32
  let v364 : BitVec 1 := Scalar.cmpi .sgt v363 c0_i32_208
  let c32_i32_209 : BitVec 32 := 32#32
  let v365 : BitVec 1 := Scalar.cmpi .slt v363 c32_i32_209
  let v366 : BitVec 1 := Scalar.andi v364 v365
  let v367 : BitVec 32 := Scalar.extui v366
  let c0_i32_210 : BitVec 32 := 0#32
  let v368 : BitVec 1 := Scalar.cmpi .ne v367 c0_i32_210
  v368

@[reducible] def k0_t82_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off117 (i : grid0.Coords) (v362 : BitVec 32) (k0_t81 : Fin (k0_t81_loop i v362).trips) (k0_t82 : Fin k0_t82_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v363 : BitVec 32 := Scalar.subi v362 v358
  let c1_i32_834 : BitVec 32 := 1#32
  let arg15 : BitVec 32 := Scf.iv v363 c1_i32_834 k0_t81
  let v1793 : Index := Scalar.indexCast arg15
  let c0_i32_838 : BitVec 32 := 0#32
  let c1_i32_839 : BitVec 32 := 1#32
  let arg16 : BitVec 32 := Scf.iv c0_i32_838 c1_i32_839 k0_t82
  let c16_i32 : BitVec 32 := 16#32
  let v1792 : BitVec 32 := Scalar.muli arg16 c16_i32
  let v1794 : Index := Scalar.indexCast v1792
  ![v1793.toNat, v1794.toNat]
@[reducible] def k0_t83_loop (i : grid0.Coords) (v362 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v363 : BitVec 32 := Scalar.subi v362 v358
  let c32_i32_832 : BitVec 32 := 32#32
  let v1785 : BitVec 32 := Scalar.subi c32_i32_832 v363
  let c1_i32_833 : BitVec 32 := 1#32
  let v1787 : BitVec 32 := Scalar.divsi v1785 c1_i32_833
  let v1788 : BitVec 32 := Scalar.muli v1787 c1_i32_833
  let v1789 : BitVec 32 := Scalar.addi v363 v1788
  let v1786 : BitVec 32 := Scalar.addi v363 v1785
  let c1_i32_835 : BitVec 32 := 1#32
  ⟨v1789, v1786, c1_i32_835⟩
@[reducible] def k0_t84_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off118 (i : grid0.Coords) (v362 : BitVec 32) (k0_t83 : Fin (k0_t83_loop i v362).trips) (k0_t84 : Fin k0_t84_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v363 : BitVec 32 := Scalar.subi v362 v358
  let c32_i32_832 : BitVec 32 := 32#32
  let v1785 : BitVec 32 := Scalar.subi c32_i32_832 v363
  let c1_i32_833 : BitVec 32 := 1#32
  let v1787 : BitVec 32 := Scalar.divsi v1785 c1_i32_833
  let v1788 : BitVec 32 := Scalar.muli v1787 c1_i32_833
  let v1789 : BitVec 32 := Scalar.addi v363 v1788
  let c1_i32_835 : BitVec 32 := 1#32
  let arg15 : BitVec 32 := Scf.iv v1789 c1_i32_835 k0_t83
  let v1793 : Index := Scalar.indexCast arg15
  let c0_i32_838 : BitVec 32 := 0#32
  let c1_i32_839 : BitVec 32 := 1#32
  let arg16 : BitVec 32 := Scf.iv c0_i32_838 c1_i32_839 k0_t84
  let c16_i32 : BitVec 32 := 16#32
  let v1792 : BitVec 32 := Scalar.muli arg16 c16_i32
  let v1794 : Index := Scalar.indexCast v1792
  ![v1793.toNat, v1794.toNat]

def k0_chk17 (i : grid0.Coords) (v362 : BitVec 32) : Prop :=
  (∀ (k0_h49 : k0_cond49 i v362 = 1#1), (k0_t81_loop i v362).OK) ∧
  (∀ (k0_t81 : Fin (k0_t81_loop i v362).trips) (k0_t82 : Fin k0_t82_loop.trips), ∀ (k0_h49 : k0_cond49 i v362 = 1#1), ∀ a, (k0_off117 i v362 k0_t81 k0_t82) a + S1x16.size a ≤ S32x1024.size a) ∧
  (∀ (k0_h49 : k0_cond49 i v362 = 1#1), (k0_t83_loop i v362).OK) ∧
  (∀ (k0_t83 : Fin (k0_t83_loop i v362).trips) (k0_t84 : Fin k0_t84_loop.trips), ∀ (k0_h49 : k0_cond49 i v362 = 1#1), ∀ a, (k0_off118 i v362 k0_t83 k0_t84) a + S1x16.size a ≤ S32x1024.size a)
theorem k0_t81_ok : ∀ (i : grid0.Coords) (v362 : BitVec 32) (k0_hw17 : k0_chk17 i v362), ∀ (k0_h49 : k0_cond49 i v362 = 1#1), (k0_t81_loop i v362).OK := fun i v362 k0_hw17 k0_h49 => k0_hw17.1 k0_h49
theorem k0_off117_inb : ∀ (i : grid0.Coords) (v362 : BitVec 32) (k0_hw17 : k0_chk17 i v362) (k0_t81 : Fin (k0_t81_loop i v362).trips) (k0_t82 : Fin k0_t82_loop.trips), ∀ (k0_h49 : k0_cond49 i v362 = 1#1), ∀ a, (k0_off117 i v362 k0_t81 k0_t82) a + S1x16.size a ≤ S32x1024.size a := fun i v362 k0_hw17 k0_t81 k0_t82 k0_h49 => k0_hw17.2.1 k0_t81 k0_t82 k0_h49
theorem k0_t83_ok : ∀ (i : grid0.Coords) (v362 : BitVec 32) (k0_hw17 : k0_chk17 i v362), ∀ (k0_h49 : k0_cond49 i v362 = 1#1), (k0_t83_loop i v362).OK := fun i v362 k0_hw17 k0_h49 => k0_hw17.2.2.1 k0_h49
theorem k0_off118_inb : ∀ (i : grid0.Coords) (v362 : BitVec 32) (k0_hw17 : k0_chk17 i v362) (k0_t83 : Fin (k0_t83_loop i v362).trips) (k0_t84 : Fin k0_t84_loop.trips), ∀ (k0_h49 : k0_cond49 i v362 = 1#1), ∀ a, (k0_off118 i v362 k0_t83 k0_t84) a + S1x16.size a ≤ S32x1024.size a := fun i v362 k0_hw17 k0_t83 k0_t84 k0_h49 => k0_hw17.2.2.2 k0_t83 k0_t84 k0_h49

def k0_off119 (i : grid0.Coords) : Fin 3 → Nat :=
  let c0_i32_836 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r50 : BitVec 32 := 0#32
  ![0, v358.toNat, 0]
def k0_off120 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r51 : BitVec 32 := 0#32
  ![v358.toNat, 0]
@[reducible] def k0_t85_loop (i : grid0.Coords) (v370 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v371 : BitVec 32 := Scalar.subi v370 v358
  let c32_i32_832 : BitVec 32 := 32#32
  let v1785 : BitVec 32 := Scalar.subi c32_i32_832 v371
  let c1_i32_833 : BitVec 32 := 1#32
  let v1787 : BitVec 32 := Scalar.divsi v1785 c1_i32_833
  let v1788 : BitVec 32 := Scalar.muli v1787 c1_i32_833
  let v1789 : BitVec 32 := Scalar.addi v371 v1788
  let c1_i32_834 : BitVec 32 := 1#32
  ⟨v371, v1789, c1_i32_834⟩
def k0_cond50 (i : grid0.Coords) (v370 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v371 : BitVec 32 := Scalar.subi v370 v358
  let c0_i32_211 : BitVec 32 := 0#32
  let v372 : BitVec 1 := Scalar.cmpi .sgt v371 c0_i32_211
  let c32_i32_212 : BitVec 32 := 32#32
  let v373 : BitVec 1 := Scalar.cmpi .slt v371 c32_i32_212
  let v374 : BitVec 1 := Scalar.andi v372 v373
  let v375 : BitVec 32 := Scalar.extui v374
  let c0_i32_213 : BitVec 32 := 0#32
  let v376 : BitVec 1 := Scalar.cmpi .ne v375 c0_i32_213
  v376

@[reducible] def k0_t86_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off121 (i : grid0.Coords) (v370 : BitVec 32) (k0_t85 : Fin (k0_t85_loop i v370).trips) (k0_t86 : Fin k0_t86_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v371 : BitVec 32 := Scalar.subi v370 v358
  let c1_i32_834 : BitVec 32 := 1#32
  let arg15 : BitVec 32 := Scf.iv v371 c1_i32_834 k0_t85
  let v1793 : Index := Scalar.indexCast arg15
  let c0_i32_838 : BitVec 32 := 0#32
  let c1_i32_839 : BitVec 32 := 1#32
  let arg16 : BitVec 32 := Scf.iv c0_i32_838 c1_i32_839 k0_t86
  let c16_i32 : BitVec 32 := 16#32
  let v1792 : BitVec 32 := Scalar.muli arg16 c16_i32
  let v1794 : Index := Scalar.indexCast v1792
  ![v1793.toNat, v1794.toNat]
@[reducible] def k0_t87_loop (i : grid0.Coords) (v370 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v371 : BitVec 32 := Scalar.subi v370 v358
  let c32_i32_832 : BitVec 32 := 32#32
  let v1785 : BitVec 32 := Scalar.subi c32_i32_832 v371
  let c1_i32_833 : BitVec 32 := 1#32
  let v1787 : BitVec 32 := Scalar.divsi v1785 c1_i32_833
  let v1788 : BitVec 32 := Scalar.muli v1787 c1_i32_833
  let v1789 : BitVec 32 := Scalar.addi v371 v1788
  let v1786 : BitVec 32 := Scalar.addi v371 v1785
  let c1_i32_835 : BitVec 32 := 1#32
  ⟨v1789, v1786, c1_i32_835⟩
@[reducible] def k0_t88_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off122 (i : grid0.Coords) (v370 : BitVec 32) (k0_t87 : Fin (k0_t87_loop i v370).trips) (k0_t88 : Fin k0_t88_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v371 : BitVec 32 := Scalar.subi v370 v358
  let c32_i32_832 : BitVec 32 := 32#32
  let v1785 : BitVec 32 := Scalar.subi c32_i32_832 v371
  let c1_i32_833 : BitVec 32 := 1#32
  let v1787 : BitVec 32 := Scalar.divsi v1785 c1_i32_833
  let v1788 : BitVec 32 := Scalar.muli v1787 c1_i32_833
  let v1789 : BitVec 32 := Scalar.addi v371 v1788
  let c1_i32_835 : BitVec 32 := 1#32
  let arg15 : BitVec 32 := Scf.iv v1789 c1_i32_835 k0_t87
  let v1793 : Index := Scalar.indexCast arg15
  let c0_i32_838 : BitVec 32 := 0#32
  let c1_i32_839 : BitVec 32 := 1#32
  let arg16 : BitVec 32 := Scf.iv c0_i32_838 c1_i32_839 k0_t88
  let c16_i32 : BitVec 32 := 16#32
  let v1792 : BitVec 32 := Scalar.muli arg16 c16_i32
  let v1794 : Index := Scalar.indexCast v1792
  ![v1793.toNat, v1794.toNat]

def k0_chk18 (i : grid0.Coords) (v370 : BitVec 32) : Prop :=
  (∀ (k0_h50 : k0_cond50 i v370 = 1#1), (k0_t85_loop i v370).OK) ∧
  (∀ (k0_t85 : Fin (k0_t85_loop i v370).trips) (k0_t86 : Fin k0_t86_loop.trips), ∀ (k0_h50 : k0_cond50 i v370 = 1#1), ∀ a, (k0_off121 i v370 k0_t85 k0_t86) a + S1x16.size a ≤ S32x1024.size a) ∧
  (∀ (k0_h50 : k0_cond50 i v370 = 1#1), (k0_t87_loop i v370).OK) ∧
  (∀ (k0_t87 : Fin (k0_t87_loop i v370).trips) (k0_t88 : Fin k0_t88_loop.trips), ∀ (k0_h50 : k0_cond50 i v370 = 1#1), ∀ a, (k0_off122 i v370 k0_t87 k0_t88) a + S1x16.size a ≤ S32x1024.size a)
theorem k0_t85_ok : ∀ (i : grid0.Coords) (v370 : BitVec 32) (k0_hw18 : k0_chk18 i v370), ∀ (k0_h50 : k0_cond50 i v370 = 1#1), (k0_t85_loop i v370).OK := fun i v370 k0_hw18 k0_h50 => k0_hw18.1 k0_h50
theorem k0_off121_inb : ∀ (i : grid0.Coords) (v370 : BitVec 32) (k0_hw18 : k0_chk18 i v370) (k0_t85 : Fin (k0_t85_loop i v370).trips) (k0_t86 : Fin k0_t86_loop.trips), ∀ (k0_h50 : k0_cond50 i v370 = 1#1), ∀ a, (k0_off121 i v370 k0_t85 k0_t86) a + S1x16.size a ≤ S32x1024.size a := fun i v370 k0_hw18 k0_t85 k0_t86 k0_h50 => k0_hw18.2.1 k0_t85 k0_t86 k0_h50
theorem k0_t87_ok : ∀ (i : grid0.Coords) (v370 : BitVec 32) (k0_hw18 : k0_chk18 i v370), ∀ (k0_h50 : k0_cond50 i v370 = 1#1), (k0_t87_loop i v370).OK := fun i v370 k0_hw18 k0_h50 => k0_hw18.2.2.1 k0_h50
theorem k0_off122_inb : ∀ (i : grid0.Coords) (v370 : BitVec 32) (k0_hw18 : k0_chk18 i v370) (k0_t87 : Fin (k0_t87_loop i v370).trips) (k0_t88 : Fin k0_t88_loop.trips), ∀ (k0_h50 : k0_cond50 i v370 = 1#1), ∀ a, (k0_off122 i v370 k0_t87 k0_t88) a + S1x16.size a ≤ S32x1024.size a := fun i v370 k0_hw18 k0_t87 k0_t88 k0_h50 => k0_hw18.2.2.2 k0_t87 k0_t88 k0_h50

def k0_off123 (i : grid0.Coords) : Fin 3 → Nat :=
  let c1_i32_836 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r52 : BitVec 32 := 0#32
  ![1, v358.toNat, 0]
def k0_off124 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r53 : BitVec 32 := 0#32
  ![v358.toNat, 0]
@[reducible] def k0_t89_loop (i : grid0.Coords) (v378 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v379 : BitVec 32 := Scalar.subi v378 v358
  let c32_i32_832 : BitVec 32 := 32#32
  let v1785 : BitVec 32 := Scalar.subi c32_i32_832 v379
  let c1_i32_833 : BitVec 32 := 1#32
  let v1787 : BitVec 32 := Scalar.divsi v1785 c1_i32_833
  let v1788 : BitVec 32 := Scalar.muli v1787 c1_i32_833
  let v1789 : BitVec 32 := Scalar.addi v379 v1788
  let c1_i32_834 : BitVec 32 := 1#32
  ⟨v379, v1789, c1_i32_834⟩
def k0_cond51 (i : grid0.Coords) (v378 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v379 : BitVec 32 := Scalar.subi v378 v358
  let c0_i32_214 : BitVec 32 := 0#32
  let v380 : BitVec 1 := Scalar.cmpi .sgt v379 c0_i32_214
  let c32_i32_215 : BitVec 32 := 32#32
  let v381 : BitVec 1 := Scalar.cmpi .slt v379 c32_i32_215
  let v382 : BitVec 1 := Scalar.andi v380 v381
  let v383 : BitVec 32 := Scalar.extui v382
  let c0_i32_216 : BitVec 32 := 0#32
  let v384 : BitVec 1 := Scalar.cmpi .ne v383 c0_i32_216
  v384

@[reducible] def k0_t90_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off125 (i : grid0.Coords) (v378 : BitVec 32) (k0_t89 : Fin (k0_t89_loop i v378).trips) (k0_t90 : Fin k0_t90_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v379 : BitVec 32 := Scalar.subi v378 v358
  let c1_i32_834 : BitVec 32 := 1#32
  let arg15 : BitVec 32 := Scf.iv v379 c1_i32_834 k0_t89
  let v1793 : Index := Scalar.indexCast arg15
  let c0_i32_838 : BitVec 32 := 0#32
  let c1_i32_839 : BitVec 32 := 1#32
  let arg16 : BitVec 32 := Scf.iv c0_i32_838 c1_i32_839 k0_t90
  let c16_i32 : BitVec 32 := 16#32
  let v1792 : BitVec 32 := Scalar.muli arg16 c16_i32
  let v1794 : Index := Scalar.indexCast v1792
  ![v1793.toNat, v1794.toNat]
@[reducible] def k0_t91_loop (i : grid0.Coords) (v378 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v379 : BitVec 32 := Scalar.subi v378 v358
  let c32_i32_832 : BitVec 32 := 32#32
  let v1785 : BitVec 32 := Scalar.subi c32_i32_832 v379
  let c1_i32_833 : BitVec 32 := 1#32
  let v1787 : BitVec 32 := Scalar.divsi v1785 c1_i32_833
  let v1788 : BitVec 32 := Scalar.muli v1787 c1_i32_833
  let v1789 : BitVec 32 := Scalar.addi v379 v1788
  let v1786 : BitVec 32 := Scalar.addi v379 v1785
  let c1_i32_835 : BitVec 32 := 1#32
  ⟨v1789, v1786, c1_i32_835⟩
@[reducible] def k0_t92_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off126 (i : grid0.Coords) (v378 : BitVec 32) (k0_t91 : Fin (k0_t91_loop i v378).trips) (k0_t92 : Fin k0_t92_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v379 : BitVec 32 := Scalar.subi v378 v358
  let c32_i32_832 : BitVec 32 := 32#32
  let v1785 : BitVec 32 := Scalar.subi c32_i32_832 v379
  let c1_i32_833 : BitVec 32 := 1#32
  let v1787 : BitVec 32 := Scalar.divsi v1785 c1_i32_833
  let v1788 : BitVec 32 := Scalar.muli v1787 c1_i32_833
  let v1789 : BitVec 32 := Scalar.addi v379 v1788
  let c1_i32_835 : BitVec 32 := 1#32
  let arg15 : BitVec 32 := Scf.iv v1789 c1_i32_835 k0_t91
  let v1793 : Index := Scalar.indexCast arg15
  let c0_i32_838 : BitVec 32 := 0#32
  let c1_i32_839 : BitVec 32 := 1#32
  let arg16 : BitVec 32 := Scf.iv c0_i32_838 c1_i32_839 k0_t92
  let c16_i32 : BitVec 32 := 16#32
  let v1792 : BitVec 32 := Scalar.muli arg16 c16_i32
  let v1794 : Index := Scalar.indexCast v1792
  ![v1793.toNat, v1794.toNat]

def k0_chk19 (i : grid0.Coords) (v378 : BitVec 32) : Prop :=
  (∀ (k0_h51 : k0_cond51 i v378 = 1#1), (k0_t89_loop i v378).OK) ∧
  (∀ (k0_t89 : Fin (k0_t89_loop i v378).trips) (k0_t90 : Fin k0_t90_loop.trips), ∀ (k0_h51 : k0_cond51 i v378 = 1#1), ∀ a, (k0_off125 i v378 k0_t89 k0_t90) a + S1x16.size a ≤ S32x1024.size a) ∧
  (∀ (k0_h51 : k0_cond51 i v378 = 1#1), (k0_t91_loop i v378).OK) ∧
  (∀ (k0_t91 : Fin (k0_t91_loop i v378).trips) (k0_t92 : Fin k0_t92_loop.trips), ∀ (k0_h51 : k0_cond51 i v378 = 1#1), ∀ a, (k0_off126 i v378 k0_t91 k0_t92) a + S1x16.size a ≤ S32x1024.size a)
theorem k0_t89_ok : ∀ (i : grid0.Coords) (v378 : BitVec 32) (k0_hw19 : k0_chk19 i v378), ∀ (k0_h51 : k0_cond51 i v378 = 1#1), (k0_t89_loop i v378).OK := fun i v378 k0_hw19 k0_h51 => k0_hw19.1 k0_h51
theorem k0_off125_inb : ∀ (i : grid0.Coords) (v378 : BitVec 32) (k0_hw19 : k0_chk19 i v378) (k0_t89 : Fin (k0_t89_loop i v378).trips) (k0_t90 : Fin k0_t90_loop.trips), ∀ (k0_h51 : k0_cond51 i v378 = 1#1), ∀ a, (k0_off125 i v378 k0_t89 k0_t90) a + S1x16.size a ≤ S32x1024.size a := fun i v378 k0_hw19 k0_t89 k0_t90 k0_h51 => k0_hw19.2.1 k0_t89 k0_t90 k0_h51
theorem k0_t91_ok : ∀ (i : grid0.Coords) (v378 : BitVec 32) (k0_hw19 : k0_chk19 i v378), ∀ (k0_h51 : k0_cond51 i v378 = 1#1), (k0_t91_loop i v378).OK := fun i v378 k0_hw19 k0_h51 => k0_hw19.2.2.1 k0_h51
theorem k0_off126_inb : ∀ (i : grid0.Coords) (v378 : BitVec 32) (k0_hw19 : k0_chk19 i v378) (k0_t91 : Fin (k0_t91_loop i v378).trips) (k0_t92 : Fin k0_t92_loop.trips), ∀ (k0_h51 : k0_cond51 i v378 = 1#1), ∀ a, (k0_off126 i v378 k0_t91 k0_t92) a + S1x16.size a ≤ S32x1024.size a := fun i v378 k0_hw19 k0_t91 k0_t92 k0_h51 => k0_hw19.2.2.2 k0_t91 k0_t92 k0_h51

def k0_off127 (i : grid0.Coords) : Fin 3 → Nat :=
  let c2_i32_836 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r54 : BitVec 32 := 0#32
  ![2, v358.toNat, 0]
def k0_off128 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r55 : BitVec 32 := 0#32
  ![v358.toNat, 0]
@[reducible] def k0_t93_loop (i : grid0.Coords) (v386 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v387 : BitVec 32 := Scalar.subi v386 v358
  let c32_i32_832 : BitVec 32 := 32#32
  let v1785 : BitVec 32 := Scalar.subi c32_i32_832 v387
  let c1_i32_833 : BitVec 32 := 1#32
  let v1787 : BitVec 32 := Scalar.divsi v1785 c1_i32_833
  let v1788 : BitVec 32 := Scalar.muli v1787 c1_i32_833
  let v1789 : BitVec 32 := Scalar.addi v387 v1788
  let c1_i32_834 : BitVec 32 := 1#32
  ⟨v387, v1789, c1_i32_834⟩
def k0_cond52 (i : grid0.Coords) (v386 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v387 : BitVec 32 := Scalar.subi v386 v358
  let c0_i32_217 : BitVec 32 := 0#32
  let v388 : BitVec 1 := Scalar.cmpi .sgt v387 c0_i32_217
  let c32_i32_218 : BitVec 32 := 32#32
  let v389 : BitVec 1 := Scalar.cmpi .slt v387 c32_i32_218
  let v390 : BitVec 1 := Scalar.andi v388 v389
  let v391 : BitVec 32 := Scalar.extui v390
  let c0_i32_219 : BitVec 32 := 0#32
  let v392 : BitVec 1 := Scalar.cmpi .ne v391 c0_i32_219
  v392

@[reducible] def k0_t94_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off129 (i : grid0.Coords) (v386 : BitVec 32) (k0_t93 : Fin (k0_t93_loop i v386).trips) (k0_t94 : Fin k0_t94_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v387 : BitVec 32 := Scalar.subi v386 v358
  let c1_i32_834 : BitVec 32 := 1#32
  let arg15 : BitVec 32 := Scf.iv v387 c1_i32_834 k0_t93
  let v1793 : Index := Scalar.indexCast arg15
  let c0_i32_838 : BitVec 32 := 0#32
  let c1_i32_839 : BitVec 32 := 1#32
  let arg16 : BitVec 32 := Scf.iv c0_i32_838 c1_i32_839 k0_t94
  let c16_i32 : BitVec 32 := 16#32
  let v1792 : BitVec 32 := Scalar.muli arg16 c16_i32
  let v1794 : Index := Scalar.indexCast v1792
  ![v1793.toNat, v1794.toNat]
@[reducible] def k0_t95_loop (i : grid0.Coords) (v386 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v387 : BitVec 32 := Scalar.subi v386 v358
  let c32_i32_832 : BitVec 32 := 32#32
  let v1785 : BitVec 32 := Scalar.subi c32_i32_832 v387
  let c1_i32_833 : BitVec 32 := 1#32
  let v1787 : BitVec 32 := Scalar.divsi v1785 c1_i32_833
  let v1788 : BitVec 32 := Scalar.muli v1787 c1_i32_833
  let v1789 : BitVec 32 := Scalar.addi v387 v1788
  let v1786 : BitVec 32 := Scalar.addi v387 v1785
  let c1_i32_835 : BitVec 32 := 1#32
  ⟨v1789, v1786, c1_i32_835⟩
@[reducible] def k0_t96_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off130 (i : grid0.Coords) (v386 : BitVec 32) (k0_t95 : Fin (k0_t95_loop i v386).trips) (k0_t96 : Fin k0_t96_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v387 : BitVec 32 := Scalar.subi v386 v358
  let c32_i32_832 : BitVec 32 := 32#32
  let v1785 : BitVec 32 := Scalar.subi c32_i32_832 v387
  let c1_i32_833 : BitVec 32 := 1#32
  let v1787 : BitVec 32 := Scalar.divsi v1785 c1_i32_833
  let v1788 : BitVec 32 := Scalar.muli v1787 c1_i32_833
  let v1789 : BitVec 32 := Scalar.addi v387 v1788
  let c1_i32_835 : BitVec 32 := 1#32
  let arg15 : BitVec 32 := Scf.iv v1789 c1_i32_835 k0_t95
  let v1793 : Index := Scalar.indexCast arg15
  let c0_i32_838 : BitVec 32 := 0#32
  let c1_i32_839 : BitVec 32 := 1#32
  let arg16 : BitVec 32 := Scf.iv c0_i32_838 c1_i32_839 k0_t96
  let c16_i32 : BitVec 32 := 16#32
  let v1792 : BitVec 32 := Scalar.muli arg16 c16_i32
  let v1794 : Index := Scalar.indexCast v1792
  ![v1793.toNat, v1794.toNat]

def k0_chk20 (i : grid0.Coords) (v386 : BitVec 32) : Prop :=
  (∀ (k0_h52 : k0_cond52 i v386 = 1#1), (k0_t93_loop i v386).OK) ∧
  (∀ (k0_t93 : Fin (k0_t93_loop i v386).trips) (k0_t94 : Fin k0_t94_loop.trips), ∀ (k0_h52 : k0_cond52 i v386 = 1#1), ∀ a, (k0_off129 i v386 k0_t93 k0_t94) a + S1x16.size a ≤ S32x1024.size a) ∧
  (∀ (k0_h52 : k0_cond52 i v386 = 1#1), (k0_t95_loop i v386).OK) ∧
  (∀ (k0_t95 : Fin (k0_t95_loop i v386).trips) (k0_t96 : Fin k0_t96_loop.trips), ∀ (k0_h52 : k0_cond52 i v386 = 1#1), ∀ a, (k0_off130 i v386 k0_t95 k0_t96) a + S1x16.size a ≤ S32x1024.size a)
theorem k0_t93_ok : ∀ (i : grid0.Coords) (v386 : BitVec 32) (k0_hw20 : k0_chk20 i v386), ∀ (k0_h52 : k0_cond52 i v386 = 1#1), (k0_t93_loop i v386).OK := fun i v386 k0_hw20 k0_h52 => k0_hw20.1 k0_h52
theorem k0_off129_inb : ∀ (i : grid0.Coords) (v386 : BitVec 32) (k0_hw20 : k0_chk20 i v386) (k0_t93 : Fin (k0_t93_loop i v386).trips) (k0_t94 : Fin k0_t94_loop.trips), ∀ (k0_h52 : k0_cond52 i v386 = 1#1), ∀ a, (k0_off129 i v386 k0_t93 k0_t94) a + S1x16.size a ≤ S32x1024.size a := fun i v386 k0_hw20 k0_t93 k0_t94 k0_h52 => k0_hw20.2.1 k0_t93 k0_t94 k0_h52
theorem k0_t95_ok : ∀ (i : grid0.Coords) (v386 : BitVec 32) (k0_hw20 : k0_chk20 i v386), ∀ (k0_h52 : k0_cond52 i v386 = 1#1), (k0_t95_loop i v386).OK := fun i v386 k0_hw20 k0_h52 => k0_hw20.2.2.1 k0_h52
theorem k0_off130_inb : ∀ (i : grid0.Coords) (v386 : BitVec 32) (k0_hw20 : k0_chk20 i v386) (k0_t95 : Fin (k0_t95_loop i v386).trips) (k0_t96 : Fin k0_t96_loop.trips), ∀ (k0_h52 : k0_cond52 i v386 = 1#1), ∀ a, (k0_off130 i v386 k0_t95 k0_t96) a + S1x16.size a ≤ S32x1024.size a := fun i v386 k0_hw20 k0_t95 k0_t96 k0_h52 => k0_hw20.2.2.2 k0_t95 k0_t96 k0_h52

def k0_off131 (i : grid0.Coords) : Fin 3 → Nat :=
  let c3_i32_836 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r56 : BitVec 32 := 0#32
  ![3, v358.toNat, 0]
def k0_off132 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r57 : BitVec 32 := 0#32
  ![v358.toNat, 0]
@[reducible] def k0_t97_loop (i : grid0.Coords) (v394 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v395 : BitVec 32 := Scalar.subi v394 v358
  let c32_i32_832 : BitVec 32 := 32#32
  let v1785 : BitVec 32 := Scalar.subi c32_i32_832 v395
  let c1_i32_833 : BitVec 32 := 1#32
  let v1787 : BitVec 32 := Scalar.divsi v1785 c1_i32_833
  let v1788 : BitVec 32 := Scalar.muli v1787 c1_i32_833
  let v1789 : BitVec 32 := Scalar.addi v395 v1788
  let c1_i32_834 : BitVec 32 := 1#32
  ⟨v395, v1789, c1_i32_834⟩
def k0_cond53 (i : grid0.Coords) (v394 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v395 : BitVec 32 := Scalar.subi v394 v358
  let c0_i32_220 : BitVec 32 := 0#32
  let v396 : BitVec 1 := Scalar.cmpi .sgt v395 c0_i32_220
  let c32_i32_221 : BitVec 32 := 32#32
  let v397 : BitVec 1 := Scalar.cmpi .slt v395 c32_i32_221
  let v398 : BitVec 1 := Scalar.andi v396 v397
  let v399 : BitVec 32 := Scalar.extui v398
  let c0_i32_222 : BitVec 32 := 0#32
  let v400 : BitVec 1 := Scalar.cmpi .ne v399 c0_i32_222
  v400

@[reducible] def k0_t98_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off133 (i : grid0.Coords) (v394 : BitVec 32) (k0_t97 : Fin (k0_t97_loop i v394).trips) (k0_t98 : Fin k0_t98_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v395 : BitVec 32 := Scalar.subi v394 v358
  let c1_i32_834 : BitVec 32 := 1#32
  let arg15 : BitVec 32 := Scf.iv v395 c1_i32_834 k0_t97
  let v1793 : Index := Scalar.indexCast arg15
  let c0_i32_838 : BitVec 32 := 0#32
  let c1_i32_839 : BitVec 32 := 1#32
  let arg16 : BitVec 32 := Scf.iv c0_i32_838 c1_i32_839 k0_t98
  let c16_i32 : BitVec 32 := 16#32
  let v1792 : BitVec 32 := Scalar.muli arg16 c16_i32
  let v1794 : Index := Scalar.indexCast v1792
  ![v1793.toNat, v1794.toNat]
@[reducible] def k0_t99_loop (i : grid0.Coords) (v394 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v395 : BitVec 32 := Scalar.subi v394 v358
  let c32_i32_832 : BitVec 32 := 32#32
  let v1785 : BitVec 32 := Scalar.subi c32_i32_832 v395
  let c1_i32_833 : BitVec 32 := 1#32
  let v1787 : BitVec 32 := Scalar.divsi v1785 c1_i32_833
  let v1788 : BitVec 32 := Scalar.muli v1787 c1_i32_833
  let v1789 : BitVec 32 := Scalar.addi v395 v1788
  let v1786 : BitVec 32 := Scalar.addi v395 v1785
  let c1_i32_835 : BitVec 32 := 1#32
  ⟨v1789, v1786, c1_i32_835⟩
@[reducible] def k0_t100_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off134 (i : grid0.Coords) (v394 : BitVec 32) (k0_t99 : Fin (k0_t99_loop i v394).trips) (k0_t100 : Fin k0_t100_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v395 : BitVec 32 := Scalar.subi v394 v358
  let c32_i32_832 : BitVec 32 := 32#32
  let v1785 : BitVec 32 := Scalar.subi c32_i32_832 v395
  let c1_i32_833 : BitVec 32 := 1#32
  let v1787 : BitVec 32 := Scalar.divsi v1785 c1_i32_833
  let v1788 : BitVec 32 := Scalar.muli v1787 c1_i32_833
  let v1789 : BitVec 32 := Scalar.addi v395 v1788
  let c1_i32_835 : BitVec 32 := 1#32
  let arg15 : BitVec 32 := Scf.iv v1789 c1_i32_835 k0_t99
  let v1793 : Index := Scalar.indexCast arg15
  let c0_i32_838 : BitVec 32 := 0#32
  let c1_i32_839 : BitVec 32 := 1#32
  let arg16 : BitVec 32 := Scf.iv c0_i32_838 c1_i32_839 k0_t100
  let c16_i32 : BitVec 32 := 16#32
  let v1792 : BitVec 32 := Scalar.muli arg16 c16_i32
  let v1794 : Index := Scalar.indexCast v1792
  ![v1793.toNat, v1794.toNat]

def k0_chk21 (i : grid0.Coords) (v394 : BitVec 32) : Prop :=
  (∀ (k0_h53 : k0_cond53 i v394 = 1#1), (k0_t97_loop i v394).OK) ∧
  (∀ (k0_t97 : Fin (k0_t97_loop i v394).trips) (k0_t98 : Fin k0_t98_loop.trips), ∀ (k0_h53 : k0_cond53 i v394 = 1#1), ∀ a, (k0_off133 i v394 k0_t97 k0_t98) a + S1x16.size a ≤ S32x1024.size a) ∧
  (∀ (k0_h53 : k0_cond53 i v394 = 1#1), (k0_t99_loop i v394).OK) ∧
  (∀ (k0_t99 : Fin (k0_t99_loop i v394).trips) (k0_t100 : Fin k0_t100_loop.trips), ∀ (k0_h53 : k0_cond53 i v394 = 1#1), ∀ a, (k0_off134 i v394 k0_t99 k0_t100) a + S1x16.size a ≤ S32x1024.size a)
theorem k0_t97_ok : ∀ (i : grid0.Coords) (v394 : BitVec 32) (k0_hw21 : k0_chk21 i v394), ∀ (k0_h53 : k0_cond53 i v394 = 1#1), (k0_t97_loop i v394).OK := fun i v394 k0_hw21 k0_h53 => k0_hw21.1 k0_h53
theorem k0_off133_inb : ∀ (i : grid0.Coords) (v394 : BitVec 32) (k0_hw21 : k0_chk21 i v394) (k0_t97 : Fin (k0_t97_loop i v394).trips) (k0_t98 : Fin k0_t98_loop.trips), ∀ (k0_h53 : k0_cond53 i v394 = 1#1), ∀ a, (k0_off133 i v394 k0_t97 k0_t98) a + S1x16.size a ≤ S32x1024.size a := fun i v394 k0_hw21 k0_t97 k0_t98 k0_h53 => k0_hw21.2.1 k0_t97 k0_t98 k0_h53
theorem k0_t99_ok : ∀ (i : grid0.Coords) (v394 : BitVec 32) (k0_hw21 : k0_chk21 i v394), ∀ (k0_h53 : k0_cond53 i v394 = 1#1), (k0_t99_loop i v394).OK := fun i v394 k0_hw21 k0_h53 => k0_hw21.2.2.1 k0_h53
theorem k0_off134_inb : ∀ (i : grid0.Coords) (v394 : BitVec 32) (k0_hw21 : k0_chk21 i v394) (k0_t99 : Fin (k0_t99_loop i v394).trips) (k0_t100 : Fin k0_t100_loop.trips), ∀ (k0_h53 : k0_cond53 i v394 = 1#1), ∀ a, (k0_off134 i v394 k0_t99 k0_t100) a + S1x16.size a ≤ S32x1024.size a := fun i v394 k0_hw21 k0_t99 k0_t100 k0_h53 => k0_hw21.2.2.2 k0_t99 k0_t100 k0_h53

def k0_off135 (i : grid0.Coords) : Fin 3 → Nat :=
  let c4_i32_836 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r58 : BitVec 32 := 0#32
  ![4, v358.toNat, 0]
def k0_off136 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r59 : BitVec 32 := 0#32
  ![v358.toNat, 0]
@[reducible] def k0_t101_loop (i : grid0.Coords) (v402 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v403 : BitVec 32 := Scalar.subi v402 v358
  let c32_i32_832 : BitVec 32 := 32#32
  let v1785 : BitVec 32 := Scalar.subi c32_i32_832 v403
  let c1_i32_833 : BitVec 32 := 1#32
  let v1787 : BitVec 32 := Scalar.divsi v1785 c1_i32_833
  let v1788 : BitVec 32 := Scalar.muli v1787 c1_i32_833
  let v1789 : BitVec 32 := Scalar.addi v403 v1788
  let c1_i32_834 : BitVec 32 := 1#32
  ⟨v403, v1789, c1_i32_834⟩
def k0_cond54 (i : grid0.Coords) (v402 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v403 : BitVec 32 := Scalar.subi v402 v358
  let c0_i32_223 : BitVec 32 := 0#32
  let v404 : BitVec 1 := Scalar.cmpi .sgt v403 c0_i32_223
  let c32_i32_224 : BitVec 32 := 32#32
  let v405 : BitVec 1 := Scalar.cmpi .slt v403 c32_i32_224
  let v406 : BitVec 1 := Scalar.andi v404 v405
  let v407 : BitVec 32 := Scalar.extui v406
  let c0_i32_225 : BitVec 32 := 0#32
  let v408 : BitVec 1 := Scalar.cmpi .ne v407 c0_i32_225
  v408

@[reducible] def k0_t102_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off137 (i : grid0.Coords) (v402 : BitVec 32) (k0_t101 : Fin (k0_t101_loop i v402).trips) (k0_t102 : Fin k0_t102_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v403 : BitVec 32 := Scalar.subi v402 v358
  let c1_i32_834 : BitVec 32 := 1#32
  let arg15 : BitVec 32 := Scf.iv v403 c1_i32_834 k0_t101
  let v1793 : Index := Scalar.indexCast arg15
  let c0_i32_837 : BitVec 32 := 0#32
  let c1_i32_838 : BitVec 32 := 1#32
  let arg16 : BitVec 32 := Scf.iv c0_i32_837 c1_i32_838 k0_t102
  let c16_i32 : BitVec 32 := 16#32
  let v1792 : BitVec 32 := Scalar.muli arg16 c16_i32
  let v1794 : Index := Scalar.indexCast v1792
  ![v1793.toNat, v1794.toNat]
@[reducible] def k0_t103_loop (i : grid0.Coords) (v402 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v403 : BitVec 32 := Scalar.subi v402 v358
  let c32_i32_832 : BitVec 32 := 32#32
  let v1785 : BitVec 32 := Scalar.subi c32_i32_832 v403
  let c1_i32_833 : BitVec 32 := 1#32
  let v1787 : BitVec 32 := Scalar.divsi v1785 c1_i32_833
  let v1788 : BitVec 32 := Scalar.muli v1787 c1_i32_833
  let v1789 : BitVec 32 := Scalar.addi v403 v1788
  let v1786 : BitVec 32 := Scalar.addi v403 v1785
  let c1_i32_835 : BitVec 32 := 1#32
  ⟨v1789, v1786, c1_i32_835⟩
@[reducible] def k0_t104_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off138 (i : grid0.Coords) (v402 : BitVec 32) (k0_t103 : Fin (k0_t103_loop i v402).trips) (k0_t104 : Fin k0_t104_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v403 : BitVec 32 := Scalar.subi v402 v358
  let c32_i32_832 : BitVec 32 := 32#32
  let v1785 : BitVec 32 := Scalar.subi c32_i32_832 v403
  let c1_i32_833 : BitVec 32 := 1#32
  let v1787 : BitVec 32 := Scalar.divsi v1785 c1_i32_833
  let v1788 : BitVec 32 := Scalar.muli v1787 c1_i32_833
  let v1789 : BitVec 32 := Scalar.addi v403 v1788
  let c1_i32_835 : BitVec 32 := 1#32
  let arg15 : BitVec 32 := Scf.iv v1789 c1_i32_835 k0_t103
  let v1793 : Index := Scalar.indexCast arg15
  let c0_i32_837 : BitVec 32 := 0#32
  let c1_i32_838 : BitVec 32 := 1#32
  let arg16 : BitVec 32 := Scf.iv c0_i32_837 c1_i32_838 k0_t104
  let c16_i32 : BitVec 32 := 16#32
  let v1792 : BitVec 32 := Scalar.muli arg16 c16_i32
  let v1794 : Index := Scalar.indexCast v1792
  ![v1793.toNat, v1794.toNat]

def k0_chk22 (i : grid0.Coords) (v402 : BitVec 32) : Prop :=
  (∀ (k0_h54 : k0_cond54 i v402 = 1#1), (k0_t101_loop i v402).OK) ∧
  (∀ (k0_t101 : Fin (k0_t101_loop i v402).trips) (k0_t102 : Fin k0_t102_loop.trips), ∀ (k0_h54 : k0_cond54 i v402 = 1#1), ∀ a, (k0_off137 i v402 k0_t101 k0_t102) a + S1x16.size a ≤ S32x1024.size a) ∧
  (∀ (k0_h54 : k0_cond54 i v402 = 1#1), (k0_t103_loop i v402).OK) ∧
  (∀ (k0_t103 : Fin (k0_t103_loop i v402).trips) (k0_t104 : Fin k0_t104_loop.trips), ∀ (k0_h54 : k0_cond54 i v402 = 1#1), ∀ a, (k0_off138 i v402 k0_t103 k0_t104) a + S1x16.size a ≤ S32x1024.size a)
theorem k0_t101_ok : ∀ (i : grid0.Coords) (v402 : BitVec 32) (k0_hw22 : k0_chk22 i v402), ∀ (k0_h54 : k0_cond54 i v402 = 1#1), (k0_t101_loop i v402).OK := fun i v402 k0_hw22 k0_h54 => k0_hw22.1 k0_h54
theorem k0_off137_inb : ∀ (i : grid0.Coords) (v402 : BitVec 32) (k0_hw22 : k0_chk22 i v402) (k0_t101 : Fin (k0_t101_loop i v402).trips) (k0_t102 : Fin k0_t102_loop.trips), ∀ (k0_h54 : k0_cond54 i v402 = 1#1), ∀ a, (k0_off137 i v402 k0_t101 k0_t102) a + S1x16.size a ≤ S32x1024.size a := fun i v402 k0_hw22 k0_t101 k0_t102 k0_h54 => k0_hw22.2.1 k0_t101 k0_t102 k0_h54
theorem k0_t103_ok : ∀ (i : grid0.Coords) (v402 : BitVec 32) (k0_hw22 : k0_chk22 i v402), ∀ (k0_h54 : k0_cond54 i v402 = 1#1), (k0_t103_loop i v402).OK := fun i v402 k0_hw22 k0_h54 => k0_hw22.2.2.1 k0_h54
theorem k0_off138_inb : ∀ (i : grid0.Coords) (v402 : BitVec 32) (k0_hw22 : k0_chk22 i v402) (k0_t103 : Fin (k0_t103_loop i v402).trips) (k0_t104 : Fin k0_t104_loop.trips), ∀ (k0_h54 : k0_cond54 i v402 = 1#1), ∀ a, (k0_off138 i v402 k0_t103 k0_t104) a + S1x16.size a ≤ S32x1024.size a := fun i v402 k0_hw22 k0_t103 k0_t104 k0_h54 => k0_hw22.2.2.2 k0_t103 k0_t104 k0_h54

def k0_off139 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r60 : BitVec 32 := 0#32
  ![5, v358.toNat, 0]
def k0_off140 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r61 : BitVec 32 := 0#32
  ![v358.toNat, 0]
@[reducible] def k0_t105_loop (i : grid0.Coords) (v410 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v411 : BitVec 32 := Scalar.subi v410 v358
  let c32_i32_832 : BitVec 32 := 32#32
  let v1785 : BitVec 32 := Scalar.subi c32_i32_832 v411
  let c1_i32_833 : BitVec 32 := 1#32
  let v1787 : BitVec 32 := Scalar.divsi v1785 c1_i32_833
  let v1788 : BitVec 32 := Scalar.muli v1787 c1_i32_833
  let v1789 : BitVec 32 := Scalar.addi v411 v1788
  let c1_i32_834 : BitVec 32 := 1#32
  ⟨v411, v1789, c1_i32_834⟩
def k0_cond55 (i : grid0.Coords) (v410 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v411 : BitVec 32 := Scalar.subi v410 v358
  let c0_i32_226 : BitVec 32 := 0#32
  let v412 : BitVec 1 := Scalar.cmpi .sgt v411 c0_i32_226
  let c32_i32_227 : BitVec 32 := 32#32
  let v413 : BitVec 1 := Scalar.cmpi .slt v411 c32_i32_227
  let v414 : BitVec 1 := Scalar.andi v412 v413
  let v415 : BitVec 32 := Scalar.extui v414
  let c0_i32_228 : BitVec 32 := 0#32
  let v416 : BitVec 1 := Scalar.cmpi .ne v415 c0_i32_228
  v416

@[reducible] def k0_t106_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off141 (i : grid0.Coords) (v410 : BitVec 32) (k0_t105 : Fin (k0_t105_loop i v410).trips) (k0_t106 : Fin k0_t106_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v411 : BitVec 32 := Scalar.subi v410 v358
  let c1_i32_834 : BitVec 32 := 1#32
  let arg15 : BitVec 32 := Scf.iv v411 c1_i32_834 k0_t105
  let v1793 : Index := Scalar.indexCast arg15
  let c0_i32_837 : BitVec 32 := 0#32
  let c1_i32_838 : BitVec 32 := 1#32
  let arg16 : BitVec 32 := Scf.iv c0_i32_837 c1_i32_838 k0_t106
  let c16_i32 : BitVec 32 := 16#32
  let v1792 : BitVec 32 := Scalar.muli arg16 c16_i32
  let v1794 : Index := Scalar.indexCast v1792
  ![v1793.toNat, v1794.toNat]
@[reducible] def k0_t107_loop (i : grid0.Coords) (v410 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v411 : BitVec 32 := Scalar.subi v410 v358
  let c32_i32_832 : BitVec 32 := 32#32
  let v1785 : BitVec 32 := Scalar.subi c32_i32_832 v411
  let c1_i32_833 : BitVec 32 := 1#32
  let v1787 : BitVec 32 := Scalar.divsi v1785 c1_i32_833
  let v1788 : BitVec 32 := Scalar.muli v1787 c1_i32_833
  let v1789 : BitVec 32 := Scalar.addi v411 v1788
  let v1786 : BitVec 32 := Scalar.addi v411 v1785
  let c1_i32_835 : BitVec 32 := 1#32
  ⟨v1789, v1786, c1_i32_835⟩
@[reducible] def k0_t108_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off142 (i : grid0.Coords) (v410 : BitVec 32) (k0_t107 : Fin (k0_t107_loop i v410).trips) (k0_t108 : Fin k0_t108_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v411 : BitVec 32 := Scalar.subi v410 v358
  let c32_i32_832 : BitVec 32 := 32#32
  let v1785 : BitVec 32 := Scalar.subi c32_i32_832 v411
  let c1_i32_833 : BitVec 32 := 1#32
  let v1787 : BitVec 32 := Scalar.divsi v1785 c1_i32_833
  let v1788 : BitVec 32 := Scalar.muli v1787 c1_i32_833
  let v1789 : BitVec 32 := Scalar.addi v411 v1788
  let c1_i32_835 : BitVec 32 := 1#32
  let arg15 : BitVec 32 := Scf.iv v1789 c1_i32_835 k0_t107
  let v1793 : Index := Scalar.indexCast arg15
  let c0_i32_837 : BitVec 32 := 0#32
  let c1_i32_838 : BitVec 32 := 1#32
  let arg16 : BitVec 32 := Scf.iv c0_i32_837 c1_i32_838 k0_t108
  let c16_i32 : BitVec 32 := 16#32
  let v1792 : BitVec 32 := Scalar.muli arg16 c16_i32
  let v1794 : Index := Scalar.indexCast v1792
  ![v1793.toNat, v1794.toNat]

def k0_chk23 (i : grid0.Coords) (v410 : BitVec 32) : Prop :=
  (∀ (k0_h55 : k0_cond55 i v410 = 1#1), (k0_t105_loop i v410).OK) ∧
  (∀ (k0_t105 : Fin (k0_t105_loop i v410).trips) (k0_t106 : Fin k0_t106_loop.trips), ∀ (k0_h55 : k0_cond55 i v410 = 1#1), ∀ a, (k0_off141 i v410 k0_t105 k0_t106) a + S1x16.size a ≤ S32x1024.size a) ∧
  (∀ (k0_h55 : k0_cond55 i v410 = 1#1), (k0_t107_loop i v410).OK) ∧
  (∀ (k0_t107 : Fin (k0_t107_loop i v410).trips) (k0_t108 : Fin k0_t108_loop.trips), ∀ (k0_h55 : k0_cond55 i v410 = 1#1), ∀ a, (k0_off142 i v410 k0_t107 k0_t108) a + S1x16.size a ≤ S32x1024.size a)
theorem k0_t105_ok : ∀ (i : grid0.Coords) (v410 : BitVec 32) (k0_hw23 : k0_chk23 i v410), ∀ (k0_h55 : k0_cond55 i v410 = 1#1), (k0_t105_loop i v410).OK := fun i v410 k0_hw23 k0_h55 => k0_hw23.1 k0_h55
theorem k0_off141_inb : ∀ (i : grid0.Coords) (v410 : BitVec 32) (k0_hw23 : k0_chk23 i v410) (k0_t105 : Fin (k0_t105_loop i v410).trips) (k0_t106 : Fin k0_t106_loop.trips), ∀ (k0_h55 : k0_cond55 i v410 = 1#1), ∀ a, (k0_off141 i v410 k0_t105 k0_t106) a + S1x16.size a ≤ S32x1024.size a := fun i v410 k0_hw23 k0_t105 k0_t106 k0_h55 => k0_hw23.2.1 k0_t105 k0_t106 k0_h55
theorem k0_t107_ok : ∀ (i : grid0.Coords) (v410 : BitVec 32) (k0_hw23 : k0_chk23 i v410), ∀ (k0_h55 : k0_cond55 i v410 = 1#1), (k0_t107_loop i v410).OK := fun i v410 k0_hw23 k0_h55 => k0_hw23.2.2.1 k0_h55
theorem k0_off142_inb : ∀ (i : grid0.Coords) (v410 : BitVec 32) (k0_hw23 : k0_chk23 i v410) (k0_t107 : Fin (k0_t107_loop i v410).trips) (k0_t108 : Fin k0_t108_loop.trips), ∀ (k0_h55 : k0_cond55 i v410 = 1#1), ∀ a, (k0_off142 i v410 k0_t107 k0_t108) a + S1x16.size a ≤ S32x1024.size a := fun i v410 k0_hw23 k0_t107 k0_t108 k0_h55 => k0_hw23.2.2.2 k0_t107 k0_t108 k0_h55

def k0_off143 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r62 : BitVec 32 := 0#32
  ![6, v358.toNat, 0]
def k0_off144 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r63 : BitVec 32 := 0#32
  ![v358.toNat, 0]
@[reducible] def k0_t109_loop (i : grid0.Coords) (v418 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v419 : BitVec 32 := Scalar.subi v418 v358
  let c32_i32_832 : BitVec 32 := 32#32
  let v1785 : BitVec 32 := Scalar.subi c32_i32_832 v419
  let c1_i32_833 : BitVec 32 := 1#32
  let v1787 : BitVec 32 := Scalar.divsi v1785 c1_i32_833
  let v1788 : BitVec 32 := Scalar.muli v1787 c1_i32_833
  let v1789 : BitVec 32 := Scalar.addi v419 v1788
  let c1_i32_834 : BitVec 32 := 1#32
  ⟨v419, v1789, c1_i32_834⟩
def k0_cond56 (i : grid0.Coords) (v418 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v419 : BitVec 32 := Scalar.subi v418 v358
  let c0_i32_229 : BitVec 32 := 0#32
  let v420 : BitVec 1 := Scalar.cmpi .sgt v419 c0_i32_229
  let c32_i32_230 : BitVec 32 := 32#32
  let v421 : BitVec 1 := Scalar.cmpi .slt v419 c32_i32_230
  let v422 : BitVec 1 := Scalar.andi v420 v421
  let v423 : BitVec 32 := Scalar.extui v422
  let c0_i32_231 : BitVec 32 := 0#32
  let v424 : BitVec 1 := Scalar.cmpi .ne v423 c0_i32_231
  v424

@[reducible] def k0_t110_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off145 (i : grid0.Coords) (v418 : BitVec 32) (k0_t109 : Fin (k0_t109_loop i v418).trips) (k0_t110 : Fin k0_t110_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v419 : BitVec 32 := Scalar.subi v418 v358
  let c1_i32_834 : BitVec 32 := 1#32
  let arg15 : BitVec 32 := Scf.iv v419 c1_i32_834 k0_t109
  let v1793 : Index := Scalar.indexCast arg15
  let c0_i32_837 : BitVec 32 := 0#32
  let c1_i32_838 : BitVec 32 := 1#32
  let arg16 : BitVec 32 := Scf.iv c0_i32_837 c1_i32_838 k0_t110
  let c16_i32 : BitVec 32 := 16#32
  let v1792 : BitVec 32 := Scalar.muli arg16 c16_i32
  let v1794 : Index := Scalar.indexCast v1792
  ![v1793.toNat, v1794.toNat]
@[reducible] def k0_t111_loop (i : grid0.Coords) (v418 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v419 : BitVec 32 := Scalar.subi v418 v358
  let c32_i32_832 : BitVec 32 := 32#32
  let v1785 : BitVec 32 := Scalar.subi c32_i32_832 v419
  let c1_i32_833 : BitVec 32 := 1#32
  let v1787 : BitVec 32 := Scalar.divsi v1785 c1_i32_833
  let v1788 : BitVec 32 := Scalar.muli v1787 c1_i32_833
  let v1789 : BitVec 32 := Scalar.addi v419 v1788
  let v1786 : BitVec 32 := Scalar.addi v419 v1785
  let c1_i32_835 : BitVec 32 := 1#32
  ⟨v1789, v1786, c1_i32_835⟩
@[reducible] def k0_t112_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off146 (i : grid0.Coords) (v418 : BitVec 32) (k0_t111 : Fin (k0_t111_loop i v418).trips) (k0_t112 : Fin k0_t112_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v419 : BitVec 32 := Scalar.subi v418 v358
  let c32_i32_832 : BitVec 32 := 32#32
  let v1785 : BitVec 32 := Scalar.subi c32_i32_832 v419
  let c1_i32_833 : BitVec 32 := 1#32
  let v1787 : BitVec 32 := Scalar.divsi v1785 c1_i32_833
  let v1788 : BitVec 32 := Scalar.muli v1787 c1_i32_833
  let v1789 : BitVec 32 := Scalar.addi v419 v1788
  let c1_i32_835 : BitVec 32 := 1#32
  let arg15 : BitVec 32 := Scf.iv v1789 c1_i32_835 k0_t111
  let v1793 : Index := Scalar.indexCast arg15
  let c0_i32_837 : BitVec 32 := 0#32
  let c1_i32_838 : BitVec 32 := 1#32
  let arg16 : BitVec 32 := Scf.iv c0_i32_837 c1_i32_838 k0_t112
  let c16_i32 : BitVec 32 := 16#32
  let v1792 : BitVec 32 := Scalar.muli arg16 c16_i32
  let v1794 : Index := Scalar.indexCast v1792
  ![v1793.toNat, v1794.toNat]

def k0_chk24 (i : grid0.Coords) (v418 : BitVec 32) : Prop :=
  (∀ (k0_h56 : k0_cond56 i v418 = 1#1), (k0_t109_loop i v418).OK) ∧
  (∀ (k0_t109 : Fin (k0_t109_loop i v418).trips) (k0_t110 : Fin k0_t110_loop.trips), ∀ (k0_h56 : k0_cond56 i v418 = 1#1), ∀ a, (k0_off145 i v418 k0_t109 k0_t110) a + S1x16.size a ≤ S32x1024.size a) ∧
  (∀ (k0_h56 : k0_cond56 i v418 = 1#1), (k0_t111_loop i v418).OK) ∧
  (∀ (k0_t111 : Fin (k0_t111_loop i v418).trips) (k0_t112 : Fin k0_t112_loop.trips), ∀ (k0_h56 : k0_cond56 i v418 = 1#1), ∀ a, (k0_off146 i v418 k0_t111 k0_t112) a + S1x16.size a ≤ S32x1024.size a)
theorem k0_t109_ok : ∀ (i : grid0.Coords) (v418 : BitVec 32) (k0_hw24 : k0_chk24 i v418), ∀ (k0_h56 : k0_cond56 i v418 = 1#1), (k0_t109_loop i v418).OK := fun i v418 k0_hw24 k0_h56 => k0_hw24.1 k0_h56
theorem k0_off145_inb : ∀ (i : grid0.Coords) (v418 : BitVec 32) (k0_hw24 : k0_chk24 i v418) (k0_t109 : Fin (k0_t109_loop i v418).trips) (k0_t110 : Fin k0_t110_loop.trips), ∀ (k0_h56 : k0_cond56 i v418 = 1#1), ∀ a, (k0_off145 i v418 k0_t109 k0_t110) a + S1x16.size a ≤ S32x1024.size a := fun i v418 k0_hw24 k0_t109 k0_t110 k0_h56 => k0_hw24.2.1 k0_t109 k0_t110 k0_h56
theorem k0_t111_ok : ∀ (i : grid0.Coords) (v418 : BitVec 32) (k0_hw24 : k0_chk24 i v418), ∀ (k0_h56 : k0_cond56 i v418 = 1#1), (k0_t111_loop i v418).OK := fun i v418 k0_hw24 k0_h56 => k0_hw24.2.2.1 k0_h56
theorem k0_off146_inb : ∀ (i : grid0.Coords) (v418 : BitVec 32) (k0_hw24 : k0_chk24 i v418) (k0_t111 : Fin (k0_t111_loop i v418).trips) (k0_t112 : Fin k0_t112_loop.trips), ∀ (k0_h56 : k0_cond56 i v418 = 1#1), ∀ a, (k0_off146 i v418 k0_t111 k0_t112) a + S1x16.size a ≤ S32x1024.size a := fun i v418 k0_hw24 k0_t111 k0_t112 k0_h56 => k0_hw24.2.2.2 k0_t111 k0_t112 k0_h56

def k0_off147 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r64 : BitVec 32 := 0#32
  ![7, v358.toNat, 0]
def k0_off148 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r65 : BitVec 32 := 0#32
  ![v358.toNat, 0]
@[reducible] def k0_t113_loop (i : grid0.Coords) (v426 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v427 : BitVec 32 := Scalar.subi v426 v358
  let c32_i32_832 : BitVec 32 := 32#32
  let v1785 : BitVec 32 := Scalar.subi c32_i32_832 v427
  let c1_i32_833 : BitVec 32 := 1#32
  let v1787 : BitVec 32 := Scalar.divsi v1785 c1_i32_833
  let v1788 : BitVec 32 := Scalar.muli v1787 c1_i32_833
  let v1789 : BitVec 32 := Scalar.addi v427 v1788
  let c1_i32_834 : BitVec 32 := 1#32
  ⟨v427, v1789, c1_i32_834⟩
def k0_cond57 (i : grid0.Coords) (v426 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v427 : BitVec 32 := Scalar.subi v426 v358
  let c0_i32_232 : BitVec 32 := 0#32
  let v428 : BitVec 1 := Scalar.cmpi .sgt v427 c0_i32_232
  let c32_i32_233 : BitVec 32 := 32#32
  let v429 : BitVec 1 := Scalar.cmpi .slt v427 c32_i32_233
  let v430 : BitVec 1 := Scalar.andi v428 v429
  let v431 : BitVec 32 := Scalar.extui v430
  let c0_i32_234 : BitVec 32 := 0#32
  let v432 : BitVec 1 := Scalar.cmpi .ne v431 c0_i32_234
  v432

@[reducible] def k0_t114_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off149 (i : grid0.Coords) (v426 : BitVec 32) (k0_t113 : Fin (k0_t113_loop i v426).trips) (k0_t114 : Fin k0_t114_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v427 : BitVec 32 := Scalar.subi v426 v358
  let c1_i32_834 : BitVec 32 := 1#32
  let arg15 : BitVec 32 := Scf.iv v427 c1_i32_834 k0_t113
  let v1793 : Index := Scalar.indexCast arg15
  let c0_i32_838 : BitVec 32 := 0#32
  let c1_i32_839 : BitVec 32 := 1#32
  let arg16 : BitVec 32 := Scf.iv c0_i32_838 c1_i32_839 k0_t114
  let c16_i32 : BitVec 32 := 16#32
  let v1792 : BitVec 32 := Scalar.muli arg16 c16_i32
  let v1794 : Index := Scalar.indexCast v1792
  ![v1793.toNat, v1794.toNat]
@[reducible] def k0_t115_loop (i : grid0.Coords) (v426 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v427 : BitVec 32 := Scalar.subi v426 v358
  let c32_i32_832 : BitVec 32 := 32#32
  let v1785 : BitVec 32 := Scalar.subi c32_i32_832 v427
  let c1_i32_833 : BitVec 32 := 1#32
  let v1787 : BitVec 32 := Scalar.divsi v1785 c1_i32_833
  let v1788 : BitVec 32 := Scalar.muli v1787 c1_i32_833
  let v1789 : BitVec 32 := Scalar.addi v427 v1788
  let v1786 : BitVec 32 := Scalar.addi v427 v1785
  let c1_i32_835 : BitVec 32 := 1#32
  ⟨v1789, v1786, c1_i32_835⟩
@[reducible] def k0_t116_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off150 (i : grid0.Coords) (v426 : BitVec 32) (k0_t115 : Fin (k0_t115_loop i v426).trips) (k0_t116 : Fin k0_t116_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v427 : BitVec 32 := Scalar.subi v426 v358
  let c32_i32_832 : BitVec 32 := 32#32
  let v1785 : BitVec 32 := Scalar.subi c32_i32_832 v427
  let c1_i32_833 : BitVec 32 := 1#32
  let v1787 : BitVec 32 := Scalar.divsi v1785 c1_i32_833
  let v1788 : BitVec 32 := Scalar.muli v1787 c1_i32_833
  let v1789 : BitVec 32 := Scalar.addi v427 v1788
  let c1_i32_835 : BitVec 32 := 1#32
  let arg15 : BitVec 32 := Scf.iv v1789 c1_i32_835 k0_t115
  let v1793 : Index := Scalar.indexCast arg15
  let c0_i32_838 : BitVec 32 := 0#32
  let c1_i32_839 : BitVec 32 := 1#32
  let arg16 : BitVec 32 := Scf.iv c0_i32_838 c1_i32_839 k0_t116
  let c16_i32 : BitVec 32 := 16#32
  let v1792 : BitVec 32 := Scalar.muli arg16 c16_i32
  let v1794 : Index := Scalar.indexCast v1792
  ![v1793.toNat, v1794.toNat]

def k0_chk25 (i : grid0.Coords) (v426 : BitVec 32) : Prop :=
  (∀ (k0_h57 : k0_cond57 i v426 = 1#1), (k0_t113_loop i v426).OK) ∧
  (∀ (k0_t113 : Fin (k0_t113_loop i v426).trips) (k0_t114 : Fin k0_t114_loop.trips), ∀ (k0_h57 : k0_cond57 i v426 = 1#1), ∀ a, (k0_off149 i v426 k0_t113 k0_t114) a + S1x16.size a ≤ S32x1024.size a) ∧
  (∀ (k0_h57 : k0_cond57 i v426 = 1#1), (k0_t115_loop i v426).OK) ∧
  (∀ (k0_t115 : Fin (k0_t115_loop i v426).trips) (k0_t116 : Fin k0_t116_loop.trips), ∀ (k0_h57 : k0_cond57 i v426 = 1#1), ∀ a, (k0_off150 i v426 k0_t115 k0_t116) a + S1x16.size a ≤ S32x1024.size a)
theorem k0_t113_ok : ∀ (i : grid0.Coords) (v426 : BitVec 32) (k0_hw25 : k0_chk25 i v426), ∀ (k0_h57 : k0_cond57 i v426 = 1#1), (k0_t113_loop i v426).OK := fun i v426 k0_hw25 k0_h57 => k0_hw25.1 k0_h57
theorem k0_off149_inb : ∀ (i : grid0.Coords) (v426 : BitVec 32) (k0_hw25 : k0_chk25 i v426) (k0_t113 : Fin (k0_t113_loop i v426).trips) (k0_t114 : Fin k0_t114_loop.trips), ∀ (k0_h57 : k0_cond57 i v426 = 1#1), ∀ a, (k0_off149 i v426 k0_t113 k0_t114) a + S1x16.size a ≤ S32x1024.size a := fun i v426 k0_hw25 k0_t113 k0_t114 k0_h57 => k0_hw25.2.1 k0_t113 k0_t114 k0_h57
theorem k0_t115_ok : ∀ (i : grid0.Coords) (v426 : BitVec 32) (k0_hw25 : k0_chk25 i v426), ∀ (k0_h57 : k0_cond57 i v426 = 1#1), (k0_t115_loop i v426).OK := fun i v426 k0_hw25 k0_h57 => k0_hw25.2.2.1 k0_h57
theorem k0_off150_inb : ∀ (i : grid0.Coords) (v426 : BitVec 32) (k0_hw25 : k0_chk25 i v426) (k0_t115 : Fin (k0_t115_loop i v426).trips) (k0_t116 : Fin k0_t116_loop.trips), ∀ (k0_h57 : k0_cond57 i v426 = 1#1), ∀ a, (k0_off150 i v426 k0_t115 k0_t116) a + S1x16.size a ≤ S32x1024.size a := fun i v426 k0_hw25 k0_t115 k0_t116 k0_h57 => k0_hw25.2.2.2 k0_t115 k0_t116 k0_h57

def k0_off151 (i : grid0.Coords) : Fin 3 → Nat :=
  let c8_i32_836 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r66 : BitVec 32 := 0#32
  ![8, v358.toNat, 0]
def k0_off152 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_837_r67 : BitVec 32 := 0#32
  ![v358.toNat, 0]
@[reducible] def k0_t117_loop (i : grid0.Coords) (v434 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v435 : BitVec 32 := Scalar.subi v434 v358
  let c32_i32_832 : BitVec 32 := 32#32
  let v1785 : BitVec 32 := Scalar.subi c32_i32_832 v435
  let c1_i32_833 : BitVec 32 := 1#32
  let v1787 : BitVec 32 := Scalar.divsi v1785 c1_i32_833
  let v1788 : BitVec 32 := Scalar.muli v1787 c1_i32_833
  let v1789 : BitVec 32 := Scalar.addi v435 v1788
  let c1_i32_834 : BitVec 32 := 1#32
  ⟨v435, v1789, c1_i32_834⟩
def k0_cond58 (i : grid0.Coords) (v434 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v435 : BitVec 32 := Scalar.subi v434 v358
  let c0_i32_235 : BitVec 32 := 0#32
  let v436 : BitVec 1 := Scalar.cmpi .sgt v435 c0_i32_235
  let c32_i32_236 : BitVec 32 := 32#32
  let v437 : BitVec 1 := Scalar.cmpi .slt v435 c32_i32_236
  let v438 : BitVec 1 := Scalar.andi v436 v437
  let v439 : BitVec 32 := Scalar.extui v438
  let c0_i32_237 : BitVec 32 := 0#32
  let v440 : BitVec 1 := Scalar.cmpi .ne v439 c0_i32_237
  v440

@[reducible] def k0_t118_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off153 (i : grid0.Coords) (v434 : BitVec 32) (k0_t117 : Fin (k0_t117_loop i v434).trips) (k0_t118 : Fin k0_t118_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v435 : BitVec 32 := Scalar.subi v434 v358
  let c1_i32_834 : BitVec 32 := 1#32
  let arg15 : BitVec 32 := Scf.iv v435 c1_i32_834 k0_t117
  let v1793 : Index := Scalar.indexCast arg15
  let c0_i32_837 : BitVec 32 := 0#32
  let c1_i32_838 : BitVec 32 := 1#32
  let arg16 : BitVec 32 := Scf.iv c0_i32_837 c1_i32_838 k0_t118
  let c16_i32 : BitVec 32 := 16#32
  let v1792 : BitVec 32 := Scalar.muli arg16 c16_i32
  let v1794 : Index := Scalar.indexCast v1792
  ![v1793.toNat, v1794.toNat]
@[reducible] def k0_t119_loop (i : grid0.Coords) (v434 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v435 : BitVec 32 := Scalar.subi v434 v358
  let c32_i32_832 : BitVec 32 := 32#32
  let v1785 : BitVec 32 := Scalar.subi c32_i32_832 v435
  let c1_i32_833 : BitVec 32 := 1#32
  let v1787 : BitVec 32 := Scalar.divsi v1785 c1_i32_833
  let v1788 : BitVec 32 := Scalar.muli v1787 c1_i32_833
  let v1789 : BitVec 32 := Scalar.addi v435 v1788
  let v1786 : BitVec 32 := Scalar.addi v435 v1785
  let c1_i32_835 : BitVec 32 := 1#32
  ⟨v1789, v1786, c1_i32_835⟩
@[reducible] def k0_t120_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off154 (i : grid0.Coords) (v434 : BitVec 32) (k0_t119 : Fin (k0_t119_loop i v434).trips) (k0_t120 : Fin k0_t120_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v435 : BitVec 32 := Scalar.subi v434 v358
  let c32_i32_832 : BitVec 32 := 32#32
  let v1785 : BitVec 32 := Scalar.subi c32_i32_832 v435
  let c1_i32_833 : BitVec 32 := 1#32
  let v1787 : BitVec 32 := Scalar.divsi v1785 c1_i32_833
  let v1788 : BitVec 32 := Scalar.muli v1787 c1_i32_833
  let v1789 : BitVec 32 := Scalar.addi v435 v1788
  let c1_i32_835 : BitVec 32 := 1#32
  let arg15 : BitVec 32 := Scf.iv v1789 c1_i32_835 k0_t119
  let v1793 : Index := Scalar.indexCast arg15
  let c0_i32_837 : BitVec 32 := 0#32
  let c1_i32_838 : BitVec 32 := 1#32
  let arg16 : BitVec 32 := Scf.iv c0_i32_837 c1_i32_838 k0_t120
  let c16_i32 : BitVec 32 := 16#32
  let v1792 : BitVec 32 := Scalar.muli arg16 c16_i32
  let v1794 : Index := Scalar.indexCast v1792
  ![v1793.toNat, v1794.toNat]

def k0_chk26 (i : grid0.Coords) (v434 : BitVec 32) : Prop :=
  (∀ (k0_h58 : k0_cond58 i v434 = 1#1), (k0_t117_loop i v434).OK) ∧
  (∀ (k0_t117 : Fin (k0_t117_loop i v434).trips) (k0_t118 : Fin k0_t118_loop.trips), ∀ (k0_h58 : k0_cond58 i v434 = 1#1), ∀ a, (k0_off153 i v434 k0_t117 k0_t118) a + S1x16.size a ≤ S32x1024.size a) ∧
  (∀ (k0_h58 : k0_cond58 i v434 = 1#1), (k0_t119_loop i v434).OK) ∧
  (∀ (k0_t119 : Fin (k0_t119_loop i v434).trips) (k0_t120 : Fin k0_t120_loop.trips), ∀ (k0_h58 : k0_cond58 i v434 = 1#1), ∀ a, (k0_off154 i v434 k0_t119 k0_t120) a + S1x16.size a ≤ S32x1024.size a)
theorem k0_t117_ok : ∀ (i : grid0.Coords) (v434 : BitVec 32) (k0_hw26 : k0_chk26 i v434), ∀ (k0_h58 : k0_cond58 i v434 = 1#1), (k0_t117_loop i v434).OK := fun i v434 k0_hw26 k0_h58 => k0_hw26.1 k0_h58
theorem k0_off153_inb : ∀ (i : grid0.Coords) (v434 : BitVec 32) (k0_hw26 : k0_chk26 i v434) (k0_t117 : Fin (k0_t117_loop i v434).trips) (k0_t118 : Fin k0_t118_loop.trips), ∀ (k0_h58 : k0_cond58 i v434 = 1#1), ∀ a, (k0_off153 i v434 k0_t117 k0_t118) a + S1x16.size a ≤ S32x1024.size a := fun i v434 k0_hw26 k0_t117 k0_t118 k0_h58 => k0_hw26.2.1 k0_t117 k0_t118 k0_h58
theorem k0_t119_ok : ∀ (i : grid0.Coords) (v434 : BitVec 32) (k0_hw26 : k0_chk26 i v434), ∀ (k0_h58 : k0_cond58 i v434 = 1#1), (k0_t119_loop i v434).OK := fun i v434 k0_hw26 k0_h58 => k0_hw26.2.2.1 k0_h58
theorem k0_off154_inb : ∀ (i : grid0.Coords) (v434 : BitVec 32) (k0_hw26 : k0_chk26 i v434) (k0_t119 : Fin (k0_t119_loop i v434).trips) (k0_t120 : Fin k0_t120_loop.trips), ∀ (k0_h58 : k0_cond58 i v434 = 1#1), ∀ a, (k0_off154 i v434 k0_t119 k0_t120) a + S1x16.size a ≤ S32x1024.size a := fun i v434 k0_hw26 k0_t119 k0_t120 k0_h58 => k0_hw26.2.2.2 k0_t119 k0_t120 k0_h58

def k0_off155 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r68 : BitVec 32 := 0#32
  ![9, v358.toNat, 0]
def k0_off156 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r69 : BitVec 32 := 0#32
  ![v358.toNat, 0]
@[reducible] def k0_t121_loop (i : grid0.Coords) (v442 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v443 : BitVec 32 := Scalar.subi v442 v358
  let c32_i32_832 : BitVec 32 := 32#32
  let v1785 : BitVec 32 := Scalar.subi c32_i32_832 v443
  let c1_i32_833 : BitVec 32 := 1#32
  let v1787 : BitVec 32 := Scalar.divsi v1785 c1_i32_833
  let v1788 : BitVec 32 := Scalar.muli v1787 c1_i32_833
  let v1789 : BitVec 32 := Scalar.addi v443 v1788
  let c1_i32_834 : BitVec 32 := 1#32
  ⟨v443, v1789, c1_i32_834⟩
def k0_cond59 (i : grid0.Coords) (v442 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v443 : BitVec 32 := Scalar.subi v442 v358
  let c0_i32_238 : BitVec 32 := 0#32
  let v444 : BitVec 1 := Scalar.cmpi .sgt v443 c0_i32_238
  let c32_i32_239 : BitVec 32 := 32#32
  let v445 : BitVec 1 := Scalar.cmpi .slt v443 c32_i32_239
  let v446 : BitVec 1 := Scalar.andi v444 v445
  let v447 : BitVec 32 := Scalar.extui v446
  let c0_i32_240 : BitVec 32 := 0#32
  let v448 : BitVec 1 := Scalar.cmpi .ne v447 c0_i32_240
  v448

@[reducible] def k0_t122_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off157 (i : grid0.Coords) (v442 : BitVec 32) (k0_t121 : Fin (k0_t121_loop i v442).trips) (k0_t122 : Fin k0_t122_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v443 : BitVec 32 := Scalar.subi v442 v358
  let c1_i32_834 : BitVec 32 := 1#32
  let arg15 : BitVec 32 := Scf.iv v443 c1_i32_834 k0_t121
  let v1793 : Index := Scalar.indexCast arg15
  let c0_i32_837 : BitVec 32 := 0#32
  let c1_i32_838 : BitVec 32 := 1#32
  let arg16 : BitVec 32 := Scf.iv c0_i32_837 c1_i32_838 k0_t122
  let c16_i32 : BitVec 32 := 16#32
  let v1792 : BitVec 32 := Scalar.muli arg16 c16_i32
  let v1794 : Index := Scalar.indexCast v1792
  ![v1793.toNat, v1794.toNat]
@[reducible] def k0_t123_loop (i : grid0.Coords) (v442 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v443 : BitVec 32 := Scalar.subi v442 v358
  let c32_i32_832 : BitVec 32 := 32#32
  let v1785 : BitVec 32 := Scalar.subi c32_i32_832 v443
  let c1_i32_833 : BitVec 32 := 1#32
  let v1787 : BitVec 32 := Scalar.divsi v1785 c1_i32_833
  let v1788 : BitVec 32 := Scalar.muli v1787 c1_i32_833
  let v1789 : BitVec 32 := Scalar.addi v443 v1788
  let v1786 : BitVec 32 := Scalar.addi v443 v1785
  let c1_i32_835 : BitVec 32 := 1#32
  ⟨v1789, v1786, c1_i32_835⟩
@[reducible] def k0_t124_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off158 (i : grid0.Coords) (v442 : BitVec 32) (k0_t123 : Fin (k0_t123_loop i v442).trips) (k0_t124 : Fin k0_t124_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v443 : BitVec 32 := Scalar.subi v442 v358
  let c32_i32_832 : BitVec 32 := 32#32
  let v1785 : BitVec 32 := Scalar.subi c32_i32_832 v443
  let c1_i32_833 : BitVec 32 := 1#32
  let v1787 : BitVec 32 := Scalar.divsi v1785 c1_i32_833
  let v1788 : BitVec 32 := Scalar.muli v1787 c1_i32_833
  let v1789 : BitVec 32 := Scalar.addi v443 v1788
  let c1_i32_835 : BitVec 32 := 1#32
  let arg15 : BitVec 32 := Scf.iv v1789 c1_i32_835 k0_t123
  let v1793 : Index := Scalar.indexCast arg15
  let c0_i32_837 : BitVec 32 := 0#32
  let c1_i32_838 : BitVec 32 := 1#32
  let arg16 : BitVec 32 := Scf.iv c0_i32_837 c1_i32_838 k0_t124
  let c16_i32 : BitVec 32 := 16#32
  let v1792 : BitVec 32 := Scalar.muli arg16 c16_i32
  let v1794 : Index := Scalar.indexCast v1792
  ![v1793.toNat, v1794.toNat]

def k0_chk27 (i : grid0.Coords) (v442 : BitVec 32) : Prop :=
  (∀ (k0_h59 : k0_cond59 i v442 = 1#1), (k0_t121_loop i v442).OK) ∧
  (∀ (k0_t121 : Fin (k0_t121_loop i v442).trips) (k0_t122 : Fin k0_t122_loop.trips), ∀ (k0_h59 : k0_cond59 i v442 = 1#1), ∀ a, (k0_off157 i v442 k0_t121 k0_t122) a + S1x16.size a ≤ S32x1024.size a) ∧
  (∀ (k0_h59 : k0_cond59 i v442 = 1#1), (k0_t123_loop i v442).OK) ∧
  (∀ (k0_t123 : Fin (k0_t123_loop i v442).trips) (k0_t124 : Fin k0_t124_loop.trips), ∀ (k0_h59 : k0_cond59 i v442 = 1#1), ∀ a, (k0_off158 i v442 k0_t123 k0_t124) a + S1x16.size a ≤ S32x1024.size a)
theorem k0_t121_ok : ∀ (i : grid0.Coords) (v442 : BitVec 32) (k0_hw27 : k0_chk27 i v442), ∀ (k0_h59 : k0_cond59 i v442 = 1#1), (k0_t121_loop i v442).OK := fun i v442 k0_hw27 k0_h59 => k0_hw27.1 k0_h59
theorem k0_off157_inb : ∀ (i : grid0.Coords) (v442 : BitVec 32) (k0_hw27 : k0_chk27 i v442) (k0_t121 : Fin (k0_t121_loop i v442).trips) (k0_t122 : Fin k0_t122_loop.trips), ∀ (k0_h59 : k0_cond59 i v442 = 1#1), ∀ a, (k0_off157 i v442 k0_t121 k0_t122) a + S1x16.size a ≤ S32x1024.size a := fun i v442 k0_hw27 k0_t121 k0_t122 k0_h59 => k0_hw27.2.1 k0_t121 k0_t122 k0_h59
theorem k0_t123_ok : ∀ (i : grid0.Coords) (v442 : BitVec 32) (k0_hw27 : k0_chk27 i v442), ∀ (k0_h59 : k0_cond59 i v442 = 1#1), (k0_t123_loop i v442).OK := fun i v442 k0_hw27 k0_h59 => k0_hw27.2.2.1 k0_h59
theorem k0_off158_inb : ∀ (i : grid0.Coords) (v442 : BitVec 32) (k0_hw27 : k0_chk27 i v442) (k0_t123 : Fin (k0_t123_loop i v442).trips) (k0_t124 : Fin k0_t124_loop.trips), ∀ (k0_h59 : k0_cond59 i v442 = 1#1), ∀ a, (k0_off158 i v442 k0_t123 k0_t124) a + S1x16.size a ≤ S32x1024.size a := fun i v442 k0_hw27 k0_t123 k0_t124 k0_h59 => k0_hw27.2.2.2 k0_t123 k0_t124 k0_h59

def k0_off159 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r70 : BitVec 32 := 0#32
  ![10, v358.toNat, 0]
def k0_off160 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r71 : BitVec 32 := 0#32
  ![v358.toNat, 0]
@[reducible] def k0_t125_loop (i : grid0.Coords) (v450 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v451 : BitVec 32 := Scalar.subi v450 v358
  let c32_i32_832 : BitVec 32 := 32#32
  let v1785 : BitVec 32 := Scalar.subi c32_i32_832 v451
  let c1_i32_833 : BitVec 32 := 1#32
  let v1787 : BitVec 32 := Scalar.divsi v1785 c1_i32_833
  let v1788 : BitVec 32 := Scalar.muli v1787 c1_i32_833
  let v1789 : BitVec 32 := Scalar.addi v451 v1788
  let c1_i32_834 : BitVec 32 := 1#32
  ⟨v451, v1789, c1_i32_834⟩
def k0_cond60 (i : grid0.Coords) (v450 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v451 : BitVec 32 := Scalar.subi v450 v358
  let c0_i32_241 : BitVec 32 := 0#32
  let v452 : BitVec 1 := Scalar.cmpi .sgt v451 c0_i32_241
  let c32_i32_242 : BitVec 32 := 32#32
  let v453 : BitVec 1 := Scalar.cmpi .slt v451 c32_i32_242
  let v454 : BitVec 1 := Scalar.andi v452 v453
  let v455 : BitVec 32 := Scalar.extui v454
  let c0_i32_243 : BitVec 32 := 0#32
  let v456 : BitVec 1 := Scalar.cmpi .ne v455 c0_i32_243
  v456

@[reducible] def k0_t126_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off161 (i : grid0.Coords) (v450 : BitVec 32) (k0_t125 : Fin (k0_t125_loop i v450).trips) (k0_t126 : Fin k0_t126_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v451 : BitVec 32 := Scalar.subi v450 v358
  let c1_i32_834 : BitVec 32 := 1#32
  let arg15 : BitVec 32 := Scf.iv v451 c1_i32_834 k0_t125
  let v1793 : Index := Scalar.indexCast arg15
  let c0_i32_837 : BitVec 32 := 0#32
  let c1_i32_838 : BitVec 32 := 1#32
  let arg16 : BitVec 32 := Scf.iv c0_i32_837 c1_i32_838 k0_t126
  let c16_i32 : BitVec 32 := 16#32
  let v1792 : BitVec 32 := Scalar.muli arg16 c16_i32
  let v1794 : Index := Scalar.indexCast v1792
  ![v1793.toNat, v1794.toNat]
@[reducible] def k0_t127_loop (i : grid0.Coords) (v450 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v451 : BitVec 32 := Scalar.subi v450 v358
  let c32_i32_832 : BitVec 32 := 32#32
  let v1785 : BitVec 32 := Scalar.subi c32_i32_832 v451
  let c1_i32_833 : BitVec 32 := 1#32
  let v1787 : BitVec 32 := Scalar.divsi v1785 c1_i32_833
  let v1788 : BitVec 32 := Scalar.muli v1787 c1_i32_833
  let v1789 : BitVec 32 := Scalar.addi v451 v1788
  let v1786 : BitVec 32 := Scalar.addi v451 v1785
  let c1_i32_835 : BitVec 32 := 1#32
  ⟨v1789, v1786, c1_i32_835⟩
@[reducible] def k0_t128_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off162 (i : grid0.Coords) (v450 : BitVec 32) (k0_t127 : Fin (k0_t127_loop i v450).trips) (k0_t128 : Fin k0_t128_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v451 : BitVec 32 := Scalar.subi v450 v358
  let c32_i32_832 : BitVec 32 := 32#32
  let v1785 : BitVec 32 := Scalar.subi c32_i32_832 v451
  let c1_i32_833 : BitVec 32 := 1#32
  let v1787 : BitVec 32 := Scalar.divsi v1785 c1_i32_833
  let v1788 : BitVec 32 := Scalar.muli v1787 c1_i32_833
  let v1789 : BitVec 32 := Scalar.addi v451 v1788
  let c1_i32_835 : BitVec 32 := 1#32
  let arg15 : BitVec 32 := Scf.iv v1789 c1_i32_835 k0_t127
  let v1793 : Index := Scalar.indexCast arg15
  let c0_i32_837 : BitVec 32 := 0#32
  let c1_i32_838 : BitVec 32 := 1#32
  let arg16 : BitVec 32 := Scf.iv c0_i32_837 c1_i32_838 k0_t128
  let c16_i32 : BitVec 32 := 16#32
  let v1792 : BitVec 32 := Scalar.muli arg16 c16_i32
  let v1794 : Index := Scalar.indexCast v1792
  ![v1793.toNat, v1794.toNat]

def k0_chk28 (i : grid0.Coords) (v450 : BitVec 32) : Prop :=
  (∀ (k0_h60 : k0_cond60 i v450 = 1#1), (k0_t125_loop i v450).OK) ∧
  (∀ (k0_t125 : Fin (k0_t125_loop i v450).trips) (k0_t126 : Fin k0_t126_loop.trips), ∀ (k0_h60 : k0_cond60 i v450 = 1#1), ∀ a, (k0_off161 i v450 k0_t125 k0_t126) a + S1x16.size a ≤ S32x1024.size a) ∧
  (∀ (k0_h60 : k0_cond60 i v450 = 1#1), (k0_t127_loop i v450).OK) ∧
  (∀ (k0_t127 : Fin (k0_t127_loop i v450).trips) (k0_t128 : Fin k0_t128_loop.trips), ∀ (k0_h60 : k0_cond60 i v450 = 1#1), ∀ a, (k0_off162 i v450 k0_t127 k0_t128) a + S1x16.size a ≤ S32x1024.size a)
theorem k0_t125_ok : ∀ (i : grid0.Coords) (v450 : BitVec 32) (k0_hw28 : k0_chk28 i v450), ∀ (k0_h60 : k0_cond60 i v450 = 1#1), (k0_t125_loop i v450).OK := fun i v450 k0_hw28 k0_h60 => k0_hw28.1 k0_h60
theorem k0_off161_inb : ∀ (i : grid0.Coords) (v450 : BitVec 32) (k0_hw28 : k0_chk28 i v450) (k0_t125 : Fin (k0_t125_loop i v450).trips) (k0_t126 : Fin k0_t126_loop.trips), ∀ (k0_h60 : k0_cond60 i v450 = 1#1), ∀ a, (k0_off161 i v450 k0_t125 k0_t126) a + S1x16.size a ≤ S32x1024.size a := fun i v450 k0_hw28 k0_t125 k0_t126 k0_h60 => k0_hw28.2.1 k0_t125 k0_t126 k0_h60
theorem k0_t127_ok : ∀ (i : grid0.Coords) (v450 : BitVec 32) (k0_hw28 : k0_chk28 i v450), ∀ (k0_h60 : k0_cond60 i v450 = 1#1), (k0_t127_loop i v450).OK := fun i v450 k0_hw28 k0_h60 => k0_hw28.2.2.1 k0_h60
theorem k0_off162_inb : ∀ (i : grid0.Coords) (v450 : BitVec 32) (k0_hw28 : k0_chk28 i v450) (k0_t127 : Fin (k0_t127_loop i v450).trips) (k0_t128 : Fin k0_t128_loop.trips), ∀ (k0_h60 : k0_cond60 i v450 = 1#1), ∀ a, (k0_off162 i v450 k0_t127 k0_t128) a + S1x16.size a ≤ S32x1024.size a := fun i v450 k0_hw28 k0_t127 k0_t128 k0_h60 => k0_hw28.2.2.2 k0_t127 k0_t128 k0_h60

def k0_off163 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r72 : BitVec 32 := 0#32
  ![11, v358.toNat, 0]
def k0_off164 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r73 : BitVec 32 := 0#32
  ![v358.toNat, 0]
@[reducible] def k0_t129_loop (i : grid0.Coords) (v458 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v459 : BitVec 32 := Scalar.subi v458 v358
  let c32_i32_832 : BitVec 32 := 32#32
  let v1785 : BitVec 32 := Scalar.subi c32_i32_832 v459
  let c1_i32_833 : BitVec 32 := 1#32
  let v1787 : BitVec 32 := Scalar.divsi v1785 c1_i32_833
  let v1788 : BitVec 32 := Scalar.muli v1787 c1_i32_833
  let v1789 : BitVec 32 := Scalar.addi v459 v1788
  let c1_i32_834 : BitVec 32 := 1#32
  ⟨v459, v1789, c1_i32_834⟩
def k0_cond61 (i : grid0.Coords) (v458 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v459 : BitVec 32 := Scalar.subi v458 v358
  let c0_i32_244 : BitVec 32 := 0#32
  let v460 : BitVec 1 := Scalar.cmpi .sgt v459 c0_i32_244
  let c32_i32_245 : BitVec 32 := 32#32
  let v461 : BitVec 1 := Scalar.cmpi .slt v459 c32_i32_245
  let v462 : BitVec 1 := Scalar.andi v460 v461
  let v463 : BitVec 32 := Scalar.extui v462
  let c0_i32_246 : BitVec 32 := 0#32
  let v464 : BitVec 1 := Scalar.cmpi .ne v463 c0_i32_246
  v464

@[reducible] def k0_t130_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off165 (i : grid0.Coords) (v458 : BitVec 32) (k0_t129 : Fin (k0_t129_loop i v458).trips) (k0_t130 : Fin k0_t130_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v459 : BitVec 32 := Scalar.subi v458 v358
  let c1_i32_834 : BitVec 32 := 1#32
  let arg15 : BitVec 32 := Scf.iv v459 c1_i32_834 k0_t129
  let v1793 : Index := Scalar.indexCast arg15
  let c0_i32_837 : BitVec 32 := 0#32
  let c1_i32_838 : BitVec 32 := 1#32
  let arg16 : BitVec 32 := Scf.iv c0_i32_837 c1_i32_838 k0_t130
  let c16_i32 : BitVec 32 := 16#32
  let v1792 : BitVec 32 := Scalar.muli arg16 c16_i32
  let v1794 : Index := Scalar.indexCast v1792
  ![v1793.toNat, v1794.toNat]
@[reducible] def k0_t131_loop (i : grid0.Coords) (v458 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v459 : BitVec 32 := Scalar.subi v458 v358
  let c32_i32_832 : BitVec 32 := 32#32
  let v1785 : BitVec 32 := Scalar.subi c32_i32_832 v459
  let c1_i32_833 : BitVec 32 := 1#32
  let v1787 : BitVec 32 := Scalar.divsi v1785 c1_i32_833
  let v1788 : BitVec 32 := Scalar.muli v1787 c1_i32_833
  let v1789 : BitVec 32 := Scalar.addi v459 v1788
  let v1786 : BitVec 32 := Scalar.addi v459 v1785
  let c1_i32_835 : BitVec 32 := 1#32
  ⟨v1789, v1786, c1_i32_835⟩
@[reducible] def k0_t132_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off166 (i : grid0.Coords) (v458 : BitVec 32) (k0_t131 : Fin (k0_t131_loop i v458).trips) (k0_t132 : Fin k0_t132_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v459 : BitVec 32 := Scalar.subi v458 v358
  let c32_i32_832 : BitVec 32 := 32#32
  let v1785 : BitVec 32 := Scalar.subi c32_i32_832 v459
  let c1_i32_833 : BitVec 32 := 1#32
  let v1787 : BitVec 32 := Scalar.divsi v1785 c1_i32_833
  let v1788 : BitVec 32 := Scalar.muli v1787 c1_i32_833
  let v1789 : BitVec 32 := Scalar.addi v459 v1788
  let c1_i32_835 : BitVec 32 := 1#32
  let arg15 : BitVec 32 := Scf.iv v1789 c1_i32_835 k0_t131
  let v1793 : Index := Scalar.indexCast arg15
  let c0_i32_837 : BitVec 32 := 0#32
  let c1_i32_838 : BitVec 32 := 1#32
  let arg16 : BitVec 32 := Scf.iv c0_i32_837 c1_i32_838 k0_t132
  let c16_i32 : BitVec 32 := 16#32
  let v1792 : BitVec 32 := Scalar.muli arg16 c16_i32
  let v1794 : Index := Scalar.indexCast v1792
  ![v1793.toNat, v1794.toNat]

def k0_chk29 (i : grid0.Coords) (v458 : BitVec 32) : Prop :=
  (∀ (k0_h61 : k0_cond61 i v458 = 1#1), (k0_t129_loop i v458).OK) ∧
  (∀ (k0_t129 : Fin (k0_t129_loop i v458).trips) (k0_t130 : Fin k0_t130_loop.trips), ∀ (k0_h61 : k0_cond61 i v458 = 1#1), ∀ a, (k0_off165 i v458 k0_t129 k0_t130) a + S1x16.size a ≤ S32x1024.size a) ∧
  (∀ (k0_h61 : k0_cond61 i v458 = 1#1), (k0_t131_loop i v458).OK) ∧
  (∀ (k0_t131 : Fin (k0_t131_loop i v458).trips) (k0_t132 : Fin k0_t132_loop.trips), ∀ (k0_h61 : k0_cond61 i v458 = 1#1), ∀ a, (k0_off166 i v458 k0_t131 k0_t132) a + S1x16.size a ≤ S32x1024.size a)
theorem k0_t129_ok : ∀ (i : grid0.Coords) (v458 : BitVec 32) (k0_hw29 : k0_chk29 i v458), ∀ (k0_h61 : k0_cond61 i v458 = 1#1), (k0_t129_loop i v458).OK := fun i v458 k0_hw29 k0_h61 => k0_hw29.1 k0_h61
theorem k0_off165_inb : ∀ (i : grid0.Coords) (v458 : BitVec 32) (k0_hw29 : k0_chk29 i v458) (k0_t129 : Fin (k0_t129_loop i v458).trips) (k0_t130 : Fin k0_t130_loop.trips), ∀ (k0_h61 : k0_cond61 i v458 = 1#1), ∀ a, (k0_off165 i v458 k0_t129 k0_t130) a + S1x16.size a ≤ S32x1024.size a := fun i v458 k0_hw29 k0_t129 k0_t130 k0_h61 => k0_hw29.2.1 k0_t129 k0_t130 k0_h61
theorem k0_t131_ok : ∀ (i : grid0.Coords) (v458 : BitVec 32) (k0_hw29 : k0_chk29 i v458), ∀ (k0_h61 : k0_cond61 i v458 = 1#1), (k0_t131_loop i v458).OK := fun i v458 k0_hw29 k0_h61 => k0_hw29.2.2.1 k0_h61
theorem k0_off166_inb : ∀ (i : grid0.Coords) (v458 : BitVec 32) (k0_hw29 : k0_chk29 i v458) (k0_t131 : Fin (k0_t131_loop i v458).trips) (k0_t132 : Fin k0_t132_loop.trips), ∀ (k0_h61 : k0_cond61 i v458 = 1#1), ∀ a, (k0_off166 i v458 k0_t131 k0_t132) a + S1x16.size a ≤ S32x1024.size a := fun i v458 k0_hw29 k0_t131 k0_t132 k0_h61 => k0_hw29.2.2.2 k0_t131 k0_t132 k0_h61

def k0_off167 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r74 : BitVec 32 := 0#32
  ![12, v358.toNat, 0]
def k0_off168 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r75 : BitVec 32 := 0#32
  ![v358.toNat, 0]
@[reducible] def k0_t133_loop (i : grid0.Coords) (v466 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v467 : BitVec 32 := Scalar.subi v466 v358
  let c32_i32_832 : BitVec 32 := 32#32
  let v1785 : BitVec 32 := Scalar.subi c32_i32_832 v467
  let c1_i32_833 : BitVec 32 := 1#32
  let v1787 : BitVec 32 := Scalar.divsi v1785 c1_i32_833
  let v1788 : BitVec 32 := Scalar.muli v1787 c1_i32_833
  let v1789 : BitVec 32 := Scalar.addi v467 v1788
  let c1_i32_834 : BitVec 32 := 1#32
  ⟨v467, v1789, c1_i32_834⟩
def k0_cond62 (i : grid0.Coords) (v466 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v467 : BitVec 32 := Scalar.subi v466 v358
  let c0_i32_247 : BitVec 32 := 0#32
  let v468 : BitVec 1 := Scalar.cmpi .sgt v467 c0_i32_247
  let c32_i32_248 : BitVec 32 := 32#32
  let v469 : BitVec 1 := Scalar.cmpi .slt v467 c32_i32_248
  let v470 : BitVec 1 := Scalar.andi v468 v469
  let v471 : BitVec 32 := Scalar.extui v470
  let c0_i32_249 : BitVec 32 := 0#32
  let v472 : BitVec 1 := Scalar.cmpi .ne v471 c0_i32_249
  v472

@[reducible] def k0_t134_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off169 (i : grid0.Coords) (v466 : BitVec 32) (k0_t133 : Fin (k0_t133_loop i v466).trips) (k0_t134 : Fin k0_t134_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v467 : BitVec 32 := Scalar.subi v466 v358
  let c1_i32_834 : BitVec 32 := 1#32
  let arg15 : BitVec 32 := Scf.iv v467 c1_i32_834 k0_t133
  let v1793 : Index := Scalar.indexCast arg15
  let c0_i32_837 : BitVec 32 := 0#32
  let c1_i32_838 : BitVec 32 := 1#32
  let arg16 : BitVec 32 := Scf.iv c0_i32_837 c1_i32_838 k0_t134
  let c16_i32 : BitVec 32 := 16#32
  let v1792 : BitVec 32 := Scalar.muli arg16 c16_i32
  let v1794 : Index := Scalar.indexCast v1792
  ![v1793.toNat, v1794.toNat]
@[reducible] def k0_t135_loop (i : grid0.Coords) (v466 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v467 : BitVec 32 := Scalar.subi v466 v358
  let c32_i32_832 : BitVec 32 := 32#32
  let v1785 : BitVec 32 := Scalar.subi c32_i32_832 v467
  let c1_i32_833 : BitVec 32 := 1#32
  let v1787 : BitVec 32 := Scalar.divsi v1785 c1_i32_833
  let v1788 : BitVec 32 := Scalar.muli v1787 c1_i32_833
  let v1789 : BitVec 32 := Scalar.addi v467 v1788
  let v1786 : BitVec 32 := Scalar.addi v467 v1785
  let c1_i32_835 : BitVec 32 := 1#32
  ⟨v1789, v1786, c1_i32_835⟩
@[reducible] def k0_t136_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off170 (i : grid0.Coords) (v466 : BitVec 32) (k0_t135 : Fin (k0_t135_loop i v466).trips) (k0_t136 : Fin k0_t136_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v467 : BitVec 32 := Scalar.subi v466 v358
  let c32_i32_832 : BitVec 32 := 32#32
  let v1785 : BitVec 32 := Scalar.subi c32_i32_832 v467
  let c1_i32_833 : BitVec 32 := 1#32
  let v1787 : BitVec 32 := Scalar.divsi v1785 c1_i32_833
  let v1788 : BitVec 32 := Scalar.muli v1787 c1_i32_833
  let v1789 : BitVec 32 := Scalar.addi v467 v1788
  let c1_i32_835 : BitVec 32 := 1#32
  let arg15 : BitVec 32 := Scf.iv v1789 c1_i32_835 k0_t135
  let v1793 : Index := Scalar.indexCast arg15
  let c0_i32_837 : BitVec 32 := 0#32
  let c1_i32_838 : BitVec 32 := 1#32
  let arg16 : BitVec 32 := Scf.iv c0_i32_837 c1_i32_838 k0_t136
  let c16_i32 : BitVec 32 := 16#32
  let v1792 : BitVec 32 := Scalar.muli arg16 c16_i32
  let v1794 : Index := Scalar.indexCast v1792
  ![v1793.toNat, v1794.toNat]

def k0_chk30 (i : grid0.Coords) (v466 : BitVec 32) : Prop :=
  (∀ (k0_h62 : k0_cond62 i v466 = 1#1), (k0_t133_loop i v466).OK) ∧
  (∀ (k0_t133 : Fin (k0_t133_loop i v466).trips) (k0_t134 : Fin k0_t134_loop.trips), ∀ (k0_h62 : k0_cond62 i v466 = 1#1), ∀ a, (k0_off169 i v466 k0_t133 k0_t134) a + S1x16.size a ≤ S32x1024.size a) ∧
  (∀ (k0_h62 : k0_cond62 i v466 = 1#1), (k0_t135_loop i v466).OK) ∧
  (∀ (k0_t135 : Fin (k0_t135_loop i v466).trips) (k0_t136 : Fin k0_t136_loop.trips), ∀ (k0_h62 : k0_cond62 i v466 = 1#1), ∀ a, (k0_off170 i v466 k0_t135 k0_t136) a + S1x16.size a ≤ S32x1024.size a)
theorem k0_t133_ok : ∀ (i : grid0.Coords) (v466 : BitVec 32) (k0_hw30 : k0_chk30 i v466), ∀ (k0_h62 : k0_cond62 i v466 = 1#1), (k0_t133_loop i v466).OK := fun i v466 k0_hw30 k0_h62 => k0_hw30.1 k0_h62
theorem k0_off169_inb : ∀ (i : grid0.Coords) (v466 : BitVec 32) (k0_hw30 : k0_chk30 i v466) (k0_t133 : Fin (k0_t133_loop i v466).trips) (k0_t134 : Fin k0_t134_loop.trips), ∀ (k0_h62 : k0_cond62 i v466 = 1#1), ∀ a, (k0_off169 i v466 k0_t133 k0_t134) a + S1x16.size a ≤ S32x1024.size a := fun i v466 k0_hw30 k0_t133 k0_t134 k0_h62 => k0_hw30.2.1 k0_t133 k0_t134 k0_h62
theorem k0_t135_ok : ∀ (i : grid0.Coords) (v466 : BitVec 32) (k0_hw30 : k0_chk30 i v466), ∀ (k0_h62 : k0_cond62 i v466 = 1#1), (k0_t135_loop i v466).OK := fun i v466 k0_hw30 k0_h62 => k0_hw30.2.2.1 k0_h62
theorem k0_off170_inb : ∀ (i : grid0.Coords) (v466 : BitVec 32) (k0_hw30 : k0_chk30 i v466) (k0_t135 : Fin (k0_t135_loop i v466).trips) (k0_t136 : Fin k0_t136_loop.trips), ∀ (k0_h62 : k0_cond62 i v466 = 1#1), ∀ a, (k0_off170 i v466 k0_t135 k0_t136) a + S1x16.size a ≤ S32x1024.size a := fun i v466 k0_hw30 k0_t135 k0_t136 k0_h62 => k0_hw30.2.2.2 k0_t135 k0_t136 k0_h62

def k0_off171 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r76 : BitVec 32 := 0#32
  ![13, v358.toNat, 0]
def k0_off172 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r77 : BitVec 32 := 0#32
  ![v358.toNat, 0]
@[reducible] def k0_t137_loop (i : grid0.Coords) (v474 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v475 : BitVec 32 := Scalar.subi v474 v358
  let c32_i32_832 : BitVec 32 := 32#32
  let v1785 : BitVec 32 := Scalar.subi c32_i32_832 v475
  let c1_i32_833 : BitVec 32 := 1#32
  let v1787 : BitVec 32 := Scalar.divsi v1785 c1_i32_833
  let v1788 : BitVec 32 := Scalar.muli v1787 c1_i32_833
  let v1789 : BitVec 32 := Scalar.addi v475 v1788
  let c1_i32_834 : BitVec 32 := 1#32
  ⟨v475, v1789, c1_i32_834⟩
def k0_cond63 (i : grid0.Coords) (v474 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v475 : BitVec 32 := Scalar.subi v474 v358
  let c0_i32_250 : BitVec 32 := 0#32
  let v476 : BitVec 1 := Scalar.cmpi .sgt v475 c0_i32_250
  let c32_i32_251 : BitVec 32 := 32#32
  let v477 : BitVec 1 := Scalar.cmpi .slt v475 c32_i32_251
  let v478 : BitVec 1 := Scalar.andi v476 v477
  let v479 : BitVec 32 := Scalar.extui v478
  let c0_i32_252 : BitVec 32 := 0#32
  let v480 : BitVec 1 := Scalar.cmpi .ne v479 c0_i32_252
  v480

@[reducible] def k0_t138_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off173 (i : grid0.Coords) (v474 : BitVec 32) (k0_t137 : Fin (k0_t137_loop i v474).trips) (k0_t138 : Fin k0_t138_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v475 : BitVec 32 := Scalar.subi v474 v358
  let c1_i32_834 : BitVec 32 := 1#32
  let arg15 : BitVec 32 := Scf.iv v475 c1_i32_834 k0_t137
  let v1793 : Index := Scalar.indexCast arg15
  let c0_i32_837 : BitVec 32 := 0#32
  let c1_i32_838 : BitVec 32 := 1#32
  let arg16 : BitVec 32 := Scf.iv c0_i32_837 c1_i32_838 k0_t138
  let c16_i32 : BitVec 32 := 16#32
  let v1792 : BitVec 32 := Scalar.muli arg16 c16_i32
  let v1794 : Index := Scalar.indexCast v1792
  ![v1793.toNat, v1794.toNat]
@[reducible] def k0_t139_loop (i : grid0.Coords) (v474 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v475 : BitVec 32 := Scalar.subi v474 v358
  let c32_i32_832 : BitVec 32 := 32#32
  let v1785 : BitVec 32 := Scalar.subi c32_i32_832 v475
  let c1_i32_833 : BitVec 32 := 1#32
  let v1787 : BitVec 32 := Scalar.divsi v1785 c1_i32_833
  let v1788 : BitVec 32 := Scalar.muli v1787 c1_i32_833
  let v1789 : BitVec 32 := Scalar.addi v475 v1788
  let v1786 : BitVec 32 := Scalar.addi v475 v1785
  let c1_i32_835 : BitVec 32 := 1#32
  ⟨v1789, v1786, c1_i32_835⟩
@[reducible] def k0_t140_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off174 (i : grid0.Coords) (v474 : BitVec 32) (k0_t139 : Fin (k0_t139_loop i v474).trips) (k0_t140 : Fin k0_t140_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v475 : BitVec 32 := Scalar.subi v474 v358
  let c32_i32_832 : BitVec 32 := 32#32
  let v1785 : BitVec 32 := Scalar.subi c32_i32_832 v475
  let c1_i32_833 : BitVec 32 := 1#32
  let v1787 : BitVec 32 := Scalar.divsi v1785 c1_i32_833
  let v1788 : BitVec 32 := Scalar.muli v1787 c1_i32_833
  let v1789 : BitVec 32 := Scalar.addi v475 v1788
  let c1_i32_835 : BitVec 32 := 1#32
  let arg15 : BitVec 32 := Scf.iv v1789 c1_i32_835 k0_t139
  let v1793 : Index := Scalar.indexCast arg15
  let c0_i32_837 : BitVec 32 := 0#32
  let c1_i32_838 : BitVec 32 := 1#32
  let arg16 : BitVec 32 := Scf.iv c0_i32_837 c1_i32_838 k0_t140
  let c16_i32 : BitVec 32 := 16#32
  let v1792 : BitVec 32 := Scalar.muli arg16 c16_i32
  let v1794 : Index := Scalar.indexCast v1792
  ![v1793.toNat, v1794.toNat]

def k0_chk31 (i : grid0.Coords) (v474 : BitVec 32) : Prop :=
  (∀ (k0_h63 : k0_cond63 i v474 = 1#1), (k0_t137_loop i v474).OK) ∧
  (∀ (k0_t137 : Fin (k0_t137_loop i v474).trips) (k0_t138 : Fin k0_t138_loop.trips), ∀ (k0_h63 : k0_cond63 i v474 = 1#1), ∀ a, (k0_off173 i v474 k0_t137 k0_t138) a + S1x16.size a ≤ S32x1024.size a) ∧
  (∀ (k0_h63 : k0_cond63 i v474 = 1#1), (k0_t139_loop i v474).OK) ∧
  (∀ (k0_t139 : Fin (k0_t139_loop i v474).trips) (k0_t140 : Fin k0_t140_loop.trips), ∀ (k0_h63 : k0_cond63 i v474 = 1#1), ∀ a, (k0_off174 i v474 k0_t139 k0_t140) a + S1x16.size a ≤ S32x1024.size a)
theorem k0_t137_ok : ∀ (i : grid0.Coords) (v474 : BitVec 32) (k0_hw31 : k0_chk31 i v474), ∀ (k0_h63 : k0_cond63 i v474 = 1#1), (k0_t137_loop i v474).OK := fun i v474 k0_hw31 k0_h63 => k0_hw31.1 k0_h63
theorem k0_off173_inb : ∀ (i : grid0.Coords) (v474 : BitVec 32) (k0_hw31 : k0_chk31 i v474) (k0_t137 : Fin (k0_t137_loop i v474).trips) (k0_t138 : Fin k0_t138_loop.trips), ∀ (k0_h63 : k0_cond63 i v474 = 1#1), ∀ a, (k0_off173 i v474 k0_t137 k0_t138) a + S1x16.size a ≤ S32x1024.size a := fun i v474 k0_hw31 k0_t137 k0_t138 k0_h63 => k0_hw31.2.1 k0_t137 k0_t138 k0_h63
theorem k0_t139_ok : ∀ (i : grid0.Coords) (v474 : BitVec 32) (k0_hw31 : k0_chk31 i v474), ∀ (k0_h63 : k0_cond63 i v474 = 1#1), (k0_t139_loop i v474).OK := fun i v474 k0_hw31 k0_h63 => k0_hw31.2.2.1 k0_h63
theorem k0_off174_inb : ∀ (i : grid0.Coords) (v474 : BitVec 32) (k0_hw31 : k0_chk31 i v474) (k0_t139 : Fin (k0_t139_loop i v474).trips) (k0_t140 : Fin k0_t140_loop.trips), ∀ (k0_h63 : k0_cond63 i v474 = 1#1), ∀ a, (k0_off174 i v474 k0_t139 k0_t140) a + S1x16.size a ≤ S32x1024.size a := fun i v474 k0_hw31 k0_t139 k0_t140 k0_h63 => k0_hw31.2.2.2 k0_t139 k0_t140 k0_h63

def k0_off175 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r78 : BitVec 32 := 0#32
  ![14, v358.toNat, 0]
def k0_off176 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r79 : BitVec 32 := 0#32
  ![v358.toNat, 0]
@[reducible] def k0_t141_loop (i : grid0.Coords) (v482 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v483 : BitVec 32 := Scalar.subi v482 v358
  let c32_i32_832 : BitVec 32 := 32#32
  let v1785 : BitVec 32 := Scalar.subi c32_i32_832 v483
  let c1_i32_833 : BitVec 32 := 1#32
  let v1787 : BitVec 32 := Scalar.divsi v1785 c1_i32_833
  let v1788 : BitVec 32 := Scalar.muli v1787 c1_i32_833
  let v1789 : BitVec 32 := Scalar.addi v483 v1788
  let c1_i32_834 : BitVec 32 := 1#32
  ⟨v483, v1789, c1_i32_834⟩
def k0_cond64 (i : grid0.Coords) (v482 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v483 : BitVec 32 := Scalar.subi v482 v358
  let c0_i32_253 : BitVec 32 := 0#32
  let v484 : BitVec 1 := Scalar.cmpi .sgt v483 c0_i32_253
  let c32_i32_254 : BitVec 32 := 32#32
  let v485 : BitVec 1 := Scalar.cmpi .slt v483 c32_i32_254
  let v486 : BitVec 1 := Scalar.andi v484 v485
  let v487 : BitVec 32 := Scalar.extui v486
  let c0_i32_255 : BitVec 32 := 0#32
  let v488 : BitVec 1 := Scalar.cmpi .ne v487 c0_i32_255
  v488

@[reducible] def k0_t142_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off177 (i : grid0.Coords) (v482 : BitVec 32) (k0_t141 : Fin (k0_t141_loop i v482).trips) (k0_t142 : Fin k0_t142_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v483 : BitVec 32 := Scalar.subi v482 v358
  let c1_i32_834 : BitVec 32 := 1#32
  let arg15 : BitVec 32 := Scf.iv v483 c1_i32_834 k0_t141
  let v1793 : Index := Scalar.indexCast arg15
  let c0_i32_837 : BitVec 32 := 0#32
  let c1_i32_838 : BitVec 32 := 1#32
  let arg16 : BitVec 32 := Scf.iv c0_i32_837 c1_i32_838 k0_t142
  let c16_i32 : BitVec 32 := 16#32
  let v1792 : BitVec 32 := Scalar.muli arg16 c16_i32
  let v1794 : Index := Scalar.indexCast v1792
  ![v1793.toNat, v1794.toNat]
@[reducible] def k0_t143_loop (i : grid0.Coords) (v482 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v483 : BitVec 32 := Scalar.subi v482 v358
  let c32_i32_832 : BitVec 32 := 32#32
  let v1785 : BitVec 32 := Scalar.subi c32_i32_832 v483
  let c1_i32_833 : BitVec 32 := 1#32
  let v1787 : BitVec 32 := Scalar.divsi v1785 c1_i32_833
  let v1788 : BitVec 32 := Scalar.muli v1787 c1_i32_833
  let v1789 : BitVec 32 := Scalar.addi v483 v1788
  let v1786 : BitVec 32 := Scalar.addi v483 v1785
  let c1_i32_835 : BitVec 32 := 1#32
  ⟨v1789, v1786, c1_i32_835⟩
@[reducible] def k0_t144_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off178 (i : grid0.Coords) (v482 : BitVec 32) (k0_t143 : Fin (k0_t143_loop i v482).trips) (k0_t144 : Fin k0_t144_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let v483 : BitVec 32 := Scalar.subi v482 v358
  let c32_i32_832 : BitVec 32 := 32#32
  let v1785 : BitVec 32 := Scalar.subi c32_i32_832 v483
  let c1_i32_833 : BitVec 32 := 1#32
  let v1787 : BitVec 32 := Scalar.divsi v1785 c1_i32_833
  let v1788 : BitVec 32 := Scalar.muli v1787 c1_i32_833
  let v1789 : BitVec 32 := Scalar.addi v483 v1788
  let c1_i32_835 : BitVec 32 := 1#32
  let arg15 : BitVec 32 := Scf.iv v1789 c1_i32_835 k0_t143
  let v1793 : Index := Scalar.indexCast arg15
  let c0_i32_837 : BitVec 32 := 0#32
  let c1_i32_838 : BitVec 32 := 1#32
  let arg16 : BitVec 32 := Scf.iv c0_i32_837 c1_i32_838 k0_t144
  let c16_i32 : BitVec 32 := 16#32
  let v1792 : BitVec 32 := Scalar.muli arg16 c16_i32
  let v1794 : Index := Scalar.indexCast v1792
  ![v1793.toNat, v1794.toNat]

def k0_chk32 (i : grid0.Coords) (v482 : BitVec 32) : Prop :=
  (∀ (k0_h64 : k0_cond64 i v482 = 1#1), (k0_t141_loop i v482).OK) ∧
  (∀ (k0_t141 : Fin (k0_t141_loop i v482).trips) (k0_t142 : Fin k0_t142_loop.trips), ∀ (k0_h64 : k0_cond64 i v482 = 1#1), ∀ a, (k0_off177 i v482 k0_t141 k0_t142) a + S1x16.size a ≤ S32x1024.size a) ∧
  (∀ (k0_h64 : k0_cond64 i v482 = 1#1), (k0_t143_loop i v482).OK) ∧
  (∀ (k0_t143 : Fin (k0_t143_loop i v482).trips) (k0_t144 : Fin k0_t144_loop.trips), ∀ (k0_h64 : k0_cond64 i v482 = 1#1), ∀ a, (k0_off178 i v482 k0_t143 k0_t144) a + S1x16.size a ≤ S32x1024.size a)
theorem k0_t141_ok : ∀ (i : grid0.Coords) (v482 : BitVec 32) (k0_hw32 : k0_chk32 i v482), ∀ (k0_h64 : k0_cond64 i v482 = 1#1), (k0_t141_loop i v482).OK := fun i v482 k0_hw32 k0_h64 => k0_hw32.1 k0_h64
theorem k0_off177_inb : ∀ (i : grid0.Coords) (v482 : BitVec 32) (k0_hw32 : k0_chk32 i v482) (k0_t141 : Fin (k0_t141_loop i v482).trips) (k0_t142 : Fin k0_t142_loop.trips), ∀ (k0_h64 : k0_cond64 i v482 = 1#1), ∀ a, (k0_off177 i v482 k0_t141 k0_t142) a + S1x16.size a ≤ S32x1024.size a := fun i v482 k0_hw32 k0_t141 k0_t142 k0_h64 => k0_hw32.2.1 k0_t141 k0_t142 k0_h64
theorem k0_t143_ok : ∀ (i : grid0.Coords) (v482 : BitVec 32) (k0_hw32 : k0_chk32 i v482), ∀ (k0_h64 : k0_cond64 i v482 = 1#1), (k0_t143_loop i v482).OK := fun i v482 k0_hw32 k0_h64 => k0_hw32.2.2.1 k0_h64
theorem k0_off178_inb : ∀ (i : grid0.Coords) (v482 : BitVec 32) (k0_hw32 : k0_chk32 i v482) (k0_t143 : Fin (k0_t143_loop i v482).trips) (k0_t144 : Fin k0_t144_loop.trips), ∀ (k0_h64 : k0_cond64 i v482 = 1#1), ∀ a, (k0_off178 i v482 k0_t143 k0_t144) a + S1x16.size a ≤ S32x1024.size a := fun i v482 k0_hw32 k0_t143 k0_t144 k0_h64 => k0_hw32.2.2.2 k0_t143 k0_t144 k0_h64

def k0_off179 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r80 : BitVec 32 := 0#32
  ![15, v358.toNat, 0]
def k0_off180 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_836_r81 : BitVec 32 := 0#32
  ![v358.toNat, 0]
def k0_off181 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![0, v491.toNat, 0]
def k0_off182 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![0, v491.toNat, 0]
def k0_off183 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![1, v491.toNat, 0]
def k0_off184 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![1, v491.toNat, 0]
def k0_off185 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![2, v491.toNat, 0]
def k0_off186 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![2, v491.toNat, 0]
def k0_off187 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![3, v491.toNat, 0]
def k0_off188 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![3, v491.toNat, 0]
def k0_off189 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![4, v491.toNat, 0]
def k0_off190 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![4, v491.toNat, 0]
def k0_off191 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![5, v491.toNat, 0]
def k0_off192 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![5, v491.toNat, 0]
def k0_off193 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![6, v491.toNat, 0]
def k0_off194 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![6, v491.toNat, 0]
def k0_off195 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![7, v491.toNat, 0]
def k0_off196 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![7, v491.toNat, 0]
def k0_off197 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![8, v491.toNat, 0]
def k0_off198 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_832 : BitVec 32 := 0#32
  ![8, v491.toNat, 0]
def k0_off199 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![9, v491.toNat, 0]
def k0_off200 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![9, v491.toNat, 0]
def k0_off201 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![10, v491.toNat, 0]
def k0_off202 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![10, v491.toNat, 0]
def k0_off203 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![11, v491.toNat, 0]
def k0_off204 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![11, v491.toNat, 0]
def k0_off205 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![12, v491.toNat, 0]
def k0_off206 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![12, v491.toNat, 0]
def k0_off207 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![13, v491.toNat, 0]
def k0_off208 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![13, v491.toNat, 0]
def k0_off209 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![14, v491.toNat, 0]
def k0_off210 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![14, v491.toNat, 0]
def k0_off211 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![15, v491.toNat, 0]
def k0_off212 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_256 : BitVec 32 := 4#32
  let v489 : BitVec 32 := Scalar.muli v1 c4_i32_256
  let c0_i32_257 : BitVec 32 := 0#32
  let v490 : BitVec 32 := Scalar.addi v489 c0_i32_257
  let c32_i32_258 : BitVec 32 := 32#32
  let v491 : BitVec 32 := Scalar.muli v490 c32_i32_258
  let c0_i32_831 : BitVec 32 := 0#32
  ![15, v491.toNat, 0]
def k0_off213 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_323 : BitVec 32 := 4#32
  let v636 : BitVec 32 := Scalar.muli v1 c4_i32_323
  let c2_i32_324 : BitVec 32 := 2#32
  let v637 : BitVec 32 := Scalar.addi v636 c2_i32_324
  let c32_i32_325 : BitVec 32 := 32#32
  let v638 : BitVec 32 := Scalar.muli v637 c32_i32_325
  let c0_i32_326 : BitVec 32 := 0#32
  ![v638.toNat, 0]
def k0_off214 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![0, v358.toNat, 0]
def k0_off215 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![0, v358.toNat, 0]
def k0_off216 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![1, v358.toNat, 0]
def k0_off217 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![1, v358.toNat, 0]
def k0_off218 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![2, v358.toNat, 0]
def k0_off219 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![2, v358.toNat, 0]
def k0_off220 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![3, v358.toNat, 0]
def k0_off221 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![3, v358.toNat, 0]
def k0_off222 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![4, v358.toNat, 0]
def k0_off223 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![4, v358.toNat, 0]
def k0_off224 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![5, v358.toNat, 0]
def k0_off225 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![5, v358.toNat, 0]
def k0_off226 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![6, v358.toNat, 0]
def k0_off227 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![6, v358.toNat, 0]
def k0_off228 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![7, v358.toNat, 0]
def k0_off229 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![7, v358.toNat, 0]
def k0_off230 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![8, v358.toNat, 0]
def k0_off231 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_832 : BitVec 32 := 0#32
  ![8, v358.toNat, 0]
def k0_off232 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![9, v358.toNat, 0]
def k0_off233 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![9, v358.toNat, 0]
def k0_off234 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![10, v358.toNat, 0]
def k0_off235 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![10, v358.toNat, 0]
def k0_off236 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![11, v358.toNat, 0]
def k0_off237 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![11, v358.toNat, 0]
def k0_off238 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![12, v358.toNat, 0]
def k0_off239 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![12, v358.toNat, 0]
def k0_off240 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![13, v358.toNat, 0]
def k0_off241 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![13, v358.toNat, 0]
def k0_off242 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![14, v358.toNat, 0]
def k0_off243 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![14, v358.toNat, 0]
def k0_off244 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![15, v358.toNat, 0]
def k0_off245 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_203 : BitVec 32 := 4#32
  let v356 : BitVec 32 := Scalar.muli v1 c4_i32_203
  let c1_i32_204 : BitVec 32 := 1#32
  let v357 : BitVec 32 := Scalar.addi v356 c1_i32_204
  let c32_i32_205 : BitVec 32 := 32#32
  let v358 : BitVec 32 := Scalar.muli v357 c32_i32_205
  let c0_i32_831 : BitVec 32 := 0#32
  ![15, v358.toNat, 0]
def k0_off246 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_395 : BitVec 32 := 0#32
  ![v787.toNat, 0]
@[reducible] def k0_t145_loop (i : grid0.Coords) (v791 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v792 : BitVec 32 := Scalar.subi v791 v787
  let c32_i32_832 : BitVec 32 := 32#32
  let v1785 : BitVec 32 := Scalar.subi c32_i32_832 v792
  let c1_i32_833 : BitVec 32 := 1#32
  let v1787 : BitVec 32 := Scalar.divsi v1785 c1_i32_833
  let v1788 : BitVec 32 := Scalar.muli v1787 c1_i32_833
  let v1789 : BitVec 32 := Scalar.addi v792 v1788
  let c1_i32_834 : BitVec 32 := 1#32
  ⟨v792, v1789, c1_i32_834⟩
def k0_cond129 (i : grid0.Coords) (v791 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v792 : BitVec 32 := Scalar.subi v791 v787
  let c0_i32_397 : BitVec 32 := 0#32
  let v793 : BitVec 1 := Scalar.cmpi .sgt v792 c0_i32_397
  let c32_i32_398 : BitVec 32 := 32#32
  let v794 : BitVec 1 := Scalar.cmpi .slt v792 c32_i32_398
  let v795 : BitVec 1 := Scalar.andi v793 v794
  let v796 : BitVec 32 := Scalar.extui v795
  let c0_i32_399 : BitVec 32 := 0#32
  let v797 : BitVec 1 := Scalar.cmpi .ne v796 c0_i32_399
  v797

@[reducible] def k0_t146_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off247 (i : grid0.Coords) (v791 : BitVec 32) (k0_t145 : Fin (k0_t145_loop i v791).trips) (k0_t146 : Fin k0_t146_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v792 : BitVec 32 := Scalar.subi v791 v787
  let c1_i32_834 : BitVec 32 := 1#32
  let arg15 : BitVec 32 := Scf.iv v792 c1_i32_834 k0_t145
  let v1793 : Index := Scalar.indexCast arg15
  let c0_i32_838 : BitVec 32 := 0#32
  let c1_i32_839 : BitVec 32 := 1#32
  let arg16 : BitVec 32 := Scf.iv c0_i32_838 c1_i32_839 k0_t146
  let c16_i32 : BitVec 32 := 16#32
  let v1792 : BitVec 32 := Scalar.muli arg16 c16_i32
  let v1794 : Index := Scalar.indexCast v1792
  ![v1793.toNat, v1794.toNat]
@[reducible] def k0_t147_loop (i : grid0.Coords) (v791 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v792 : BitVec 32 := Scalar.subi v791 v787
  let c32_i32_832 : BitVec 32 := 32#32
  let v1785 : BitVec 32 := Scalar.subi c32_i32_832 v792
  let c1_i32_833 : BitVec 32 := 1#32
  let v1787 : BitVec 32 := Scalar.divsi v1785 c1_i32_833
  let v1788 : BitVec 32 := Scalar.muli v1787 c1_i32_833
  let v1789 : BitVec 32 := Scalar.addi v792 v1788
  let v1786 : BitVec 32 := Scalar.addi v792 v1785
  let c1_i32_835 : BitVec 32 := 1#32
  ⟨v1789, v1786, c1_i32_835⟩
@[reducible] def k0_t148_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off248 (i : grid0.Coords) (v791 : BitVec 32) (k0_t147 : Fin (k0_t147_loop i v791).trips) (k0_t148 : Fin k0_t148_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v792 : BitVec 32 := Scalar.subi v791 v787
  let c32_i32_832 : BitVec 32 := 32#32
  let v1785 : BitVec 32 := Scalar.subi c32_i32_832 v792
  let c1_i32_833 : BitVec 32 := 1#32
  let v1787 : BitVec 32 := Scalar.divsi v1785 c1_i32_833
  let v1788 : BitVec 32 := Scalar.muli v1787 c1_i32_833
  let v1789 : BitVec 32 := Scalar.addi v792 v1788
  let c1_i32_835 : BitVec 32 := 1#32
  let arg15 : BitVec 32 := Scf.iv v1789 c1_i32_835 k0_t147
  let v1793 : Index := Scalar.indexCast arg15
  let c0_i32_838 : BitVec 32 := 0#32
  let c1_i32_839 : BitVec 32 := 1#32
  let arg16 : BitVec 32 := Scf.iv c0_i32_838 c1_i32_839 k0_t148
  let c16_i32 : BitVec 32 := 16#32
  let v1792 : BitVec 32 := Scalar.muli arg16 c16_i32
  let v1794 : Index := Scalar.indexCast v1792
  ![v1793.toNat, v1794.toNat]

def k0_chk33 (i : grid0.Coords) (v791 : BitVec 32) : Prop :=
  (∀ (k0_h129 : k0_cond129 i v791 = 1#1), (k0_t145_loop i v791).OK) ∧
  (∀ (k0_t145 : Fin (k0_t145_loop i v791).trips) (k0_t146 : Fin k0_t146_loop.trips), ∀ (k0_h129 : k0_cond129 i v791 = 1#1), ∀ a, (k0_off247 i v791 k0_t145 k0_t146) a + S1x16.size a ≤ S32x1024.size a) ∧
  (∀ (k0_h129 : k0_cond129 i v791 = 1#1), (k0_t147_loop i v791).OK) ∧
  (∀ (k0_t147 : Fin (k0_t147_loop i v791).trips) (k0_t148 : Fin k0_t148_loop.trips), ∀ (k0_h129 : k0_cond129 i v791 = 1#1), ∀ a, (k0_off248 i v791 k0_t147 k0_t148) a + S1x16.size a ≤ S32x1024.size a)
theorem k0_t145_ok : ∀ (i : grid0.Coords) (v791 : BitVec 32) (k0_hw33 : k0_chk33 i v791), ∀ (k0_h129 : k0_cond129 i v791 = 1#1), (k0_t145_loop i v791).OK := fun i v791 k0_hw33 k0_h129 => k0_hw33.1 k0_h129
theorem k0_off247_inb : ∀ (i : grid0.Coords) (v791 : BitVec 32) (k0_hw33 : k0_chk33 i v791) (k0_t145 : Fin (k0_t145_loop i v791).trips) (k0_t146 : Fin k0_t146_loop.trips), ∀ (k0_h129 : k0_cond129 i v791 = 1#1), ∀ a, (k0_off247 i v791 k0_t145 k0_t146) a + S1x16.size a ≤ S32x1024.size a := fun i v791 k0_hw33 k0_t145 k0_t146 k0_h129 => k0_hw33.2.1 k0_t145 k0_t146 k0_h129
theorem k0_t147_ok : ∀ (i : grid0.Coords) (v791 : BitVec 32) (k0_hw33 : k0_chk33 i v791), ∀ (k0_h129 : k0_cond129 i v791 = 1#1), (k0_t147_loop i v791).OK := fun i v791 k0_hw33 k0_h129 => k0_hw33.2.2.1 k0_h129
theorem k0_off248_inb : ∀ (i : grid0.Coords) (v791 : BitVec 32) (k0_hw33 : k0_chk33 i v791) (k0_t147 : Fin (k0_t147_loop i v791).trips) (k0_t148 : Fin k0_t148_loop.trips), ∀ (k0_h129 : k0_cond129 i v791 = 1#1), ∀ a, (k0_off248 i v791 k0_t147 k0_t148) a + S1x16.size a ≤ S32x1024.size a := fun i v791 k0_hw33 k0_t147 k0_t148 k0_h129 => k0_hw33.2.2.2 k0_t147 k0_t148 k0_h129

def k0_off249 (i : grid0.Coords) : Fin 3 → Nat :=
  let c0_i32_836 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r82 : BitVec 32 := 0#32
  ![0, v787.toNat, 0]
def k0_off250 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r83 : BitVec 32 := 0#32
  ![v787.toNat, 0]
@[reducible] def k0_t149_loop (i : grid0.Coords) (v799 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v800 : BitVec 32 := Scalar.subi v799 v787
  let c32_i32_832 : BitVec 32 := 32#32
  let v1785 : BitVec 32 := Scalar.subi c32_i32_832 v800
  let c1_i32_833 : BitVec 32 := 1#32
  let v1787 : BitVec 32 := Scalar.divsi v1785 c1_i32_833
  let v1788 : BitVec 32 := Scalar.muli v1787 c1_i32_833
  let v1789 : BitVec 32 := Scalar.addi v800 v1788
  let c1_i32_834 : BitVec 32 := 1#32
  ⟨v800, v1789, c1_i32_834⟩
def k0_cond130 (i : grid0.Coords) (v799 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v800 : BitVec 32 := Scalar.subi v799 v787
  let c0_i32_400 : BitVec 32 := 0#32
  let v801 : BitVec 1 := Scalar.cmpi .sgt v800 c0_i32_400
  let c32_i32_401 : BitVec 32 := 32#32
  let v802 : BitVec 1 := Scalar.cmpi .slt v800 c32_i32_401
  let v803 : BitVec 1 := Scalar.andi v801 v802
  let v804 : BitVec 32 := Scalar.extui v803
  let c0_i32_402 : BitVec 32 := 0#32
  let v805 : BitVec 1 := Scalar.cmpi .ne v804 c0_i32_402
  v805

@[reducible] def k0_t150_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off251 (i : grid0.Coords) (v799 : BitVec 32) (k0_t149 : Fin (k0_t149_loop i v799).trips) (k0_t150 : Fin k0_t150_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v800 : BitVec 32 := Scalar.subi v799 v787
  let c1_i32_834 : BitVec 32 := 1#32
  let arg15 : BitVec 32 := Scf.iv v800 c1_i32_834 k0_t149
  let v1793 : Index := Scalar.indexCast arg15
  let c0_i32_838 : BitVec 32 := 0#32
  let c1_i32_839 : BitVec 32 := 1#32
  let arg16 : BitVec 32 := Scf.iv c0_i32_838 c1_i32_839 k0_t150
  let c16_i32 : BitVec 32 := 16#32
  let v1792 : BitVec 32 := Scalar.muli arg16 c16_i32
  let v1794 : Index := Scalar.indexCast v1792
  ![v1793.toNat, v1794.toNat]
@[reducible] def k0_t151_loop (i : grid0.Coords) (v799 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v800 : BitVec 32 := Scalar.subi v799 v787
  let c32_i32_832 : BitVec 32 := 32#32
  let v1785 : BitVec 32 := Scalar.subi c32_i32_832 v800
  let c1_i32_833 : BitVec 32 := 1#32
  let v1787 : BitVec 32 := Scalar.divsi v1785 c1_i32_833
  let v1788 : BitVec 32 := Scalar.muli v1787 c1_i32_833
  let v1789 : BitVec 32 := Scalar.addi v800 v1788
  let v1786 : BitVec 32 := Scalar.addi v800 v1785
  let c1_i32_835 : BitVec 32 := 1#32
  ⟨v1789, v1786, c1_i32_835⟩
@[reducible] def k0_t152_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off252 (i : grid0.Coords) (v799 : BitVec 32) (k0_t151 : Fin (k0_t151_loop i v799).trips) (k0_t152 : Fin k0_t152_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v800 : BitVec 32 := Scalar.subi v799 v787
  let c32_i32_832 : BitVec 32 := 32#32
  let v1785 : BitVec 32 := Scalar.subi c32_i32_832 v800
  let c1_i32_833 : BitVec 32 := 1#32
  let v1787 : BitVec 32 := Scalar.divsi v1785 c1_i32_833
  let v1788 : BitVec 32 := Scalar.muli v1787 c1_i32_833
  let v1789 : BitVec 32 := Scalar.addi v800 v1788
  let c1_i32_835 : BitVec 32 := 1#32
  let arg15 : BitVec 32 := Scf.iv v1789 c1_i32_835 k0_t151
  let v1793 : Index := Scalar.indexCast arg15
  let c0_i32_838 : BitVec 32 := 0#32
  let c1_i32_839 : BitVec 32 := 1#32
  let arg16 : BitVec 32 := Scf.iv c0_i32_838 c1_i32_839 k0_t152
  let c16_i32 : BitVec 32 := 16#32
  let v1792 : BitVec 32 := Scalar.muli arg16 c16_i32
  let v1794 : Index := Scalar.indexCast v1792
  ![v1793.toNat, v1794.toNat]

def k0_chk34 (i : grid0.Coords) (v799 : BitVec 32) : Prop :=
  (∀ (k0_h130 : k0_cond130 i v799 = 1#1), (k0_t149_loop i v799).OK) ∧
  (∀ (k0_t149 : Fin (k0_t149_loop i v799).trips) (k0_t150 : Fin k0_t150_loop.trips), ∀ (k0_h130 : k0_cond130 i v799 = 1#1), ∀ a, (k0_off251 i v799 k0_t149 k0_t150) a + S1x16.size a ≤ S32x1024.size a) ∧
  (∀ (k0_h130 : k0_cond130 i v799 = 1#1), (k0_t151_loop i v799).OK) ∧
  (∀ (k0_t151 : Fin (k0_t151_loop i v799).trips) (k0_t152 : Fin k0_t152_loop.trips), ∀ (k0_h130 : k0_cond130 i v799 = 1#1), ∀ a, (k0_off252 i v799 k0_t151 k0_t152) a + S1x16.size a ≤ S32x1024.size a)
theorem k0_t149_ok : ∀ (i : grid0.Coords) (v799 : BitVec 32) (k0_hw34 : k0_chk34 i v799), ∀ (k0_h130 : k0_cond130 i v799 = 1#1), (k0_t149_loop i v799).OK := fun i v799 k0_hw34 k0_h130 => k0_hw34.1 k0_h130
theorem k0_off251_inb : ∀ (i : grid0.Coords) (v799 : BitVec 32) (k0_hw34 : k0_chk34 i v799) (k0_t149 : Fin (k0_t149_loop i v799).trips) (k0_t150 : Fin k0_t150_loop.trips), ∀ (k0_h130 : k0_cond130 i v799 = 1#1), ∀ a, (k0_off251 i v799 k0_t149 k0_t150) a + S1x16.size a ≤ S32x1024.size a := fun i v799 k0_hw34 k0_t149 k0_t150 k0_h130 => k0_hw34.2.1 k0_t149 k0_t150 k0_h130
theorem k0_t151_ok : ∀ (i : grid0.Coords) (v799 : BitVec 32) (k0_hw34 : k0_chk34 i v799), ∀ (k0_h130 : k0_cond130 i v799 = 1#1), (k0_t151_loop i v799).OK := fun i v799 k0_hw34 k0_h130 => k0_hw34.2.2.1 k0_h130
theorem k0_off252_inb : ∀ (i : grid0.Coords) (v799 : BitVec 32) (k0_hw34 : k0_chk34 i v799) (k0_t151 : Fin (k0_t151_loop i v799).trips) (k0_t152 : Fin k0_t152_loop.trips), ∀ (k0_h130 : k0_cond130 i v799 = 1#1), ∀ a, (k0_off252 i v799 k0_t151 k0_t152) a + S1x16.size a ≤ S32x1024.size a := fun i v799 k0_hw34 k0_t151 k0_t152 k0_h130 => k0_hw34.2.2.2 k0_t151 k0_t152 k0_h130

def k0_off253 (i : grid0.Coords) : Fin 3 → Nat :=
  let c1_i32_836 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r84 : BitVec 32 := 0#32
  ![1, v787.toNat, 0]
def k0_off254 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r85 : BitVec 32 := 0#32
  ![v787.toNat, 0]
@[reducible] def k0_t153_loop (i : grid0.Coords) (v807 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v808 : BitVec 32 := Scalar.subi v807 v787
  let c32_i32_832 : BitVec 32 := 32#32
  let v1785 : BitVec 32 := Scalar.subi c32_i32_832 v808
  let c1_i32_833 : BitVec 32 := 1#32
  let v1787 : BitVec 32 := Scalar.divsi v1785 c1_i32_833
  let v1788 : BitVec 32 := Scalar.muli v1787 c1_i32_833
  let v1789 : BitVec 32 := Scalar.addi v808 v1788
  let c1_i32_834 : BitVec 32 := 1#32
  ⟨v808, v1789, c1_i32_834⟩
def k0_cond131 (i : grid0.Coords) (v807 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v808 : BitVec 32 := Scalar.subi v807 v787
  let c0_i32_403 : BitVec 32 := 0#32
  let v809 : BitVec 1 := Scalar.cmpi .sgt v808 c0_i32_403
  let c32_i32_404 : BitVec 32 := 32#32
  let v810 : BitVec 1 := Scalar.cmpi .slt v808 c32_i32_404
  let v811 : BitVec 1 := Scalar.andi v809 v810
  let v812 : BitVec 32 := Scalar.extui v811
  let c0_i32_405 : BitVec 32 := 0#32
  let v813 : BitVec 1 := Scalar.cmpi .ne v812 c0_i32_405
  v813

@[reducible] def k0_t154_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off255 (i : grid0.Coords) (v807 : BitVec 32) (k0_t153 : Fin (k0_t153_loop i v807).trips) (k0_t154 : Fin k0_t154_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v808 : BitVec 32 := Scalar.subi v807 v787
  let c1_i32_834 : BitVec 32 := 1#32
  let arg15 : BitVec 32 := Scf.iv v808 c1_i32_834 k0_t153
  let v1793 : Index := Scalar.indexCast arg15
  let c0_i32_838 : BitVec 32 := 0#32
  let c1_i32_839 : BitVec 32 := 1#32
  let arg16 : BitVec 32 := Scf.iv c0_i32_838 c1_i32_839 k0_t154
  let c16_i32 : BitVec 32 := 16#32
  let v1792 : BitVec 32 := Scalar.muli arg16 c16_i32
  let v1794 : Index := Scalar.indexCast v1792
  ![v1793.toNat, v1794.toNat]
@[reducible] def k0_t155_loop (i : grid0.Coords) (v807 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v808 : BitVec 32 := Scalar.subi v807 v787
  let c32_i32_832 : BitVec 32 := 32#32
  let v1785 : BitVec 32 := Scalar.subi c32_i32_832 v808
  let c1_i32_833 : BitVec 32 := 1#32
  let v1787 : BitVec 32 := Scalar.divsi v1785 c1_i32_833
  let v1788 : BitVec 32 := Scalar.muli v1787 c1_i32_833
  let v1789 : BitVec 32 := Scalar.addi v808 v1788
  let v1786 : BitVec 32 := Scalar.addi v808 v1785
  let c1_i32_835 : BitVec 32 := 1#32
  ⟨v1789, v1786, c1_i32_835⟩
@[reducible] def k0_t156_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off256 (i : grid0.Coords) (v807 : BitVec 32) (k0_t155 : Fin (k0_t155_loop i v807).trips) (k0_t156 : Fin k0_t156_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v808 : BitVec 32 := Scalar.subi v807 v787
  let c32_i32_832 : BitVec 32 := 32#32
  let v1785 : BitVec 32 := Scalar.subi c32_i32_832 v808
  let c1_i32_833 : BitVec 32 := 1#32
  let v1787 : BitVec 32 := Scalar.divsi v1785 c1_i32_833
  let v1788 : BitVec 32 := Scalar.muli v1787 c1_i32_833
  let v1789 : BitVec 32 := Scalar.addi v808 v1788
  let c1_i32_835 : BitVec 32 := 1#32
  let arg15 : BitVec 32 := Scf.iv v1789 c1_i32_835 k0_t155
  let v1793 : Index := Scalar.indexCast arg15
  let c0_i32_838 : BitVec 32 := 0#32
  let c1_i32_839 : BitVec 32 := 1#32
  let arg16 : BitVec 32 := Scf.iv c0_i32_838 c1_i32_839 k0_t156
  let c16_i32 : BitVec 32 := 16#32
  let v1792 : BitVec 32 := Scalar.muli arg16 c16_i32
  let v1794 : Index := Scalar.indexCast v1792
  ![v1793.toNat, v1794.toNat]

def k0_chk35 (i : grid0.Coords) (v807 : BitVec 32) : Prop :=
  (∀ (k0_h131 : k0_cond131 i v807 = 1#1), (k0_t153_loop i v807).OK) ∧
  (∀ (k0_t153 : Fin (k0_t153_loop i v807).trips) (k0_t154 : Fin k0_t154_loop.trips), ∀ (k0_h131 : k0_cond131 i v807 = 1#1), ∀ a, (k0_off255 i v807 k0_t153 k0_t154) a + S1x16.size a ≤ S32x1024.size a) ∧
  (∀ (k0_h131 : k0_cond131 i v807 = 1#1), (k0_t155_loop i v807).OK) ∧
  (∀ (k0_t155 : Fin (k0_t155_loop i v807).trips) (k0_t156 : Fin k0_t156_loop.trips), ∀ (k0_h131 : k0_cond131 i v807 = 1#1), ∀ a, (k0_off256 i v807 k0_t155 k0_t156) a + S1x16.size a ≤ S32x1024.size a)
theorem k0_t153_ok : ∀ (i : grid0.Coords) (v807 : BitVec 32) (k0_hw35 : k0_chk35 i v807), ∀ (k0_h131 : k0_cond131 i v807 = 1#1), (k0_t153_loop i v807).OK := fun i v807 k0_hw35 k0_h131 => k0_hw35.1 k0_h131
theorem k0_off255_inb : ∀ (i : grid0.Coords) (v807 : BitVec 32) (k0_hw35 : k0_chk35 i v807) (k0_t153 : Fin (k0_t153_loop i v807).trips) (k0_t154 : Fin k0_t154_loop.trips), ∀ (k0_h131 : k0_cond131 i v807 = 1#1), ∀ a, (k0_off255 i v807 k0_t153 k0_t154) a + S1x16.size a ≤ S32x1024.size a := fun i v807 k0_hw35 k0_t153 k0_t154 k0_h131 => k0_hw35.2.1 k0_t153 k0_t154 k0_h131
theorem k0_t155_ok : ∀ (i : grid0.Coords) (v807 : BitVec 32) (k0_hw35 : k0_chk35 i v807), ∀ (k0_h131 : k0_cond131 i v807 = 1#1), (k0_t155_loop i v807).OK := fun i v807 k0_hw35 k0_h131 => k0_hw35.2.2.1 k0_h131
theorem k0_off256_inb : ∀ (i : grid0.Coords) (v807 : BitVec 32) (k0_hw35 : k0_chk35 i v807) (k0_t155 : Fin (k0_t155_loop i v807).trips) (k0_t156 : Fin k0_t156_loop.trips), ∀ (k0_h131 : k0_cond131 i v807 = 1#1), ∀ a, (k0_off256 i v807 k0_t155 k0_t156) a + S1x16.size a ≤ S32x1024.size a := fun i v807 k0_hw35 k0_t155 k0_t156 k0_h131 => k0_hw35.2.2.2 k0_t155 k0_t156 k0_h131

def k0_off257 (i : grid0.Coords) : Fin 3 → Nat :=
  let c2_i32_836 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r86 : BitVec 32 := 0#32
  ![2, v787.toNat, 0]
def k0_off258 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r87 : BitVec 32 := 0#32
  ![v787.toNat, 0]
@[reducible] def k0_t157_loop (i : grid0.Coords) (v815 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v816 : BitVec 32 := Scalar.subi v815 v787
  let c32_i32_832 : BitVec 32 := 32#32
  let v1785 : BitVec 32 := Scalar.subi c32_i32_832 v816
  let c1_i32_833 : BitVec 32 := 1#32
  let v1787 : BitVec 32 := Scalar.divsi v1785 c1_i32_833
  let v1788 : BitVec 32 := Scalar.muli v1787 c1_i32_833
  let v1789 : BitVec 32 := Scalar.addi v816 v1788
  let c1_i32_834 : BitVec 32 := 1#32
  ⟨v816, v1789, c1_i32_834⟩
def k0_cond132 (i : grid0.Coords) (v815 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v816 : BitVec 32 := Scalar.subi v815 v787
  let c0_i32_406 : BitVec 32 := 0#32
  let v817 : BitVec 1 := Scalar.cmpi .sgt v816 c0_i32_406
  let c32_i32_407 : BitVec 32 := 32#32
  let v818 : BitVec 1 := Scalar.cmpi .slt v816 c32_i32_407
  let v819 : BitVec 1 := Scalar.andi v817 v818
  let v820 : BitVec 32 := Scalar.extui v819
  let c0_i32_408 : BitVec 32 := 0#32
  let v821 : BitVec 1 := Scalar.cmpi .ne v820 c0_i32_408
  v821

@[reducible] def k0_t158_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off259 (i : grid0.Coords) (v815 : BitVec 32) (k0_t157 : Fin (k0_t157_loop i v815).trips) (k0_t158 : Fin k0_t158_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v816 : BitVec 32 := Scalar.subi v815 v787
  let c1_i32_834 : BitVec 32 := 1#32
  let arg15 : BitVec 32 := Scf.iv v816 c1_i32_834 k0_t157
  let v1793 : Index := Scalar.indexCast arg15
  let c0_i32_838 : BitVec 32 := 0#32
  let c1_i32_839 : BitVec 32 := 1#32
  let arg16 : BitVec 32 := Scf.iv c0_i32_838 c1_i32_839 k0_t158
  let c16_i32 : BitVec 32 := 16#32
  let v1792 : BitVec 32 := Scalar.muli arg16 c16_i32
  let v1794 : Index := Scalar.indexCast v1792
  ![v1793.toNat, v1794.toNat]
@[reducible] def k0_t159_loop (i : grid0.Coords) (v815 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v816 : BitVec 32 := Scalar.subi v815 v787
  let c32_i32_832 : BitVec 32 := 32#32
  let v1785 : BitVec 32 := Scalar.subi c32_i32_832 v816
  let c1_i32_833 : BitVec 32 := 1#32
  let v1787 : BitVec 32 := Scalar.divsi v1785 c1_i32_833
  let v1788 : BitVec 32 := Scalar.muli v1787 c1_i32_833
  let v1789 : BitVec 32 := Scalar.addi v816 v1788
  let v1786 : BitVec 32 := Scalar.addi v816 v1785
  let c1_i32_835 : BitVec 32 := 1#32
  ⟨v1789, v1786, c1_i32_835⟩
@[reducible] def k0_t160_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off260 (i : grid0.Coords) (v815 : BitVec 32) (k0_t159 : Fin (k0_t159_loop i v815).trips) (k0_t160 : Fin k0_t160_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v816 : BitVec 32 := Scalar.subi v815 v787
  let c32_i32_832 : BitVec 32 := 32#32
  let v1785 : BitVec 32 := Scalar.subi c32_i32_832 v816
  let c1_i32_833 : BitVec 32 := 1#32
  let v1787 : BitVec 32 := Scalar.divsi v1785 c1_i32_833
  let v1788 : BitVec 32 := Scalar.muli v1787 c1_i32_833
  let v1789 : BitVec 32 := Scalar.addi v816 v1788
  let c1_i32_835 : BitVec 32 := 1#32
  let arg15 : BitVec 32 := Scf.iv v1789 c1_i32_835 k0_t159
  let v1793 : Index := Scalar.indexCast arg15
  let c0_i32_838 : BitVec 32 := 0#32
  let c1_i32_839 : BitVec 32 := 1#32
  let arg16 : BitVec 32 := Scf.iv c0_i32_838 c1_i32_839 k0_t160
  let c16_i32 : BitVec 32 := 16#32
  let v1792 : BitVec 32 := Scalar.muli arg16 c16_i32
  let v1794 : Index := Scalar.indexCast v1792
  ![v1793.toNat, v1794.toNat]

def k0_chk36 (i : grid0.Coords) (v815 : BitVec 32) : Prop :=
  (∀ (k0_h132 : k0_cond132 i v815 = 1#1), (k0_t157_loop i v815).OK) ∧
  (∀ (k0_t157 : Fin (k0_t157_loop i v815).trips) (k0_t158 : Fin k0_t158_loop.trips), ∀ (k0_h132 : k0_cond132 i v815 = 1#1), ∀ a, (k0_off259 i v815 k0_t157 k0_t158) a + S1x16.size a ≤ S32x1024.size a) ∧
  (∀ (k0_h132 : k0_cond132 i v815 = 1#1), (k0_t159_loop i v815).OK) ∧
  (∀ (k0_t159 : Fin (k0_t159_loop i v815).trips) (k0_t160 : Fin k0_t160_loop.trips), ∀ (k0_h132 : k0_cond132 i v815 = 1#1), ∀ a, (k0_off260 i v815 k0_t159 k0_t160) a + S1x16.size a ≤ S32x1024.size a)
theorem k0_t157_ok : ∀ (i : grid0.Coords) (v815 : BitVec 32) (k0_hw36 : k0_chk36 i v815), ∀ (k0_h132 : k0_cond132 i v815 = 1#1), (k0_t157_loop i v815).OK := fun i v815 k0_hw36 k0_h132 => k0_hw36.1 k0_h132
theorem k0_off259_inb : ∀ (i : grid0.Coords) (v815 : BitVec 32) (k0_hw36 : k0_chk36 i v815) (k0_t157 : Fin (k0_t157_loop i v815).trips) (k0_t158 : Fin k0_t158_loop.trips), ∀ (k0_h132 : k0_cond132 i v815 = 1#1), ∀ a, (k0_off259 i v815 k0_t157 k0_t158) a + S1x16.size a ≤ S32x1024.size a := fun i v815 k0_hw36 k0_t157 k0_t158 k0_h132 => k0_hw36.2.1 k0_t157 k0_t158 k0_h132
theorem k0_t159_ok : ∀ (i : grid0.Coords) (v815 : BitVec 32) (k0_hw36 : k0_chk36 i v815), ∀ (k0_h132 : k0_cond132 i v815 = 1#1), (k0_t159_loop i v815).OK := fun i v815 k0_hw36 k0_h132 => k0_hw36.2.2.1 k0_h132
theorem k0_off260_inb : ∀ (i : grid0.Coords) (v815 : BitVec 32) (k0_hw36 : k0_chk36 i v815) (k0_t159 : Fin (k0_t159_loop i v815).trips) (k0_t160 : Fin k0_t160_loop.trips), ∀ (k0_h132 : k0_cond132 i v815 = 1#1), ∀ a, (k0_off260 i v815 k0_t159 k0_t160) a + S1x16.size a ≤ S32x1024.size a := fun i v815 k0_hw36 k0_t159 k0_t160 k0_h132 => k0_hw36.2.2.2 k0_t159 k0_t160 k0_h132

def k0_off261 (i : grid0.Coords) : Fin 3 → Nat :=
  let c3_i32_836 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r88 : BitVec 32 := 0#32
  ![3, v787.toNat, 0]
def k0_off262 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r89 : BitVec 32 := 0#32
  ![v787.toNat, 0]
@[reducible] def k0_t161_loop (i : grid0.Coords) (v823 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v824 : BitVec 32 := Scalar.subi v823 v787
  let c32_i32_832 : BitVec 32 := 32#32
  let v1785 : BitVec 32 := Scalar.subi c32_i32_832 v824
  let c1_i32_833 : BitVec 32 := 1#32
  let v1787 : BitVec 32 := Scalar.divsi v1785 c1_i32_833
  let v1788 : BitVec 32 := Scalar.muli v1787 c1_i32_833
  let v1789 : BitVec 32 := Scalar.addi v824 v1788
  let c1_i32_834 : BitVec 32 := 1#32
  ⟨v824, v1789, c1_i32_834⟩
def k0_cond133 (i : grid0.Coords) (v823 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v824 : BitVec 32 := Scalar.subi v823 v787
  let c0_i32_409 : BitVec 32 := 0#32
  let v825 : BitVec 1 := Scalar.cmpi .sgt v824 c0_i32_409
  let c32_i32_410 : BitVec 32 := 32#32
  let v826 : BitVec 1 := Scalar.cmpi .slt v824 c32_i32_410
  let v827 : BitVec 1 := Scalar.andi v825 v826
  let v828 : BitVec 32 := Scalar.extui v827
  let c0_i32_411 : BitVec 32 := 0#32
  let v829 : BitVec 1 := Scalar.cmpi .ne v828 c0_i32_411
  v829

@[reducible] def k0_t162_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off263 (i : grid0.Coords) (v823 : BitVec 32) (k0_t161 : Fin (k0_t161_loop i v823).trips) (k0_t162 : Fin k0_t162_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v824 : BitVec 32 := Scalar.subi v823 v787
  let c1_i32_834 : BitVec 32 := 1#32
  let arg15 : BitVec 32 := Scf.iv v824 c1_i32_834 k0_t161
  let v1793 : Index := Scalar.indexCast arg15
  let c0_i32_838 : BitVec 32 := 0#32
  let c1_i32_839 : BitVec 32 := 1#32
  let arg16 : BitVec 32 := Scf.iv c0_i32_838 c1_i32_839 k0_t162
  let c16_i32 : BitVec 32 := 16#32
  let v1792 : BitVec 32 := Scalar.muli arg16 c16_i32
  let v1794 : Index := Scalar.indexCast v1792
  ![v1793.toNat, v1794.toNat]
@[reducible] def k0_t163_loop (i : grid0.Coords) (v823 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v824 : BitVec 32 := Scalar.subi v823 v787
  let c32_i32_832 : BitVec 32 := 32#32
  let v1785 : BitVec 32 := Scalar.subi c32_i32_832 v824
  let c1_i32_833 : BitVec 32 := 1#32
  let v1787 : BitVec 32 := Scalar.divsi v1785 c1_i32_833
  let v1788 : BitVec 32 := Scalar.muli v1787 c1_i32_833
  let v1789 : BitVec 32 := Scalar.addi v824 v1788
  let v1786 : BitVec 32 := Scalar.addi v824 v1785
  let c1_i32_835 : BitVec 32 := 1#32
  ⟨v1789, v1786, c1_i32_835⟩
@[reducible] def k0_t164_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off264 (i : grid0.Coords) (v823 : BitVec 32) (k0_t163 : Fin (k0_t163_loop i v823).trips) (k0_t164 : Fin k0_t164_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v824 : BitVec 32 := Scalar.subi v823 v787
  let c32_i32_832 : BitVec 32 := 32#32
  let v1785 : BitVec 32 := Scalar.subi c32_i32_832 v824
  let c1_i32_833 : BitVec 32 := 1#32
  let v1787 : BitVec 32 := Scalar.divsi v1785 c1_i32_833
  let v1788 : BitVec 32 := Scalar.muli v1787 c1_i32_833
  let v1789 : BitVec 32 := Scalar.addi v824 v1788
  let c1_i32_835 : BitVec 32 := 1#32
  let arg15 : BitVec 32 := Scf.iv v1789 c1_i32_835 k0_t163
  let v1793 : Index := Scalar.indexCast arg15
  let c0_i32_838 : BitVec 32 := 0#32
  let c1_i32_839 : BitVec 32 := 1#32
  let arg16 : BitVec 32 := Scf.iv c0_i32_838 c1_i32_839 k0_t164
  let c16_i32 : BitVec 32 := 16#32
  let v1792 : BitVec 32 := Scalar.muli arg16 c16_i32
  let v1794 : Index := Scalar.indexCast v1792
  ![v1793.toNat, v1794.toNat]

def k0_chk37 (i : grid0.Coords) (v823 : BitVec 32) : Prop :=
  (∀ (k0_h133 : k0_cond133 i v823 = 1#1), (k0_t161_loop i v823).OK) ∧
  (∀ (k0_t161 : Fin (k0_t161_loop i v823).trips) (k0_t162 : Fin k0_t162_loop.trips), ∀ (k0_h133 : k0_cond133 i v823 = 1#1), ∀ a, (k0_off263 i v823 k0_t161 k0_t162) a + S1x16.size a ≤ S32x1024.size a) ∧
  (∀ (k0_h133 : k0_cond133 i v823 = 1#1), (k0_t163_loop i v823).OK) ∧
  (∀ (k0_t163 : Fin (k0_t163_loop i v823).trips) (k0_t164 : Fin k0_t164_loop.trips), ∀ (k0_h133 : k0_cond133 i v823 = 1#1), ∀ a, (k0_off264 i v823 k0_t163 k0_t164) a + S1x16.size a ≤ S32x1024.size a)
theorem k0_t161_ok : ∀ (i : grid0.Coords) (v823 : BitVec 32) (k0_hw37 : k0_chk37 i v823), ∀ (k0_h133 : k0_cond133 i v823 = 1#1), (k0_t161_loop i v823).OK := fun i v823 k0_hw37 k0_h133 => k0_hw37.1 k0_h133
theorem k0_off263_inb : ∀ (i : grid0.Coords) (v823 : BitVec 32) (k0_hw37 : k0_chk37 i v823) (k0_t161 : Fin (k0_t161_loop i v823).trips) (k0_t162 : Fin k0_t162_loop.trips), ∀ (k0_h133 : k0_cond133 i v823 = 1#1), ∀ a, (k0_off263 i v823 k0_t161 k0_t162) a + S1x16.size a ≤ S32x1024.size a := fun i v823 k0_hw37 k0_t161 k0_t162 k0_h133 => k0_hw37.2.1 k0_t161 k0_t162 k0_h133
theorem k0_t163_ok : ∀ (i : grid0.Coords) (v823 : BitVec 32) (k0_hw37 : k0_chk37 i v823), ∀ (k0_h133 : k0_cond133 i v823 = 1#1), (k0_t163_loop i v823).OK := fun i v823 k0_hw37 k0_h133 => k0_hw37.2.2.1 k0_h133
theorem k0_off264_inb : ∀ (i : grid0.Coords) (v823 : BitVec 32) (k0_hw37 : k0_chk37 i v823) (k0_t163 : Fin (k0_t163_loop i v823).trips) (k0_t164 : Fin k0_t164_loop.trips), ∀ (k0_h133 : k0_cond133 i v823 = 1#1), ∀ a, (k0_off264 i v823 k0_t163 k0_t164) a + S1x16.size a ≤ S32x1024.size a := fun i v823 k0_hw37 k0_t163 k0_t164 k0_h133 => k0_hw37.2.2.2 k0_t163 k0_t164 k0_h133

def k0_off265 (i : grid0.Coords) : Fin 3 → Nat :=
  let c4_i32_836 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r90 : BitVec 32 := 0#32
  ![4, v787.toNat, 0]
def k0_off266 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r91 : BitVec 32 := 0#32
  ![v787.toNat, 0]
@[reducible] def k0_t165_loop (i : grid0.Coords) (v831 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v832 : BitVec 32 := Scalar.subi v831 v787
  let c32_i32_832 : BitVec 32 := 32#32
  let v1785 : BitVec 32 := Scalar.subi c32_i32_832 v832
  let c1_i32_833 : BitVec 32 := 1#32
  let v1787 : BitVec 32 := Scalar.divsi v1785 c1_i32_833
  let v1788 : BitVec 32 := Scalar.muli v1787 c1_i32_833
  let v1789 : BitVec 32 := Scalar.addi v832 v1788
  let c1_i32_834 : BitVec 32 := 1#32
  ⟨v832, v1789, c1_i32_834⟩
def k0_cond134 (i : grid0.Coords) (v831 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v832 : BitVec 32 := Scalar.subi v831 v787
  let c0_i32_412 : BitVec 32 := 0#32
  let v833 : BitVec 1 := Scalar.cmpi .sgt v832 c0_i32_412
  let c32_i32_413 : BitVec 32 := 32#32
  let v834 : BitVec 1 := Scalar.cmpi .slt v832 c32_i32_413
  let v835 : BitVec 1 := Scalar.andi v833 v834
  let v836 : BitVec 32 := Scalar.extui v835
  let c0_i32_414 : BitVec 32 := 0#32
  let v837 : BitVec 1 := Scalar.cmpi .ne v836 c0_i32_414
  v837

@[reducible] def k0_t166_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off267 (i : grid0.Coords) (v831 : BitVec 32) (k0_t165 : Fin (k0_t165_loop i v831).trips) (k0_t166 : Fin k0_t166_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v832 : BitVec 32 := Scalar.subi v831 v787
  let c1_i32_834 : BitVec 32 := 1#32
  let arg15 : BitVec 32 := Scf.iv v832 c1_i32_834 k0_t165
  let v1793 : Index := Scalar.indexCast arg15
  let c0_i32_837 : BitVec 32 := 0#32
  let c1_i32_838 : BitVec 32 := 1#32
  let arg16 : BitVec 32 := Scf.iv c0_i32_837 c1_i32_838 k0_t166
  let c16_i32 : BitVec 32 := 16#32
  let v1792 : BitVec 32 := Scalar.muli arg16 c16_i32
  let v1794 : Index := Scalar.indexCast v1792
  ![v1793.toNat, v1794.toNat]
@[reducible] def k0_t167_loop (i : grid0.Coords) (v831 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v832 : BitVec 32 := Scalar.subi v831 v787
  let c32_i32_832 : BitVec 32 := 32#32
  let v1785 : BitVec 32 := Scalar.subi c32_i32_832 v832
  let c1_i32_833 : BitVec 32 := 1#32
  let v1787 : BitVec 32 := Scalar.divsi v1785 c1_i32_833
  let v1788 : BitVec 32 := Scalar.muli v1787 c1_i32_833
  let v1789 : BitVec 32 := Scalar.addi v832 v1788
  let v1786 : BitVec 32 := Scalar.addi v832 v1785
  let c1_i32_835 : BitVec 32 := 1#32
  ⟨v1789, v1786, c1_i32_835⟩
@[reducible] def k0_t168_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off268 (i : grid0.Coords) (v831 : BitVec 32) (k0_t167 : Fin (k0_t167_loop i v831).trips) (k0_t168 : Fin k0_t168_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v832 : BitVec 32 := Scalar.subi v831 v787
  let c32_i32_832 : BitVec 32 := 32#32
  let v1785 : BitVec 32 := Scalar.subi c32_i32_832 v832
  let c1_i32_833 : BitVec 32 := 1#32
  let v1787 : BitVec 32 := Scalar.divsi v1785 c1_i32_833
  let v1788 : BitVec 32 := Scalar.muli v1787 c1_i32_833
  let v1789 : BitVec 32 := Scalar.addi v832 v1788
  let c1_i32_835 : BitVec 32 := 1#32
  let arg15 : BitVec 32 := Scf.iv v1789 c1_i32_835 k0_t167
  let v1793 : Index := Scalar.indexCast arg15
  let c0_i32_837 : BitVec 32 := 0#32
  let c1_i32_838 : BitVec 32 := 1#32
  let arg16 : BitVec 32 := Scf.iv c0_i32_837 c1_i32_838 k0_t168
  let c16_i32 : BitVec 32 := 16#32
  let v1792 : BitVec 32 := Scalar.muli arg16 c16_i32
  let v1794 : Index := Scalar.indexCast v1792
  ![v1793.toNat, v1794.toNat]

def k0_chk38 (i : grid0.Coords) (v831 : BitVec 32) : Prop :=
  (∀ (k0_h134 : k0_cond134 i v831 = 1#1), (k0_t165_loop i v831).OK) ∧
  (∀ (k0_t165 : Fin (k0_t165_loop i v831).trips) (k0_t166 : Fin k0_t166_loop.trips), ∀ (k0_h134 : k0_cond134 i v831 = 1#1), ∀ a, (k0_off267 i v831 k0_t165 k0_t166) a + S1x16.size a ≤ S32x1024.size a) ∧
  (∀ (k0_h134 : k0_cond134 i v831 = 1#1), (k0_t167_loop i v831).OK) ∧
  (∀ (k0_t167 : Fin (k0_t167_loop i v831).trips) (k0_t168 : Fin k0_t168_loop.trips), ∀ (k0_h134 : k0_cond134 i v831 = 1#1), ∀ a, (k0_off268 i v831 k0_t167 k0_t168) a + S1x16.size a ≤ S32x1024.size a)
theorem k0_t165_ok : ∀ (i : grid0.Coords) (v831 : BitVec 32) (k0_hw38 : k0_chk38 i v831), ∀ (k0_h134 : k0_cond134 i v831 = 1#1), (k0_t165_loop i v831).OK := fun i v831 k0_hw38 k0_h134 => k0_hw38.1 k0_h134
theorem k0_off267_inb : ∀ (i : grid0.Coords) (v831 : BitVec 32) (k0_hw38 : k0_chk38 i v831) (k0_t165 : Fin (k0_t165_loop i v831).trips) (k0_t166 : Fin k0_t166_loop.trips), ∀ (k0_h134 : k0_cond134 i v831 = 1#1), ∀ a, (k0_off267 i v831 k0_t165 k0_t166) a + S1x16.size a ≤ S32x1024.size a := fun i v831 k0_hw38 k0_t165 k0_t166 k0_h134 => k0_hw38.2.1 k0_t165 k0_t166 k0_h134
theorem k0_t167_ok : ∀ (i : grid0.Coords) (v831 : BitVec 32) (k0_hw38 : k0_chk38 i v831), ∀ (k0_h134 : k0_cond134 i v831 = 1#1), (k0_t167_loop i v831).OK := fun i v831 k0_hw38 k0_h134 => k0_hw38.2.2.1 k0_h134
theorem k0_off268_inb : ∀ (i : grid0.Coords) (v831 : BitVec 32) (k0_hw38 : k0_chk38 i v831) (k0_t167 : Fin (k0_t167_loop i v831).trips) (k0_t168 : Fin k0_t168_loop.trips), ∀ (k0_h134 : k0_cond134 i v831 = 1#1), ∀ a, (k0_off268 i v831 k0_t167 k0_t168) a + S1x16.size a ≤ S32x1024.size a := fun i v831 k0_hw38 k0_t167 k0_t168 k0_h134 => k0_hw38.2.2.2 k0_t167 k0_t168 k0_h134

def k0_off269 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r92 : BitVec 32 := 0#32
  ![5, v787.toNat, 0]
def k0_off270 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r93 : BitVec 32 := 0#32
  ![v787.toNat, 0]
@[reducible] def k0_t169_loop (i : grid0.Coords) (v839 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v840 : BitVec 32 := Scalar.subi v839 v787
  let c32_i32_832 : BitVec 32 := 32#32
  let v1785 : BitVec 32 := Scalar.subi c32_i32_832 v840
  let c1_i32_833 : BitVec 32 := 1#32
  let v1787 : BitVec 32 := Scalar.divsi v1785 c1_i32_833
  let v1788 : BitVec 32 := Scalar.muli v1787 c1_i32_833
  let v1789 : BitVec 32 := Scalar.addi v840 v1788
  let c1_i32_834 : BitVec 32 := 1#32
  ⟨v840, v1789, c1_i32_834⟩
def k0_cond135 (i : grid0.Coords) (v839 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v840 : BitVec 32 := Scalar.subi v839 v787
  let c0_i32_415 : BitVec 32 := 0#32
  let v841 : BitVec 1 := Scalar.cmpi .sgt v840 c0_i32_415
  let c32_i32_416 : BitVec 32 := 32#32
  let v842 : BitVec 1 := Scalar.cmpi .slt v840 c32_i32_416
  let v843 : BitVec 1 := Scalar.andi v841 v842
  let v844 : BitVec 32 := Scalar.extui v843
  let c0_i32_417 : BitVec 32 := 0#32
  let v845 : BitVec 1 := Scalar.cmpi .ne v844 c0_i32_417
  v845

@[reducible] def k0_t170_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off271 (i : grid0.Coords) (v839 : BitVec 32) (k0_t169 : Fin (k0_t169_loop i v839).trips) (k0_t170 : Fin k0_t170_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v840 : BitVec 32 := Scalar.subi v839 v787
  let c1_i32_834 : BitVec 32 := 1#32
  let arg15 : BitVec 32 := Scf.iv v840 c1_i32_834 k0_t169
  let v1793 : Index := Scalar.indexCast arg15
  let c0_i32_837 : BitVec 32 := 0#32
  let c1_i32_838 : BitVec 32 := 1#32
  let arg16 : BitVec 32 := Scf.iv c0_i32_837 c1_i32_838 k0_t170
  let c16_i32 : BitVec 32 := 16#32
  let v1792 : BitVec 32 := Scalar.muli arg16 c16_i32
  let v1794 : Index := Scalar.indexCast v1792
  ![v1793.toNat, v1794.toNat]
@[reducible] def k0_t171_loop (i : grid0.Coords) (v839 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v840 : BitVec 32 := Scalar.subi v839 v787
  let c32_i32_832 : BitVec 32 := 32#32
  let v1785 : BitVec 32 := Scalar.subi c32_i32_832 v840
  let c1_i32_833 : BitVec 32 := 1#32
  let v1787 : BitVec 32 := Scalar.divsi v1785 c1_i32_833
  let v1788 : BitVec 32 := Scalar.muli v1787 c1_i32_833
  let v1789 : BitVec 32 := Scalar.addi v840 v1788
  let v1786 : BitVec 32 := Scalar.addi v840 v1785
  let c1_i32_835 : BitVec 32 := 1#32
  ⟨v1789, v1786, c1_i32_835⟩
@[reducible] def k0_t172_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off272 (i : grid0.Coords) (v839 : BitVec 32) (k0_t171 : Fin (k0_t171_loop i v839).trips) (k0_t172 : Fin k0_t172_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v840 : BitVec 32 := Scalar.subi v839 v787
  let c32_i32_832 : BitVec 32 := 32#32
  let v1785 : BitVec 32 := Scalar.subi c32_i32_832 v840
  let c1_i32_833 : BitVec 32 := 1#32
  let v1787 : BitVec 32 := Scalar.divsi v1785 c1_i32_833
  let v1788 : BitVec 32 := Scalar.muli v1787 c1_i32_833
  let v1789 : BitVec 32 := Scalar.addi v840 v1788
  let c1_i32_835 : BitVec 32 := 1#32
  let arg15 : BitVec 32 := Scf.iv v1789 c1_i32_835 k0_t171
  let v1793 : Index := Scalar.indexCast arg15
  let c0_i32_837 : BitVec 32 := 0#32
  let c1_i32_838 : BitVec 32 := 1#32
  let arg16 : BitVec 32 := Scf.iv c0_i32_837 c1_i32_838 k0_t172
  let c16_i32 : BitVec 32 := 16#32
  let v1792 : BitVec 32 := Scalar.muli arg16 c16_i32
  let v1794 : Index := Scalar.indexCast v1792
  ![v1793.toNat, v1794.toNat]

def k0_chk39 (i : grid0.Coords) (v839 : BitVec 32) : Prop :=
  (∀ (k0_h135 : k0_cond135 i v839 = 1#1), (k0_t169_loop i v839).OK) ∧
  (∀ (k0_t169 : Fin (k0_t169_loop i v839).trips) (k0_t170 : Fin k0_t170_loop.trips), ∀ (k0_h135 : k0_cond135 i v839 = 1#1), ∀ a, (k0_off271 i v839 k0_t169 k0_t170) a + S1x16.size a ≤ S32x1024.size a) ∧
  (∀ (k0_h135 : k0_cond135 i v839 = 1#1), (k0_t171_loop i v839).OK) ∧
  (∀ (k0_t171 : Fin (k0_t171_loop i v839).trips) (k0_t172 : Fin k0_t172_loop.trips), ∀ (k0_h135 : k0_cond135 i v839 = 1#1), ∀ a, (k0_off272 i v839 k0_t171 k0_t172) a + S1x16.size a ≤ S32x1024.size a)
theorem k0_t169_ok : ∀ (i : grid0.Coords) (v839 : BitVec 32) (k0_hw39 : k0_chk39 i v839), ∀ (k0_h135 : k0_cond135 i v839 = 1#1), (k0_t169_loop i v839).OK := fun i v839 k0_hw39 k0_h135 => k0_hw39.1 k0_h135
theorem k0_off271_inb : ∀ (i : grid0.Coords) (v839 : BitVec 32) (k0_hw39 : k0_chk39 i v839) (k0_t169 : Fin (k0_t169_loop i v839).trips) (k0_t170 : Fin k0_t170_loop.trips), ∀ (k0_h135 : k0_cond135 i v839 = 1#1), ∀ a, (k0_off271 i v839 k0_t169 k0_t170) a + S1x16.size a ≤ S32x1024.size a := fun i v839 k0_hw39 k0_t169 k0_t170 k0_h135 => k0_hw39.2.1 k0_t169 k0_t170 k0_h135
theorem k0_t171_ok : ∀ (i : grid0.Coords) (v839 : BitVec 32) (k0_hw39 : k0_chk39 i v839), ∀ (k0_h135 : k0_cond135 i v839 = 1#1), (k0_t171_loop i v839).OK := fun i v839 k0_hw39 k0_h135 => k0_hw39.2.2.1 k0_h135
theorem k0_off272_inb : ∀ (i : grid0.Coords) (v839 : BitVec 32) (k0_hw39 : k0_chk39 i v839) (k0_t171 : Fin (k0_t171_loop i v839).trips) (k0_t172 : Fin k0_t172_loop.trips), ∀ (k0_h135 : k0_cond135 i v839 = 1#1), ∀ a, (k0_off272 i v839 k0_t171 k0_t172) a + S1x16.size a ≤ S32x1024.size a := fun i v839 k0_hw39 k0_t171 k0_t172 k0_h135 => k0_hw39.2.2.2 k0_t171 k0_t172 k0_h135

def k0_off273 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r94 : BitVec 32 := 0#32
  ![6, v787.toNat, 0]
def k0_off274 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r95 : BitVec 32 := 0#32
  ![v787.toNat, 0]
@[reducible] def k0_t173_loop (i : grid0.Coords) (v847 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v848 : BitVec 32 := Scalar.subi v847 v787
  let c32_i32_832 : BitVec 32 := 32#32
  let v1785 : BitVec 32 := Scalar.subi c32_i32_832 v848
  let c1_i32_833 : BitVec 32 := 1#32
  let v1787 : BitVec 32 := Scalar.divsi v1785 c1_i32_833
  let v1788 : BitVec 32 := Scalar.muli v1787 c1_i32_833
  let v1789 : BitVec 32 := Scalar.addi v848 v1788
  let c1_i32_834 : BitVec 32 := 1#32
  ⟨v848, v1789, c1_i32_834⟩
def k0_cond136 (i : grid0.Coords) (v847 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v848 : BitVec 32 := Scalar.subi v847 v787
  let c0_i32_418 : BitVec 32 := 0#32
  let v849 : BitVec 1 := Scalar.cmpi .sgt v848 c0_i32_418
  let c32_i32_419 : BitVec 32 := 32#32
  let v850 : BitVec 1 := Scalar.cmpi .slt v848 c32_i32_419
  let v851 : BitVec 1 := Scalar.andi v849 v850
  let v852 : BitVec 32 := Scalar.extui v851
  let c0_i32_420 : BitVec 32 := 0#32
  let v853 : BitVec 1 := Scalar.cmpi .ne v852 c0_i32_420
  v853

@[reducible] def k0_t174_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off275 (i : grid0.Coords) (v847 : BitVec 32) (k0_t173 : Fin (k0_t173_loop i v847).trips) (k0_t174 : Fin k0_t174_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v848 : BitVec 32 := Scalar.subi v847 v787
  let c1_i32_834 : BitVec 32 := 1#32
  let arg15 : BitVec 32 := Scf.iv v848 c1_i32_834 k0_t173
  let v1793 : Index := Scalar.indexCast arg15
  let c0_i32_837 : BitVec 32 := 0#32
  let c1_i32_838 : BitVec 32 := 1#32
  let arg16 : BitVec 32 := Scf.iv c0_i32_837 c1_i32_838 k0_t174
  let c16_i32 : BitVec 32 := 16#32
  let v1792 : BitVec 32 := Scalar.muli arg16 c16_i32
  let v1794 : Index := Scalar.indexCast v1792
  ![v1793.toNat, v1794.toNat]
@[reducible] def k0_t175_loop (i : grid0.Coords) (v847 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v848 : BitVec 32 := Scalar.subi v847 v787
  let c32_i32_832 : BitVec 32 := 32#32
  let v1785 : BitVec 32 := Scalar.subi c32_i32_832 v848
  let c1_i32_833 : BitVec 32 := 1#32
  let v1787 : BitVec 32 := Scalar.divsi v1785 c1_i32_833
  let v1788 : BitVec 32 := Scalar.muli v1787 c1_i32_833
  let v1789 : BitVec 32 := Scalar.addi v848 v1788
  let v1786 : BitVec 32 := Scalar.addi v848 v1785
  let c1_i32_835 : BitVec 32 := 1#32
  ⟨v1789, v1786, c1_i32_835⟩
@[reducible] def k0_t176_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off276 (i : grid0.Coords) (v847 : BitVec 32) (k0_t175 : Fin (k0_t175_loop i v847).trips) (k0_t176 : Fin k0_t176_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v848 : BitVec 32 := Scalar.subi v847 v787
  let c32_i32_832 : BitVec 32 := 32#32
  let v1785 : BitVec 32 := Scalar.subi c32_i32_832 v848
  let c1_i32_833 : BitVec 32 := 1#32
  let v1787 : BitVec 32 := Scalar.divsi v1785 c1_i32_833
  let v1788 : BitVec 32 := Scalar.muli v1787 c1_i32_833
  let v1789 : BitVec 32 := Scalar.addi v848 v1788
  let c1_i32_835 : BitVec 32 := 1#32
  let arg15 : BitVec 32 := Scf.iv v1789 c1_i32_835 k0_t175
  let v1793 : Index := Scalar.indexCast arg15
  let c0_i32_837 : BitVec 32 := 0#32
  let c1_i32_838 : BitVec 32 := 1#32
  let arg16 : BitVec 32 := Scf.iv c0_i32_837 c1_i32_838 k0_t176
  let c16_i32 : BitVec 32 := 16#32
  let v1792 : BitVec 32 := Scalar.muli arg16 c16_i32
  let v1794 : Index := Scalar.indexCast v1792
  ![v1793.toNat, v1794.toNat]

def k0_chk40 (i : grid0.Coords) (v847 : BitVec 32) : Prop :=
  (∀ (k0_h136 : k0_cond136 i v847 = 1#1), (k0_t173_loop i v847).OK) ∧
  (∀ (k0_t173 : Fin (k0_t173_loop i v847).trips) (k0_t174 : Fin k0_t174_loop.trips), ∀ (k0_h136 : k0_cond136 i v847 = 1#1), ∀ a, (k0_off275 i v847 k0_t173 k0_t174) a + S1x16.size a ≤ S32x1024.size a) ∧
  (∀ (k0_h136 : k0_cond136 i v847 = 1#1), (k0_t175_loop i v847).OK) ∧
  (∀ (k0_t175 : Fin (k0_t175_loop i v847).trips) (k0_t176 : Fin k0_t176_loop.trips), ∀ (k0_h136 : k0_cond136 i v847 = 1#1), ∀ a, (k0_off276 i v847 k0_t175 k0_t176) a + S1x16.size a ≤ S32x1024.size a)
theorem k0_t173_ok : ∀ (i : grid0.Coords) (v847 : BitVec 32) (k0_hw40 : k0_chk40 i v847), ∀ (k0_h136 : k0_cond136 i v847 = 1#1), (k0_t173_loop i v847).OK := fun i v847 k0_hw40 k0_h136 => k0_hw40.1 k0_h136
theorem k0_off275_inb : ∀ (i : grid0.Coords) (v847 : BitVec 32) (k0_hw40 : k0_chk40 i v847) (k0_t173 : Fin (k0_t173_loop i v847).trips) (k0_t174 : Fin k0_t174_loop.trips), ∀ (k0_h136 : k0_cond136 i v847 = 1#1), ∀ a, (k0_off275 i v847 k0_t173 k0_t174) a + S1x16.size a ≤ S32x1024.size a := fun i v847 k0_hw40 k0_t173 k0_t174 k0_h136 => k0_hw40.2.1 k0_t173 k0_t174 k0_h136
theorem k0_t175_ok : ∀ (i : grid0.Coords) (v847 : BitVec 32) (k0_hw40 : k0_chk40 i v847), ∀ (k0_h136 : k0_cond136 i v847 = 1#1), (k0_t175_loop i v847).OK := fun i v847 k0_hw40 k0_h136 => k0_hw40.2.2.1 k0_h136
theorem k0_off276_inb : ∀ (i : grid0.Coords) (v847 : BitVec 32) (k0_hw40 : k0_chk40 i v847) (k0_t175 : Fin (k0_t175_loop i v847).trips) (k0_t176 : Fin k0_t176_loop.trips), ∀ (k0_h136 : k0_cond136 i v847 = 1#1), ∀ a, (k0_off276 i v847 k0_t175 k0_t176) a + S1x16.size a ≤ S32x1024.size a := fun i v847 k0_hw40 k0_t175 k0_t176 k0_h136 => k0_hw40.2.2.2 k0_t175 k0_t176 k0_h136

def k0_off277 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r96 : BitVec 32 := 0#32
  ![7, v787.toNat, 0]
def k0_off278 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r97 : BitVec 32 := 0#32
  ![v787.toNat, 0]
@[reducible] def k0_t177_loop (i : grid0.Coords) (v855 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v856 : BitVec 32 := Scalar.subi v855 v787
  let c32_i32_832 : BitVec 32 := 32#32
  let v1785 : BitVec 32 := Scalar.subi c32_i32_832 v856
  let c1_i32_833 : BitVec 32 := 1#32
  let v1787 : BitVec 32 := Scalar.divsi v1785 c1_i32_833
  let v1788 : BitVec 32 := Scalar.muli v1787 c1_i32_833
  let v1789 : BitVec 32 := Scalar.addi v856 v1788
  let c1_i32_834 : BitVec 32 := 1#32
  ⟨v856, v1789, c1_i32_834⟩
def k0_cond137 (i : grid0.Coords) (v855 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v856 : BitVec 32 := Scalar.subi v855 v787
  let c0_i32_421 : BitVec 32 := 0#32
  let v857 : BitVec 1 := Scalar.cmpi .sgt v856 c0_i32_421
  let c32_i32_422 : BitVec 32 := 32#32
  let v858 : BitVec 1 := Scalar.cmpi .slt v856 c32_i32_422
  let v859 : BitVec 1 := Scalar.andi v857 v858
  let v860 : BitVec 32 := Scalar.extui v859
  let c0_i32_423 : BitVec 32 := 0#32
  let v861 : BitVec 1 := Scalar.cmpi .ne v860 c0_i32_423
  v861

@[reducible] def k0_t178_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off279 (i : grid0.Coords) (v855 : BitVec 32) (k0_t177 : Fin (k0_t177_loop i v855).trips) (k0_t178 : Fin k0_t178_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v856 : BitVec 32 := Scalar.subi v855 v787
  let c1_i32_834 : BitVec 32 := 1#32
  let arg15 : BitVec 32 := Scf.iv v856 c1_i32_834 k0_t177
  let v1793 : Index := Scalar.indexCast arg15
  let c0_i32_838 : BitVec 32 := 0#32
  let c1_i32_839 : BitVec 32 := 1#32
  let arg16 : BitVec 32 := Scf.iv c0_i32_838 c1_i32_839 k0_t178
  let c16_i32 : BitVec 32 := 16#32
  let v1792 : BitVec 32 := Scalar.muli arg16 c16_i32
  let v1794 : Index := Scalar.indexCast v1792
  ![v1793.toNat, v1794.toNat]
@[reducible] def k0_t179_loop (i : grid0.Coords) (v855 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v856 : BitVec 32 := Scalar.subi v855 v787
  let c32_i32_832 : BitVec 32 := 32#32
  let v1785 : BitVec 32 := Scalar.subi c32_i32_832 v856
  let c1_i32_833 : BitVec 32 := 1#32
  let v1787 : BitVec 32 := Scalar.divsi v1785 c1_i32_833
  let v1788 : BitVec 32 := Scalar.muli v1787 c1_i32_833
  let v1789 : BitVec 32 := Scalar.addi v856 v1788
  let v1786 : BitVec 32 := Scalar.addi v856 v1785
  let c1_i32_835 : BitVec 32 := 1#32
  ⟨v1789, v1786, c1_i32_835⟩
@[reducible] def k0_t180_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off280 (i : grid0.Coords) (v855 : BitVec 32) (k0_t179 : Fin (k0_t179_loop i v855).trips) (k0_t180 : Fin k0_t180_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v856 : BitVec 32 := Scalar.subi v855 v787
  let c32_i32_832 : BitVec 32 := 32#32
  let v1785 : BitVec 32 := Scalar.subi c32_i32_832 v856
  let c1_i32_833 : BitVec 32 := 1#32
  let v1787 : BitVec 32 := Scalar.divsi v1785 c1_i32_833
  let v1788 : BitVec 32 := Scalar.muli v1787 c1_i32_833
  let v1789 : BitVec 32 := Scalar.addi v856 v1788
  let c1_i32_835 : BitVec 32 := 1#32
  let arg15 : BitVec 32 := Scf.iv v1789 c1_i32_835 k0_t179
  let v1793 : Index := Scalar.indexCast arg15
  let c0_i32_838 : BitVec 32 := 0#32
  let c1_i32_839 : BitVec 32 := 1#32
  let arg16 : BitVec 32 := Scf.iv c0_i32_838 c1_i32_839 k0_t180
  let c16_i32 : BitVec 32 := 16#32
  let v1792 : BitVec 32 := Scalar.muli arg16 c16_i32
  let v1794 : Index := Scalar.indexCast v1792
  ![v1793.toNat, v1794.toNat]

def k0_chk41 (i : grid0.Coords) (v855 : BitVec 32) : Prop :=
  (∀ (k0_h137 : k0_cond137 i v855 = 1#1), (k0_t177_loop i v855).OK) ∧
  (∀ (k0_t177 : Fin (k0_t177_loop i v855).trips) (k0_t178 : Fin k0_t178_loop.trips), ∀ (k0_h137 : k0_cond137 i v855 = 1#1), ∀ a, (k0_off279 i v855 k0_t177 k0_t178) a + S1x16.size a ≤ S32x1024.size a) ∧
  (∀ (k0_h137 : k0_cond137 i v855 = 1#1), (k0_t179_loop i v855).OK) ∧
  (∀ (k0_t179 : Fin (k0_t179_loop i v855).trips) (k0_t180 : Fin k0_t180_loop.trips), ∀ (k0_h137 : k0_cond137 i v855 = 1#1), ∀ a, (k0_off280 i v855 k0_t179 k0_t180) a + S1x16.size a ≤ S32x1024.size a)
theorem k0_t177_ok : ∀ (i : grid0.Coords) (v855 : BitVec 32) (k0_hw41 : k0_chk41 i v855), ∀ (k0_h137 : k0_cond137 i v855 = 1#1), (k0_t177_loop i v855).OK := fun i v855 k0_hw41 k0_h137 => k0_hw41.1 k0_h137
theorem k0_off279_inb : ∀ (i : grid0.Coords) (v855 : BitVec 32) (k0_hw41 : k0_chk41 i v855) (k0_t177 : Fin (k0_t177_loop i v855).trips) (k0_t178 : Fin k0_t178_loop.trips), ∀ (k0_h137 : k0_cond137 i v855 = 1#1), ∀ a, (k0_off279 i v855 k0_t177 k0_t178) a + S1x16.size a ≤ S32x1024.size a := fun i v855 k0_hw41 k0_t177 k0_t178 k0_h137 => k0_hw41.2.1 k0_t177 k0_t178 k0_h137
theorem k0_t179_ok : ∀ (i : grid0.Coords) (v855 : BitVec 32) (k0_hw41 : k0_chk41 i v855), ∀ (k0_h137 : k0_cond137 i v855 = 1#1), (k0_t179_loop i v855).OK := fun i v855 k0_hw41 k0_h137 => k0_hw41.2.2.1 k0_h137
theorem k0_off280_inb : ∀ (i : grid0.Coords) (v855 : BitVec 32) (k0_hw41 : k0_chk41 i v855) (k0_t179 : Fin (k0_t179_loop i v855).trips) (k0_t180 : Fin k0_t180_loop.trips), ∀ (k0_h137 : k0_cond137 i v855 = 1#1), ∀ a, (k0_off280 i v855 k0_t179 k0_t180) a + S1x16.size a ≤ S32x1024.size a := fun i v855 k0_hw41 k0_t179 k0_t180 k0_h137 => k0_hw41.2.2.2 k0_t179 k0_t180 k0_h137

def k0_off281 (i : grid0.Coords) : Fin 3 → Nat :=
  let c8_i32_836 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r98 : BitVec 32 := 0#32
  ![8, v787.toNat, 0]
def k0_off282 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_837_r99 : BitVec 32 := 0#32
  ![v787.toNat, 0]
@[reducible] def k0_t181_loop (i : grid0.Coords) (v863 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v864 : BitVec 32 := Scalar.subi v863 v787
  let c32_i32_832 : BitVec 32 := 32#32
  let v1785 : BitVec 32 := Scalar.subi c32_i32_832 v864
  let c1_i32_833 : BitVec 32 := 1#32
  let v1787 : BitVec 32 := Scalar.divsi v1785 c1_i32_833
  let v1788 : BitVec 32 := Scalar.muli v1787 c1_i32_833
  let v1789 : BitVec 32 := Scalar.addi v864 v1788
  let c1_i32_834 : BitVec 32 := 1#32
  ⟨v864, v1789, c1_i32_834⟩
def k0_cond138 (i : grid0.Coords) (v863 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v864 : BitVec 32 := Scalar.subi v863 v787
  let c0_i32_424 : BitVec 32 := 0#32
  let v865 : BitVec 1 := Scalar.cmpi .sgt v864 c0_i32_424
  let c32_i32_425 : BitVec 32 := 32#32
  let v866 : BitVec 1 := Scalar.cmpi .slt v864 c32_i32_425
  let v867 : BitVec 1 := Scalar.andi v865 v866
  let v868 : BitVec 32 := Scalar.extui v867
  let c0_i32_426 : BitVec 32 := 0#32
  let v869 : BitVec 1 := Scalar.cmpi .ne v868 c0_i32_426
  v869

@[reducible] def k0_t182_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off283 (i : grid0.Coords) (v863 : BitVec 32) (k0_t181 : Fin (k0_t181_loop i v863).trips) (k0_t182 : Fin k0_t182_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v864 : BitVec 32 := Scalar.subi v863 v787
  let c1_i32_834 : BitVec 32 := 1#32
  let arg15 : BitVec 32 := Scf.iv v864 c1_i32_834 k0_t181
  let v1793 : Index := Scalar.indexCast arg15
  let c0_i32_837 : BitVec 32 := 0#32
  let c1_i32_838 : BitVec 32 := 1#32
  let arg16 : BitVec 32 := Scf.iv c0_i32_837 c1_i32_838 k0_t182
  let c16_i32 : BitVec 32 := 16#32
  let v1792 : BitVec 32 := Scalar.muli arg16 c16_i32
  let v1794 : Index := Scalar.indexCast v1792
  ![v1793.toNat, v1794.toNat]
@[reducible] def k0_t183_loop (i : grid0.Coords) (v863 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v864 : BitVec 32 := Scalar.subi v863 v787
  let c32_i32_832 : BitVec 32 := 32#32
  let v1785 : BitVec 32 := Scalar.subi c32_i32_832 v864
  let c1_i32_833 : BitVec 32 := 1#32
  let v1787 : BitVec 32 := Scalar.divsi v1785 c1_i32_833
  let v1788 : BitVec 32 := Scalar.muli v1787 c1_i32_833
  let v1789 : BitVec 32 := Scalar.addi v864 v1788
  let v1786 : BitVec 32 := Scalar.addi v864 v1785
  let c1_i32_835 : BitVec 32 := 1#32
  ⟨v1789, v1786, c1_i32_835⟩
@[reducible] def k0_t184_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off284 (i : grid0.Coords) (v863 : BitVec 32) (k0_t183 : Fin (k0_t183_loop i v863).trips) (k0_t184 : Fin k0_t184_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v864 : BitVec 32 := Scalar.subi v863 v787
  let c32_i32_832 : BitVec 32 := 32#32
  let v1785 : BitVec 32 := Scalar.subi c32_i32_832 v864
  let c1_i32_833 : BitVec 32 := 1#32
  let v1787 : BitVec 32 := Scalar.divsi v1785 c1_i32_833
  let v1788 : BitVec 32 := Scalar.muli v1787 c1_i32_833
  let v1789 : BitVec 32 := Scalar.addi v864 v1788
  let c1_i32_835 : BitVec 32 := 1#32
  let arg15 : BitVec 32 := Scf.iv v1789 c1_i32_835 k0_t183
  let v1793 : Index := Scalar.indexCast arg15
  let c0_i32_837 : BitVec 32 := 0#32
  let c1_i32_838 : BitVec 32 := 1#32
  let arg16 : BitVec 32 := Scf.iv c0_i32_837 c1_i32_838 k0_t184
  let c16_i32 : BitVec 32 := 16#32
  let v1792 : BitVec 32 := Scalar.muli arg16 c16_i32
  let v1794 : Index := Scalar.indexCast v1792
  ![v1793.toNat, v1794.toNat]

def k0_chk42 (i : grid0.Coords) (v863 : BitVec 32) : Prop :=
  (∀ (k0_h138 : k0_cond138 i v863 = 1#1), (k0_t181_loop i v863).OK) ∧
  (∀ (k0_t181 : Fin (k0_t181_loop i v863).trips) (k0_t182 : Fin k0_t182_loop.trips), ∀ (k0_h138 : k0_cond138 i v863 = 1#1), ∀ a, (k0_off283 i v863 k0_t181 k0_t182) a + S1x16.size a ≤ S32x1024.size a) ∧
  (∀ (k0_h138 : k0_cond138 i v863 = 1#1), (k0_t183_loop i v863).OK) ∧
  (∀ (k0_t183 : Fin (k0_t183_loop i v863).trips) (k0_t184 : Fin k0_t184_loop.trips), ∀ (k0_h138 : k0_cond138 i v863 = 1#1), ∀ a, (k0_off284 i v863 k0_t183 k0_t184) a + S1x16.size a ≤ S32x1024.size a)
theorem k0_t181_ok : ∀ (i : grid0.Coords) (v863 : BitVec 32) (k0_hw42 : k0_chk42 i v863), ∀ (k0_h138 : k0_cond138 i v863 = 1#1), (k0_t181_loop i v863).OK := fun i v863 k0_hw42 k0_h138 => k0_hw42.1 k0_h138
theorem k0_off283_inb : ∀ (i : grid0.Coords) (v863 : BitVec 32) (k0_hw42 : k0_chk42 i v863) (k0_t181 : Fin (k0_t181_loop i v863).trips) (k0_t182 : Fin k0_t182_loop.trips), ∀ (k0_h138 : k0_cond138 i v863 = 1#1), ∀ a, (k0_off283 i v863 k0_t181 k0_t182) a + S1x16.size a ≤ S32x1024.size a := fun i v863 k0_hw42 k0_t181 k0_t182 k0_h138 => k0_hw42.2.1 k0_t181 k0_t182 k0_h138
theorem k0_t183_ok : ∀ (i : grid0.Coords) (v863 : BitVec 32) (k0_hw42 : k0_chk42 i v863), ∀ (k0_h138 : k0_cond138 i v863 = 1#1), (k0_t183_loop i v863).OK := fun i v863 k0_hw42 k0_h138 => k0_hw42.2.2.1 k0_h138
theorem k0_off284_inb : ∀ (i : grid0.Coords) (v863 : BitVec 32) (k0_hw42 : k0_chk42 i v863) (k0_t183 : Fin (k0_t183_loop i v863).trips) (k0_t184 : Fin k0_t184_loop.trips), ∀ (k0_h138 : k0_cond138 i v863 = 1#1), ∀ a, (k0_off284 i v863 k0_t183 k0_t184) a + S1x16.size a ≤ S32x1024.size a := fun i v863 k0_hw42 k0_t183 k0_t184 k0_h138 => k0_hw42.2.2.2 k0_t183 k0_t184 k0_h138

def k0_off285 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r100 : BitVec 32 := 0#32
  ![9, v787.toNat, 0]
def k0_off286 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r101 : BitVec 32 := 0#32
  ![v787.toNat, 0]
@[reducible] def k0_t185_loop (i : grid0.Coords) (v871 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v872 : BitVec 32 := Scalar.subi v871 v787
  let c32_i32_832 : BitVec 32 := 32#32
  let v1785 : BitVec 32 := Scalar.subi c32_i32_832 v872
  let c1_i32_833 : BitVec 32 := 1#32
  let v1787 : BitVec 32 := Scalar.divsi v1785 c1_i32_833
  let v1788 : BitVec 32 := Scalar.muli v1787 c1_i32_833
  let v1789 : BitVec 32 := Scalar.addi v872 v1788
  let c1_i32_834 : BitVec 32 := 1#32
  ⟨v872, v1789, c1_i32_834⟩
def k0_cond139 (i : grid0.Coords) (v871 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v872 : BitVec 32 := Scalar.subi v871 v787
  let c0_i32_427 : BitVec 32 := 0#32
  let v873 : BitVec 1 := Scalar.cmpi .sgt v872 c0_i32_427
  let c32_i32_428 : BitVec 32 := 32#32
  let v874 : BitVec 1 := Scalar.cmpi .slt v872 c32_i32_428
  let v875 : BitVec 1 := Scalar.andi v873 v874
  let v876 : BitVec 32 := Scalar.extui v875
  let c0_i32_429 : BitVec 32 := 0#32
  let v877 : BitVec 1 := Scalar.cmpi .ne v876 c0_i32_429
  v877

@[reducible] def k0_t186_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off287 (i : grid0.Coords) (v871 : BitVec 32) (k0_t185 : Fin (k0_t185_loop i v871).trips) (k0_t186 : Fin k0_t186_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v872 : BitVec 32 := Scalar.subi v871 v787
  let c1_i32_834 : BitVec 32 := 1#32
  let arg15 : BitVec 32 := Scf.iv v872 c1_i32_834 k0_t185
  let v1793 : Index := Scalar.indexCast arg15
  let c0_i32_837 : BitVec 32 := 0#32
  let c1_i32_838 : BitVec 32 := 1#32
  let arg16 : BitVec 32 := Scf.iv c0_i32_837 c1_i32_838 k0_t186
  let c16_i32 : BitVec 32 := 16#32
  let v1792 : BitVec 32 := Scalar.muli arg16 c16_i32
  let v1794 : Index := Scalar.indexCast v1792
  ![v1793.toNat, v1794.toNat]
@[reducible] def k0_t187_loop (i : grid0.Coords) (v871 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v872 : BitVec 32 := Scalar.subi v871 v787
  let c32_i32_832 : BitVec 32 := 32#32
  let v1785 : BitVec 32 := Scalar.subi c32_i32_832 v872
  let c1_i32_833 : BitVec 32 := 1#32
  let v1787 : BitVec 32 := Scalar.divsi v1785 c1_i32_833
  let v1788 : BitVec 32 := Scalar.muli v1787 c1_i32_833
  let v1789 : BitVec 32 := Scalar.addi v872 v1788
  let v1786 : BitVec 32 := Scalar.addi v872 v1785
  let c1_i32_835 : BitVec 32 := 1#32
  ⟨v1789, v1786, c1_i32_835⟩
@[reducible] def k0_t188_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off288 (i : grid0.Coords) (v871 : BitVec 32) (k0_t187 : Fin (k0_t187_loop i v871).trips) (k0_t188 : Fin k0_t188_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v872 : BitVec 32 := Scalar.subi v871 v787
  let c32_i32_832 : BitVec 32 := 32#32
  let v1785 : BitVec 32 := Scalar.subi c32_i32_832 v872
  let c1_i32_833 : BitVec 32 := 1#32
  let v1787 : BitVec 32 := Scalar.divsi v1785 c1_i32_833
  let v1788 : BitVec 32 := Scalar.muli v1787 c1_i32_833
  let v1789 : BitVec 32 := Scalar.addi v872 v1788
  let c1_i32_835 : BitVec 32 := 1#32
  let arg15 : BitVec 32 := Scf.iv v1789 c1_i32_835 k0_t187
  let v1793 : Index := Scalar.indexCast arg15
  let c0_i32_837 : BitVec 32 := 0#32
  let c1_i32_838 : BitVec 32 := 1#32
  let arg16 : BitVec 32 := Scf.iv c0_i32_837 c1_i32_838 k0_t188
  let c16_i32 : BitVec 32 := 16#32
  let v1792 : BitVec 32 := Scalar.muli arg16 c16_i32
  let v1794 : Index := Scalar.indexCast v1792
  ![v1793.toNat, v1794.toNat]

def k0_chk43 (i : grid0.Coords) (v871 : BitVec 32) : Prop :=
  (∀ (k0_h139 : k0_cond139 i v871 = 1#1), (k0_t185_loop i v871).OK) ∧
  (∀ (k0_t185 : Fin (k0_t185_loop i v871).trips) (k0_t186 : Fin k0_t186_loop.trips), ∀ (k0_h139 : k0_cond139 i v871 = 1#1), ∀ a, (k0_off287 i v871 k0_t185 k0_t186) a + S1x16.size a ≤ S32x1024.size a) ∧
  (∀ (k0_h139 : k0_cond139 i v871 = 1#1), (k0_t187_loop i v871).OK) ∧
  (∀ (k0_t187 : Fin (k0_t187_loop i v871).trips) (k0_t188 : Fin k0_t188_loop.trips), ∀ (k0_h139 : k0_cond139 i v871 = 1#1), ∀ a, (k0_off288 i v871 k0_t187 k0_t188) a + S1x16.size a ≤ S32x1024.size a)
theorem k0_t185_ok : ∀ (i : grid0.Coords) (v871 : BitVec 32) (k0_hw43 : k0_chk43 i v871), ∀ (k0_h139 : k0_cond139 i v871 = 1#1), (k0_t185_loop i v871).OK := fun i v871 k0_hw43 k0_h139 => k0_hw43.1 k0_h139
theorem k0_off287_inb : ∀ (i : grid0.Coords) (v871 : BitVec 32) (k0_hw43 : k0_chk43 i v871) (k0_t185 : Fin (k0_t185_loop i v871).trips) (k0_t186 : Fin k0_t186_loop.trips), ∀ (k0_h139 : k0_cond139 i v871 = 1#1), ∀ a, (k0_off287 i v871 k0_t185 k0_t186) a + S1x16.size a ≤ S32x1024.size a := fun i v871 k0_hw43 k0_t185 k0_t186 k0_h139 => k0_hw43.2.1 k0_t185 k0_t186 k0_h139
theorem k0_t187_ok : ∀ (i : grid0.Coords) (v871 : BitVec 32) (k0_hw43 : k0_chk43 i v871), ∀ (k0_h139 : k0_cond139 i v871 = 1#1), (k0_t187_loop i v871).OK := fun i v871 k0_hw43 k0_h139 => k0_hw43.2.2.1 k0_h139
theorem k0_off288_inb : ∀ (i : grid0.Coords) (v871 : BitVec 32) (k0_hw43 : k0_chk43 i v871) (k0_t187 : Fin (k0_t187_loop i v871).trips) (k0_t188 : Fin k0_t188_loop.trips), ∀ (k0_h139 : k0_cond139 i v871 = 1#1), ∀ a, (k0_off288 i v871 k0_t187 k0_t188) a + S1x16.size a ≤ S32x1024.size a := fun i v871 k0_hw43 k0_t187 k0_t188 k0_h139 => k0_hw43.2.2.2 k0_t187 k0_t188 k0_h139

def k0_off289 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r102 : BitVec 32 := 0#32
  ![10, v787.toNat, 0]
def k0_off290 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r103 : BitVec 32 := 0#32
  ![v787.toNat, 0]
@[reducible] def k0_t189_loop (i : grid0.Coords) (v879 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v880 : BitVec 32 := Scalar.subi v879 v787
  let c32_i32_832 : BitVec 32 := 32#32
  let v1785 : BitVec 32 := Scalar.subi c32_i32_832 v880
  let c1_i32_833 : BitVec 32 := 1#32
  let v1787 : BitVec 32 := Scalar.divsi v1785 c1_i32_833
  let v1788 : BitVec 32 := Scalar.muli v1787 c1_i32_833
  let v1789 : BitVec 32 := Scalar.addi v880 v1788
  let c1_i32_834 : BitVec 32 := 1#32
  ⟨v880, v1789, c1_i32_834⟩
def k0_cond140 (i : grid0.Coords) (v879 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v880 : BitVec 32 := Scalar.subi v879 v787
  let c0_i32_430 : BitVec 32 := 0#32
  let v881 : BitVec 1 := Scalar.cmpi .sgt v880 c0_i32_430
  let c32_i32_431 : BitVec 32 := 32#32
  let v882 : BitVec 1 := Scalar.cmpi .slt v880 c32_i32_431
  let v883 : BitVec 1 := Scalar.andi v881 v882
  let v884 : BitVec 32 := Scalar.extui v883
  let c0_i32_432 : BitVec 32 := 0#32
  let v885 : BitVec 1 := Scalar.cmpi .ne v884 c0_i32_432
  v885

@[reducible] def k0_t190_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off291 (i : grid0.Coords) (v879 : BitVec 32) (k0_t189 : Fin (k0_t189_loop i v879).trips) (k0_t190 : Fin k0_t190_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v880 : BitVec 32 := Scalar.subi v879 v787
  let c1_i32_834 : BitVec 32 := 1#32
  let arg15 : BitVec 32 := Scf.iv v880 c1_i32_834 k0_t189
  let v1793 : Index := Scalar.indexCast arg15
  let c0_i32_837 : BitVec 32 := 0#32
  let c1_i32_838 : BitVec 32 := 1#32
  let arg16 : BitVec 32 := Scf.iv c0_i32_837 c1_i32_838 k0_t190
  let c16_i32 : BitVec 32 := 16#32
  let v1792 : BitVec 32 := Scalar.muli arg16 c16_i32
  let v1794 : Index := Scalar.indexCast v1792
  ![v1793.toNat, v1794.toNat]
@[reducible] def k0_t191_loop (i : grid0.Coords) (v879 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v880 : BitVec 32 := Scalar.subi v879 v787
  let c32_i32_832 : BitVec 32 := 32#32
  let v1785 : BitVec 32 := Scalar.subi c32_i32_832 v880
  let c1_i32_833 : BitVec 32 := 1#32
  let v1787 : BitVec 32 := Scalar.divsi v1785 c1_i32_833
  let v1788 : BitVec 32 := Scalar.muli v1787 c1_i32_833
  let v1789 : BitVec 32 := Scalar.addi v880 v1788
  let v1786 : BitVec 32 := Scalar.addi v880 v1785
  let c1_i32_835 : BitVec 32 := 1#32
  ⟨v1789, v1786, c1_i32_835⟩
@[reducible] def k0_t192_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off292 (i : grid0.Coords) (v879 : BitVec 32) (k0_t191 : Fin (k0_t191_loop i v879).trips) (k0_t192 : Fin k0_t192_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v880 : BitVec 32 := Scalar.subi v879 v787
  let c32_i32_832 : BitVec 32 := 32#32
  let v1785 : BitVec 32 := Scalar.subi c32_i32_832 v880
  let c1_i32_833 : BitVec 32 := 1#32
  let v1787 : BitVec 32 := Scalar.divsi v1785 c1_i32_833
  let v1788 : BitVec 32 := Scalar.muli v1787 c1_i32_833
  let v1789 : BitVec 32 := Scalar.addi v880 v1788
  let c1_i32_835 : BitVec 32 := 1#32
  let arg15 : BitVec 32 := Scf.iv v1789 c1_i32_835 k0_t191
  let v1793 : Index := Scalar.indexCast arg15
  let c0_i32_837 : BitVec 32 := 0#32
  let c1_i32_838 : BitVec 32 := 1#32
  let arg16 : BitVec 32 := Scf.iv c0_i32_837 c1_i32_838 k0_t192
  let c16_i32 : BitVec 32 := 16#32
  let v1792 : BitVec 32 := Scalar.muli arg16 c16_i32
  let v1794 : Index := Scalar.indexCast v1792
  ![v1793.toNat, v1794.toNat]

def k0_chk44 (i : grid0.Coords) (v879 : BitVec 32) : Prop :=
  (∀ (k0_h140 : k0_cond140 i v879 = 1#1), (k0_t189_loop i v879).OK) ∧
  (∀ (k0_t189 : Fin (k0_t189_loop i v879).trips) (k0_t190 : Fin k0_t190_loop.trips), ∀ (k0_h140 : k0_cond140 i v879 = 1#1), ∀ a, (k0_off291 i v879 k0_t189 k0_t190) a + S1x16.size a ≤ S32x1024.size a) ∧
  (∀ (k0_h140 : k0_cond140 i v879 = 1#1), (k0_t191_loop i v879).OK) ∧
  (∀ (k0_t191 : Fin (k0_t191_loop i v879).trips) (k0_t192 : Fin k0_t192_loop.trips), ∀ (k0_h140 : k0_cond140 i v879 = 1#1), ∀ a, (k0_off292 i v879 k0_t191 k0_t192) a + S1x16.size a ≤ S32x1024.size a)
theorem k0_t189_ok : ∀ (i : grid0.Coords) (v879 : BitVec 32) (k0_hw44 : k0_chk44 i v879), ∀ (k0_h140 : k0_cond140 i v879 = 1#1), (k0_t189_loop i v879).OK := fun i v879 k0_hw44 k0_h140 => k0_hw44.1 k0_h140
theorem k0_off291_inb : ∀ (i : grid0.Coords) (v879 : BitVec 32) (k0_hw44 : k0_chk44 i v879) (k0_t189 : Fin (k0_t189_loop i v879).trips) (k0_t190 : Fin k0_t190_loop.trips), ∀ (k0_h140 : k0_cond140 i v879 = 1#1), ∀ a, (k0_off291 i v879 k0_t189 k0_t190) a + S1x16.size a ≤ S32x1024.size a := fun i v879 k0_hw44 k0_t189 k0_t190 k0_h140 => k0_hw44.2.1 k0_t189 k0_t190 k0_h140
theorem k0_t191_ok : ∀ (i : grid0.Coords) (v879 : BitVec 32) (k0_hw44 : k0_chk44 i v879), ∀ (k0_h140 : k0_cond140 i v879 = 1#1), (k0_t191_loop i v879).OK := fun i v879 k0_hw44 k0_h140 => k0_hw44.2.2.1 k0_h140
theorem k0_off292_inb : ∀ (i : grid0.Coords) (v879 : BitVec 32) (k0_hw44 : k0_chk44 i v879) (k0_t191 : Fin (k0_t191_loop i v879).trips) (k0_t192 : Fin k0_t192_loop.trips), ∀ (k0_h140 : k0_cond140 i v879 = 1#1), ∀ a, (k0_off292 i v879 k0_t191 k0_t192) a + S1x16.size a ≤ S32x1024.size a := fun i v879 k0_hw44 k0_t191 k0_t192 k0_h140 => k0_hw44.2.2.2 k0_t191 k0_t192 k0_h140

def k0_off293 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r104 : BitVec 32 := 0#32
  ![11, v787.toNat, 0]
def k0_off294 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r105 : BitVec 32 := 0#32
  ![v787.toNat, 0]
@[reducible] def k0_t193_loop (i : grid0.Coords) (v887 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v888 : BitVec 32 := Scalar.subi v887 v787
  let c32_i32_832 : BitVec 32 := 32#32
  let v1785 : BitVec 32 := Scalar.subi c32_i32_832 v888
  let c1_i32_833 : BitVec 32 := 1#32
  let v1787 : BitVec 32 := Scalar.divsi v1785 c1_i32_833
  let v1788 : BitVec 32 := Scalar.muli v1787 c1_i32_833
  let v1789 : BitVec 32 := Scalar.addi v888 v1788
  let c1_i32_834 : BitVec 32 := 1#32
  ⟨v888, v1789, c1_i32_834⟩
def k0_cond141 (i : grid0.Coords) (v887 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v888 : BitVec 32 := Scalar.subi v887 v787
  let c0_i32_433 : BitVec 32 := 0#32
  let v889 : BitVec 1 := Scalar.cmpi .sgt v888 c0_i32_433
  let c32_i32_434 : BitVec 32 := 32#32
  let v890 : BitVec 1 := Scalar.cmpi .slt v888 c32_i32_434
  let v891 : BitVec 1 := Scalar.andi v889 v890
  let v892 : BitVec 32 := Scalar.extui v891
  let c0_i32_435 : BitVec 32 := 0#32
  let v893 : BitVec 1 := Scalar.cmpi .ne v892 c0_i32_435
  v893

@[reducible] def k0_t194_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off295 (i : grid0.Coords) (v887 : BitVec 32) (k0_t193 : Fin (k0_t193_loop i v887).trips) (k0_t194 : Fin k0_t194_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v888 : BitVec 32 := Scalar.subi v887 v787
  let c1_i32_834 : BitVec 32 := 1#32
  let arg15 : BitVec 32 := Scf.iv v888 c1_i32_834 k0_t193
  let v1793 : Index := Scalar.indexCast arg15
  let c0_i32_837 : BitVec 32 := 0#32
  let c1_i32_838 : BitVec 32 := 1#32
  let arg16 : BitVec 32 := Scf.iv c0_i32_837 c1_i32_838 k0_t194
  let c16_i32 : BitVec 32 := 16#32
  let v1792 : BitVec 32 := Scalar.muli arg16 c16_i32
  let v1794 : Index := Scalar.indexCast v1792
  ![v1793.toNat, v1794.toNat]
@[reducible] def k0_t195_loop (i : grid0.Coords) (v887 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v888 : BitVec 32 := Scalar.subi v887 v787
  let c32_i32_832 : BitVec 32 := 32#32
  let v1785 : BitVec 32 := Scalar.subi c32_i32_832 v888
  let c1_i32_833 : BitVec 32 := 1#32
  let v1787 : BitVec 32 := Scalar.divsi v1785 c1_i32_833
  let v1788 : BitVec 32 := Scalar.muli v1787 c1_i32_833
  let v1789 : BitVec 32 := Scalar.addi v888 v1788
  let v1786 : BitVec 32 := Scalar.addi v888 v1785
  let c1_i32_835 : BitVec 32 := 1#32
  ⟨v1789, v1786, c1_i32_835⟩
@[reducible] def k0_t196_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off296 (i : grid0.Coords) (v887 : BitVec 32) (k0_t195 : Fin (k0_t195_loop i v887).trips) (k0_t196 : Fin k0_t196_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v888 : BitVec 32 := Scalar.subi v887 v787
  let c32_i32_832 : BitVec 32 := 32#32
  let v1785 : BitVec 32 := Scalar.subi c32_i32_832 v888
  let c1_i32_833 : BitVec 32 := 1#32
  let v1787 : BitVec 32 := Scalar.divsi v1785 c1_i32_833
  let v1788 : BitVec 32 := Scalar.muli v1787 c1_i32_833
  let v1789 : BitVec 32 := Scalar.addi v888 v1788
  let c1_i32_835 : BitVec 32 := 1#32
  let arg15 : BitVec 32 := Scf.iv v1789 c1_i32_835 k0_t195
  let v1793 : Index := Scalar.indexCast arg15
  let c0_i32_837 : BitVec 32 := 0#32
  let c1_i32_838 : BitVec 32 := 1#32
  let arg16 : BitVec 32 := Scf.iv c0_i32_837 c1_i32_838 k0_t196
  let c16_i32 : BitVec 32 := 16#32
  let v1792 : BitVec 32 := Scalar.muli arg16 c16_i32
  let v1794 : Index := Scalar.indexCast v1792
  ![v1793.toNat, v1794.toNat]

def k0_chk45 (i : grid0.Coords) (v887 : BitVec 32) : Prop :=
  (∀ (k0_h141 : k0_cond141 i v887 = 1#1), (k0_t193_loop i v887).OK) ∧
  (∀ (k0_t193 : Fin (k0_t193_loop i v887).trips) (k0_t194 : Fin k0_t194_loop.trips), ∀ (k0_h141 : k0_cond141 i v887 = 1#1), ∀ a, (k0_off295 i v887 k0_t193 k0_t194) a + S1x16.size a ≤ S32x1024.size a) ∧
  (∀ (k0_h141 : k0_cond141 i v887 = 1#1), (k0_t195_loop i v887).OK) ∧
  (∀ (k0_t195 : Fin (k0_t195_loop i v887).trips) (k0_t196 : Fin k0_t196_loop.trips), ∀ (k0_h141 : k0_cond141 i v887 = 1#1), ∀ a, (k0_off296 i v887 k0_t195 k0_t196) a + S1x16.size a ≤ S32x1024.size a)
theorem k0_t193_ok : ∀ (i : grid0.Coords) (v887 : BitVec 32) (k0_hw45 : k0_chk45 i v887), ∀ (k0_h141 : k0_cond141 i v887 = 1#1), (k0_t193_loop i v887).OK := fun i v887 k0_hw45 k0_h141 => k0_hw45.1 k0_h141
theorem k0_off295_inb : ∀ (i : grid0.Coords) (v887 : BitVec 32) (k0_hw45 : k0_chk45 i v887) (k0_t193 : Fin (k0_t193_loop i v887).trips) (k0_t194 : Fin k0_t194_loop.trips), ∀ (k0_h141 : k0_cond141 i v887 = 1#1), ∀ a, (k0_off295 i v887 k0_t193 k0_t194) a + S1x16.size a ≤ S32x1024.size a := fun i v887 k0_hw45 k0_t193 k0_t194 k0_h141 => k0_hw45.2.1 k0_t193 k0_t194 k0_h141
theorem k0_t195_ok : ∀ (i : grid0.Coords) (v887 : BitVec 32) (k0_hw45 : k0_chk45 i v887), ∀ (k0_h141 : k0_cond141 i v887 = 1#1), (k0_t195_loop i v887).OK := fun i v887 k0_hw45 k0_h141 => k0_hw45.2.2.1 k0_h141
theorem k0_off296_inb : ∀ (i : grid0.Coords) (v887 : BitVec 32) (k0_hw45 : k0_chk45 i v887) (k0_t195 : Fin (k0_t195_loop i v887).trips) (k0_t196 : Fin k0_t196_loop.trips), ∀ (k0_h141 : k0_cond141 i v887 = 1#1), ∀ a, (k0_off296 i v887 k0_t195 k0_t196) a + S1x16.size a ≤ S32x1024.size a := fun i v887 k0_hw45 k0_t195 k0_t196 k0_h141 => k0_hw45.2.2.2 k0_t195 k0_t196 k0_h141

def k0_off297 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r106 : BitVec 32 := 0#32
  ![12, v787.toNat, 0]
def k0_off298 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r107 : BitVec 32 := 0#32
  ![v787.toNat, 0]
@[reducible] def k0_t197_loop (i : grid0.Coords) (v895 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v896 : BitVec 32 := Scalar.subi v895 v787
  let c32_i32_832 : BitVec 32 := 32#32
  let v1785 : BitVec 32 := Scalar.subi c32_i32_832 v896
  let c1_i32_833 : BitVec 32 := 1#32
  let v1787 : BitVec 32 := Scalar.divsi v1785 c1_i32_833
  let v1788 : BitVec 32 := Scalar.muli v1787 c1_i32_833
  let v1789 : BitVec 32 := Scalar.addi v896 v1788
  let c1_i32_834 : BitVec 32 := 1#32
  ⟨v896, v1789, c1_i32_834⟩
def k0_cond142 (i : grid0.Coords) (v895 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v896 : BitVec 32 := Scalar.subi v895 v787
  let c0_i32_436 : BitVec 32 := 0#32
  let v897 : BitVec 1 := Scalar.cmpi .sgt v896 c0_i32_436
  let c32_i32_437 : BitVec 32 := 32#32
  let v898 : BitVec 1 := Scalar.cmpi .slt v896 c32_i32_437
  let v899 : BitVec 1 := Scalar.andi v897 v898
  let v900 : BitVec 32 := Scalar.extui v899
  let c0_i32_438 : BitVec 32 := 0#32
  let v901 : BitVec 1 := Scalar.cmpi .ne v900 c0_i32_438
  v901

@[reducible] def k0_t198_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off299 (i : grid0.Coords) (v895 : BitVec 32) (k0_t197 : Fin (k0_t197_loop i v895).trips) (k0_t198 : Fin k0_t198_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v896 : BitVec 32 := Scalar.subi v895 v787
  let c1_i32_834 : BitVec 32 := 1#32
  let arg15 : BitVec 32 := Scf.iv v896 c1_i32_834 k0_t197
  let v1793 : Index := Scalar.indexCast arg15
  let c0_i32_837 : BitVec 32 := 0#32
  let c1_i32_838 : BitVec 32 := 1#32
  let arg16 : BitVec 32 := Scf.iv c0_i32_837 c1_i32_838 k0_t198
  let c16_i32 : BitVec 32 := 16#32
  let v1792 : BitVec 32 := Scalar.muli arg16 c16_i32
  let v1794 : Index := Scalar.indexCast v1792
  ![v1793.toNat, v1794.toNat]
@[reducible] def k0_t199_loop (i : grid0.Coords) (v895 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v896 : BitVec 32 := Scalar.subi v895 v787
  let c32_i32_832 : BitVec 32 := 32#32
  let v1785 : BitVec 32 := Scalar.subi c32_i32_832 v896
  let c1_i32_833 : BitVec 32 := 1#32
  let v1787 : BitVec 32 := Scalar.divsi v1785 c1_i32_833
  let v1788 : BitVec 32 := Scalar.muli v1787 c1_i32_833
  let v1789 : BitVec 32 := Scalar.addi v896 v1788
  let v1786 : BitVec 32 := Scalar.addi v896 v1785
  let c1_i32_835 : BitVec 32 := 1#32
  ⟨v1789, v1786, c1_i32_835⟩
@[reducible] def k0_t200_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off300 (i : grid0.Coords) (v895 : BitVec 32) (k0_t199 : Fin (k0_t199_loop i v895).trips) (k0_t200 : Fin k0_t200_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v896 : BitVec 32 := Scalar.subi v895 v787
  let c32_i32_832 : BitVec 32 := 32#32
  let v1785 : BitVec 32 := Scalar.subi c32_i32_832 v896
  let c1_i32_833 : BitVec 32 := 1#32
  let v1787 : BitVec 32 := Scalar.divsi v1785 c1_i32_833
  let v1788 : BitVec 32 := Scalar.muli v1787 c1_i32_833
  let v1789 : BitVec 32 := Scalar.addi v896 v1788
  let c1_i32_835 : BitVec 32 := 1#32
  let arg15 : BitVec 32 := Scf.iv v1789 c1_i32_835 k0_t199
  let v1793 : Index := Scalar.indexCast arg15
  let c0_i32_837 : BitVec 32 := 0#32
  let c1_i32_838 : BitVec 32 := 1#32
  let arg16 : BitVec 32 := Scf.iv c0_i32_837 c1_i32_838 k0_t200
  let c16_i32 : BitVec 32 := 16#32
  let v1792 : BitVec 32 := Scalar.muli arg16 c16_i32
  let v1794 : Index := Scalar.indexCast v1792
  ![v1793.toNat, v1794.toNat]

def k0_chk46 (i : grid0.Coords) (v895 : BitVec 32) : Prop :=
  (∀ (k0_h142 : k0_cond142 i v895 = 1#1), (k0_t197_loop i v895).OK) ∧
  (∀ (k0_t197 : Fin (k0_t197_loop i v895).trips) (k0_t198 : Fin k0_t198_loop.trips), ∀ (k0_h142 : k0_cond142 i v895 = 1#1), ∀ a, (k0_off299 i v895 k0_t197 k0_t198) a + S1x16.size a ≤ S32x1024.size a) ∧
  (∀ (k0_h142 : k0_cond142 i v895 = 1#1), (k0_t199_loop i v895).OK) ∧
  (∀ (k0_t199 : Fin (k0_t199_loop i v895).trips) (k0_t200 : Fin k0_t200_loop.trips), ∀ (k0_h142 : k0_cond142 i v895 = 1#1), ∀ a, (k0_off300 i v895 k0_t199 k0_t200) a + S1x16.size a ≤ S32x1024.size a)
theorem k0_t197_ok : ∀ (i : grid0.Coords) (v895 : BitVec 32) (k0_hw46 : k0_chk46 i v895), ∀ (k0_h142 : k0_cond142 i v895 = 1#1), (k0_t197_loop i v895).OK := fun i v895 k0_hw46 k0_h142 => k0_hw46.1 k0_h142
theorem k0_off299_inb : ∀ (i : grid0.Coords) (v895 : BitVec 32) (k0_hw46 : k0_chk46 i v895) (k0_t197 : Fin (k0_t197_loop i v895).trips) (k0_t198 : Fin k0_t198_loop.trips), ∀ (k0_h142 : k0_cond142 i v895 = 1#1), ∀ a, (k0_off299 i v895 k0_t197 k0_t198) a + S1x16.size a ≤ S32x1024.size a := fun i v895 k0_hw46 k0_t197 k0_t198 k0_h142 => k0_hw46.2.1 k0_t197 k0_t198 k0_h142
theorem k0_t199_ok : ∀ (i : grid0.Coords) (v895 : BitVec 32) (k0_hw46 : k0_chk46 i v895), ∀ (k0_h142 : k0_cond142 i v895 = 1#1), (k0_t199_loop i v895).OK := fun i v895 k0_hw46 k0_h142 => k0_hw46.2.2.1 k0_h142
theorem k0_off300_inb : ∀ (i : grid0.Coords) (v895 : BitVec 32) (k0_hw46 : k0_chk46 i v895) (k0_t199 : Fin (k0_t199_loop i v895).trips) (k0_t200 : Fin k0_t200_loop.trips), ∀ (k0_h142 : k0_cond142 i v895 = 1#1), ∀ a, (k0_off300 i v895 k0_t199 k0_t200) a + S1x16.size a ≤ S32x1024.size a := fun i v895 k0_hw46 k0_t199 k0_t200 k0_h142 => k0_hw46.2.2.2 k0_t199 k0_t200 k0_h142

def k0_off301 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r108 : BitVec 32 := 0#32
  ![13, v787.toNat, 0]
def k0_off302 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r109 : BitVec 32 := 0#32
  ![v787.toNat, 0]
@[reducible] def k0_t201_loop (i : grid0.Coords) (v903 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v904 : BitVec 32 := Scalar.subi v903 v787
  let c32_i32_832 : BitVec 32 := 32#32
  let v1785 : BitVec 32 := Scalar.subi c32_i32_832 v904
  let c1_i32_833 : BitVec 32 := 1#32
  let v1787 : BitVec 32 := Scalar.divsi v1785 c1_i32_833
  let v1788 : BitVec 32 := Scalar.muli v1787 c1_i32_833
  let v1789 : BitVec 32 := Scalar.addi v904 v1788
  let c1_i32_834 : BitVec 32 := 1#32
  ⟨v904, v1789, c1_i32_834⟩
def k0_cond143 (i : grid0.Coords) (v903 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v904 : BitVec 32 := Scalar.subi v903 v787
  let c0_i32_439 : BitVec 32 := 0#32
  let v905 : BitVec 1 := Scalar.cmpi .sgt v904 c0_i32_439
  let c32_i32_440 : BitVec 32 := 32#32
  let v906 : BitVec 1 := Scalar.cmpi .slt v904 c32_i32_440
  let v907 : BitVec 1 := Scalar.andi v905 v906
  let v908 : BitVec 32 := Scalar.extui v907
  let c0_i32_441 : BitVec 32 := 0#32
  let v909 : BitVec 1 := Scalar.cmpi .ne v908 c0_i32_441
  v909

@[reducible] def k0_t202_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off303 (i : grid0.Coords) (v903 : BitVec 32) (k0_t201 : Fin (k0_t201_loop i v903).trips) (k0_t202 : Fin k0_t202_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v904 : BitVec 32 := Scalar.subi v903 v787
  let c1_i32_834 : BitVec 32 := 1#32
  let arg15 : BitVec 32 := Scf.iv v904 c1_i32_834 k0_t201
  let v1793 : Index := Scalar.indexCast arg15
  let c0_i32_837 : BitVec 32 := 0#32
  let c1_i32_838 : BitVec 32 := 1#32
  let arg16 : BitVec 32 := Scf.iv c0_i32_837 c1_i32_838 k0_t202
  let c16_i32 : BitVec 32 := 16#32
  let v1792 : BitVec 32 := Scalar.muli arg16 c16_i32
  let v1794 : Index := Scalar.indexCast v1792
  ![v1793.toNat, v1794.toNat]
@[reducible] def k0_t203_loop (i : grid0.Coords) (v903 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v904 : BitVec 32 := Scalar.subi v903 v787
  let c32_i32_832 : BitVec 32 := 32#32
  let v1785 : BitVec 32 := Scalar.subi c32_i32_832 v904
  let c1_i32_833 : BitVec 32 := 1#32
  let v1787 : BitVec 32 := Scalar.divsi v1785 c1_i32_833
  let v1788 : BitVec 32 := Scalar.muli v1787 c1_i32_833
  let v1789 : BitVec 32 := Scalar.addi v904 v1788
  let v1786 : BitVec 32 := Scalar.addi v904 v1785
  let c1_i32_835 : BitVec 32 := 1#32
  ⟨v1789, v1786, c1_i32_835⟩
@[reducible] def k0_t204_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off304 (i : grid0.Coords) (v903 : BitVec 32) (k0_t203 : Fin (k0_t203_loop i v903).trips) (k0_t204 : Fin k0_t204_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v904 : BitVec 32 := Scalar.subi v903 v787
  let c32_i32_832 : BitVec 32 := 32#32
  let v1785 : BitVec 32 := Scalar.subi c32_i32_832 v904
  let c1_i32_833 : BitVec 32 := 1#32
  let v1787 : BitVec 32 := Scalar.divsi v1785 c1_i32_833
  let v1788 : BitVec 32 := Scalar.muli v1787 c1_i32_833
  let v1789 : BitVec 32 := Scalar.addi v904 v1788
  let c1_i32_835 : BitVec 32 := 1#32
  let arg15 : BitVec 32 := Scf.iv v1789 c1_i32_835 k0_t203
  let v1793 : Index := Scalar.indexCast arg15
  let c0_i32_837 : BitVec 32 := 0#32
  let c1_i32_838 : BitVec 32 := 1#32
  let arg16 : BitVec 32 := Scf.iv c0_i32_837 c1_i32_838 k0_t204
  let c16_i32 : BitVec 32 := 16#32
  let v1792 : BitVec 32 := Scalar.muli arg16 c16_i32
  let v1794 : Index := Scalar.indexCast v1792
  ![v1793.toNat, v1794.toNat]

def k0_chk47 (i : grid0.Coords) (v903 : BitVec 32) : Prop :=
  (∀ (k0_h143 : k0_cond143 i v903 = 1#1), (k0_t201_loop i v903).OK) ∧
  (∀ (k0_t201 : Fin (k0_t201_loop i v903).trips) (k0_t202 : Fin k0_t202_loop.trips), ∀ (k0_h143 : k0_cond143 i v903 = 1#1), ∀ a, (k0_off303 i v903 k0_t201 k0_t202) a + S1x16.size a ≤ S32x1024.size a) ∧
  (∀ (k0_h143 : k0_cond143 i v903 = 1#1), (k0_t203_loop i v903).OK) ∧
  (∀ (k0_t203 : Fin (k0_t203_loop i v903).trips) (k0_t204 : Fin k0_t204_loop.trips), ∀ (k0_h143 : k0_cond143 i v903 = 1#1), ∀ a, (k0_off304 i v903 k0_t203 k0_t204) a + S1x16.size a ≤ S32x1024.size a)
theorem k0_t201_ok : ∀ (i : grid0.Coords) (v903 : BitVec 32) (k0_hw47 : k0_chk47 i v903), ∀ (k0_h143 : k0_cond143 i v903 = 1#1), (k0_t201_loop i v903).OK := fun i v903 k0_hw47 k0_h143 => k0_hw47.1 k0_h143
theorem k0_off303_inb : ∀ (i : grid0.Coords) (v903 : BitVec 32) (k0_hw47 : k0_chk47 i v903) (k0_t201 : Fin (k0_t201_loop i v903).trips) (k0_t202 : Fin k0_t202_loop.trips), ∀ (k0_h143 : k0_cond143 i v903 = 1#1), ∀ a, (k0_off303 i v903 k0_t201 k0_t202) a + S1x16.size a ≤ S32x1024.size a := fun i v903 k0_hw47 k0_t201 k0_t202 k0_h143 => k0_hw47.2.1 k0_t201 k0_t202 k0_h143
theorem k0_t203_ok : ∀ (i : grid0.Coords) (v903 : BitVec 32) (k0_hw47 : k0_chk47 i v903), ∀ (k0_h143 : k0_cond143 i v903 = 1#1), (k0_t203_loop i v903).OK := fun i v903 k0_hw47 k0_h143 => k0_hw47.2.2.1 k0_h143
theorem k0_off304_inb : ∀ (i : grid0.Coords) (v903 : BitVec 32) (k0_hw47 : k0_chk47 i v903) (k0_t203 : Fin (k0_t203_loop i v903).trips) (k0_t204 : Fin k0_t204_loop.trips), ∀ (k0_h143 : k0_cond143 i v903 = 1#1), ∀ a, (k0_off304 i v903 k0_t203 k0_t204) a + S1x16.size a ≤ S32x1024.size a := fun i v903 k0_hw47 k0_t203 k0_t204 k0_h143 => k0_hw47.2.2.2 k0_t203 k0_t204 k0_h143

def k0_off305 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r110 : BitVec 32 := 0#32
  ![14, v787.toNat, 0]
def k0_off306 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r111 : BitVec 32 := 0#32
  ![v787.toNat, 0]
@[reducible] def k0_t205_loop (i : grid0.Coords) (v911 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v912 : BitVec 32 := Scalar.subi v911 v787
  let c32_i32_832 : BitVec 32 := 32#32
  let v1785 : BitVec 32 := Scalar.subi c32_i32_832 v912
  let c1_i32_833 : BitVec 32 := 1#32
  let v1787 : BitVec 32 := Scalar.divsi v1785 c1_i32_833
  let v1788 : BitVec 32 := Scalar.muli v1787 c1_i32_833
  let v1789 : BitVec 32 := Scalar.addi v912 v1788
  let c1_i32_834 : BitVec 32 := 1#32
  ⟨v912, v1789, c1_i32_834⟩
def k0_cond144 (i : grid0.Coords) (v911 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v912 : BitVec 32 := Scalar.subi v911 v787
  let c0_i32_442 : BitVec 32 := 0#32
  let v913 : BitVec 1 := Scalar.cmpi .sgt v912 c0_i32_442
  let c32_i32_443 : BitVec 32 := 32#32
  let v914 : BitVec 1 := Scalar.cmpi .slt v912 c32_i32_443
  let v915 : BitVec 1 := Scalar.andi v913 v914
  let v916 : BitVec 32 := Scalar.extui v915
  let c0_i32_444 : BitVec 32 := 0#32
  let v917 : BitVec 1 := Scalar.cmpi .ne v916 c0_i32_444
  v917

@[reducible] def k0_t206_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off307 (i : grid0.Coords) (v911 : BitVec 32) (k0_t205 : Fin (k0_t205_loop i v911).trips) (k0_t206 : Fin k0_t206_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v912 : BitVec 32 := Scalar.subi v911 v787
  let c1_i32_834 : BitVec 32 := 1#32
  let arg15 : BitVec 32 := Scf.iv v912 c1_i32_834 k0_t205
  let v1793 : Index := Scalar.indexCast arg15
  let c0_i32_837 : BitVec 32 := 0#32
  let c1_i32_838 : BitVec 32 := 1#32
  let arg16 : BitVec 32 := Scf.iv c0_i32_837 c1_i32_838 k0_t206
  let c16_i32 : BitVec 32 := 16#32
  let v1792 : BitVec 32 := Scalar.muli arg16 c16_i32
  let v1794 : Index := Scalar.indexCast v1792
  ![v1793.toNat, v1794.toNat]
@[reducible] def k0_t207_loop (i : grid0.Coords) (v911 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v912 : BitVec 32 := Scalar.subi v911 v787
  let c32_i32_832 : BitVec 32 := 32#32
  let v1785 : BitVec 32 := Scalar.subi c32_i32_832 v912
  let c1_i32_833 : BitVec 32 := 1#32
  let v1787 : BitVec 32 := Scalar.divsi v1785 c1_i32_833
  let v1788 : BitVec 32 := Scalar.muli v1787 c1_i32_833
  let v1789 : BitVec 32 := Scalar.addi v912 v1788
  let v1786 : BitVec 32 := Scalar.addi v912 v1785
  let c1_i32_835 : BitVec 32 := 1#32
  ⟨v1789, v1786, c1_i32_835⟩
@[reducible] def k0_t208_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off308 (i : grid0.Coords) (v911 : BitVec 32) (k0_t207 : Fin (k0_t207_loop i v911).trips) (k0_t208 : Fin k0_t208_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let v912 : BitVec 32 := Scalar.subi v911 v787
  let c32_i32_832 : BitVec 32 := 32#32
  let v1785 : BitVec 32 := Scalar.subi c32_i32_832 v912
  let c1_i32_833 : BitVec 32 := 1#32
  let v1787 : BitVec 32 := Scalar.divsi v1785 c1_i32_833
  let v1788 : BitVec 32 := Scalar.muli v1787 c1_i32_833
  let v1789 : BitVec 32 := Scalar.addi v912 v1788
  let c1_i32_835 : BitVec 32 := 1#32
  let arg15 : BitVec 32 := Scf.iv v1789 c1_i32_835 k0_t207
  let v1793 : Index := Scalar.indexCast arg15
  let c0_i32_837 : BitVec 32 := 0#32
  let c1_i32_838 : BitVec 32 := 1#32
  let arg16 : BitVec 32 := Scf.iv c0_i32_837 c1_i32_838 k0_t208
  let c16_i32 : BitVec 32 := 16#32
  let v1792 : BitVec 32 := Scalar.muli arg16 c16_i32
  let v1794 : Index := Scalar.indexCast v1792
  ![v1793.toNat, v1794.toNat]

def k0_chk48 (i : grid0.Coords) (v911 : BitVec 32) : Prop :=
  (∀ (k0_h144 : k0_cond144 i v911 = 1#1), (k0_t205_loop i v911).OK) ∧
  (∀ (k0_t205 : Fin (k0_t205_loop i v911).trips) (k0_t206 : Fin k0_t206_loop.trips), ∀ (k0_h144 : k0_cond144 i v911 = 1#1), ∀ a, (k0_off307 i v911 k0_t205 k0_t206) a + S1x16.size a ≤ S32x1024.size a) ∧
  (∀ (k0_h144 : k0_cond144 i v911 = 1#1), (k0_t207_loop i v911).OK) ∧
  (∀ (k0_t207 : Fin (k0_t207_loop i v911).trips) (k0_t208 : Fin k0_t208_loop.trips), ∀ (k0_h144 : k0_cond144 i v911 = 1#1), ∀ a, (k0_off308 i v911 k0_t207 k0_t208) a + S1x16.size a ≤ S32x1024.size a)
theorem k0_t205_ok : ∀ (i : grid0.Coords) (v911 : BitVec 32) (k0_hw48 : k0_chk48 i v911), ∀ (k0_h144 : k0_cond144 i v911 = 1#1), (k0_t205_loop i v911).OK := fun i v911 k0_hw48 k0_h144 => k0_hw48.1 k0_h144
theorem k0_off307_inb : ∀ (i : grid0.Coords) (v911 : BitVec 32) (k0_hw48 : k0_chk48 i v911) (k0_t205 : Fin (k0_t205_loop i v911).trips) (k0_t206 : Fin k0_t206_loop.trips), ∀ (k0_h144 : k0_cond144 i v911 = 1#1), ∀ a, (k0_off307 i v911 k0_t205 k0_t206) a + S1x16.size a ≤ S32x1024.size a := fun i v911 k0_hw48 k0_t205 k0_t206 k0_h144 => k0_hw48.2.1 k0_t205 k0_t206 k0_h144
theorem k0_t207_ok : ∀ (i : grid0.Coords) (v911 : BitVec 32) (k0_hw48 : k0_chk48 i v911), ∀ (k0_h144 : k0_cond144 i v911 = 1#1), (k0_t207_loop i v911).OK := fun i v911 k0_hw48 k0_h144 => k0_hw48.2.2.1 k0_h144
theorem k0_off308_inb : ∀ (i : grid0.Coords) (v911 : BitVec 32) (k0_hw48 : k0_chk48 i v911) (k0_t207 : Fin (k0_t207_loop i v911).trips) (k0_t208 : Fin k0_t208_loop.trips), ∀ (k0_h144 : k0_cond144 i v911 = 1#1), ∀ a, (k0_off308 i v911 k0_t207 k0_t208) a + S1x16.size a ≤ S32x1024.size a := fun i v911 k0_hw48 k0_t207 k0_t208 k0_h144 => k0_hw48.2.2.2 k0_t207 k0_t208 k0_h144

def k0_off309 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r112 : BitVec 32 := 0#32
  ![15, v787.toNat, 0]
def k0_off310 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_836_r113 : BitVec 32 := 0#32
  ![v787.toNat, 0]
def k0_off311 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![0, v920.toNat, 0]
def k0_off312 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![0, v920.toNat, 0]
def k0_off313 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![1, v920.toNat, 0]
def k0_off314 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![1, v920.toNat, 0]
def k0_off315 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![2, v920.toNat, 0]
def k0_off316 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![2, v920.toNat, 0]
def k0_off317 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![3, v920.toNat, 0]
def k0_off318 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![3, v920.toNat, 0]
def k0_off319 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![4, v920.toNat, 0]
def k0_off320 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![4, v920.toNat, 0]
def k0_off321 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![5, v920.toNat, 0]
def k0_off322 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![5, v920.toNat, 0]
def k0_off323 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![6, v920.toNat, 0]
def k0_off324 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![6, v920.toNat, 0]
def k0_off325 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![7, v920.toNat, 0]
def k0_off326 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![7, v920.toNat, 0]
def k0_off327 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![8, v920.toNat, 0]
def k0_off328 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_832 : BitVec 32 := 0#32
  ![8, v920.toNat, 0]
def k0_off329 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![9, v920.toNat, 0]
def k0_off330 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![9, v920.toNat, 0]
def k0_off331 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![10, v920.toNat, 0]
def k0_off332 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![10, v920.toNat, 0]
def k0_off333 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![11, v920.toNat, 0]
def k0_off334 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![11, v920.toNat, 0]
def k0_off335 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![12, v920.toNat, 0]
def k0_off336 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![12, v920.toNat, 0]
def k0_off337 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![13, v920.toNat, 0]
def k0_off338 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![13, v920.toNat, 0]
def k0_off339 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![14, v920.toNat, 0]
def k0_off340 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![14, v920.toNat, 0]
def k0_off341 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![15, v920.toNat, 0]
def k0_off342 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_445 : BitVec 32 := 4#32
  let v918 : BitVec 32 := Scalar.muli v1 c4_i32_445
  let c1_i32_446 : BitVec 32 := 1#32
  let v919 : BitVec 32 := Scalar.addi v918 c1_i32_446
  let c32_i32_447 : BitVec 32 := 32#32
  let v920 : BitVec 32 := Scalar.muli v919 c32_i32_447
  let c0_i32_831 : BitVec 32 := 0#32
  ![15, v920.toNat, 0]
def k0_off343 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_512 : BitVec 32 := 4#32
  let v1065 : BitVec 32 := Scalar.muli v1 c4_i32_512
  let c3_i32 : BitVec 32 := 3#32
  let v1066 : BitVec 32 := Scalar.addi v1065 c3_i32
  let c32_i32_513 : BitVec 32 := 32#32
  let v1067 : BitVec 32 := Scalar.muli v1066 c32_i32_513
  let c0_i32_514 : BitVec 32 := 0#32
  ![v1067.toNat, 0]
def k0_off344 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![0, v787.toNat, 0]
def k0_off345 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![0, v787.toNat, 0]
def k0_off346 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![1, v787.toNat, 0]
def k0_off347 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![1, v787.toNat, 0]
def k0_off348 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![2, v787.toNat, 0]
def k0_off349 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![2, v787.toNat, 0]
def k0_off350 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![3, v787.toNat, 0]
def k0_off351 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![3, v787.toNat, 0]
def k0_off352 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![4, v787.toNat, 0]
def k0_off353 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![4, v787.toNat, 0]
def k0_off354 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![5, v787.toNat, 0]
def k0_off355 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![5, v787.toNat, 0]
def k0_off356 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![6, v787.toNat, 0]
def k0_off357 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![6, v787.toNat, 0]
def k0_off358 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![7, v787.toNat, 0]
def k0_off359 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![7, v787.toNat, 0]
def k0_off360 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![8, v787.toNat, 0]
def k0_off361 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_832 : BitVec 32 := 0#32
  ![8, v787.toNat, 0]
def k0_off362 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![9, v787.toNat, 0]
def k0_off363 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![9, v787.toNat, 0]
def k0_off364 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![10, v787.toNat, 0]
def k0_off365 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![10, v787.toNat, 0]
def k0_off366 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![11, v787.toNat, 0]
def k0_off367 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![11, v787.toNat, 0]
def k0_off368 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![12, v787.toNat, 0]
def k0_off369 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![12, v787.toNat, 0]
def k0_off370 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![13, v787.toNat, 0]
def k0_off371 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![13, v787.toNat, 0]
def k0_off372 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![14, v787.toNat, 0]
def k0_off373 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![14, v787.toNat, 0]
def k0_off374 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![15, v787.toNat, 0]
def k0_off375 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_392 : BitVec 32 := 4#32
  let v785 : BitVec 32 := Scalar.muli v1 c4_i32_392
  let c2_i32_393 : BitVec 32 := 2#32
  let v786 : BitVec 32 := Scalar.addi v785 c2_i32_393
  let c32_i32_394 : BitVec 32 := 32#32
  let v787 : BitVec 32 := Scalar.muli v786 c32_i32_394
  let c0_i32_831 : BitVec 32 := 0#32
  ![15, v787.toNat, 0]
def k0_off376 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_583 : BitVec 32 := 0#32
  ![v1216.toNat, 0]
@[reducible] def k0_t209_loop (i : grid0.Coords) (v1220 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1221 : BitVec 32 := Scalar.subi v1220 v1216
  let c32_i32_832 : BitVec 32 := 32#32
  let v1785 : BitVec 32 := Scalar.subi c32_i32_832 v1221
  let c1_i32_833 : BitVec 32 := 1#32
  let v1787 : BitVec 32 := Scalar.divsi v1785 c1_i32_833
  let v1788 : BitVec 32 := Scalar.muli v1787 c1_i32_833
  let v1789 : BitVec 32 := Scalar.addi v1221 v1788
  let c1_i32_834 : BitVec 32 := 1#32
  ⟨v1221, v1789, c1_i32_834⟩
def k0_cond209 (i : grid0.Coords) (v1220 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1221 : BitVec 32 := Scalar.subi v1220 v1216
  let c0_i32_585 : BitVec 32 := 0#32
  let v1222 : BitVec 1 := Scalar.cmpi .sgt v1221 c0_i32_585
  let c32_i32_586 : BitVec 32 := 32#32
  let v1223 : BitVec 1 := Scalar.cmpi .slt v1221 c32_i32_586
  let v1224 : BitVec 1 := Scalar.andi v1222 v1223
  let v1225 : BitVec 32 := Scalar.extui v1224
  let c0_i32_587 : BitVec 32 := 0#32
  let v1226 : BitVec 1 := Scalar.cmpi .ne v1225 c0_i32_587
  v1226

@[reducible] def k0_t210_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off377 (i : grid0.Coords) (v1220 : BitVec 32) (k0_t209 : Fin (k0_t209_loop i v1220).trips) (k0_t210 : Fin k0_t210_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1221 : BitVec 32 := Scalar.subi v1220 v1216
  let c1_i32_834 : BitVec 32 := 1#32
  let arg15 : BitVec 32 := Scf.iv v1221 c1_i32_834 k0_t209
  let v1793 : Index := Scalar.indexCast arg15
  let c0_i32_838 : BitVec 32 := 0#32
  let c1_i32_839 : BitVec 32 := 1#32
  let arg16 : BitVec 32 := Scf.iv c0_i32_838 c1_i32_839 k0_t210
  let c16_i32 : BitVec 32 := 16#32
  let v1792 : BitVec 32 := Scalar.muli arg16 c16_i32
  let v1794 : Index := Scalar.indexCast v1792
  ![v1793.toNat, v1794.toNat]
@[reducible] def k0_t211_loop (i : grid0.Coords) (v1220 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1221 : BitVec 32 := Scalar.subi v1220 v1216
  let c32_i32_832 : BitVec 32 := 32#32
  let v1785 : BitVec 32 := Scalar.subi c32_i32_832 v1221
  let c1_i32_833 : BitVec 32 := 1#32
  let v1787 : BitVec 32 := Scalar.divsi v1785 c1_i32_833
  let v1788 : BitVec 32 := Scalar.muli v1787 c1_i32_833
  let v1789 : BitVec 32 := Scalar.addi v1221 v1788
  let v1786 : BitVec 32 := Scalar.addi v1221 v1785
  let c1_i32_835 : BitVec 32 := 1#32
  ⟨v1789, v1786, c1_i32_835⟩
@[reducible] def k0_t212_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off378 (i : grid0.Coords) (v1220 : BitVec 32) (k0_t211 : Fin (k0_t211_loop i v1220).trips) (k0_t212 : Fin k0_t212_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1221 : BitVec 32 := Scalar.subi v1220 v1216
  let c32_i32_832 : BitVec 32 := 32#32
  let v1785 : BitVec 32 := Scalar.subi c32_i32_832 v1221
  let c1_i32_833 : BitVec 32 := 1#32
  let v1787 : BitVec 32 := Scalar.divsi v1785 c1_i32_833
  let v1788 : BitVec 32 := Scalar.muli v1787 c1_i32_833
  let v1789 : BitVec 32 := Scalar.addi v1221 v1788
  let c1_i32_835 : BitVec 32 := 1#32
  let arg15 : BitVec 32 := Scf.iv v1789 c1_i32_835 k0_t211
  let v1793 : Index := Scalar.indexCast arg15
  let c0_i32_838 : BitVec 32 := 0#32
  let c1_i32_839 : BitVec 32 := 1#32
  let arg16 : BitVec 32 := Scf.iv c0_i32_838 c1_i32_839 k0_t212
  let c16_i32 : BitVec 32 := 16#32
  let v1792 : BitVec 32 := Scalar.muli arg16 c16_i32
  let v1794 : Index := Scalar.indexCast v1792
  ![v1793.toNat, v1794.toNat]

def k0_chk49 (i : grid0.Coords) (v1220 : BitVec 32) : Prop :=
  (∀ (k0_h209 : k0_cond209 i v1220 = 1#1), (k0_t209_loop i v1220).OK) ∧
  (∀ (k0_t209 : Fin (k0_t209_loop i v1220).trips) (k0_t210 : Fin k0_t210_loop.trips), ∀ (k0_h209 : k0_cond209 i v1220 = 1#1), ∀ a, (k0_off377 i v1220 k0_t209 k0_t210) a + S1x16.size a ≤ S32x1024.size a) ∧
  (∀ (k0_h209 : k0_cond209 i v1220 = 1#1), (k0_t211_loop i v1220).OK) ∧
  (∀ (k0_t211 : Fin (k0_t211_loop i v1220).trips) (k0_t212 : Fin k0_t212_loop.trips), ∀ (k0_h209 : k0_cond209 i v1220 = 1#1), ∀ a, (k0_off378 i v1220 k0_t211 k0_t212) a + S1x16.size a ≤ S32x1024.size a)
theorem k0_t209_ok : ∀ (i : grid0.Coords) (v1220 : BitVec 32) (k0_hw49 : k0_chk49 i v1220), ∀ (k0_h209 : k0_cond209 i v1220 = 1#1), (k0_t209_loop i v1220).OK := fun i v1220 k0_hw49 k0_h209 => k0_hw49.1 k0_h209
theorem k0_off377_inb : ∀ (i : grid0.Coords) (v1220 : BitVec 32) (k0_hw49 : k0_chk49 i v1220) (k0_t209 : Fin (k0_t209_loop i v1220).trips) (k0_t210 : Fin k0_t210_loop.trips), ∀ (k0_h209 : k0_cond209 i v1220 = 1#1), ∀ a, (k0_off377 i v1220 k0_t209 k0_t210) a + S1x16.size a ≤ S32x1024.size a := fun i v1220 k0_hw49 k0_t209 k0_t210 k0_h209 => k0_hw49.2.1 k0_t209 k0_t210 k0_h209
theorem k0_t211_ok : ∀ (i : grid0.Coords) (v1220 : BitVec 32) (k0_hw49 : k0_chk49 i v1220), ∀ (k0_h209 : k0_cond209 i v1220 = 1#1), (k0_t211_loop i v1220).OK := fun i v1220 k0_hw49 k0_h209 => k0_hw49.2.2.1 k0_h209
theorem k0_off378_inb : ∀ (i : grid0.Coords) (v1220 : BitVec 32) (k0_hw49 : k0_chk49 i v1220) (k0_t211 : Fin (k0_t211_loop i v1220).trips) (k0_t212 : Fin k0_t212_loop.trips), ∀ (k0_h209 : k0_cond209 i v1220 = 1#1), ∀ a, (k0_off378 i v1220 k0_t211 k0_t212) a + S1x16.size a ≤ S32x1024.size a := fun i v1220 k0_hw49 k0_t211 k0_t212 k0_h209 => k0_hw49.2.2.2 k0_t211 k0_t212 k0_h209

def k0_off379 (i : grid0.Coords) : Fin 3 → Nat :=
  let c0_i32_836 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r114 : BitVec 32 := 0#32
  ![0, v1216.toNat, 0]
def k0_off380 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r115 : BitVec 32 := 0#32
  ![v1216.toNat, 0]
@[reducible] def k0_t213_loop (i : grid0.Coords) (v1228 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1229 : BitVec 32 := Scalar.subi v1228 v1216
  let c32_i32_832 : BitVec 32 := 32#32
  let v1785 : BitVec 32 := Scalar.subi c32_i32_832 v1229
  let c1_i32_833 : BitVec 32 := 1#32
  let v1787 : BitVec 32 := Scalar.divsi v1785 c1_i32_833
  let v1788 : BitVec 32 := Scalar.muli v1787 c1_i32_833
  let v1789 : BitVec 32 := Scalar.addi v1229 v1788
  let c1_i32_834 : BitVec 32 := 1#32
  ⟨v1229, v1789, c1_i32_834⟩
def k0_cond210 (i : grid0.Coords) (v1228 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1229 : BitVec 32 := Scalar.subi v1228 v1216
  let c0_i32_588 : BitVec 32 := 0#32
  let v1230 : BitVec 1 := Scalar.cmpi .sgt v1229 c0_i32_588
  let c32_i32_589 : BitVec 32 := 32#32
  let v1231 : BitVec 1 := Scalar.cmpi .slt v1229 c32_i32_589
  let v1232 : BitVec 1 := Scalar.andi v1230 v1231
  let v1233 : BitVec 32 := Scalar.extui v1232
  let c0_i32_590 : BitVec 32 := 0#32
  let v1234 : BitVec 1 := Scalar.cmpi .ne v1233 c0_i32_590
  v1234

@[reducible] def k0_t214_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off381 (i : grid0.Coords) (v1228 : BitVec 32) (k0_t213 : Fin (k0_t213_loop i v1228).trips) (k0_t214 : Fin k0_t214_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1229 : BitVec 32 := Scalar.subi v1228 v1216
  let c1_i32_834 : BitVec 32 := 1#32
  let arg15 : BitVec 32 := Scf.iv v1229 c1_i32_834 k0_t213
  let v1793 : Index := Scalar.indexCast arg15
  let c0_i32_838 : BitVec 32 := 0#32
  let c1_i32_839 : BitVec 32 := 1#32
  let arg16 : BitVec 32 := Scf.iv c0_i32_838 c1_i32_839 k0_t214
  let c16_i32 : BitVec 32 := 16#32
  let v1792 : BitVec 32 := Scalar.muli arg16 c16_i32
  let v1794 : Index := Scalar.indexCast v1792
  ![v1793.toNat, v1794.toNat]
@[reducible] def k0_t215_loop (i : grid0.Coords) (v1228 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1229 : BitVec 32 := Scalar.subi v1228 v1216
  let c32_i32_832 : BitVec 32 := 32#32
  let v1785 : BitVec 32 := Scalar.subi c32_i32_832 v1229
  let c1_i32_833 : BitVec 32 := 1#32
  let v1787 : BitVec 32 := Scalar.divsi v1785 c1_i32_833
  let v1788 : BitVec 32 := Scalar.muli v1787 c1_i32_833
  let v1789 : BitVec 32 := Scalar.addi v1229 v1788
  let v1786 : BitVec 32 := Scalar.addi v1229 v1785
  let c1_i32_835 : BitVec 32 := 1#32
  ⟨v1789, v1786, c1_i32_835⟩
@[reducible] def k0_t216_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off382 (i : grid0.Coords) (v1228 : BitVec 32) (k0_t215 : Fin (k0_t215_loop i v1228).trips) (k0_t216 : Fin k0_t216_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1229 : BitVec 32 := Scalar.subi v1228 v1216
  let c32_i32_832 : BitVec 32 := 32#32
  let v1785 : BitVec 32 := Scalar.subi c32_i32_832 v1229
  let c1_i32_833 : BitVec 32 := 1#32
  let v1787 : BitVec 32 := Scalar.divsi v1785 c1_i32_833
  let v1788 : BitVec 32 := Scalar.muli v1787 c1_i32_833
  let v1789 : BitVec 32 := Scalar.addi v1229 v1788
  let c1_i32_835 : BitVec 32 := 1#32
  let arg15 : BitVec 32 := Scf.iv v1789 c1_i32_835 k0_t215
  let v1793 : Index := Scalar.indexCast arg15
  let c0_i32_838 : BitVec 32 := 0#32
  let c1_i32_839 : BitVec 32 := 1#32
  let arg16 : BitVec 32 := Scf.iv c0_i32_838 c1_i32_839 k0_t216
  let c16_i32 : BitVec 32 := 16#32
  let v1792 : BitVec 32 := Scalar.muli arg16 c16_i32
  let v1794 : Index := Scalar.indexCast v1792
  ![v1793.toNat, v1794.toNat]

def k0_chk50 (i : grid0.Coords) (v1228 : BitVec 32) : Prop :=
  (∀ (k0_h210 : k0_cond210 i v1228 = 1#1), (k0_t213_loop i v1228).OK) ∧
  (∀ (k0_t213 : Fin (k0_t213_loop i v1228).trips) (k0_t214 : Fin k0_t214_loop.trips), ∀ (k0_h210 : k0_cond210 i v1228 = 1#1), ∀ a, (k0_off381 i v1228 k0_t213 k0_t214) a + S1x16.size a ≤ S32x1024.size a) ∧
  (∀ (k0_h210 : k0_cond210 i v1228 = 1#1), (k0_t215_loop i v1228).OK) ∧
  (∀ (k0_t215 : Fin (k0_t215_loop i v1228).trips) (k0_t216 : Fin k0_t216_loop.trips), ∀ (k0_h210 : k0_cond210 i v1228 = 1#1), ∀ a, (k0_off382 i v1228 k0_t215 k0_t216) a + S1x16.size a ≤ S32x1024.size a)
theorem k0_t213_ok : ∀ (i : grid0.Coords) (v1228 : BitVec 32) (k0_hw50 : k0_chk50 i v1228), ∀ (k0_h210 : k0_cond210 i v1228 = 1#1), (k0_t213_loop i v1228).OK := fun i v1228 k0_hw50 k0_h210 => k0_hw50.1 k0_h210
theorem k0_off381_inb : ∀ (i : grid0.Coords) (v1228 : BitVec 32) (k0_hw50 : k0_chk50 i v1228) (k0_t213 : Fin (k0_t213_loop i v1228).trips) (k0_t214 : Fin k0_t214_loop.trips), ∀ (k0_h210 : k0_cond210 i v1228 = 1#1), ∀ a, (k0_off381 i v1228 k0_t213 k0_t214) a + S1x16.size a ≤ S32x1024.size a := fun i v1228 k0_hw50 k0_t213 k0_t214 k0_h210 => k0_hw50.2.1 k0_t213 k0_t214 k0_h210
theorem k0_t215_ok : ∀ (i : grid0.Coords) (v1228 : BitVec 32) (k0_hw50 : k0_chk50 i v1228), ∀ (k0_h210 : k0_cond210 i v1228 = 1#1), (k0_t215_loop i v1228).OK := fun i v1228 k0_hw50 k0_h210 => k0_hw50.2.2.1 k0_h210
theorem k0_off382_inb : ∀ (i : grid0.Coords) (v1228 : BitVec 32) (k0_hw50 : k0_chk50 i v1228) (k0_t215 : Fin (k0_t215_loop i v1228).trips) (k0_t216 : Fin k0_t216_loop.trips), ∀ (k0_h210 : k0_cond210 i v1228 = 1#1), ∀ a, (k0_off382 i v1228 k0_t215 k0_t216) a + S1x16.size a ≤ S32x1024.size a := fun i v1228 k0_hw50 k0_t215 k0_t216 k0_h210 => k0_hw50.2.2.2 k0_t215 k0_t216 k0_h210

def k0_off383 (i : grid0.Coords) : Fin 3 → Nat :=
  let c1_i32_836 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r116 : BitVec 32 := 0#32
  ![1, v1216.toNat, 0]
def k0_off384 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r117 : BitVec 32 := 0#32
  ![v1216.toNat, 0]
@[reducible] def k0_t217_loop (i : grid0.Coords) (v1236 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1237 : BitVec 32 := Scalar.subi v1236 v1216
  let c32_i32_832 : BitVec 32 := 32#32
  let v1785 : BitVec 32 := Scalar.subi c32_i32_832 v1237
  let c1_i32_833 : BitVec 32 := 1#32
  let v1787 : BitVec 32 := Scalar.divsi v1785 c1_i32_833
  let v1788 : BitVec 32 := Scalar.muli v1787 c1_i32_833
  let v1789 : BitVec 32 := Scalar.addi v1237 v1788
  let c1_i32_834 : BitVec 32 := 1#32
  ⟨v1237, v1789, c1_i32_834⟩
def k0_cond211 (i : grid0.Coords) (v1236 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1237 : BitVec 32 := Scalar.subi v1236 v1216
  let c0_i32_591 : BitVec 32 := 0#32
  let v1238 : BitVec 1 := Scalar.cmpi .sgt v1237 c0_i32_591
  let c32_i32_592 : BitVec 32 := 32#32
  let v1239 : BitVec 1 := Scalar.cmpi .slt v1237 c32_i32_592
  let v1240 : BitVec 1 := Scalar.andi v1238 v1239
  let v1241 : BitVec 32 := Scalar.extui v1240
  let c0_i32_593 : BitVec 32 := 0#32
  let v1242 : BitVec 1 := Scalar.cmpi .ne v1241 c0_i32_593
  v1242

@[reducible] def k0_t218_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off385 (i : grid0.Coords) (v1236 : BitVec 32) (k0_t217 : Fin (k0_t217_loop i v1236).trips) (k0_t218 : Fin k0_t218_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1237 : BitVec 32 := Scalar.subi v1236 v1216
  let c1_i32_834 : BitVec 32 := 1#32
  let arg15 : BitVec 32 := Scf.iv v1237 c1_i32_834 k0_t217
  let v1793 : Index := Scalar.indexCast arg15
  let c0_i32_838 : BitVec 32 := 0#32
  let c1_i32_839 : BitVec 32 := 1#32
  let arg16 : BitVec 32 := Scf.iv c0_i32_838 c1_i32_839 k0_t218
  let c16_i32 : BitVec 32 := 16#32
  let v1792 : BitVec 32 := Scalar.muli arg16 c16_i32
  let v1794 : Index := Scalar.indexCast v1792
  ![v1793.toNat, v1794.toNat]
@[reducible] def k0_t219_loop (i : grid0.Coords) (v1236 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1237 : BitVec 32 := Scalar.subi v1236 v1216
  let c32_i32_832 : BitVec 32 := 32#32
  let v1785 : BitVec 32 := Scalar.subi c32_i32_832 v1237
  let c1_i32_833 : BitVec 32 := 1#32
  let v1787 : BitVec 32 := Scalar.divsi v1785 c1_i32_833
  let v1788 : BitVec 32 := Scalar.muli v1787 c1_i32_833
  let v1789 : BitVec 32 := Scalar.addi v1237 v1788
  let v1786 : BitVec 32 := Scalar.addi v1237 v1785
  let c1_i32_835 : BitVec 32 := 1#32
  ⟨v1789, v1786, c1_i32_835⟩
@[reducible] def k0_t220_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off386 (i : grid0.Coords) (v1236 : BitVec 32) (k0_t219 : Fin (k0_t219_loop i v1236).trips) (k0_t220 : Fin k0_t220_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1237 : BitVec 32 := Scalar.subi v1236 v1216
  let c32_i32_832 : BitVec 32 := 32#32
  let v1785 : BitVec 32 := Scalar.subi c32_i32_832 v1237
  let c1_i32_833 : BitVec 32 := 1#32
  let v1787 : BitVec 32 := Scalar.divsi v1785 c1_i32_833
  let v1788 : BitVec 32 := Scalar.muli v1787 c1_i32_833
  let v1789 : BitVec 32 := Scalar.addi v1237 v1788
  let c1_i32_835 : BitVec 32 := 1#32
  let arg15 : BitVec 32 := Scf.iv v1789 c1_i32_835 k0_t219
  let v1793 : Index := Scalar.indexCast arg15
  let c0_i32_838 : BitVec 32 := 0#32
  let c1_i32_839 : BitVec 32 := 1#32
  let arg16 : BitVec 32 := Scf.iv c0_i32_838 c1_i32_839 k0_t220
  let c16_i32 : BitVec 32 := 16#32
  let v1792 : BitVec 32 := Scalar.muli arg16 c16_i32
  let v1794 : Index := Scalar.indexCast v1792
  ![v1793.toNat, v1794.toNat]

def k0_chk51 (i : grid0.Coords) (v1236 : BitVec 32) : Prop :=
  (∀ (k0_h211 : k0_cond211 i v1236 = 1#1), (k0_t217_loop i v1236).OK) ∧
  (∀ (k0_t217 : Fin (k0_t217_loop i v1236).trips) (k0_t218 : Fin k0_t218_loop.trips), ∀ (k0_h211 : k0_cond211 i v1236 = 1#1), ∀ a, (k0_off385 i v1236 k0_t217 k0_t218) a + S1x16.size a ≤ S32x1024.size a) ∧
  (∀ (k0_h211 : k0_cond211 i v1236 = 1#1), (k0_t219_loop i v1236).OK) ∧
  (∀ (k0_t219 : Fin (k0_t219_loop i v1236).trips) (k0_t220 : Fin k0_t220_loop.trips), ∀ (k0_h211 : k0_cond211 i v1236 = 1#1), ∀ a, (k0_off386 i v1236 k0_t219 k0_t220) a + S1x16.size a ≤ S32x1024.size a)
theorem k0_t217_ok : ∀ (i : grid0.Coords) (v1236 : BitVec 32) (k0_hw51 : k0_chk51 i v1236), ∀ (k0_h211 : k0_cond211 i v1236 = 1#1), (k0_t217_loop i v1236).OK := fun i v1236 k0_hw51 k0_h211 => k0_hw51.1 k0_h211
theorem k0_off385_inb : ∀ (i : grid0.Coords) (v1236 : BitVec 32) (k0_hw51 : k0_chk51 i v1236) (k0_t217 : Fin (k0_t217_loop i v1236).trips) (k0_t218 : Fin k0_t218_loop.trips), ∀ (k0_h211 : k0_cond211 i v1236 = 1#1), ∀ a, (k0_off385 i v1236 k0_t217 k0_t218) a + S1x16.size a ≤ S32x1024.size a := fun i v1236 k0_hw51 k0_t217 k0_t218 k0_h211 => k0_hw51.2.1 k0_t217 k0_t218 k0_h211
theorem k0_t219_ok : ∀ (i : grid0.Coords) (v1236 : BitVec 32) (k0_hw51 : k0_chk51 i v1236), ∀ (k0_h211 : k0_cond211 i v1236 = 1#1), (k0_t219_loop i v1236).OK := fun i v1236 k0_hw51 k0_h211 => k0_hw51.2.2.1 k0_h211
theorem k0_off386_inb : ∀ (i : grid0.Coords) (v1236 : BitVec 32) (k0_hw51 : k0_chk51 i v1236) (k0_t219 : Fin (k0_t219_loop i v1236).trips) (k0_t220 : Fin k0_t220_loop.trips), ∀ (k0_h211 : k0_cond211 i v1236 = 1#1), ∀ a, (k0_off386 i v1236 k0_t219 k0_t220) a + S1x16.size a ≤ S32x1024.size a := fun i v1236 k0_hw51 k0_t219 k0_t220 k0_h211 => k0_hw51.2.2.2 k0_t219 k0_t220 k0_h211

def k0_off387 (i : grid0.Coords) : Fin 3 → Nat :=
  let c2_i32_836 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r118 : BitVec 32 := 0#32
  ![2, v1216.toNat, 0]
def k0_off388 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r119 : BitVec 32 := 0#32
  ![v1216.toNat, 0]
@[reducible] def k0_t221_loop (i : grid0.Coords) (v1244 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1245 : BitVec 32 := Scalar.subi v1244 v1216
  let c32_i32_832 : BitVec 32 := 32#32
  let v1785 : BitVec 32 := Scalar.subi c32_i32_832 v1245
  let c1_i32_833 : BitVec 32 := 1#32
  let v1787 : BitVec 32 := Scalar.divsi v1785 c1_i32_833
  let v1788 : BitVec 32 := Scalar.muli v1787 c1_i32_833
  let v1789 : BitVec 32 := Scalar.addi v1245 v1788
  let c1_i32_834 : BitVec 32 := 1#32
  ⟨v1245, v1789, c1_i32_834⟩
def k0_cond212 (i : grid0.Coords) (v1244 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1245 : BitVec 32 := Scalar.subi v1244 v1216
  let c0_i32_594 : BitVec 32 := 0#32
  let v1246 : BitVec 1 := Scalar.cmpi .sgt v1245 c0_i32_594
  let c32_i32_595 : BitVec 32 := 32#32
  let v1247 : BitVec 1 := Scalar.cmpi .slt v1245 c32_i32_595
  let v1248 : BitVec 1 := Scalar.andi v1246 v1247
  let v1249 : BitVec 32 := Scalar.extui v1248
  let c0_i32_596 : BitVec 32 := 0#32
  let v1250 : BitVec 1 := Scalar.cmpi .ne v1249 c0_i32_596
  v1250

@[reducible] def k0_t222_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off389 (i : grid0.Coords) (v1244 : BitVec 32) (k0_t221 : Fin (k0_t221_loop i v1244).trips) (k0_t222 : Fin k0_t222_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1245 : BitVec 32 := Scalar.subi v1244 v1216
  let c1_i32_834 : BitVec 32 := 1#32
  let arg15 : BitVec 32 := Scf.iv v1245 c1_i32_834 k0_t221
  let v1793 : Index := Scalar.indexCast arg15
  let c0_i32_838 : BitVec 32 := 0#32
  let c1_i32_839 : BitVec 32 := 1#32
  let arg16 : BitVec 32 := Scf.iv c0_i32_838 c1_i32_839 k0_t222
  let c16_i32 : BitVec 32 := 16#32
  let v1792 : BitVec 32 := Scalar.muli arg16 c16_i32
  let v1794 : Index := Scalar.indexCast v1792
  ![v1793.toNat, v1794.toNat]
@[reducible] def k0_t223_loop (i : grid0.Coords) (v1244 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1245 : BitVec 32 := Scalar.subi v1244 v1216
  let c32_i32_832 : BitVec 32 := 32#32
  let v1785 : BitVec 32 := Scalar.subi c32_i32_832 v1245
  let c1_i32_833 : BitVec 32 := 1#32
  let v1787 : BitVec 32 := Scalar.divsi v1785 c1_i32_833
  let v1788 : BitVec 32 := Scalar.muli v1787 c1_i32_833
  let v1789 : BitVec 32 := Scalar.addi v1245 v1788
  let v1786 : BitVec 32 := Scalar.addi v1245 v1785
  let c1_i32_835 : BitVec 32 := 1#32
  ⟨v1789, v1786, c1_i32_835⟩
@[reducible] def k0_t224_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off390 (i : grid0.Coords) (v1244 : BitVec 32) (k0_t223 : Fin (k0_t223_loop i v1244).trips) (k0_t224 : Fin k0_t224_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1245 : BitVec 32 := Scalar.subi v1244 v1216
  let c32_i32_832 : BitVec 32 := 32#32
  let v1785 : BitVec 32 := Scalar.subi c32_i32_832 v1245
  let c1_i32_833 : BitVec 32 := 1#32
  let v1787 : BitVec 32 := Scalar.divsi v1785 c1_i32_833
  let v1788 : BitVec 32 := Scalar.muli v1787 c1_i32_833
  let v1789 : BitVec 32 := Scalar.addi v1245 v1788
  let c1_i32_835 : BitVec 32 := 1#32
  let arg15 : BitVec 32 := Scf.iv v1789 c1_i32_835 k0_t223
  let v1793 : Index := Scalar.indexCast arg15
  let c0_i32_838 : BitVec 32 := 0#32
  let c1_i32_839 : BitVec 32 := 1#32
  let arg16 : BitVec 32 := Scf.iv c0_i32_838 c1_i32_839 k0_t224
  let c16_i32 : BitVec 32 := 16#32
  let v1792 : BitVec 32 := Scalar.muli arg16 c16_i32
  let v1794 : Index := Scalar.indexCast v1792
  ![v1793.toNat, v1794.toNat]

def k0_chk52 (i : grid0.Coords) (v1244 : BitVec 32) : Prop :=
  (∀ (k0_h212 : k0_cond212 i v1244 = 1#1), (k0_t221_loop i v1244).OK) ∧
  (∀ (k0_t221 : Fin (k0_t221_loop i v1244).trips) (k0_t222 : Fin k0_t222_loop.trips), ∀ (k0_h212 : k0_cond212 i v1244 = 1#1), ∀ a, (k0_off389 i v1244 k0_t221 k0_t222) a + S1x16.size a ≤ S32x1024.size a) ∧
  (∀ (k0_h212 : k0_cond212 i v1244 = 1#1), (k0_t223_loop i v1244).OK) ∧
  (∀ (k0_t223 : Fin (k0_t223_loop i v1244).trips) (k0_t224 : Fin k0_t224_loop.trips), ∀ (k0_h212 : k0_cond212 i v1244 = 1#1), ∀ a, (k0_off390 i v1244 k0_t223 k0_t224) a + S1x16.size a ≤ S32x1024.size a)
theorem k0_t221_ok : ∀ (i : grid0.Coords) (v1244 : BitVec 32) (k0_hw52 : k0_chk52 i v1244), ∀ (k0_h212 : k0_cond212 i v1244 = 1#1), (k0_t221_loop i v1244).OK := fun i v1244 k0_hw52 k0_h212 => k0_hw52.1 k0_h212
theorem k0_off389_inb : ∀ (i : grid0.Coords) (v1244 : BitVec 32) (k0_hw52 : k0_chk52 i v1244) (k0_t221 : Fin (k0_t221_loop i v1244).trips) (k0_t222 : Fin k0_t222_loop.trips), ∀ (k0_h212 : k0_cond212 i v1244 = 1#1), ∀ a, (k0_off389 i v1244 k0_t221 k0_t222) a + S1x16.size a ≤ S32x1024.size a := fun i v1244 k0_hw52 k0_t221 k0_t222 k0_h212 => k0_hw52.2.1 k0_t221 k0_t222 k0_h212
theorem k0_t223_ok : ∀ (i : grid0.Coords) (v1244 : BitVec 32) (k0_hw52 : k0_chk52 i v1244), ∀ (k0_h212 : k0_cond212 i v1244 = 1#1), (k0_t223_loop i v1244).OK := fun i v1244 k0_hw52 k0_h212 => k0_hw52.2.2.1 k0_h212
theorem k0_off390_inb : ∀ (i : grid0.Coords) (v1244 : BitVec 32) (k0_hw52 : k0_chk52 i v1244) (k0_t223 : Fin (k0_t223_loop i v1244).trips) (k0_t224 : Fin k0_t224_loop.trips), ∀ (k0_h212 : k0_cond212 i v1244 = 1#1), ∀ a, (k0_off390 i v1244 k0_t223 k0_t224) a + S1x16.size a ≤ S32x1024.size a := fun i v1244 k0_hw52 k0_t223 k0_t224 k0_h212 => k0_hw52.2.2.2 k0_t223 k0_t224 k0_h212

def k0_off391 (i : grid0.Coords) : Fin 3 → Nat :=
  let c3_i32_836 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r120 : BitVec 32 := 0#32
  ![3, v1216.toNat, 0]
def k0_off392 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r121 : BitVec 32 := 0#32
  ![v1216.toNat, 0]
@[reducible] def k0_t225_loop (i : grid0.Coords) (v1252 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1253 : BitVec 32 := Scalar.subi v1252 v1216
  let c32_i32_832 : BitVec 32 := 32#32
  let v1785 : BitVec 32 := Scalar.subi c32_i32_832 v1253
  let c1_i32_833 : BitVec 32 := 1#32
  let v1787 : BitVec 32 := Scalar.divsi v1785 c1_i32_833
  let v1788 : BitVec 32 := Scalar.muli v1787 c1_i32_833
  let v1789 : BitVec 32 := Scalar.addi v1253 v1788
  let c1_i32_834 : BitVec 32 := 1#32
  ⟨v1253, v1789, c1_i32_834⟩
def k0_cond213 (i : grid0.Coords) (v1252 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1253 : BitVec 32 := Scalar.subi v1252 v1216
  let c0_i32_597 : BitVec 32 := 0#32
  let v1254 : BitVec 1 := Scalar.cmpi .sgt v1253 c0_i32_597
  let c32_i32_598 : BitVec 32 := 32#32
  let v1255 : BitVec 1 := Scalar.cmpi .slt v1253 c32_i32_598
  let v1256 : BitVec 1 := Scalar.andi v1254 v1255
  let v1257 : BitVec 32 := Scalar.extui v1256
  let c0_i32_599 : BitVec 32 := 0#32
  let v1258 : BitVec 1 := Scalar.cmpi .ne v1257 c0_i32_599
  v1258

@[reducible] def k0_t226_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off393 (i : grid0.Coords) (v1252 : BitVec 32) (k0_t225 : Fin (k0_t225_loop i v1252).trips) (k0_t226 : Fin k0_t226_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1253 : BitVec 32 := Scalar.subi v1252 v1216
  let c1_i32_834 : BitVec 32 := 1#32
  let arg15 : BitVec 32 := Scf.iv v1253 c1_i32_834 k0_t225
  let v1793 : Index := Scalar.indexCast arg15
  let c0_i32_838 : BitVec 32 := 0#32
  let c1_i32_839 : BitVec 32 := 1#32
  let arg16 : BitVec 32 := Scf.iv c0_i32_838 c1_i32_839 k0_t226
  let c16_i32 : BitVec 32 := 16#32
  let v1792 : BitVec 32 := Scalar.muli arg16 c16_i32
  let v1794 : Index := Scalar.indexCast v1792
  ![v1793.toNat, v1794.toNat]
@[reducible] def k0_t227_loop (i : grid0.Coords) (v1252 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1253 : BitVec 32 := Scalar.subi v1252 v1216
  let c32_i32_832 : BitVec 32 := 32#32
  let v1785 : BitVec 32 := Scalar.subi c32_i32_832 v1253
  let c1_i32_833 : BitVec 32 := 1#32
  let v1787 : BitVec 32 := Scalar.divsi v1785 c1_i32_833
  let v1788 : BitVec 32 := Scalar.muli v1787 c1_i32_833
  let v1789 : BitVec 32 := Scalar.addi v1253 v1788
  let v1786 : BitVec 32 := Scalar.addi v1253 v1785
  let c1_i32_835 : BitVec 32 := 1#32
  ⟨v1789, v1786, c1_i32_835⟩
@[reducible] def k0_t228_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off394 (i : grid0.Coords) (v1252 : BitVec 32) (k0_t227 : Fin (k0_t227_loop i v1252).trips) (k0_t228 : Fin k0_t228_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1253 : BitVec 32 := Scalar.subi v1252 v1216
  let c32_i32_832 : BitVec 32 := 32#32
  let v1785 : BitVec 32 := Scalar.subi c32_i32_832 v1253
  let c1_i32_833 : BitVec 32 := 1#32
  let v1787 : BitVec 32 := Scalar.divsi v1785 c1_i32_833
  let v1788 : BitVec 32 := Scalar.muli v1787 c1_i32_833
  let v1789 : BitVec 32 := Scalar.addi v1253 v1788
  let c1_i32_835 : BitVec 32 := 1#32
  let arg15 : BitVec 32 := Scf.iv v1789 c1_i32_835 k0_t227
  let v1793 : Index := Scalar.indexCast arg15
  let c0_i32_838 : BitVec 32 := 0#32
  let c1_i32_839 : BitVec 32 := 1#32
  let arg16 : BitVec 32 := Scf.iv c0_i32_838 c1_i32_839 k0_t228
  let c16_i32 : BitVec 32 := 16#32
  let v1792 : BitVec 32 := Scalar.muli arg16 c16_i32
  let v1794 : Index := Scalar.indexCast v1792
  ![v1793.toNat, v1794.toNat]

def k0_chk53 (i : grid0.Coords) (v1252 : BitVec 32) : Prop :=
  (∀ (k0_h213 : k0_cond213 i v1252 = 1#1), (k0_t225_loop i v1252).OK) ∧
  (∀ (k0_t225 : Fin (k0_t225_loop i v1252).trips) (k0_t226 : Fin k0_t226_loop.trips), ∀ (k0_h213 : k0_cond213 i v1252 = 1#1), ∀ a, (k0_off393 i v1252 k0_t225 k0_t226) a + S1x16.size a ≤ S32x1024.size a) ∧
  (∀ (k0_h213 : k0_cond213 i v1252 = 1#1), (k0_t227_loop i v1252).OK) ∧
  (∀ (k0_t227 : Fin (k0_t227_loop i v1252).trips) (k0_t228 : Fin k0_t228_loop.trips), ∀ (k0_h213 : k0_cond213 i v1252 = 1#1), ∀ a, (k0_off394 i v1252 k0_t227 k0_t228) a + S1x16.size a ≤ S32x1024.size a)
theorem k0_t225_ok : ∀ (i : grid0.Coords) (v1252 : BitVec 32) (k0_hw53 : k0_chk53 i v1252), ∀ (k0_h213 : k0_cond213 i v1252 = 1#1), (k0_t225_loop i v1252).OK := fun i v1252 k0_hw53 k0_h213 => k0_hw53.1 k0_h213
theorem k0_off393_inb : ∀ (i : grid0.Coords) (v1252 : BitVec 32) (k0_hw53 : k0_chk53 i v1252) (k0_t225 : Fin (k0_t225_loop i v1252).trips) (k0_t226 : Fin k0_t226_loop.trips), ∀ (k0_h213 : k0_cond213 i v1252 = 1#1), ∀ a, (k0_off393 i v1252 k0_t225 k0_t226) a + S1x16.size a ≤ S32x1024.size a := fun i v1252 k0_hw53 k0_t225 k0_t226 k0_h213 => k0_hw53.2.1 k0_t225 k0_t226 k0_h213
theorem k0_t227_ok : ∀ (i : grid0.Coords) (v1252 : BitVec 32) (k0_hw53 : k0_chk53 i v1252), ∀ (k0_h213 : k0_cond213 i v1252 = 1#1), (k0_t227_loop i v1252).OK := fun i v1252 k0_hw53 k0_h213 => k0_hw53.2.2.1 k0_h213
theorem k0_off394_inb : ∀ (i : grid0.Coords) (v1252 : BitVec 32) (k0_hw53 : k0_chk53 i v1252) (k0_t227 : Fin (k0_t227_loop i v1252).trips) (k0_t228 : Fin k0_t228_loop.trips), ∀ (k0_h213 : k0_cond213 i v1252 = 1#1), ∀ a, (k0_off394 i v1252 k0_t227 k0_t228) a + S1x16.size a ≤ S32x1024.size a := fun i v1252 k0_hw53 k0_t227 k0_t228 k0_h213 => k0_hw53.2.2.2 k0_t227 k0_t228 k0_h213

def k0_off395 (i : grid0.Coords) : Fin 3 → Nat :=
  let c4_i32_836 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r122 : BitVec 32 := 0#32
  ![4, v1216.toNat, 0]
def k0_off396 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r123 : BitVec 32 := 0#32
  ![v1216.toNat, 0]
@[reducible] def k0_t229_loop (i : grid0.Coords) (v1260 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1261 : BitVec 32 := Scalar.subi v1260 v1216
  let c32_i32_832 : BitVec 32 := 32#32
  let v1785 : BitVec 32 := Scalar.subi c32_i32_832 v1261
  let c1_i32_833 : BitVec 32 := 1#32
  let v1787 : BitVec 32 := Scalar.divsi v1785 c1_i32_833
  let v1788 : BitVec 32 := Scalar.muli v1787 c1_i32_833
  let v1789 : BitVec 32 := Scalar.addi v1261 v1788
  let c1_i32_834 : BitVec 32 := 1#32
  ⟨v1261, v1789, c1_i32_834⟩
def k0_cond214 (i : grid0.Coords) (v1260 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1261 : BitVec 32 := Scalar.subi v1260 v1216
  let c0_i32_600 : BitVec 32 := 0#32
  let v1262 : BitVec 1 := Scalar.cmpi .sgt v1261 c0_i32_600
  let c32_i32_601 : BitVec 32 := 32#32
  let v1263 : BitVec 1 := Scalar.cmpi .slt v1261 c32_i32_601
  let v1264 : BitVec 1 := Scalar.andi v1262 v1263
  let v1265 : BitVec 32 := Scalar.extui v1264
  let c0_i32_602 : BitVec 32 := 0#32
  let v1266 : BitVec 1 := Scalar.cmpi .ne v1265 c0_i32_602
  v1266

@[reducible] def k0_t230_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off397 (i : grid0.Coords) (v1260 : BitVec 32) (k0_t229 : Fin (k0_t229_loop i v1260).trips) (k0_t230 : Fin k0_t230_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1261 : BitVec 32 := Scalar.subi v1260 v1216
  let c1_i32_834 : BitVec 32 := 1#32
  let arg15 : BitVec 32 := Scf.iv v1261 c1_i32_834 k0_t229
  let v1793 : Index := Scalar.indexCast arg15
  let c0_i32_837 : BitVec 32 := 0#32
  let c1_i32_838 : BitVec 32 := 1#32
  let arg16 : BitVec 32 := Scf.iv c0_i32_837 c1_i32_838 k0_t230
  let c16_i32 : BitVec 32 := 16#32
  let v1792 : BitVec 32 := Scalar.muli arg16 c16_i32
  let v1794 : Index := Scalar.indexCast v1792
  ![v1793.toNat, v1794.toNat]
@[reducible] def k0_t231_loop (i : grid0.Coords) (v1260 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1261 : BitVec 32 := Scalar.subi v1260 v1216
  let c32_i32_832 : BitVec 32 := 32#32
  let v1785 : BitVec 32 := Scalar.subi c32_i32_832 v1261
  let c1_i32_833 : BitVec 32 := 1#32
  let v1787 : BitVec 32 := Scalar.divsi v1785 c1_i32_833
  let v1788 : BitVec 32 := Scalar.muli v1787 c1_i32_833
  let v1789 : BitVec 32 := Scalar.addi v1261 v1788
  let v1786 : BitVec 32 := Scalar.addi v1261 v1785
  let c1_i32_835 : BitVec 32 := 1#32
  ⟨v1789, v1786, c1_i32_835⟩
@[reducible] def k0_t232_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off398 (i : grid0.Coords) (v1260 : BitVec 32) (k0_t231 : Fin (k0_t231_loop i v1260).trips) (k0_t232 : Fin k0_t232_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1261 : BitVec 32 := Scalar.subi v1260 v1216
  let c32_i32_832 : BitVec 32 := 32#32
  let v1785 : BitVec 32 := Scalar.subi c32_i32_832 v1261
  let c1_i32_833 : BitVec 32 := 1#32
  let v1787 : BitVec 32 := Scalar.divsi v1785 c1_i32_833
  let v1788 : BitVec 32 := Scalar.muli v1787 c1_i32_833
  let v1789 : BitVec 32 := Scalar.addi v1261 v1788
  let c1_i32_835 : BitVec 32 := 1#32
  let arg15 : BitVec 32 := Scf.iv v1789 c1_i32_835 k0_t231
  let v1793 : Index := Scalar.indexCast arg15
  let c0_i32_837 : BitVec 32 := 0#32
  let c1_i32_838 : BitVec 32 := 1#32
  let arg16 : BitVec 32 := Scf.iv c0_i32_837 c1_i32_838 k0_t232
  let c16_i32 : BitVec 32 := 16#32
  let v1792 : BitVec 32 := Scalar.muli arg16 c16_i32
  let v1794 : Index := Scalar.indexCast v1792
  ![v1793.toNat, v1794.toNat]

def k0_chk54 (i : grid0.Coords) (v1260 : BitVec 32) : Prop :=
  (∀ (k0_h214 : k0_cond214 i v1260 = 1#1), (k0_t229_loop i v1260).OK) ∧
  (∀ (k0_t229 : Fin (k0_t229_loop i v1260).trips) (k0_t230 : Fin k0_t230_loop.trips), ∀ (k0_h214 : k0_cond214 i v1260 = 1#1), ∀ a, (k0_off397 i v1260 k0_t229 k0_t230) a + S1x16.size a ≤ S32x1024.size a) ∧
  (∀ (k0_h214 : k0_cond214 i v1260 = 1#1), (k0_t231_loop i v1260).OK) ∧
  (∀ (k0_t231 : Fin (k0_t231_loop i v1260).trips) (k0_t232 : Fin k0_t232_loop.trips), ∀ (k0_h214 : k0_cond214 i v1260 = 1#1), ∀ a, (k0_off398 i v1260 k0_t231 k0_t232) a + S1x16.size a ≤ S32x1024.size a)
theorem k0_t229_ok : ∀ (i : grid0.Coords) (v1260 : BitVec 32) (k0_hw54 : k0_chk54 i v1260), ∀ (k0_h214 : k0_cond214 i v1260 = 1#1), (k0_t229_loop i v1260).OK := fun i v1260 k0_hw54 k0_h214 => k0_hw54.1 k0_h214
theorem k0_off397_inb : ∀ (i : grid0.Coords) (v1260 : BitVec 32) (k0_hw54 : k0_chk54 i v1260) (k0_t229 : Fin (k0_t229_loop i v1260).trips) (k0_t230 : Fin k0_t230_loop.trips), ∀ (k0_h214 : k0_cond214 i v1260 = 1#1), ∀ a, (k0_off397 i v1260 k0_t229 k0_t230) a + S1x16.size a ≤ S32x1024.size a := fun i v1260 k0_hw54 k0_t229 k0_t230 k0_h214 => k0_hw54.2.1 k0_t229 k0_t230 k0_h214
theorem k0_t231_ok : ∀ (i : grid0.Coords) (v1260 : BitVec 32) (k0_hw54 : k0_chk54 i v1260), ∀ (k0_h214 : k0_cond214 i v1260 = 1#1), (k0_t231_loop i v1260).OK := fun i v1260 k0_hw54 k0_h214 => k0_hw54.2.2.1 k0_h214
theorem k0_off398_inb : ∀ (i : grid0.Coords) (v1260 : BitVec 32) (k0_hw54 : k0_chk54 i v1260) (k0_t231 : Fin (k0_t231_loop i v1260).trips) (k0_t232 : Fin k0_t232_loop.trips), ∀ (k0_h214 : k0_cond214 i v1260 = 1#1), ∀ a, (k0_off398 i v1260 k0_t231 k0_t232) a + S1x16.size a ≤ S32x1024.size a := fun i v1260 k0_hw54 k0_t231 k0_t232 k0_h214 => k0_hw54.2.2.2 k0_t231 k0_t232 k0_h214

def k0_off399 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r124 : BitVec 32 := 0#32
  ![5, v1216.toNat, 0]
def k0_off400 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r125 : BitVec 32 := 0#32
  ![v1216.toNat, 0]
@[reducible] def k0_t233_loop (i : grid0.Coords) (v1268 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1269 : BitVec 32 := Scalar.subi v1268 v1216
  let c32_i32_832 : BitVec 32 := 32#32
  let v1785 : BitVec 32 := Scalar.subi c32_i32_832 v1269
  let c1_i32_833 : BitVec 32 := 1#32
  let v1787 : BitVec 32 := Scalar.divsi v1785 c1_i32_833
  let v1788 : BitVec 32 := Scalar.muli v1787 c1_i32_833
  let v1789 : BitVec 32 := Scalar.addi v1269 v1788
  let c1_i32_834 : BitVec 32 := 1#32
  ⟨v1269, v1789, c1_i32_834⟩
def k0_cond215 (i : grid0.Coords) (v1268 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1269 : BitVec 32 := Scalar.subi v1268 v1216
  let c0_i32_603 : BitVec 32 := 0#32
  let v1270 : BitVec 1 := Scalar.cmpi .sgt v1269 c0_i32_603
  let c32_i32_604 : BitVec 32 := 32#32
  let v1271 : BitVec 1 := Scalar.cmpi .slt v1269 c32_i32_604
  let v1272 : BitVec 1 := Scalar.andi v1270 v1271
  let v1273 : BitVec 32 := Scalar.extui v1272
  let c0_i32_605 : BitVec 32 := 0#32
  let v1274 : BitVec 1 := Scalar.cmpi .ne v1273 c0_i32_605
  v1274

@[reducible] def k0_t234_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off401 (i : grid0.Coords) (v1268 : BitVec 32) (k0_t233 : Fin (k0_t233_loop i v1268).trips) (k0_t234 : Fin k0_t234_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1269 : BitVec 32 := Scalar.subi v1268 v1216
  let c1_i32_834 : BitVec 32 := 1#32
  let arg15 : BitVec 32 := Scf.iv v1269 c1_i32_834 k0_t233
  let v1793 : Index := Scalar.indexCast arg15
  let c0_i32_837 : BitVec 32 := 0#32
  let c1_i32_838 : BitVec 32 := 1#32
  let arg16 : BitVec 32 := Scf.iv c0_i32_837 c1_i32_838 k0_t234
  let c16_i32 : BitVec 32 := 16#32
  let v1792 : BitVec 32 := Scalar.muli arg16 c16_i32
  let v1794 : Index := Scalar.indexCast v1792
  ![v1793.toNat, v1794.toNat]
@[reducible] def k0_t235_loop (i : grid0.Coords) (v1268 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1269 : BitVec 32 := Scalar.subi v1268 v1216
  let c32_i32_832 : BitVec 32 := 32#32
  let v1785 : BitVec 32 := Scalar.subi c32_i32_832 v1269
  let c1_i32_833 : BitVec 32 := 1#32
  let v1787 : BitVec 32 := Scalar.divsi v1785 c1_i32_833
  let v1788 : BitVec 32 := Scalar.muli v1787 c1_i32_833
  let v1789 : BitVec 32 := Scalar.addi v1269 v1788
  let v1786 : BitVec 32 := Scalar.addi v1269 v1785
  let c1_i32_835 : BitVec 32 := 1#32
  ⟨v1789, v1786, c1_i32_835⟩
@[reducible] def k0_t236_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off402 (i : grid0.Coords) (v1268 : BitVec 32) (k0_t235 : Fin (k0_t235_loop i v1268).trips) (k0_t236 : Fin k0_t236_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1269 : BitVec 32 := Scalar.subi v1268 v1216
  let c32_i32_832 : BitVec 32 := 32#32
  let v1785 : BitVec 32 := Scalar.subi c32_i32_832 v1269
  let c1_i32_833 : BitVec 32 := 1#32
  let v1787 : BitVec 32 := Scalar.divsi v1785 c1_i32_833
  let v1788 : BitVec 32 := Scalar.muli v1787 c1_i32_833
  let v1789 : BitVec 32 := Scalar.addi v1269 v1788
  let c1_i32_835 : BitVec 32 := 1#32
  let arg15 : BitVec 32 := Scf.iv v1789 c1_i32_835 k0_t235
  let v1793 : Index := Scalar.indexCast arg15
  let c0_i32_837 : BitVec 32 := 0#32
  let c1_i32_838 : BitVec 32 := 1#32
  let arg16 : BitVec 32 := Scf.iv c0_i32_837 c1_i32_838 k0_t236
  let c16_i32 : BitVec 32 := 16#32
  let v1792 : BitVec 32 := Scalar.muli arg16 c16_i32
  let v1794 : Index := Scalar.indexCast v1792
  ![v1793.toNat, v1794.toNat]

def k0_chk55 (i : grid0.Coords) (v1268 : BitVec 32) : Prop :=
  (∀ (k0_h215 : k0_cond215 i v1268 = 1#1), (k0_t233_loop i v1268).OK) ∧
  (∀ (k0_t233 : Fin (k0_t233_loop i v1268).trips) (k0_t234 : Fin k0_t234_loop.trips), ∀ (k0_h215 : k0_cond215 i v1268 = 1#1), ∀ a, (k0_off401 i v1268 k0_t233 k0_t234) a + S1x16.size a ≤ S32x1024.size a) ∧
  (∀ (k0_h215 : k0_cond215 i v1268 = 1#1), (k0_t235_loop i v1268).OK) ∧
  (∀ (k0_t235 : Fin (k0_t235_loop i v1268).trips) (k0_t236 : Fin k0_t236_loop.trips), ∀ (k0_h215 : k0_cond215 i v1268 = 1#1), ∀ a, (k0_off402 i v1268 k0_t235 k0_t236) a + S1x16.size a ≤ S32x1024.size a)
theorem k0_t233_ok : ∀ (i : grid0.Coords) (v1268 : BitVec 32) (k0_hw55 : k0_chk55 i v1268), ∀ (k0_h215 : k0_cond215 i v1268 = 1#1), (k0_t233_loop i v1268).OK := fun i v1268 k0_hw55 k0_h215 => k0_hw55.1 k0_h215
theorem k0_off401_inb : ∀ (i : grid0.Coords) (v1268 : BitVec 32) (k0_hw55 : k0_chk55 i v1268) (k0_t233 : Fin (k0_t233_loop i v1268).trips) (k0_t234 : Fin k0_t234_loop.trips), ∀ (k0_h215 : k0_cond215 i v1268 = 1#1), ∀ a, (k0_off401 i v1268 k0_t233 k0_t234) a + S1x16.size a ≤ S32x1024.size a := fun i v1268 k0_hw55 k0_t233 k0_t234 k0_h215 => k0_hw55.2.1 k0_t233 k0_t234 k0_h215
theorem k0_t235_ok : ∀ (i : grid0.Coords) (v1268 : BitVec 32) (k0_hw55 : k0_chk55 i v1268), ∀ (k0_h215 : k0_cond215 i v1268 = 1#1), (k0_t235_loop i v1268).OK := fun i v1268 k0_hw55 k0_h215 => k0_hw55.2.2.1 k0_h215
theorem k0_off402_inb : ∀ (i : grid0.Coords) (v1268 : BitVec 32) (k0_hw55 : k0_chk55 i v1268) (k0_t235 : Fin (k0_t235_loop i v1268).trips) (k0_t236 : Fin k0_t236_loop.trips), ∀ (k0_h215 : k0_cond215 i v1268 = 1#1), ∀ a, (k0_off402 i v1268 k0_t235 k0_t236) a + S1x16.size a ≤ S32x1024.size a := fun i v1268 k0_hw55 k0_t235 k0_t236 k0_h215 => k0_hw55.2.2.2 k0_t235 k0_t236 k0_h215

def k0_off403 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r126 : BitVec 32 := 0#32
  ![6, v1216.toNat, 0]
def k0_off404 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r127 : BitVec 32 := 0#32
  ![v1216.toNat, 0]
@[reducible] def k0_t237_loop (i : grid0.Coords) (v1276 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1277 : BitVec 32 := Scalar.subi v1276 v1216
  let c32_i32_832 : BitVec 32 := 32#32
  let v1785 : BitVec 32 := Scalar.subi c32_i32_832 v1277
  let c1_i32_833 : BitVec 32 := 1#32
  let v1787 : BitVec 32 := Scalar.divsi v1785 c1_i32_833
  let v1788 : BitVec 32 := Scalar.muli v1787 c1_i32_833
  let v1789 : BitVec 32 := Scalar.addi v1277 v1788
  let c1_i32_834 : BitVec 32 := 1#32
  ⟨v1277, v1789, c1_i32_834⟩
def k0_cond216 (i : grid0.Coords) (v1276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1277 : BitVec 32 := Scalar.subi v1276 v1216
  let c0_i32_606 : BitVec 32 := 0#32
  let v1278 : BitVec 1 := Scalar.cmpi .sgt v1277 c0_i32_606
  let c32_i32_607 : BitVec 32 := 32#32
  let v1279 : BitVec 1 := Scalar.cmpi .slt v1277 c32_i32_607
  let v1280 : BitVec 1 := Scalar.andi v1278 v1279
  let v1281 : BitVec 32 := Scalar.extui v1280
  let c0_i32_608 : BitVec 32 := 0#32
  let v1282 : BitVec 1 := Scalar.cmpi .ne v1281 c0_i32_608
  v1282

@[reducible] def k0_t238_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off405 (i : grid0.Coords) (v1276 : BitVec 32) (k0_t237 : Fin (k0_t237_loop i v1276).trips) (k0_t238 : Fin k0_t238_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1277 : BitVec 32 := Scalar.subi v1276 v1216
  let c1_i32_834 : BitVec 32 := 1#32
  let arg15 : BitVec 32 := Scf.iv v1277 c1_i32_834 k0_t237
  let v1793 : Index := Scalar.indexCast arg15
  let c0_i32_837 : BitVec 32 := 0#32
  let c1_i32_838 : BitVec 32 := 1#32
  let arg16 : BitVec 32 := Scf.iv c0_i32_837 c1_i32_838 k0_t238
  let c16_i32 : BitVec 32 := 16#32
  let v1792 : BitVec 32 := Scalar.muli arg16 c16_i32
  let v1794 : Index := Scalar.indexCast v1792
  ![v1793.toNat, v1794.toNat]
@[reducible] def k0_t239_loop (i : grid0.Coords) (v1276 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1277 : BitVec 32 := Scalar.subi v1276 v1216
  let c32_i32_832 : BitVec 32 := 32#32
  let v1785 : BitVec 32 := Scalar.subi c32_i32_832 v1277
  let c1_i32_833 : BitVec 32 := 1#32
  let v1787 : BitVec 32 := Scalar.divsi v1785 c1_i32_833
  let v1788 : BitVec 32 := Scalar.muli v1787 c1_i32_833
  let v1789 : BitVec 32 := Scalar.addi v1277 v1788
  let v1786 : BitVec 32 := Scalar.addi v1277 v1785
  let c1_i32_835 : BitVec 32 := 1#32
  ⟨v1789, v1786, c1_i32_835⟩
@[reducible] def k0_t240_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off406 (i : grid0.Coords) (v1276 : BitVec 32) (k0_t239 : Fin (k0_t239_loop i v1276).trips) (k0_t240 : Fin k0_t240_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1277 : BitVec 32 := Scalar.subi v1276 v1216
  let c32_i32_832 : BitVec 32 := 32#32
  let v1785 : BitVec 32 := Scalar.subi c32_i32_832 v1277
  let c1_i32_833 : BitVec 32 := 1#32
  let v1787 : BitVec 32 := Scalar.divsi v1785 c1_i32_833
  let v1788 : BitVec 32 := Scalar.muli v1787 c1_i32_833
  let v1789 : BitVec 32 := Scalar.addi v1277 v1788
  let c1_i32_835 : BitVec 32 := 1#32
  let arg15 : BitVec 32 := Scf.iv v1789 c1_i32_835 k0_t239
  let v1793 : Index := Scalar.indexCast arg15
  let c0_i32_837 : BitVec 32 := 0#32
  let c1_i32_838 : BitVec 32 := 1#32
  let arg16 : BitVec 32 := Scf.iv c0_i32_837 c1_i32_838 k0_t240
  let c16_i32 : BitVec 32 := 16#32
  let v1792 : BitVec 32 := Scalar.muli arg16 c16_i32
  let v1794 : Index := Scalar.indexCast v1792
  ![v1793.toNat, v1794.toNat]

def k0_chk56 (i : grid0.Coords) (v1276 : BitVec 32) : Prop :=
  (∀ (k0_h216 : k0_cond216 i v1276 = 1#1), (k0_t237_loop i v1276).OK) ∧
  (∀ (k0_t237 : Fin (k0_t237_loop i v1276).trips) (k0_t238 : Fin k0_t238_loop.trips), ∀ (k0_h216 : k0_cond216 i v1276 = 1#1), ∀ a, (k0_off405 i v1276 k0_t237 k0_t238) a + S1x16.size a ≤ S32x1024.size a) ∧
  (∀ (k0_h216 : k0_cond216 i v1276 = 1#1), (k0_t239_loop i v1276).OK) ∧
  (∀ (k0_t239 : Fin (k0_t239_loop i v1276).trips) (k0_t240 : Fin k0_t240_loop.trips), ∀ (k0_h216 : k0_cond216 i v1276 = 1#1), ∀ a, (k0_off406 i v1276 k0_t239 k0_t240) a + S1x16.size a ≤ S32x1024.size a)
theorem k0_t237_ok : ∀ (i : grid0.Coords) (v1276 : BitVec 32) (k0_hw56 : k0_chk56 i v1276), ∀ (k0_h216 : k0_cond216 i v1276 = 1#1), (k0_t237_loop i v1276).OK := fun i v1276 k0_hw56 k0_h216 => k0_hw56.1 k0_h216
theorem k0_off405_inb : ∀ (i : grid0.Coords) (v1276 : BitVec 32) (k0_hw56 : k0_chk56 i v1276) (k0_t237 : Fin (k0_t237_loop i v1276).trips) (k0_t238 : Fin k0_t238_loop.trips), ∀ (k0_h216 : k0_cond216 i v1276 = 1#1), ∀ a, (k0_off405 i v1276 k0_t237 k0_t238) a + S1x16.size a ≤ S32x1024.size a := fun i v1276 k0_hw56 k0_t237 k0_t238 k0_h216 => k0_hw56.2.1 k0_t237 k0_t238 k0_h216
theorem k0_t239_ok : ∀ (i : grid0.Coords) (v1276 : BitVec 32) (k0_hw56 : k0_chk56 i v1276), ∀ (k0_h216 : k0_cond216 i v1276 = 1#1), (k0_t239_loop i v1276).OK := fun i v1276 k0_hw56 k0_h216 => k0_hw56.2.2.1 k0_h216
theorem k0_off406_inb : ∀ (i : grid0.Coords) (v1276 : BitVec 32) (k0_hw56 : k0_chk56 i v1276) (k0_t239 : Fin (k0_t239_loop i v1276).trips) (k0_t240 : Fin k0_t240_loop.trips), ∀ (k0_h216 : k0_cond216 i v1276 = 1#1), ∀ a, (k0_off406 i v1276 k0_t239 k0_t240) a + S1x16.size a ≤ S32x1024.size a := fun i v1276 k0_hw56 k0_t239 k0_t240 k0_h216 => k0_hw56.2.2.2 k0_t239 k0_t240 k0_h216

def k0_off407 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r128 : BitVec 32 := 0#32
  ![7, v1216.toNat, 0]
def k0_off408 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r129 : BitVec 32 := 0#32
  ![v1216.toNat, 0]
@[reducible] def k0_t241_loop (i : grid0.Coords) (v1284 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1285 : BitVec 32 := Scalar.subi v1284 v1216
  let c32_i32_832 : BitVec 32 := 32#32
  let v1785 : BitVec 32 := Scalar.subi c32_i32_832 v1285
  let c1_i32_833 : BitVec 32 := 1#32
  let v1787 : BitVec 32 := Scalar.divsi v1785 c1_i32_833
  let v1788 : BitVec 32 := Scalar.muli v1787 c1_i32_833
  let v1789 : BitVec 32 := Scalar.addi v1285 v1788
  let c1_i32_834 : BitVec 32 := 1#32
  ⟨v1285, v1789, c1_i32_834⟩
def k0_cond217 (i : grid0.Coords) (v1284 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1285 : BitVec 32 := Scalar.subi v1284 v1216
  let c0_i32_609 : BitVec 32 := 0#32
  let v1286 : BitVec 1 := Scalar.cmpi .sgt v1285 c0_i32_609
  let c32_i32_610 : BitVec 32 := 32#32
  let v1287 : BitVec 1 := Scalar.cmpi .slt v1285 c32_i32_610
  let v1288 : BitVec 1 := Scalar.andi v1286 v1287
  let v1289 : BitVec 32 := Scalar.extui v1288
  let c0_i32_611 : BitVec 32 := 0#32
  let v1290 : BitVec 1 := Scalar.cmpi .ne v1289 c0_i32_611
  v1290

@[reducible] def k0_t242_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off409 (i : grid0.Coords) (v1284 : BitVec 32) (k0_t241 : Fin (k0_t241_loop i v1284).trips) (k0_t242 : Fin k0_t242_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1285 : BitVec 32 := Scalar.subi v1284 v1216
  let c1_i32_834 : BitVec 32 := 1#32
  let arg15 : BitVec 32 := Scf.iv v1285 c1_i32_834 k0_t241
  let v1793 : Index := Scalar.indexCast arg15
  let c0_i32_838 : BitVec 32 := 0#32
  let c1_i32_839 : BitVec 32 := 1#32
  let arg16 : BitVec 32 := Scf.iv c0_i32_838 c1_i32_839 k0_t242
  let c16_i32 : BitVec 32 := 16#32
  let v1792 : BitVec 32 := Scalar.muli arg16 c16_i32
  let v1794 : Index := Scalar.indexCast v1792
  ![v1793.toNat, v1794.toNat]
@[reducible] def k0_t243_loop (i : grid0.Coords) (v1284 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1285 : BitVec 32 := Scalar.subi v1284 v1216
  let c32_i32_832 : BitVec 32 := 32#32
  let v1785 : BitVec 32 := Scalar.subi c32_i32_832 v1285
  let c1_i32_833 : BitVec 32 := 1#32
  let v1787 : BitVec 32 := Scalar.divsi v1785 c1_i32_833
  let v1788 : BitVec 32 := Scalar.muli v1787 c1_i32_833
  let v1789 : BitVec 32 := Scalar.addi v1285 v1788
  let v1786 : BitVec 32 := Scalar.addi v1285 v1785
  let c1_i32_835 : BitVec 32 := 1#32
  ⟨v1789, v1786, c1_i32_835⟩
@[reducible] def k0_t244_loop : Scf.Loop 32 :=
  let c0_i32_838 : BitVec 32 := 0#32
  let c64_i32 : BitVec 32 := 64#32
  let v1790 : BitVec 32 := Scalar.addi c0_i32_838 c64_i32
  let c1_i32_839 : BitVec 32 := 1#32
  ⟨c0_i32_838, v1790, c1_i32_839⟩
def k0_off410 (i : grid0.Coords) (v1284 : BitVec 32) (k0_t243 : Fin (k0_t243_loop i v1284).trips) (k0_t244 : Fin k0_t244_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1285 : BitVec 32 := Scalar.subi v1284 v1216
  let c32_i32_832 : BitVec 32 := 32#32
  let v1785 : BitVec 32 := Scalar.subi c32_i32_832 v1285
  let c1_i32_833 : BitVec 32 := 1#32
  let v1787 : BitVec 32 := Scalar.divsi v1785 c1_i32_833
  let v1788 : BitVec 32 := Scalar.muli v1787 c1_i32_833
  let v1789 : BitVec 32 := Scalar.addi v1285 v1788
  let c1_i32_835 : BitVec 32 := 1#32
  let arg15 : BitVec 32 := Scf.iv v1789 c1_i32_835 k0_t243
  let v1793 : Index := Scalar.indexCast arg15
  let c0_i32_838 : BitVec 32 := 0#32
  let c1_i32_839 : BitVec 32 := 1#32
  let arg16 : BitVec 32 := Scf.iv c0_i32_838 c1_i32_839 k0_t244
  let c16_i32 : BitVec 32 := 16#32
  let v1792 : BitVec 32 := Scalar.muli arg16 c16_i32
  let v1794 : Index := Scalar.indexCast v1792
  ![v1793.toNat, v1794.toNat]

def k0_chk57 (i : grid0.Coords) (v1284 : BitVec 32) : Prop :=
  (∀ (k0_h217 : k0_cond217 i v1284 = 1#1), (k0_t241_loop i v1284).OK) ∧
  (∀ (k0_t241 : Fin (k0_t241_loop i v1284).trips) (k0_t242 : Fin k0_t242_loop.trips), ∀ (k0_h217 : k0_cond217 i v1284 = 1#1), ∀ a, (k0_off409 i v1284 k0_t241 k0_t242) a + S1x16.size a ≤ S32x1024.size a) ∧
  (∀ (k0_h217 : k0_cond217 i v1284 = 1#1), (k0_t243_loop i v1284).OK) ∧
  (∀ (k0_t243 : Fin (k0_t243_loop i v1284).trips) (k0_t244 : Fin k0_t244_loop.trips), ∀ (k0_h217 : k0_cond217 i v1284 = 1#1), ∀ a, (k0_off410 i v1284 k0_t243 k0_t244) a + S1x16.size a ≤ S32x1024.size a)
theorem k0_t241_ok : ∀ (i : grid0.Coords) (v1284 : BitVec 32) (k0_hw57 : k0_chk57 i v1284), ∀ (k0_h217 : k0_cond217 i v1284 = 1#1), (k0_t241_loop i v1284).OK := fun i v1284 k0_hw57 k0_h217 => k0_hw57.1 k0_h217
theorem k0_off409_inb : ∀ (i : grid0.Coords) (v1284 : BitVec 32) (k0_hw57 : k0_chk57 i v1284) (k0_t241 : Fin (k0_t241_loop i v1284).trips) (k0_t242 : Fin k0_t242_loop.trips), ∀ (k0_h217 : k0_cond217 i v1284 = 1#1), ∀ a, (k0_off409 i v1284 k0_t241 k0_t242) a + S1x16.size a ≤ S32x1024.size a := fun i v1284 k0_hw57 k0_t241 k0_t242 k0_h217 => k0_hw57.2.1 k0_t241 k0_t242 k0_h217
theorem k0_t243_ok : ∀ (i : grid0.Coords) (v1284 : BitVec 32) (k0_hw57 : k0_chk57 i v1284), ∀ (k0_h217 : k0_cond217 i v1284 = 1#1), (k0_t243_loop i v1284).OK := fun i v1284 k0_hw57 k0_h217 => k0_hw57.2.2.1 k0_h217
theorem k0_off410_inb : ∀ (i : grid0.Coords) (v1284 : BitVec 32) (k0_hw57 : k0_chk57 i v1284) (k0_t243 : Fin (k0_t243_loop i v1284).trips) (k0_t244 : Fin k0_t244_loop.trips), ∀ (k0_h217 : k0_cond217 i v1284 = 1#1), ∀ a, (k0_off410 i v1284 k0_t243 k0_t244) a + S1x16.size a ≤ S32x1024.size a := fun i v1284 k0_hw57 k0_t243 k0_t244 k0_h217 => k0_hw57.2.2.2 k0_t243 k0_t244 k0_h217

def k0_off411 (i : grid0.Coords) : Fin 3 → Nat :=
  let c8_i32_836 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r130 : BitVec 32 := 0#32
  ![8, v1216.toNat, 0]
def k0_off412 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_837_r131 : BitVec 32 := 0#32
  ![v1216.toNat, 0]
@[reducible] def k0_t245_loop (i : grid0.Coords) (v1292 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1293 : BitVec 32 := Scalar.subi v1292 v1216
  let c32_i32_832 : BitVec 32 := 32#32
  let v1785 : BitVec 32 := Scalar.subi c32_i32_832 v1293
  let c1_i32_833 : BitVec 32 := 1#32
  let v1787 : BitVec 32 := Scalar.divsi v1785 c1_i32_833
  let v1788 : BitVec 32 := Scalar.muli v1787 c1_i32_833
  let v1789 : BitVec 32 := Scalar.addi v1293 v1788
  let c1_i32_834 : BitVec 32 := 1#32
  ⟨v1293, v1789, c1_i32_834⟩
def k0_cond218 (i : grid0.Coords) (v1292 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1293 : BitVec 32 := Scalar.subi v1292 v1216
  let c0_i32_612 : BitVec 32 := 0#32
  let v1294 : BitVec 1 := Scalar.cmpi .sgt v1293 c0_i32_612
  let c32_i32_613 : BitVec 32 := 32#32
  let v1295 : BitVec 1 := Scalar.cmpi .slt v1293 c32_i32_613
  let v1296 : BitVec 1 := Scalar.andi v1294 v1295
  let v1297 : BitVec 32 := Scalar.extui v1296
  let c0_i32_614 : BitVec 32 := 0#32
  let v1298 : BitVec 1 := Scalar.cmpi .ne v1297 c0_i32_614
  v1298

@[reducible] def k0_t246_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off413 (i : grid0.Coords) (v1292 : BitVec 32) (k0_t245 : Fin (k0_t245_loop i v1292).trips) (k0_t246 : Fin k0_t246_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1293 : BitVec 32 := Scalar.subi v1292 v1216
  let c1_i32_834 : BitVec 32 := 1#32
  let arg15 : BitVec 32 := Scf.iv v1293 c1_i32_834 k0_t245
  let v1793 : Index := Scalar.indexCast arg15
  let c0_i32_837 : BitVec 32 := 0#32
  let c1_i32_838 : BitVec 32 := 1#32
  let arg16 : BitVec 32 := Scf.iv c0_i32_837 c1_i32_838 k0_t246
  let c16_i32 : BitVec 32 := 16#32
  let v1792 : BitVec 32 := Scalar.muli arg16 c16_i32
  let v1794 : Index := Scalar.indexCast v1792
  ![v1793.toNat, v1794.toNat]
@[reducible] def k0_t247_loop (i : grid0.Coords) (v1292 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1293 : BitVec 32 := Scalar.subi v1292 v1216
  let c32_i32_832 : BitVec 32 := 32#32
  let v1785 : BitVec 32 := Scalar.subi c32_i32_832 v1293
  let c1_i32_833 : BitVec 32 := 1#32
  let v1787 : BitVec 32 := Scalar.divsi v1785 c1_i32_833
  let v1788 : BitVec 32 := Scalar.muli v1787 c1_i32_833
  let v1789 : BitVec 32 := Scalar.addi v1293 v1788
  let v1786 : BitVec 32 := Scalar.addi v1293 v1785
  let c1_i32_835 : BitVec 32 := 1#32
  ⟨v1789, v1786, c1_i32_835⟩
@[reducible] def k0_t248_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off414 (i : grid0.Coords) (v1292 : BitVec 32) (k0_t247 : Fin (k0_t247_loop i v1292).trips) (k0_t248 : Fin k0_t248_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1293 : BitVec 32 := Scalar.subi v1292 v1216
  let c32_i32_832 : BitVec 32 := 32#32
  let v1785 : BitVec 32 := Scalar.subi c32_i32_832 v1293
  let c1_i32_833 : BitVec 32 := 1#32
  let v1787 : BitVec 32 := Scalar.divsi v1785 c1_i32_833
  let v1788 : BitVec 32 := Scalar.muli v1787 c1_i32_833
  let v1789 : BitVec 32 := Scalar.addi v1293 v1788
  let c1_i32_835 : BitVec 32 := 1#32
  let arg15 : BitVec 32 := Scf.iv v1789 c1_i32_835 k0_t247
  let v1793 : Index := Scalar.indexCast arg15
  let c0_i32_837 : BitVec 32 := 0#32
  let c1_i32_838 : BitVec 32 := 1#32
  let arg16 : BitVec 32 := Scf.iv c0_i32_837 c1_i32_838 k0_t248
  let c16_i32 : BitVec 32 := 16#32
  let v1792 : BitVec 32 := Scalar.muli arg16 c16_i32
  let v1794 : Index := Scalar.indexCast v1792
  ![v1793.toNat, v1794.toNat]

def k0_chk58 (i : grid0.Coords) (v1292 : BitVec 32) : Prop :=
  (∀ (k0_h218 : k0_cond218 i v1292 = 1#1), (k0_t245_loop i v1292).OK) ∧
  (∀ (k0_t245 : Fin (k0_t245_loop i v1292).trips) (k0_t246 : Fin k0_t246_loop.trips), ∀ (k0_h218 : k0_cond218 i v1292 = 1#1), ∀ a, (k0_off413 i v1292 k0_t245 k0_t246) a + S1x16.size a ≤ S32x1024.size a) ∧
  (∀ (k0_h218 : k0_cond218 i v1292 = 1#1), (k0_t247_loop i v1292).OK) ∧
  (∀ (k0_t247 : Fin (k0_t247_loop i v1292).trips) (k0_t248 : Fin k0_t248_loop.trips), ∀ (k0_h218 : k0_cond218 i v1292 = 1#1), ∀ a, (k0_off414 i v1292 k0_t247 k0_t248) a + S1x16.size a ≤ S32x1024.size a)
theorem k0_t245_ok : ∀ (i : grid0.Coords) (v1292 : BitVec 32) (k0_hw58 : k0_chk58 i v1292), ∀ (k0_h218 : k0_cond218 i v1292 = 1#1), (k0_t245_loop i v1292).OK := fun i v1292 k0_hw58 k0_h218 => k0_hw58.1 k0_h218
theorem k0_off413_inb : ∀ (i : grid0.Coords) (v1292 : BitVec 32) (k0_hw58 : k0_chk58 i v1292) (k0_t245 : Fin (k0_t245_loop i v1292).trips) (k0_t246 : Fin k0_t246_loop.trips), ∀ (k0_h218 : k0_cond218 i v1292 = 1#1), ∀ a, (k0_off413 i v1292 k0_t245 k0_t246) a + S1x16.size a ≤ S32x1024.size a := fun i v1292 k0_hw58 k0_t245 k0_t246 k0_h218 => k0_hw58.2.1 k0_t245 k0_t246 k0_h218
theorem k0_t247_ok : ∀ (i : grid0.Coords) (v1292 : BitVec 32) (k0_hw58 : k0_chk58 i v1292), ∀ (k0_h218 : k0_cond218 i v1292 = 1#1), (k0_t247_loop i v1292).OK := fun i v1292 k0_hw58 k0_h218 => k0_hw58.2.2.1 k0_h218
theorem k0_off414_inb : ∀ (i : grid0.Coords) (v1292 : BitVec 32) (k0_hw58 : k0_chk58 i v1292) (k0_t247 : Fin (k0_t247_loop i v1292).trips) (k0_t248 : Fin k0_t248_loop.trips), ∀ (k0_h218 : k0_cond218 i v1292 = 1#1), ∀ a, (k0_off414 i v1292 k0_t247 k0_t248) a + S1x16.size a ≤ S32x1024.size a := fun i v1292 k0_hw58 k0_t247 k0_t248 k0_h218 => k0_hw58.2.2.2 k0_t247 k0_t248 k0_h218

def k0_off415 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r132 : BitVec 32 := 0#32
  ![9, v1216.toNat, 0]
def k0_off416 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r133 : BitVec 32 := 0#32
  ![v1216.toNat, 0]
@[reducible] def k0_t249_loop (i : grid0.Coords) (v1300 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1301 : BitVec 32 := Scalar.subi v1300 v1216
  let c32_i32_832 : BitVec 32 := 32#32
  let v1785 : BitVec 32 := Scalar.subi c32_i32_832 v1301
  let c1_i32_833 : BitVec 32 := 1#32
  let v1787 : BitVec 32 := Scalar.divsi v1785 c1_i32_833
  let v1788 : BitVec 32 := Scalar.muli v1787 c1_i32_833
  let v1789 : BitVec 32 := Scalar.addi v1301 v1788
  let c1_i32_834 : BitVec 32 := 1#32
  ⟨v1301, v1789, c1_i32_834⟩
def k0_cond219 (i : grid0.Coords) (v1300 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1301 : BitVec 32 := Scalar.subi v1300 v1216
  let c0_i32_615 : BitVec 32 := 0#32
  let v1302 : BitVec 1 := Scalar.cmpi .sgt v1301 c0_i32_615
  let c32_i32_616 : BitVec 32 := 32#32
  let v1303 : BitVec 1 := Scalar.cmpi .slt v1301 c32_i32_616
  let v1304 : BitVec 1 := Scalar.andi v1302 v1303
  let v1305 : BitVec 32 := Scalar.extui v1304
  let c0_i32_617 : BitVec 32 := 0#32
  let v1306 : BitVec 1 := Scalar.cmpi .ne v1305 c0_i32_617
  v1306

@[reducible] def k0_t250_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off417 (i : grid0.Coords) (v1300 : BitVec 32) (k0_t249 : Fin (k0_t249_loop i v1300).trips) (k0_t250 : Fin k0_t250_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1301 : BitVec 32 := Scalar.subi v1300 v1216
  let c1_i32_834 : BitVec 32 := 1#32
  let arg15 : BitVec 32 := Scf.iv v1301 c1_i32_834 k0_t249
  let v1793 : Index := Scalar.indexCast arg15
  let c0_i32_837 : BitVec 32 := 0#32
  let c1_i32_838 : BitVec 32 := 1#32
  let arg16 : BitVec 32 := Scf.iv c0_i32_837 c1_i32_838 k0_t250
  let c16_i32 : BitVec 32 := 16#32
  let v1792 : BitVec 32 := Scalar.muli arg16 c16_i32
  let v1794 : Index := Scalar.indexCast v1792
  ![v1793.toNat, v1794.toNat]
@[reducible] def k0_t251_loop (i : grid0.Coords) (v1300 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1301 : BitVec 32 := Scalar.subi v1300 v1216
  let c32_i32_832 : BitVec 32 := 32#32
  let v1785 : BitVec 32 := Scalar.subi c32_i32_832 v1301
  let c1_i32_833 : BitVec 32 := 1#32
  let v1787 : BitVec 32 := Scalar.divsi v1785 c1_i32_833
  let v1788 : BitVec 32 := Scalar.muli v1787 c1_i32_833
  let v1789 : BitVec 32 := Scalar.addi v1301 v1788
  let v1786 : BitVec 32 := Scalar.addi v1301 v1785
  let c1_i32_835 : BitVec 32 := 1#32
  ⟨v1789, v1786, c1_i32_835⟩
@[reducible] def k0_t252_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off418 (i : grid0.Coords) (v1300 : BitVec 32) (k0_t251 : Fin (k0_t251_loop i v1300).trips) (k0_t252 : Fin k0_t252_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1301 : BitVec 32 := Scalar.subi v1300 v1216
  let c32_i32_832 : BitVec 32 := 32#32
  let v1785 : BitVec 32 := Scalar.subi c32_i32_832 v1301
  let c1_i32_833 : BitVec 32 := 1#32
  let v1787 : BitVec 32 := Scalar.divsi v1785 c1_i32_833
  let v1788 : BitVec 32 := Scalar.muli v1787 c1_i32_833
  let v1789 : BitVec 32 := Scalar.addi v1301 v1788
  let c1_i32_835 : BitVec 32 := 1#32
  let arg15 : BitVec 32 := Scf.iv v1789 c1_i32_835 k0_t251
  let v1793 : Index := Scalar.indexCast arg15
  let c0_i32_837 : BitVec 32 := 0#32
  let c1_i32_838 : BitVec 32 := 1#32
  let arg16 : BitVec 32 := Scf.iv c0_i32_837 c1_i32_838 k0_t252
  let c16_i32 : BitVec 32 := 16#32
  let v1792 : BitVec 32 := Scalar.muli arg16 c16_i32
  let v1794 : Index := Scalar.indexCast v1792
  ![v1793.toNat, v1794.toNat]

def k0_chk59 (i : grid0.Coords) (v1300 : BitVec 32) : Prop :=
  (∀ (k0_h219 : k0_cond219 i v1300 = 1#1), (k0_t249_loop i v1300).OK) ∧
  (∀ (k0_t249 : Fin (k0_t249_loop i v1300).trips) (k0_t250 : Fin k0_t250_loop.trips), ∀ (k0_h219 : k0_cond219 i v1300 = 1#1), ∀ a, (k0_off417 i v1300 k0_t249 k0_t250) a + S1x16.size a ≤ S32x1024.size a) ∧
  (∀ (k0_h219 : k0_cond219 i v1300 = 1#1), (k0_t251_loop i v1300).OK) ∧
  (∀ (k0_t251 : Fin (k0_t251_loop i v1300).trips) (k0_t252 : Fin k0_t252_loop.trips), ∀ (k0_h219 : k0_cond219 i v1300 = 1#1), ∀ a, (k0_off418 i v1300 k0_t251 k0_t252) a + S1x16.size a ≤ S32x1024.size a)
theorem k0_t249_ok : ∀ (i : grid0.Coords) (v1300 : BitVec 32) (k0_hw59 : k0_chk59 i v1300), ∀ (k0_h219 : k0_cond219 i v1300 = 1#1), (k0_t249_loop i v1300).OK := fun i v1300 k0_hw59 k0_h219 => k0_hw59.1 k0_h219
theorem k0_off417_inb : ∀ (i : grid0.Coords) (v1300 : BitVec 32) (k0_hw59 : k0_chk59 i v1300) (k0_t249 : Fin (k0_t249_loop i v1300).trips) (k0_t250 : Fin k0_t250_loop.trips), ∀ (k0_h219 : k0_cond219 i v1300 = 1#1), ∀ a, (k0_off417 i v1300 k0_t249 k0_t250) a + S1x16.size a ≤ S32x1024.size a := fun i v1300 k0_hw59 k0_t249 k0_t250 k0_h219 => k0_hw59.2.1 k0_t249 k0_t250 k0_h219
theorem k0_t251_ok : ∀ (i : grid0.Coords) (v1300 : BitVec 32) (k0_hw59 : k0_chk59 i v1300), ∀ (k0_h219 : k0_cond219 i v1300 = 1#1), (k0_t251_loop i v1300).OK := fun i v1300 k0_hw59 k0_h219 => k0_hw59.2.2.1 k0_h219
theorem k0_off418_inb : ∀ (i : grid0.Coords) (v1300 : BitVec 32) (k0_hw59 : k0_chk59 i v1300) (k0_t251 : Fin (k0_t251_loop i v1300).trips) (k0_t252 : Fin k0_t252_loop.trips), ∀ (k0_h219 : k0_cond219 i v1300 = 1#1), ∀ a, (k0_off418 i v1300 k0_t251 k0_t252) a + S1x16.size a ≤ S32x1024.size a := fun i v1300 k0_hw59 k0_t251 k0_t252 k0_h219 => k0_hw59.2.2.2 k0_t251 k0_t252 k0_h219

def k0_off419 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r134 : BitVec 32 := 0#32
  ![10, v1216.toNat, 0]
def k0_off420 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r135 : BitVec 32 := 0#32
  ![v1216.toNat, 0]
@[reducible] def k0_t253_loop (i : grid0.Coords) (v1308 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1309 : BitVec 32 := Scalar.subi v1308 v1216
  let c32_i32_832 : BitVec 32 := 32#32
  let v1785 : BitVec 32 := Scalar.subi c32_i32_832 v1309
  let c1_i32_833 : BitVec 32 := 1#32
  let v1787 : BitVec 32 := Scalar.divsi v1785 c1_i32_833
  let v1788 : BitVec 32 := Scalar.muli v1787 c1_i32_833
  let v1789 : BitVec 32 := Scalar.addi v1309 v1788
  let c1_i32_834 : BitVec 32 := 1#32
  ⟨v1309, v1789, c1_i32_834⟩
def k0_cond220 (i : grid0.Coords) (v1308 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1309 : BitVec 32 := Scalar.subi v1308 v1216
  let c0_i32_618 : BitVec 32 := 0#32
  let v1310 : BitVec 1 := Scalar.cmpi .sgt v1309 c0_i32_618
  let c32_i32_619 : BitVec 32 := 32#32
  let v1311 : BitVec 1 := Scalar.cmpi .slt v1309 c32_i32_619
  let v1312 : BitVec 1 := Scalar.andi v1310 v1311
  let v1313 : BitVec 32 := Scalar.extui v1312
  let c0_i32_620 : BitVec 32 := 0#32
  let v1314 : BitVec 1 := Scalar.cmpi .ne v1313 c0_i32_620
  v1314

@[reducible] def k0_t254_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off421 (i : grid0.Coords) (v1308 : BitVec 32) (k0_t253 : Fin (k0_t253_loop i v1308).trips) (k0_t254 : Fin k0_t254_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1309 : BitVec 32 := Scalar.subi v1308 v1216
  let c1_i32_834 : BitVec 32 := 1#32
  let arg15 : BitVec 32 := Scf.iv v1309 c1_i32_834 k0_t253
  let v1793 : Index := Scalar.indexCast arg15
  let c0_i32_837 : BitVec 32 := 0#32
  let c1_i32_838 : BitVec 32 := 1#32
  let arg16 : BitVec 32 := Scf.iv c0_i32_837 c1_i32_838 k0_t254
  let c16_i32 : BitVec 32 := 16#32
  let v1792 : BitVec 32 := Scalar.muli arg16 c16_i32
  let v1794 : Index := Scalar.indexCast v1792
  ![v1793.toNat, v1794.toNat]
@[reducible] def k0_t255_loop (i : grid0.Coords) (v1308 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1309 : BitVec 32 := Scalar.subi v1308 v1216
  let c32_i32_832 : BitVec 32 := 32#32
  let v1785 : BitVec 32 := Scalar.subi c32_i32_832 v1309
  let c1_i32_833 : BitVec 32 := 1#32
  let v1787 : BitVec 32 := Scalar.divsi v1785 c1_i32_833
  let v1788 : BitVec 32 := Scalar.muli v1787 c1_i32_833
  let v1789 : BitVec 32 := Scalar.addi v1309 v1788
  let v1786 : BitVec 32 := Scalar.addi v1309 v1785
  let c1_i32_835 : BitVec 32 := 1#32
  ⟨v1789, v1786, c1_i32_835⟩
@[reducible] def k0_t256_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off422 (i : grid0.Coords) (v1308 : BitVec 32) (k0_t255 : Fin (k0_t255_loop i v1308).trips) (k0_t256 : Fin k0_t256_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1309 : BitVec 32 := Scalar.subi v1308 v1216
  let c32_i32_832 : BitVec 32 := 32#32
  let v1785 : BitVec 32 := Scalar.subi c32_i32_832 v1309
  let c1_i32_833 : BitVec 32 := 1#32
  let v1787 : BitVec 32 := Scalar.divsi v1785 c1_i32_833
  let v1788 : BitVec 32 := Scalar.muli v1787 c1_i32_833
  let v1789 : BitVec 32 := Scalar.addi v1309 v1788
  let c1_i32_835 : BitVec 32 := 1#32
  let arg15 : BitVec 32 := Scf.iv v1789 c1_i32_835 k0_t255
  let v1793 : Index := Scalar.indexCast arg15
  let c0_i32_837 : BitVec 32 := 0#32
  let c1_i32_838 : BitVec 32 := 1#32
  let arg16 : BitVec 32 := Scf.iv c0_i32_837 c1_i32_838 k0_t256
  let c16_i32 : BitVec 32 := 16#32
  let v1792 : BitVec 32 := Scalar.muli arg16 c16_i32
  let v1794 : Index := Scalar.indexCast v1792
  ![v1793.toNat, v1794.toNat]

def k0_chk60 (i : grid0.Coords) (v1308 : BitVec 32) : Prop :=
  (∀ (k0_h220 : k0_cond220 i v1308 = 1#1), (k0_t253_loop i v1308).OK) ∧
  (∀ (k0_t253 : Fin (k0_t253_loop i v1308).trips) (k0_t254 : Fin k0_t254_loop.trips), ∀ (k0_h220 : k0_cond220 i v1308 = 1#1), ∀ a, (k0_off421 i v1308 k0_t253 k0_t254) a + S1x16.size a ≤ S32x1024.size a) ∧
  (∀ (k0_h220 : k0_cond220 i v1308 = 1#1), (k0_t255_loop i v1308).OK) ∧
  (∀ (k0_t255 : Fin (k0_t255_loop i v1308).trips) (k0_t256 : Fin k0_t256_loop.trips), ∀ (k0_h220 : k0_cond220 i v1308 = 1#1), ∀ a, (k0_off422 i v1308 k0_t255 k0_t256) a + S1x16.size a ≤ S32x1024.size a)
theorem k0_t253_ok : ∀ (i : grid0.Coords) (v1308 : BitVec 32) (k0_hw60 : k0_chk60 i v1308), ∀ (k0_h220 : k0_cond220 i v1308 = 1#1), (k0_t253_loop i v1308).OK := fun i v1308 k0_hw60 k0_h220 => k0_hw60.1 k0_h220
theorem k0_off421_inb : ∀ (i : grid0.Coords) (v1308 : BitVec 32) (k0_hw60 : k0_chk60 i v1308) (k0_t253 : Fin (k0_t253_loop i v1308).trips) (k0_t254 : Fin k0_t254_loop.trips), ∀ (k0_h220 : k0_cond220 i v1308 = 1#1), ∀ a, (k0_off421 i v1308 k0_t253 k0_t254) a + S1x16.size a ≤ S32x1024.size a := fun i v1308 k0_hw60 k0_t253 k0_t254 k0_h220 => k0_hw60.2.1 k0_t253 k0_t254 k0_h220
theorem k0_t255_ok : ∀ (i : grid0.Coords) (v1308 : BitVec 32) (k0_hw60 : k0_chk60 i v1308), ∀ (k0_h220 : k0_cond220 i v1308 = 1#1), (k0_t255_loop i v1308).OK := fun i v1308 k0_hw60 k0_h220 => k0_hw60.2.2.1 k0_h220
theorem k0_off422_inb : ∀ (i : grid0.Coords) (v1308 : BitVec 32) (k0_hw60 : k0_chk60 i v1308) (k0_t255 : Fin (k0_t255_loop i v1308).trips) (k0_t256 : Fin k0_t256_loop.trips), ∀ (k0_h220 : k0_cond220 i v1308 = 1#1), ∀ a, (k0_off422 i v1308 k0_t255 k0_t256) a + S1x16.size a ≤ S32x1024.size a := fun i v1308 k0_hw60 k0_t255 k0_t256 k0_h220 => k0_hw60.2.2.2 k0_t255 k0_t256 k0_h220

def k0_off423 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r136 : BitVec 32 := 0#32
  ![11, v1216.toNat, 0]
def k0_off424 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r137 : BitVec 32 := 0#32
  ![v1216.toNat, 0]
@[reducible] def k0_t257_loop (i : grid0.Coords) (v1316 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1317 : BitVec 32 := Scalar.subi v1316 v1216
  let c32_i32_832 : BitVec 32 := 32#32
  let v1785 : BitVec 32 := Scalar.subi c32_i32_832 v1317
  let c1_i32_833 : BitVec 32 := 1#32
  let v1787 : BitVec 32 := Scalar.divsi v1785 c1_i32_833
  let v1788 : BitVec 32 := Scalar.muli v1787 c1_i32_833
  let v1789 : BitVec 32 := Scalar.addi v1317 v1788
  let c1_i32_834 : BitVec 32 := 1#32
  ⟨v1317, v1789, c1_i32_834⟩
def k0_cond221 (i : grid0.Coords) (v1316 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1317 : BitVec 32 := Scalar.subi v1316 v1216
  let c0_i32_621 : BitVec 32 := 0#32
  let v1318 : BitVec 1 := Scalar.cmpi .sgt v1317 c0_i32_621
  let c32_i32_622 : BitVec 32 := 32#32
  let v1319 : BitVec 1 := Scalar.cmpi .slt v1317 c32_i32_622
  let v1320 : BitVec 1 := Scalar.andi v1318 v1319
  let v1321 : BitVec 32 := Scalar.extui v1320
  let c0_i32_623 : BitVec 32 := 0#32
  let v1322 : BitVec 1 := Scalar.cmpi .ne v1321 c0_i32_623
  v1322

@[reducible] def k0_t258_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off425 (i : grid0.Coords) (v1316 : BitVec 32) (k0_t257 : Fin (k0_t257_loop i v1316).trips) (k0_t258 : Fin k0_t258_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1317 : BitVec 32 := Scalar.subi v1316 v1216
  let c1_i32_834 : BitVec 32 := 1#32
  let arg15 : BitVec 32 := Scf.iv v1317 c1_i32_834 k0_t257
  let v1793 : Index := Scalar.indexCast arg15
  let c0_i32_837 : BitVec 32 := 0#32
  let c1_i32_838 : BitVec 32 := 1#32
  let arg16 : BitVec 32 := Scf.iv c0_i32_837 c1_i32_838 k0_t258
  let c16_i32 : BitVec 32 := 16#32
  let v1792 : BitVec 32 := Scalar.muli arg16 c16_i32
  let v1794 : Index := Scalar.indexCast v1792
  ![v1793.toNat, v1794.toNat]
@[reducible] def k0_t259_loop (i : grid0.Coords) (v1316 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1317 : BitVec 32 := Scalar.subi v1316 v1216
  let c32_i32_832 : BitVec 32 := 32#32
  let v1785 : BitVec 32 := Scalar.subi c32_i32_832 v1317
  let c1_i32_833 : BitVec 32 := 1#32
  let v1787 : BitVec 32 := Scalar.divsi v1785 c1_i32_833
  let v1788 : BitVec 32 := Scalar.muli v1787 c1_i32_833
  let v1789 : BitVec 32 := Scalar.addi v1317 v1788
  let v1786 : BitVec 32 := Scalar.addi v1317 v1785
  let c1_i32_835 : BitVec 32 := 1#32
  ⟨v1789, v1786, c1_i32_835⟩
@[reducible] def k0_t260_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off426 (i : grid0.Coords) (v1316 : BitVec 32) (k0_t259 : Fin (k0_t259_loop i v1316).trips) (k0_t260 : Fin k0_t260_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1317 : BitVec 32 := Scalar.subi v1316 v1216
  let c32_i32_832 : BitVec 32 := 32#32
  let v1785 : BitVec 32 := Scalar.subi c32_i32_832 v1317
  let c1_i32_833 : BitVec 32 := 1#32
  let v1787 : BitVec 32 := Scalar.divsi v1785 c1_i32_833
  let v1788 : BitVec 32 := Scalar.muli v1787 c1_i32_833
  let v1789 : BitVec 32 := Scalar.addi v1317 v1788
  let c1_i32_835 : BitVec 32 := 1#32
  let arg15 : BitVec 32 := Scf.iv v1789 c1_i32_835 k0_t259
  let v1793 : Index := Scalar.indexCast arg15
  let c0_i32_837 : BitVec 32 := 0#32
  let c1_i32_838 : BitVec 32 := 1#32
  let arg16 : BitVec 32 := Scf.iv c0_i32_837 c1_i32_838 k0_t260
  let c16_i32 : BitVec 32 := 16#32
  let v1792 : BitVec 32 := Scalar.muli arg16 c16_i32
  let v1794 : Index := Scalar.indexCast v1792
  ![v1793.toNat, v1794.toNat]

def k0_chk61 (i : grid0.Coords) (v1316 : BitVec 32) : Prop :=
  (∀ (k0_h221 : k0_cond221 i v1316 = 1#1), (k0_t257_loop i v1316).OK) ∧
  (∀ (k0_t257 : Fin (k0_t257_loop i v1316).trips) (k0_t258 : Fin k0_t258_loop.trips), ∀ (k0_h221 : k0_cond221 i v1316 = 1#1), ∀ a, (k0_off425 i v1316 k0_t257 k0_t258) a + S1x16.size a ≤ S32x1024.size a) ∧
  (∀ (k0_h221 : k0_cond221 i v1316 = 1#1), (k0_t259_loop i v1316).OK) ∧
  (∀ (k0_t259 : Fin (k0_t259_loop i v1316).trips) (k0_t260 : Fin k0_t260_loop.trips), ∀ (k0_h221 : k0_cond221 i v1316 = 1#1), ∀ a, (k0_off426 i v1316 k0_t259 k0_t260) a + S1x16.size a ≤ S32x1024.size a)
theorem k0_t257_ok : ∀ (i : grid0.Coords) (v1316 : BitVec 32) (k0_hw61 : k0_chk61 i v1316), ∀ (k0_h221 : k0_cond221 i v1316 = 1#1), (k0_t257_loop i v1316).OK := fun i v1316 k0_hw61 k0_h221 => k0_hw61.1 k0_h221
theorem k0_off425_inb : ∀ (i : grid0.Coords) (v1316 : BitVec 32) (k0_hw61 : k0_chk61 i v1316) (k0_t257 : Fin (k0_t257_loop i v1316).trips) (k0_t258 : Fin k0_t258_loop.trips), ∀ (k0_h221 : k0_cond221 i v1316 = 1#1), ∀ a, (k0_off425 i v1316 k0_t257 k0_t258) a + S1x16.size a ≤ S32x1024.size a := fun i v1316 k0_hw61 k0_t257 k0_t258 k0_h221 => k0_hw61.2.1 k0_t257 k0_t258 k0_h221
theorem k0_t259_ok : ∀ (i : grid0.Coords) (v1316 : BitVec 32) (k0_hw61 : k0_chk61 i v1316), ∀ (k0_h221 : k0_cond221 i v1316 = 1#1), (k0_t259_loop i v1316).OK := fun i v1316 k0_hw61 k0_h221 => k0_hw61.2.2.1 k0_h221
theorem k0_off426_inb : ∀ (i : grid0.Coords) (v1316 : BitVec 32) (k0_hw61 : k0_chk61 i v1316) (k0_t259 : Fin (k0_t259_loop i v1316).trips) (k0_t260 : Fin k0_t260_loop.trips), ∀ (k0_h221 : k0_cond221 i v1316 = 1#1), ∀ a, (k0_off426 i v1316 k0_t259 k0_t260) a + S1x16.size a ≤ S32x1024.size a := fun i v1316 k0_hw61 k0_t259 k0_t260 k0_h221 => k0_hw61.2.2.2 k0_t259 k0_t260 k0_h221

def k0_off427 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r138 : BitVec 32 := 0#32
  ![12, v1216.toNat, 0]
def k0_off428 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r139 : BitVec 32 := 0#32
  ![v1216.toNat, 0]
@[reducible] def k0_t261_loop (i : grid0.Coords) (v1324 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1325 : BitVec 32 := Scalar.subi v1324 v1216
  let c32_i32_832 : BitVec 32 := 32#32
  let v1785 : BitVec 32 := Scalar.subi c32_i32_832 v1325
  let c1_i32_833 : BitVec 32 := 1#32
  let v1787 : BitVec 32 := Scalar.divsi v1785 c1_i32_833
  let v1788 : BitVec 32 := Scalar.muli v1787 c1_i32_833
  let v1789 : BitVec 32 := Scalar.addi v1325 v1788
  let c1_i32_834 : BitVec 32 := 1#32
  ⟨v1325, v1789, c1_i32_834⟩
def k0_cond222 (i : grid0.Coords) (v1324 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1325 : BitVec 32 := Scalar.subi v1324 v1216
  let c0_i32_624 : BitVec 32 := 0#32
  let v1326 : BitVec 1 := Scalar.cmpi .sgt v1325 c0_i32_624
  let c32_i32_625 : BitVec 32 := 32#32
  let v1327 : BitVec 1 := Scalar.cmpi .slt v1325 c32_i32_625
  let v1328 : BitVec 1 := Scalar.andi v1326 v1327
  let v1329 : BitVec 32 := Scalar.extui v1328
  let c0_i32_626 : BitVec 32 := 0#32
  let v1330 : BitVec 1 := Scalar.cmpi .ne v1329 c0_i32_626
  v1330

@[reducible] def k0_t262_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off429 (i : grid0.Coords) (v1324 : BitVec 32) (k0_t261 : Fin (k0_t261_loop i v1324).trips) (k0_t262 : Fin k0_t262_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1325 : BitVec 32 := Scalar.subi v1324 v1216
  let c1_i32_834 : BitVec 32 := 1#32
  let arg15 : BitVec 32 := Scf.iv v1325 c1_i32_834 k0_t261
  let v1793 : Index := Scalar.indexCast arg15
  let c0_i32_837 : BitVec 32 := 0#32
  let c1_i32_838 : BitVec 32 := 1#32
  let arg16 : BitVec 32 := Scf.iv c0_i32_837 c1_i32_838 k0_t262
  let c16_i32 : BitVec 32 := 16#32
  let v1792 : BitVec 32 := Scalar.muli arg16 c16_i32
  let v1794 : Index := Scalar.indexCast v1792
  ![v1793.toNat, v1794.toNat]
@[reducible] def k0_t263_loop (i : grid0.Coords) (v1324 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1325 : BitVec 32 := Scalar.subi v1324 v1216
  let c32_i32_832 : BitVec 32 := 32#32
  let v1785 : BitVec 32 := Scalar.subi c32_i32_832 v1325
  let c1_i32_833 : BitVec 32 := 1#32
  let v1787 : BitVec 32 := Scalar.divsi v1785 c1_i32_833
  let v1788 : BitVec 32 := Scalar.muli v1787 c1_i32_833
  let v1789 : BitVec 32 := Scalar.addi v1325 v1788
  let v1786 : BitVec 32 := Scalar.addi v1325 v1785
  let c1_i32_835 : BitVec 32 := 1#32
  ⟨v1789, v1786, c1_i32_835⟩
@[reducible] def k0_t264_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off430 (i : grid0.Coords) (v1324 : BitVec 32) (k0_t263 : Fin (k0_t263_loop i v1324).trips) (k0_t264 : Fin k0_t264_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1325 : BitVec 32 := Scalar.subi v1324 v1216
  let c32_i32_832 : BitVec 32 := 32#32
  let v1785 : BitVec 32 := Scalar.subi c32_i32_832 v1325
  let c1_i32_833 : BitVec 32 := 1#32
  let v1787 : BitVec 32 := Scalar.divsi v1785 c1_i32_833
  let v1788 : BitVec 32 := Scalar.muli v1787 c1_i32_833
  let v1789 : BitVec 32 := Scalar.addi v1325 v1788
  let c1_i32_835 : BitVec 32 := 1#32
  let arg15 : BitVec 32 := Scf.iv v1789 c1_i32_835 k0_t263
  let v1793 : Index := Scalar.indexCast arg15
  let c0_i32_837 : BitVec 32 := 0#32
  let c1_i32_838 : BitVec 32 := 1#32
  let arg16 : BitVec 32 := Scf.iv c0_i32_837 c1_i32_838 k0_t264
  let c16_i32 : BitVec 32 := 16#32
  let v1792 : BitVec 32 := Scalar.muli arg16 c16_i32
  let v1794 : Index := Scalar.indexCast v1792
  ![v1793.toNat, v1794.toNat]

def k0_chk62 (i : grid0.Coords) (v1324 : BitVec 32) : Prop :=
  (∀ (k0_h222 : k0_cond222 i v1324 = 1#1), (k0_t261_loop i v1324).OK) ∧
  (∀ (k0_t261 : Fin (k0_t261_loop i v1324).trips) (k0_t262 : Fin k0_t262_loop.trips), ∀ (k0_h222 : k0_cond222 i v1324 = 1#1), ∀ a, (k0_off429 i v1324 k0_t261 k0_t262) a + S1x16.size a ≤ S32x1024.size a) ∧
  (∀ (k0_h222 : k0_cond222 i v1324 = 1#1), (k0_t263_loop i v1324).OK) ∧
  (∀ (k0_t263 : Fin (k0_t263_loop i v1324).trips) (k0_t264 : Fin k0_t264_loop.trips), ∀ (k0_h222 : k0_cond222 i v1324 = 1#1), ∀ a, (k0_off430 i v1324 k0_t263 k0_t264) a + S1x16.size a ≤ S32x1024.size a)
theorem k0_t261_ok : ∀ (i : grid0.Coords) (v1324 : BitVec 32) (k0_hw62 : k0_chk62 i v1324), ∀ (k0_h222 : k0_cond222 i v1324 = 1#1), (k0_t261_loop i v1324).OK := fun i v1324 k0_hw62 k0_h222 => k0_hw62.1 k0_h222
theorem k0_off429_inb : ∀ (i : grid0.Coords) (v1324 : BitVec 32) (k0_hw62 : k0_chk62 i v1324) (k0_t261 : Fin (k0_t261_loop i v1324).trips) (k0_t262 : Fin k0_t262_loop.trips), ∀ (k0_h222 : k0_cond222 i v1324 = 1#1), ∀ a, (k0_off429 i v1324 k0_t261 k0_t262) a + S1x16.size a ≤ S32x1024.size a := fun i v1324 k0_hw62 k0_t261 k0_t262 k0_h222 => k0_hw62.2.1 k0_t261 k0_t262 k0_h222
theorem k0_t263_ok : ∀ (i : grid0.Coords) (v1324 : BitVec 32) (k0_hw62 : k0_chk62 i v1324), ∀ (k0_h222 : k0_cond222 i v1324 = 1#1), (k0_t263_loop i v1324).OK := fun i v1324 k0_hw62 k0_h222 => k0_hw62.2.2.1 k0_h222
theorem k0_off430_inb : ∀ (i : grid0.Coords) (v1324 : BitVec 32) (k0_hw62 : k0_chk62 i v1324) (k0_t263 : Fin (k0_t263_loop i v1324).trips) (k0_t264 : Fin k0_t264_loop.trips), ∀ (k0_h222 : k0_cond222 i v1324 = 1#1), ∀ a, (k0_off430 i v1324 k0_t263 k0_t264) a + S1x16.size a ≤ S32x1024.size a := fun i v1324 k0_hw62 k0_t263 k0_t264 k0_h222 => k0_hw62.2.2.2 k0_t263 k0_t264 k0_h222

def k0_off431 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r140 : BitVec 32 := 0#32
  ![13, v1216.toNat, 0]
def k0_off432 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r141 : BitVec 32 := 0#32
  ![v1216.toNat, 0]
@[reducible] def k0_t265_loop (i : grid0.Coords) (v1332 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1333 : BitVec 32 := Scalar.subi v1332 v1216
  let c32_i32_832 : BitVec 32 := 32#32
  let v1785 : BitVec 32 := Scalar.subi c32_i32_832 v1333
  let c1_i32_833 : BitVec 32 := 1#32
  let v1787 : BitVec 32 := Scalar.divsi v1785 c1_i32_833
  let v1788 : BitVec 32 := Scalar.muli v1787 c1_i32_833
  let v1789 : BitVec 32 := Scalar.addi v1333 v1788
  let c1_i32_834 : BitVec 32 := 1#32
  ⟨v1333, v1789, c1_i32_834⟩
def k0_cond223 (i : grid0.Coords) (v1332 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1333 : BitVec 32 := Scalar.subi v1332 v1216
  let c0_i32_627 : BitVec 32 := 0#32
  let v1334 : BitVec 1 := Scalar.cmpi .sgt v1333 c0_i32_627
  let c32_i32_628 : BitVec 32 := 32#32
  let v1335 : BitVec 1 := Scalar.cmpi .slt v1333 c32_i32_628
  let v1336 : BitVec 1 := Scalar.andi v1334 v1335
  let v1337 : BitVec 32 := Scalar.extui v1336
  let c0_i32_629 : BitVec 32 := 0#32
  let v1338 : BitVec 1 := Scalar.cmpi .ne v1337 c0_i32_629
  v1338

@[reducible] def k0_t266_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off433 (i : grid0.Coords) (v1332 : BitVec 32) (k0_t265 : Fin (k0_t265_loop i v1332).trips) (k0_t266 : Fin k0_t266_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1333 : BitVec 32 := Scalar.subi v1332 v1216
  let c1_i32_834 : BitVec 32 := 1#32
  let arg15 : BitVec 32 := Scf.iv v1333 c1_i32_834 k0_t265
  let v1793 : Index := Scalar.indexCast arg15
  let c0_i32_837 : BitVec 32 := 0#32
  let c1_i32_838 : BitVec 32 := 1#32
  let arg16 : BitVec 32 := Scf.iv c0_i32_837 c1_i32_838 k0_t266
  let c16_i32 : BitVec 32 := 16#32
  let v1792 : BitVec 32 := Scalar.muli arg16 c16_i32
  let v1794 : Index := Scalar.indexCast v1792
  ![v1793.toNat, v1794.toNat]
@[reducible] def k0_t267_loop (i : grid0.Coords) (v1332 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1333 : BitVec 32 := Scalar.subi v1332 v1216
  let c32_i32_832 : BitVec 32 := 32#32
  let v1785 : BitVec 32 := Scalar.subi c32_i32_832 v1333
  let c1_i32_833 : BitVec 32 := 1#32
  let v1787 : BitVec 32 := Scalar.divsi v1785 c1_i32_833
  let v1788 : BitVec 32 := Scalar.muli v1787 c1_i32_833
  let v1789 : BitVec 32 := Scalar.addi v1333 v1788
  let v1786 : BitVec 32 := Scalar.addi v1333 v1785
  let c1_i32_835 : BitVec 32 := 1#32
  ⟨v1789, v1786, c1_i32_835⟩
@[reducible] def k0_t268_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off434 (i : grid0.Coords) (v1332 : BitVec 32) (k0_t267 : Fin (k0_t267_loop i v1332).trips) (k0_t268 : Fin k0_t268_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1333 : BitVec 32 := Scalar.subi v1332 v1216
  let c32_i32_832 : BitVec 32 := 32#32
  let v1785 : BitVec 32 := Scalar.subi c32_i32_832 v1333
  let c1_i32_833 : BitVec 32 := 1#32
  let v1787 : BitVec 32 := Scalar.divsi v1785 c1_i32_833
  let v1788 : BitVec 32 := Scalar.muli v1787 c1_i32_833
  let v1789 : BitVec 32 := Scalar.addi v1333 v1788
  let c1_i32_835 : BitVec 32 := 1#32
  let arg15 : BitVec 32 := Scf.iv v1789 c1_i32_835 k0_t267
  let v1793 : Index := Scalar.indexCast arg15
  let c0_i32_837 : BitVec 32 := 0#32
  let c1_i32_838 : BitVec 32 := 1#32
  let arg16 : BitVec 32 := Scf.iv c0_i32_837 c1_i32_838 k0_t268
  let c16_i32 : BitVec 32 := 16#32
  let v1792 : BitVec 32 := Scalar.muli arg16 c16_i32
  let v1794 : Index := Scalar.indexCast v1792
  ![v1793.toNat, v1794.toNat]

def k0_chk63 (i : grid0.Coords) (v1332 : BitVec 32) : Prop :=
  (∀ (k0_h223 : k0_cond223 i v1332 = 1#1), (k0_t265_loop i v1332).OK) ∧
  (∀ (k0_t265 : Fin (k0_t265_loop i v1332).trips) (k0_t266 : Fin k0_t266_loop.trips), ∀ (k0_h223 : k0_cond223 i v1332 = 1#1), ∀ a, (k0_off433 i v1332 k0_t265 k0_t266) a + S1x16.size a ≤ S32x1024.size a) ∧
  (∀ (k0_h223 : k0_cond223 i v1332 = 1#1), (k0_t267_loop i v1332).OK) ∧
  (∀ (k0_t267 : Fin (k0_t267_loop i v1332).trips) (k0_t268 : Fin k0_t268_loop.trips), ∀ (k0_h223 : k0_cond223 i v1332 = 1#1), ∀ a, (k0_off434 i v1332 k0_t267 k0_t268) a + S1x16.size a ≤ S32x1024.size a)
theorem k0_t265_ok : ∀ (i : grid0.Coords) (v1332 : BitVec 32) (k0_hw63 : k0_chk63 i v1332), ∀ (k0_h223 : k0_cond223 i v1332 = 1#1), (k0_t265_loop i v1332).OK := fun i v1332 k0_hw63 k0_h223 => k0_hw63.1 k0_h223
theorem k0_off433_inb : ∀ (i : grid0.Coords) (v1332 : BitVec 32) (k0_hw63 : k0_chk63 i v1332) (k0_t265 : Fin (k0_t265_loop i v1332).trips) (k0_t266 : Fin k0_t266_loop.trips), ∀ (k0_h223 : k0_cond223 i v1332 = 1#1), ∀ a, (k0_off433 i v1332 k0_t265 k0_t266) a + S1x16.size a ≤ S32x1024.size a := fun i v1332 k0_hw63 k0_t265 k0_t266 k0_h223 => k0_hw63.2.1 k0_t265 k0_t266 k0_h223
theorem k0_t267_ok : ∀ (i : grid0.Coords) (v1332 : BitVec 32) (k0_hw63 : k0_chk63 i v1332), ∀ (k0_h223 : k0_cond223 i v1332 = 1#1), (k0_t267_loop i v1332).OK := fun i v1332 k0_hw63 k0_h223 => k0_hw63.2.2.1 k0_h223
theorem k0_off434_inb : ∀ (i : grid0.Coords) (v1332 : BitVec 32) (k0_hw63 : k0_chk63 i v1332) (k0_t267 : Fin (k0_t267_loop i v1332).trips) (k0_t268 : Fin k0_t268_loop.trips), ∀ (k0_h223 : k0_cond223 i v1332 = 1#1), ∀ a, (k0_off434 i v1332 k0_t267 k0_t268) a + S1x16.size a ≤ S32x1024.size a := fun i v1332 k0_hw63 k0_t267 k0_t268 k0_h223 => k0_hw63.2.2.2 k0_t267 k0_t268 k0_h223

def k0_off435 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r142 : BitVec 32 := 0#32
  ![14, v1216.toNat, 0]
def k0_off436 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r143 : BitVec 32 := 0#32
  ![v1216.toNat, 0]
@[reducible] def k0_t269_loop (i : grid0.Coords) (v1340 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1341 : BitVec 32 := Scalar.subi v1340 v1216
  let c32_i32_832 : BitVec 32 := 32#32
  let v1785 : BitVec 32 := Scalar.subi c32_i32_832 v1341
  let c1_i32_833 : BitVec 32 := 1#32
  let v1787 : BitVec 32 := Scalar.divsi v1785 c1_i32_833
  let v1788 : BitVec 32 := Scalar.muli v1787 c1_i32_833
  let v1789 : BitVec 32 := Scalar.addi v1341 v1788
  let c1_i32_834 : BitVec 32 := 1#32
  ⟨v1341, v1789, c1_i32_834⟩
def k0_cond224 (i : grid0.Coords) (v1340 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1341 : BitVec 32 := Scalar.subi v1340 v1216
  let c0_i32_630 : BitVec 32 := 0#32
  let v1342 : BitVec 1 := Scalar.cmpi .sgt v1341 c0_i32_630
  let c32_i32_631 : BitVec 32 := 32#32
  let v1343 : BitVec 1 := Scalar.cmpi .slt v1341 c32_i32_631
  let v1344 : BitVec 1 := Scalar.andi v1342 v1343
  let v1345 : BitVec 32 := Scalar.extui v1344
  let c0_i32_632 : BitVec 32 := 0#32
  let v1346 : BitVec 1 := Scalar.cmpi .ne v1345 c0_i32_632
  v1346

@[reducible] def k0_t270_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off437 (i : grid0.Coords) (v1340 : BitVec 32) (k0_t269 : Fin (k0_t269_loop i v1340).trips) (k0_t270 : Fin k0_t270_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1341 : BitVec 32 := Scalar.subi v1340 v1216
  let c1_i32_834 : BitVec 32 := 1#32
  let arg15 : BitVec 32 := Scf.iv v1341 c1_i32_834 k0_t269
  let v1793 : Index := Scalar.indexCast arg15
  let c0_i32_837 : BitVec 32 := 0#32
  let c1_i32_838 : BitVec 32 := 1#32
  let arg16 : BitVec 32 := Scf.iv c0_i32_837 c1_i32_838 k0_t270
  let c16_i32 : BitVec 32 := 16#32
  let v1792 : BitVec 32 := Scalar.muli arg16 c16_i32
  let v1794 : Index := Scalar.indexCast v1792
  ![v1793.toNat, v1794.toNat]
@[reducible] def k0_t271_loop (i : grid0.Coords) (v1340 : BitVec 32) : Scf.Loop 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1341 : BitVec 32 := Scalar.subi v1340 v1216
  let c32_i32_832 : BitVec 32 := 32#32
  let v1785 : BitVec 32 := Scalar.subi c32_i32_832 v1341
  let c1_i32_833 : BitVec 32 := 1#32
  let v1787 : BitVec 32 := Scalar.divsi v1785 c1_i32_833
  let v1788 : BitVec 32 := Scalar.muli v1787 c1_i32_833
  let v1789 : BitVec 32 := Scalar.addi v1341 v1788
  let v1786 : BitVec 32 := Scalar.addi v1341 v1785
  let c1_i32_835 : BitVec 32 := 1#32
  ⟨v1789, v1786, c1_i32_835⟩
@[reducible] def k0_t272_loop : Scf.Loop 32 :=
  let c0_i32_837 : BitVec 32 := 0#32
  let c64_i32 : BitVec 32 := 64#32
  let v1790 : BitVec 32 := Scalar.addi c0_i32_837 c64_i32
  let c1_i32_838 : BitVec 32 := 1#32
  ⟨c0_i32_837, v1790, c1_i32_838⟩
def k0_off438 (i : grid0.Coords) (v1340 : BitVec 32) (k0_t271 : Fin (k0_t271_loop i v1340).trips) (k0_t272 : Fin k0_t272_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let v1341 : BitVec 32 := Scalar.subi v1340 v1216
  let c32_i32_832 : BitVec 32 := 32#32
  let v1785 : BitVec 32 := Scalar.subi c32_i32_832 v1341
  let c1_i32_833 : BitVec 32 := 1#32
  let v1787 : BitVec 32 := Scalar.divsi v1785 c1_i32_833
  let v1788 : BitVec 32 := Scalar.muli v1787 c1_i32_833
  let v1789 : BitVec 32 := Scalar.addi v1341 v1788
  let c1_i32_835 : BitVec 32 := 1#32
  let arg15 : BitVec 32 := Scf.iv v1789 c1_i32_835 k0_t271
  let v1793 : Index := Scalar.indexCast arg15
  let c0_i32_837 : BitVec 32 := 0#32
  let c1_i32_838 : BitVec 32 := 1#32
  let arg16 : BitVec 32 := Scf.iv c0_i32_837 c1_i32_838 k0_t272
  let c16_i32 : BitVec 32 := 16#32
  let v1792 : BitVec 32 := Scalar.muli arg16 c16_i32
  let v1794 : Index := Scalar.indexCast v1792
  ![v1793.toNat, v1794.toNat]

def k0_chk64 (i : grid0.Coords) (v1340 : BitVec 32) : Prop :=
  (∀ (k0_h224 : k0_cond224 i v1340 = 1#1), (k0_t269_loop i v1340).OK) ∧
  (∀ (k0_t269 : Fin (k0_t269_loop i v1340).trips) (k0_t270 : Fin k0_t270_loop.trips), ∀ (k0_h224 : k0_cond224 i v1340 = 1#1), ∀ a, (k0_off437 i v1340 k0_t269 k0_t270) a + S1x16.size a ≤ S32x1024.size a) ∧
  (∀ (k0_h224 : k0_cond224 i v1340 = 1#1), (k0_t271_loop i v1340).OK) ∧
  (∀ (k0_t271 : Fin (k0_t271_loop i v1340).trips) (k0_t272 : Fin k0_t272_loop.trips), ∀ (k0_h224 : k0_cond224 i v1340 = 1#1), ∀ a, (k0_off438 i v1340 k0_t271 k0_t272) a + S1x16.size a ≤ S32x1024.size a)
theorem k0_t269_ok : ∀ (i : grid0.Coords) (v1340 : BitVec 32) (k0_hw64 : k0_chk64 i v1340), ∀ (k0_h224 : k0_cond224 i v1340 = 1#1), (k0_t269_loop i v1340).OK := fun i v1340 k0_hw64 k0_h224 => k0_hw64.1 k0_h224
theorem k0_off437_inb : ∀ (i : grid0.Coords) (v1340 : BitVec 32) (k0_hw64 : k0_chk64 i v1340) (k0_t269 : Fin (k0_t269_loop i v1340).trips) (k0_t270 : Fin k0_t270_loop.trips), ∀ (k0_h224 : k0_cond224 i v1340 = 1#1), ∀ a, (k0_off437 i v1340 k0_t269 k0_t270) a + S1x16.size a ≤ S32x1024.size a := fun i v1340 k0_hw64 k0_t269 k0_t270 k0_h224 => k0_hw64.2.1 k0_t269 k0_t270 k0_h224
theorem k0_t271_ok : ∀ (i : grid0.Coords) (v1340 : BitVec 32) (k0_hw64 : k0_chk64 i v1340), ∀ (k0_h224 : k0_cond224 i v1340 = 1#1), (k0_t271_loop i v1340).OK := fun i v1340 k0_hw64 k0_h224 => k0_hw64.2.2.1 k0_h224
theorem k0_off438_inb : ∀ (i : grid0.Coords) (v1340 : BitVec 32) (k0_hw64 : k0_chk64 i v1340) (k0_t271 : Fin (k0_t271_loop i v1340).trips) (k0_t272 : Fin k0_t272_loop.trips), ∀ (k0_h224 : k0_cond224 i v1340 = 1#1), ∀ a, (k0_off438 i v1340 k0_t271 k0_t272) a + S1x16.size a ≤ S32x1024.size a := fun i v1340 k0_hw64 k0_t271 k0_t272 k0_h224 => k0_hw64.2.2.2 k0_t271 k0_t272 k0_h224

def k0_off439 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r144 : BitVec 32 := 0#32
  ![15, v1216.toNat, 0]
def k0_off440 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_836_r145 : BitVec 32 := 0#32
  ![v1216.toNat, 0]
def k0_off441 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![0, v1349.toNat, 0]
def k0_off442 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![0, v1349.toNat, 0]
def k0_off443 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![1, v1349.toNat, 0]
def k0_off444 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![1, v1349.toNat, 0]
def k0_off445 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![2, v1349.toNat, 0]
def k0_off446 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![2, v1349.toNat, 0]
def k0_off447 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![3, v1349.toNat, 0]
def k0_off448 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![3, v1349.toNat, 0]
def k0_off449 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![4, v1349.toNat, 0]
def k0_off450 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![4, v1349.toNat, 0]
def k0_off451 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![5, v1349.toNat, 0]
def k0_off452 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![5, v1349.toNat, 0]
def k0_off453 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![6, v1349.toNat, 0]
def k0_off454 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![6, v1349.toNat, 0]
def k0_off455 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![7, v1349.toNat, 0]
def k0_off456 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![7, v1349.toNat, 0]
def k0_off457 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![8, v1349.toNat, 0]
def k0_off458 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_832 : BitVec 32 := 0#32
  ![8, v1349.toNat, 0]
def k0_off459 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![9, v1349.toNat, 0]
def k0_off460 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![9, v1349.toNat, 0]
def k0_off461 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![10, v1349.toNat, 0]
def k0_off462 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![10, v1349.toNat, 0]
def k0_off463 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![11, v1349.toNat, 0]
def k0_off464 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![11, v1349.toNat, 0]
def k0_off465 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![12, v1349.toNat, 0]
def k0_off466 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![12, v1349.toNat, 0]
def k0_off467 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![13, v1349.toNat, 0]
def k0_off468 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![13, v1349.toNat, 0]
def k0_off469 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![14, v1349.toNat, 0]
def k0_off470 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![14, v1349.toNat, 0]
def k0_off471 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![15, v1349.toNat, 0]
def k0_off472 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_633 : BitVec 32 := 4#32
  let v1347 : BitVec 32 := Scalar.muli v1 c4_i32_633
  let c2_i32_634 : BitVec 32 := 2#32
  let v1348 : BitVec 32 := Scalar.addi v1347 c2_i32_634
  let c32_i32_635 : BitVec 32 := 32#32
  let v1349 : BitVec 32 := Scalar.muli v1348 c32_i32_635
  let c0_i32_831 : BitVec 32 := 0#32
  ![15, v1349.toNat, 0]
def k0_off473 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![0, v1216.toNat, 0]
def k0_off474 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![0, v1216.toNat, 0]
def k0_off475 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![1, v1216.toNat, 0]
def k0_off476 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![1, v1216.toNat, 0]
def k0_off477 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![2, v1216.toNat, 0]
def k0_off478 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![2, v1216.toNat, 0]
def k0_off479 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![3, v1216.toNat, 0]
def k0_off480 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![3, v1216.toNat, 0]
def k0_off481 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![4, v1216.toNat, 0]
def k0_off482 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![4, v1216.toNat, 0]
def k0_off483 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![5, v1216.toNat, 0]
def k0_off484 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![5, v1216.toNat, 0]
def k0_off485 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![6, v1216.toNat, 0]
def k0_off486 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![6, v1216.toNat, 0]
def k0_off487 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![7, v1216.toNat, 0]
def k0_off488 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![7, v1216.toNat, 0]
def k0_off489 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![8, v1216.toNat, 0]
def k0_off490 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_832 : BitVec 32 := 0#32
  ![8, v1216.toNat, 0]
def k0_off491 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![9, v1216.toNat, 0]
def k0_off492 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![9, v1216.toNat, 0]
def k0_off493 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![10, v1216.toNat, 0]
def k0_off494 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![10, v1216.toNat, 0]
def k0_off495 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![11, v1216.toNat, 0]
def k0_off496 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![11, v1216.toNat, 0]
def k0_off497 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![12, v1216.toNat, 0]
def k0_off498 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![12, v1216.toNat, 0]
def k0_off499 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![13, v1216.toNat, 0]
def k0_off500 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![13, v1216.toNat, 0]
def k0_off501 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![14, v1216.toNat, 0]
def k0_off502 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![14, v1216.toNat, 0]
def k0_off503 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![15, v1216.toNat, 0]
def k0_off504 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_580 : BitVec 32 := 4#32
  let v1214 : BitVec 32 := Scalar.muli v1 c4_i32_580
  let c3_i32_581 : BitVec 32 := 3#32
  let v1215 : BitVec 32 := Scalar.addi v1214 c3_i32_581
  let c32_i32_582 : BitVec 32 := 32#32
  let v1216 : BitVec 32 := Scalar.muli v1215 c32_i32_582
  let c0_i32_831 : BitVec 32 := 0#32
  ![15, v1216.toNat, 0]
def k0_off505 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![0, v1640.toNat, 0]
def k0_off506 (i : grid0.Coords) : Fin 3 → Nat :=
  let c0_i32_831 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![0, v1640.toNat, 0]
def k0_off507 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![1, v1640.toNat, 0]
def k0_off508 (i : grid0.Coords) : Fin 3 → Nat :=
  let c1_i32_831 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![1, v1640.toNat, 0]
def k0_off509 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![2, v1640.toNat, 0]
def k0_off510 (i : grid0.Coords) : Fin 3 → Nat :=
  let c2_i32_831 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![2, v1640.toNat, 0]
def k0_off511 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![3, v1640.toNat, 0]
def k0_off512 (i : grid0.Coords) : Fin 3 → Nat :=
  let c3_i32_831 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![3, v1640.toNat, 0]
def k0_off513 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![4, v1640.toNat, 0]
def k0_off514 (i : grid0.Coords) : Fin 3 → Nat :=
  let c4_i32_831 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![4, v1640.toNat, 0]
def k0_off515 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![5, v1640.toNat, 0]
def k0_off516 (i : grid0.Coords) : Fin 3 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![5, v1640.toNat, 0]
def k0_off517 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![6, v1640.toNat, 0]
def k0_off518 (i : grid0.Coords) : Fin 3 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![6, v1640.toNat, 0]
def k0_off519 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![7, v1640.toNat, 0]
def k0_off520 (i : grid0.Coords) : Fin 3 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![7, v1640.toNat, 0]
def k0_off521 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![8, v1640.toNat, 0]
def k0_off522 (i : grid0.Coords) : Fin 3 → Nat :=
  let c8_i32_831 : BitVec 32 := 8#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_832 : BitVec 32 := 0#32
  ![8, v1640.toNat, 0]
def k0_off523 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![9, v1640.toNat, 0]
def k0_off524 (i : grid0.Coords) : Fin 3 → Nat :=
  let c9_i32 : BitVec 32 := 9#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![9, v1640.toNat, 0]
def k0_off525 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![10, v1640.toNat, 0]
def k0_off526 (i : grid0.Coords) : Fin 3 → Nat :=
  let c10_i32 : BitVec 32 := 10#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![10, v1640.toNat, 0]
def k0_off527 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![11, v1640.toNat, 0]
def k0_off528 (i : grid0.Coords) : Fin 3 → Nat :=
  let c11_i32 : BitVec 32 := 11#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![11, v1640.toNat, 0]
def k0_off529 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![12, v1640.toNat, 0]
def k0_off530 (i : grid0.Coords) : Fin 3 → Nat :=
  let c12_i32 : BitVec 32 := 12#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![12, v1640.toNat, 0]
def k0_off531 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![13, v1640.toNat, 0]
def k0_off532 (i : grid0.Coords) : Fin 3 → Nat :=
  let c13_i32 : BitVec 32 := 13#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![13, v1640.toNat, 0]
def k0_off533 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![14, v1640.toNat, 0]
def k0_off534 (i : grid0.Coords) : Fin 3 → Nat :=
  let c14_i32 : BitVec 32 := 14#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![14, v1640.toNat, 0]
def k0_off535 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![15, v1640.toNat, 0]
def k0_off536 (i : grid0.Coords) : Fin 3 → Nat :=
  let c15_i32 : BitVec 32 := 15#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_764 : BitVec 32 := 4#32
  let v1638 : BitVec 32 := Scalar.muli v1 c4_i32_764
  let c3_i32_765 : BitVec 32 := 3#32
  let v1639 : BitVec 32 := Scalar.addi v1638 c3_i32_765
  let c32_i32_766 : BitVec 32 := 32#32
  let v1640 : BitVec 32 := Scalar.muli v1639 c32_i32_766
  let c0_i32_831 : BitVec 32 := 0#32
  ![15, v1640.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16 : Shape := ⟨1, ![16]⟩
abbrev S4097x1024 : Shape := ⟨2, ![4097, 1024]⟩
abbrev S4096 : Shape := ⟨1, ![4096]⟩
abbrev S_ : Shape := ⟨0, ![]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S1 : Shape := ⟨1, ![1]⟩
abbrev S1x1x1 : Shape := ⟨3, ![1, 1, 1]⟩
abbrev S16x4096x1024 : Shape := ⟨3, ![16, 4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16, .i32⟩
  | .hbm, ⟨1, _⟩ => ⟨S4097x1024, .f32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i32⟩
  | .hbm, ⟨6, _⟩ => ⟨S1x4096, .i32⟩
  | .hbm, ⟨7, _⟩ => ⟨S16x1, .i32⟩
  | .hbm, ⟨8, _⟩ => ⟨S16x4096, .i32⟩
  | .hbm, ⟨9, _⟩ => ⟨S16x4096, .i32⟩
  | .hbm, ⟨10, _⟩ => ⟨S16x4096, .i1⟩
  | .hbm, ⟨11, _⟩ => ⟨S_, .i32⟩
  | .hbm, ⟨12, _⟩ => ⟨S_, .i32⟩
  | .hbm, ⟨13, _⟩ => ⟨S16x4096, .i32⟩
  | .hbm, ⟨14, _⟩ => ⟨S16x4096, .i32⟩
  | .hbm, ⟨15, _⟩ => ⟨S16x4096, .i32⟩
  | .hbm, ⟨16, _⟩ => ⟨S_, .i32⟩
  | .hbm, ⟨17, _⟩ => ⟨S16x4096, .i32⟩
  | .hbm, ⟨18, _⟩ => ⟨S16x4096, .i1⟩
  | .hbm, ⟨19, _⟩ => ⟨S_, .i32⟩
  | .hbm, ⟨20, _⟩ => ⟨S16x4096, .i32⟩
  | .hbm, ⟨21, _⟩ => ⟨S16x4096, .i32⟩
  | .hbm, ⟨22, _⟩ => ⟨S16x4096, .i32⟩
  | .hbm, ⟨23, _⟩ => ⟨S16x4096x1, .i32⟩
  | .hbm, ⟨24, _⟩ => ⟨S1, .i32⟩
  | .hbm, ⟨25, _⟩ => ⟨S_, .i32⟩
  | .hbm, ⟨26, _⟩ => ⟨S16x4096x1, .i32⟩
  | .hbm, ⟨27, _⟩ => ⟨S16x4096x1, .i1⟩
  | .hbm, ⟨28, _⟩ => ⟨S1x1x1, .i32⟩
  | .hbm, ⟨29, _⟩ => ⟨S16x4096x1, .i32⟩
  | .hbm, ⟨30, _⟩ => ⟨S16x4096x1, .i1⟩
  | .hbm, ⟨31, _⟩ => ⟨S16x4096x1, .i1⟩
  | .hbm, ⟨32, _⟩ => ⟨S_, .i1⟩
  | .hbm, ⟨33, _⟩ => ⟨S16x4096, .i1⟩
  | .hbm, ⟨34, _⟩ => ⟨S16x4096x1024, .f32⟩
  | .hbm, ⟨35, _⟩ => ⟨S16x4096x1024, .i1⟩
  | .hbm, ⟨36, _⟩ => ⟨S_, .f32⟩
  | .hbm, ⟨37, _⟩ => ⟨S16x4096x1024, .f32⟩
  | .hbm, ⟨38, _⟩ => ⟨S16x4096x1024, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v9 : Ref sig .tc := ⟨.hbm, 38, rfl⟩

abbrev nD : Nat := 1
abbrev τ : Topo := Topo.v7x

variable {F : FTy → Type} [FloatOps F]
-- ==== Proof.Setup.lean ====
/-
  What the proof of the kernel is stated over: the program as the launch theorem sees it, the arrays and scratch buffers,
  where each tile's blocks lie in them, and the values the kernel leaves there.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state beside the transfers' counters. -/
abbrev UU : Type := URounds (GSem nD τ sig) ℕ × Counters

local notation "𝕄" => MT nD τ sig (HIx 1) (Elt F) ℕ UU ℕ

abbrev EH : Emb (URounds (GSem nD τ sig) ℕ) (MT nD τ sig (HIx 1) (Elt F) ℕ UU ℕ) := embL
abbrev EC : UEmb Counters (MT nD τ sig (HIx 1) (Elt F) ℕ UU ℕ) := countersEmb

/-! ## The arrays, as the tiles' memrefs address them, and the scratch buffers -/

abbrev aLen : Memref sig .scVector .hbm S16 .i32 := Memref.whole main_arg0_scv
abbrev aTbl : Memref sig .scVector .hbm S4096x1024 .f32 := Memref.whole main_v0_scv
abbrev aZer : Memref sig .scVector .hbm S32x1024 .f32 := Memref.whole main_v1_scv
abbrev aEmb : Memref sig .scVector .hbm S16x4096x1024 .f32 := Memref.whole main_v2_0_scv
abbrev aPos : Memref sig .scVector .hbm S65536 .i32 := Memref.whole main_v2_1_scv
abbrev sLen : Memref sig .scVector .vmem S16 .i32 := Memref.whole cc0_scratch0
abbrev sTbA : Memref sig .scVector .vmem S32x1024 .f32 := Memref.whole cc0_scratch1
abbrev sTbB : Memref sig .scVector .vmem S32x1024 .f32 := Memref.whole cc0_scratch2
abbrev sZer : Memref sig .scVector .vmem S32x1024 .f32 := Memref.whole cc0_scratch3
abbrev sPos : Memref sig .scVector .vmem S128 .i32 := Memref.whole cc0_scratch4

/-- The same arrays as locations of device `d`: the lengths, the table without its first row, the zeros, and the two
    results before the host's reshape. -/
abbrev lenLoc (d : Dev nD) : Loc nD τ sig := (SparseCore.T d).loc main_arg0
abbrev tabLoc (d : Dev nD) : Loc nD τ sig := (SparseCore.T d).loc main_arg1
abbrev tblLoc (d : Dev nD) : Loc nD τ sig := (SparseCore.T d).loc main_v0
abbrev zerLoc (d : Dev nD) : Loc nD τ sig := (SparseCore.T d).loc main_v1
abbrev embLoc (d : Dev nD) : Loc nD τ sig := (SparseCore.T d).loc main_v2_0
abbrev posLoc (d : Dev nD) : Loc nD τ sig := (SparseCore.T d).loc main_v2_1

abbrev cV (L : grid0.Coords) : Fin τ.nSC := (L 0).castLE hcore0
abbrev jV (L : grid0.Coords) : Fin τ.nSub := (L 1).castLE hsub0
/-- The tile at coordinates `L` of device `d`. -/
abbrev thr (d : Dev nD) (L : grid0.Coords) : Thread nD τ := V d (cV L) (jV L)

/-! ## Words -/

/-- The first row of chunk `c` of the tile at `L`, as the program computes it. -/
def sB (c : ℕ) (L : grid0.Coords) : BitVec 32 :=
  Scalar.muli (Scalar.addi (Scalar.muli (Scalar.addi (Scalar.muli (BitVec.ofNat 32 (L 1).val) 2#32) (BitVec.ofNat 32 (L 0).val)) 4#32)
    (BitVec.ofNat 32 c)) 32#32

/-- The same as a number. -/
def s0 (c : ℕ) (L : grid0.Coords) : ℕ := 256 * (L 1).val + 128 * (L 0).val + 32 * c

theorem L0_lt (L : grid0.Coords) : (L 0).val < 2 := (L 0).isLt
theorem L1_lt (L : grid0.Coords) : (L 1).val < 16 := (L 1).isLt

theorem sB_toNat {c : ℕ} (hc : c < 4) (L : grid0.Coords) : (sB c L).toNat = s0 c L := by
  have h0 := L0_lt L; have h1 := L1_lt L
  simp only [sB, s0, Scalar.muli, Scalar.addi, IntOp.muli, IntOp.addi, BitVec.toNat_mul, BitVec.toNat_add, BitVec.toNat_ofNat]
  omega

theorem s0_le {c : ℕ} (hc : c < 4) (L : grid0.Coords) : s0 c L + 32 ≤ 4096 := by
  have h0 := L0_lt L; have h1 := L1_lt L
  simp only [s0]; omega

/-! ## Blocks: where a tile's copies lie in the arrays -/

/-- Rows `s` to `s + 31` of batch `b` of the embedding result. -/
def eBlk (b s : ℕ) : Finset S16x4096x1024.Idx := Finset.univ.filter fun j => (j 0).val = b ∧ s ≤ (j 1).val ∧ (j 1).val < s + 32
/-- Rows `s` to `s + 31` of the table. -/
def tBlk (s : ℕ) : Finset S4096x1024.Idx := Finset.univ.filter fun j => s ≤ (j 0).val ∧ (j 0).val < s + 32
/-- Words `p` to `p + 127` of the position result. -/
def pBlk (p : ℕ) : Finset S65536.Idx := Finset.univ.filter fun j => p ≤ (j 0).val ∧ (j 0).val < p + 128

theorem mem_eBlk {b s : ℕ} {j : S16x4096x1024.Idx} : j ∈ eBlk b s ↔ (j 0).val = b ∧ s ≤ (j 1).val ∧ (j 1).val < s + 32 := by simp [eBlk]
theorem mem_tBlk {s : ℕ} {j : S4096x1024.Idx} : j ∈ tBlk s ↔ s ≤ (j 0).val ∧ (j 0).val < s + 32 := by simp [tBlk]
theorem mem_pBlk {p : ℕ} {j : S65536.Idx} : j ∈ pBlk p ↔ p ≤ (j 0).val ∧ (j 0).val < p + 128 := by simp [pBlk]

/-- The memrefs through which the copies go. -/
abbrev eSl (off : Fin 3 → ℕ) (inb : ∀ a, off a + S1x32x1024.size a ≤ S16x4096x1024.size a) : Memref sig .scVector .hbm S32x1024 .f32 :=
  (aEmb.slice (Rect.unit (s := S16x4096x1024) off S1x32x1024.size inb) (fun _ => rfl)).squeeze S32x1024 squeezes_S1x32x1024_S32x1024
abbrev tSl (off : Fin 2 → ℕ) (inb : ∀ a, off a + S32x1024.size a ≤ S4096x1024.size a) : Memref sig .scVector .hbm S32x1024 .f32 :=
  aTbl.slice (Rect.unit (s := S4096x1024) off S32x1024.size inb) (fun _ => rfl)
abbrev pSl (off : Fin 1 → ℕ) (inb : ∀ a, off a + S128.size a ≤ S65536.size a) : Memref sig .scVector .hbm S128 .i32 :=
  aPos.slice (Rect.unit (s := S65536) off S128.size inb) (fun _ => rfl)

theorem set_eSl {b s : ℕ} {off : Fin 3 → ℕ} (inb) (h : off = ![b, s, 0]) : (eSl off inb).view.set = eBlk b s := by
  subst h
  show (((View.whole (main_v2_0_scv : Ref sig .scVector)).slice (Rect.unit (s := S16x4096x1024) ![b, s, 0] S1x32x1024.size inb)).reshape S32x1024
    squeezes_S1x32x1024_S32x1024.numel_eq).set = _
  rw [View.set_reshape, View.set_slice]
  refine (Finset.map_refl).trans (Finset.ext fun j => ?_)
  rw [Rect.mem_set_unit, mem_eBlk]
  constructor
  · intro h; have h0 := h 0; have h1 := h 1
    simp at h0 h1; omega
  · intro h a
    match a with
    | 0 => simp; omega
    | 1 => simp; omega
    | 2 => exact ⟨Nat.zero_le _, (show (j 2).val < 1024 from (j 2).isLt).trans_eq (by simp)⟩

theorem set_tSl {s : ℕ} {off : Fin 2 → ℕ} (inb) (h : off = ![s, 0]) : (tSl off inb).view.set = tBlk s := by
  subst h
  show ((View.whole (main_v0_scv : Ref sig .scVector)).slice _).set = _
  rw [View.set_slice]
  refine (Finset.map_refl).trans (Finset.ext fun j => ?_)
  rw [Rect.mem_set_unit, mem_tBlk]
  constructor
  · intro h; have h0 := h 0
    simp at h0; omega
  · intro h a
    match a with
    | 0 => simp; omega
    | 1 => exact ⟨Nat.zero_le _, (show (j 1).val < 1024 from (j 1).isLt).trans_eq (by simp)⟩

theorem set_pSl {p : ℕ} {off : Fin 1 → ℕ} (inb) (h : off = ![p]) : (pSl off inb).view.set = pBlk p := by
  subst h
  show ((View.whole (main_v2_1_scv : Ref sig .scVector)).slice _).set = _
  rw [View.set_slice]
  refine (Finset.map_refl).trans (Finset.ext fun j => ?_)
  rw [Rect.mem_set_unit, mem_pBlk]
  constructor
  · intro h; have h0 := h 0
    simp at h0; omega
  · intro h a
    match a with
    | 0 => simp; omega

/-! ## Which index of the array each index of a block is -/

/-- Row `x 0` of the block of rows from `s`, in the table. -/
def tIx (s : ℕ) (x : S32x1024.Idx) : S4096x1024.Idx := ix2 (Fin.ofNat 4096 (s + (x 0).val)) (x 1)
/-- Row `x 0` of the block of rows from `s` of batch `b`, in the embedding result. -/
def eIx (b s : ℕ) (x : S32x1024.Idx) : S16x4096x1024.Idx := ix3 (Fin.ofNat 16 b) (Fin.ofNat 4096 (s + (x 0).val)) (x 1)
/-- Word `x` of the block of words from `p`, in the position result. -/
def pIx (p : ℕ) (x : S128.Idx) : S65536.Idx := ix1 (Fin.ofNat 65536 (p + (x 0).val))

theorem emb_tSl {s : ℕ} {off : Fin 2 → ℕ} (inb) (h : off = ![s, 0]) (hs : s + 32 ≤ 4096) (x : S32x1024.Idx) : (tSl off inb).view.emb x = tIx s x := by
  subst h
  have h0 : (x 0).val < 32 := (x 0).isLt
  funext a
  match a with
  | 0 => exact Fin.ext (by show s + 1 * (x 0).val = (s + (x 0).val) % 4096; omega)
  | 1 => exact Fin.ext (by show 0 + 1 * (x 1).val = (x 1).val; omega)

theorem emb_pSl {p : ℕ} {off : Fin 1 → ℕ} (inb) (h : off = ![p]) (hp : p + 128 ≤ 65536) (x : S128.Idx) : (pSl off inb).view.emb x = pIx p x := by
  subst h
  have h0 : (x 0).val < 128 := (x 0).isLt
  funext a
  match a with
  | 0 => exact Fin.ext (by show p + 1 * (x 0).val = (p + (x 0).val) % 65536; omega)

theorem emb_eSl {b s : ℕ} {off : Fin 3 → ℕ} (inb) (h : off = ![b, s, 0]) (hb : b < 16) (hs : s + 32 ≤ 4096) (x : S32x1024.Idx) :
    (eSl off inb).view.emb x = eIx b s x := by
  subst h
  obtain ⟨x0, x1, rfl⟩ : ∃ (x0 : Fin 32) (x1 : Fin 1024), x = ix2 x0 x1 := ⟨x 0, x 1, eq_ix2 (n0 := 32) (n1 := 1024) x⟩
  have h0 : x0.val < 32 := x0.isLt
  show (Rect.unit (s := S16x4096x1024) ![b, s, 0] S1x32x1024.size inb).emb (Shape.reshapeEquiv squeezes_S1x32x1024_S32x1024.numel_eq (ix2 x0 x1)) = _
  rw [reshapeEquiv_ix2_1ab]
  funext a
  match a with
  | 0 => exact Fin.ext (by show b + 1 * 0 = b % 16; omega)
  | 1 => exact Fin.ext (by show s + 1 * x0.val = (s + x0.val) % 4096; omega)
  | 2 => exact Fin.ext (by show 0 + 1 * x1.val = x1.val; omega)

/-! ## The values the kernel leaves -/

variable [FloatOps F]

abbrev LenA : Type := S16.Idx → BitVec 32
abbrev TblA (F : FTy → Type) : Type := S4096x1024.Idx → F .f32
abbrev ChA (F : FTy → Type) : Type := S32x1024.Idx → F .f32

/-- The float zero, as the program writes it. -/
def Z : F .f32 := Scalar.ofBits .f32 0x00000000#32

/-- Length `b`. -/
def lenW (ln : LenA) (b : ℕ) : BitVec 32 := ln (ix1 (Fin.ofNat 16 b))
/-- How many rows of chunk `c` batch `b`'s sequence covers, as the signed word the program computes (it may exceed 32
    or be negative). -/
def nW (ln : LenA) (L : grid0.Coords) (c b : ℕ) : BitVec 32 := lenW ln b - sB c L

/-- Chunk `c`'s rows of the table. -/
def TC (tb : TblA F) (s : ℕ) : ChA F := fun x => tb (tIx s x)
/-- The first `n` rows of a chunk, the others zero. -/
def cut (n : BitVec 32) (w : ChA F) : ChA F := fun x => if ((x 0).val : ℤ) < n.toInt then w x else Z

/-- The embedding result: row `j 1` of batch `j 0` is that row of the table where the sequence covers it, else zero. -/
def EV (ln : LenA) (tb : TblA F) : S16x4096x1024.Idx → F .f32 := fun j =>
  if (((j 1).val % 32 : ℕ) : ℤ) < (ln (ix1 (j 0)) - BitVec.ofNat 32 ((j 1).val - (j 1).val % 32)).toInt then tb (ix2 (j 1) (j 2)) else Z
/-- The position result: each position plus one where the sequence covers it, else zero. -/
def PV (ln : LenA) : S65536.Idx → BitVec 32 := fun j =>
  if (BitVec.ofNat 32 ((j 0).val % 4096) + 1#32).sle (lenW ln ((j 0).val / 4096)) then BitVec.ofNat 32 ((j 0).val % 4096) + 1#32 else 0#32

theorem cut_full {n : BitVec 32} (h : 32 ≤ n.toInt) (w : ChA F) : cut n w = w := by
  funext x
  have h0 : (x 0).val < 32 := (x 0).isLt
  simp only [cut]; rw [if_pos (by omega)]

theorem cut_empty {n : BitVec 32} (h : n.toInt ≤ 0) (w : ChA F) : cut n w = fun _ => Z := by
  funext x
  simp only [cut]; rw [if_neg (by omega)]

theorem s0_mod (c : ℕ) (L : grid0.Coords) : s0 c L % 32 = 0 := by simp only [s0]; omega

theorem EV_eIx (ln : LenA) (tb : TblA F) (L : grid0.Coords) {c b : ℕ} (hc : c < 4) (x : S32x1024.Idx) :
    EV ln tb (eIx b (s0 c L) x) = cut (nW ln L c b) (TC tb (s0 c L)) x := by
  have h0 : (x 0).val < 32 := (x 0).isLt
  have hs := s0_le hc L; have hm := s0_mod c L
  have e1 : ((eIx b (s0 c L) x) 1).val = s0 c L + (x 0).val := by show (s0 c L + (x 0).val) % 4096 = _; omega
  have e2 : BitVec.ofNat 32 (s0 c L) = sB c L := by rw [← sB_toNat hc L, BitVec.ofNat_toNat, BitVec.setWidth_eq]
  simp only [EV, e1, cut]
  have e3 : (s0 c L + (x 0).val) % 32 = (x 0).val := by omega
  rw [e3, Nat.add_sub_cancel, e2]
  rfl

end Cert.Proof.Tile

end
-- ==== Proof.Core.lean ====
/-
  What one tile holds while it runs, and the two steps every copy is made of: starting it and waiting for it.
-/
module

public import proofs.«01_k».proof.Proof.Setup

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

/-- One tile's task: which tile, the arrays' contents when it starts, and what it owes. -/
structure Task (F : FTy → Type) where
  d : Dev nD
  L : grid0.Coords
  ln : LenA
  tb : TblA F
  e0 : S16x4096x1024.Idx → F .f32
  p0 : S65536.Idx → BitVec 32
  O : CellTallies nD τ sig (HIx 1)
  W : Waits sig (HIx 1)
  hO : ∀ g, O g none = 0

namespace Task
variable (X : Task F)
/-- The tile. -/
abbrev t : Thread nD τ := thr X.d X.L
/-- The semaphores of the tile's loads and of its two batches of writes. -/
abbrev gL : GSem nD τ sig := (X.t, .dma cc0_scratch5.sem)
abbrev gA : GSem nD τ sig := (X.t, .dma cc0_scratch6.sem)
abbrev gB : GSem nD τ sig := (X.t, .dma cc0_scratch7.sem)
/-- The tile's other semaphores: those of the copies it waits for at once. -/
def cells : Finset (GSem nD τ sig) := (((ownCells X.t).erase X.gL).erase X.gA).erase X.gB
end Task

theorem mem_cells (X : Task F) (s : DmaSems sig S_) (h : (SemLoc.dma s.sem : SemLoc sig).isScoped .scVector = true)
    (hL : s.sem ≠ cc0_scratch5.sem) (hA : s.sem ≠ cc0_scratch6.sem) (hB : s.sem ≠ cc0_scratch7.sem) : ((X.t, .dma s.sem) : GSem nD τ sig) ∈ X.cells := by
  simp only [Task.cells, Finset.mem_erase, mem_ownCells]
  exact ⟨fun e => hB (SemLoc.dma.inj (Prod.mk.inj e).2), fun e => hA (SemLoc.dma.inj (Prod.mk.inj e).2),
    fun e => hL (SemLoc.dma.inj (Prod.mk.inj e).2), trivial, h⟩

/-- A semaphore other than those three. -/
abbrev Apart (s : DmaSems sig S_) : Prop :=
  (SemLoc.dma s.sem : SemLoc sig).isScoped .scVector = true ∧ s.sem ≠ cc0_scratch5.sem ∧ s.sem ≠ cc0_scratch6.sem ∧ s.sem ≠ cc0_scratch7.sem
theorem apart_cells (X : Task F) {s : DmaSems sig S_} (h : Apart s) : ((X.t, .dma s.sem) : GSem nD τ sig) ∈ X.cells := mem_cells X s h.1 h.2.1 h.2.2.1 h.2.2.2

/-- What the tile owes, with the waits it has made so far. -/
def Owed (X : Task F) : sProp 𝕄 :=
  iprop(levAts (K (F := F)).L (K (F := F)).lev ∗ ∃ W', ⌜∀ p ∈ W', p ∈ X.W ∨ p.2 = none⌝ ∗ owes X.t X.O W')

/-- The tile's copy semaphores at zero but those of `s`. -/
def Own (X : Task F) (s : Finset (GSem nD τ sig)) : sProp 𝕄 := iprop(Owed X ∗ bigSep (X.cells \ s) fun g => semVal g 0)

/-- A copy's semaphore taken out, to start the copy with; put back, once it has been waited for. -/
theorem own_take (X : Task F) {g : GSem nD τ sig} (h : g ∈ X.cells) : (Own X ∅ : sProp 𝕄) ⊢ iprop(Own X {g} ∗ semVal g 0) := by
  unfold Own
  rw [Finset.sdiff_empty, Finset.sdiff_singleton_eq_erase, SparseCore.bigSep_erase' h]
  iintro ⟨H, Hg, Hr⟩; iframe
theorem own_put (X : Task F) {g : GSem nD τ sig} (h : g ∈ X.cells) : iprop(Own X {g} ∗ semVal g 0) ⊢ (Own X ∅ : sProp 𝕄) := by
  unfold Own
  rw [Finset.sdiff_empty, Finset.sdiff_singleton_eq_erase, SparseCore.bigSep_erase' h]
  iintro ⟨⟨H, Hr⟩, Hg⟩; iframe

abbrev wpT (X : Task F) {α : Type} (p : Prog (TpuEff nD τ sig (Elt F) Λ₀ X.t.2) α) (Φ : α → sProp 𝕄) : sProp 𝕄 :=
  wp frame (wpE defs₀ 𝒱₀ X.t none) Set.univ p Φ

variable {X : Task F} {α β : Type}
variable {Φ : α → sProp (MT nD τ sig (HIx 1) (Elt F) ℕ UU ℕ)} {R : sProp (MT nD τ sig (HIx 1) (Elt F) ℕ UU ℕ)}

/-- A part of the program, then the rest. -/
theorem enter {p : Prog (TpuEff nD τ sig (Elt F) Λ₀ X.t.2) β} {k : β → Prog (TpuEff nD τ sig (Elt F) Λ₀ X.t.2) α}
    (h : R ⊢ wpT X p fun a => wpT X (k a) Φ) : R ⊢ wpT X (p >>= k) Φ := by
  unfold wpT at *; rw [wp_bind]; exact h

theorem leave {a : α} (h : R ⊢ Φ a) : R ⊢ wpT X (pure a) Φ := h.trans (le_wp_ret _ _ _ a Φ)

/-- A check that holds is passed. -/
theorem passes {P : Prop} {dP : Decidable P} {k : PLift P → Prog (TpuEff nD τ sig (Elt F) Λ₀ X.t.2) α} (hP : P)
    (h : R ⊢ wpT X (k ⟨hP⟩) Φ) : R ⊢ wpT X (Prog.lift (.assume P dP) >>= k) Φ := by
  simp only [Prog.lift, Prog.bind_op, Prog.bind_ret]
  rw [wpT, wp_assume_of 𝒱₀ X.t none Set.univ hP]; exact h

section Copy
variable {sp sp' : Space} {s : Shape} {e : EltTy} {src : Memref sig .scVector sp s e} {dst : Memref sig .scVector sp' s e}
variable {sm : DmaSem sig} {q : PosShare TreeShare} {fs : Buf (Elt F) (src.view.loc X.t)} {fd : Buf (Elt F) (dst.view.loc X.t)}

/-- What a copy delivers: the destination holding what the source holds, and the source back. -/
abbrev Lands (X : Task F) (src : Memref sig .scVector sp s e) (dst : Memref sig .scVector sp' s e) (q : PosShare TreeShare)
    (fs : Buf (Elt F) (src.view.loc X.t)) (fd : Buf (Elt F) (dst.view.loc X.t)) : sProp 𝕄 :=
  iprop((dst.view.loc X.t ↦[dst.view.set]{fullShare} (dst.view.write (Elt F) fd (src.view.read (Elt F) fs) Finset.univ))
    ∗ (src.view.loc X.t ↦[src.view.set]{q} fs))

/-- What has landed, at the value `g` it gives each index of the destination. -/
theorem landed {S : Finset (Idx (dst.view.loc X.t))} (hS : dst.view.set = S) {w : s.Idx → Elt F e} {g : Buf (Elt F) (dst.view.loc X.t)}
    (hg : ∀ x, _root_.cast (congrArg (Elt F) dst.view.elt_eq.symm) (w x) = g (dst.view.emb x)) :
    (dst.view.loc X.t ↦[dst.view.set]{fullShare} (dst.view.write (Elt F) fd w Finset.univ)) ⊢ (dst.view.loc X.t ↦[S]{fullShare} g : sProp 𝕄) := by
  subst hS
  refine (pointsTo_congr fun i hi => ?_).le
  obtain ⟨x, -, rfl⟩ := Finset.mem_map.mp hi
  rw [View.write_emb_of_mem _ _ (Finset.mem_univ _), hg]

/-- Starting a copy takes its semaphore at zero, the source and the destination, and leaves the copy under way. -/
theorem start {hsrc : src.view.WordExact} {hdst : dst.view.WordExact} {hsem : DmaTarget.Typed (nD := nD) sp (.dma sm) (DmaTarget.here (p := X.t.2) dst)}
    {k : PUnit → Prog (TpuEff nD τ sig (Elt F) Λ₀ X.t.2) α} (N : ℕ) (hN : dst.view.dmaCredit = N) (h0 : 0 < N)
    (h : iprop(Flight EC X.t (.dma sm) none N (Lands X src dst q fs fd) ∗ R) ⊢ wpT X (k ⟨⟩) Φ) :
    iprop(semVal (X.t, .dma sm) 0 ∗ (src.view.loc X.t ↦[src.view.set]{q} fs) ∗ (dst.view.loc X.t ↦[dst.view.set]{fullShare} fd) ∗ R)
      ⊢ wpT X (Prog.lift (.enqueueDma src (.here dst) (.dma sm) hsrc hdst hsem) >>= k) Φ := by
  simp only [Prog.lift, Prog.bind_op, Prog.bind_ret]
  iintro ⟨Hv, Hs, Hd, HR⟩
  iapply (wp_dmaLocal EC 𝒱₀ X.t none (src := src) (dst := dst) (sm := .dma sm) none N hN h0 subset_rfl) $$ [Hv Hs Hd]
  · iframe
  iintro HF
  iapply h
  iframe

/-- Waiting for a copy under way hands over what it delivers, and its semaphore at zero. -/
theorem await {D : sProp 𝕄} {hsrc : src.view.WordExact} {hdst : dst.view.WordExact} {k : PUnit → Prog (TpuEff nD τ sig (Elt F) Λ₀ X.t.2) α} {N : ℕ}
    (hN : dst.view.dmaCredit = N) (h : iprop(semVal (X.t, .dma sm) 0 ∗ D ∗ Owed X ∗ R) ⊢ wpT X (k ⟨⟩) Φ) :
    iprop(Flight EC X.t (.dma sm) none N D ∗ Owed X ∗ R) ⊢ wpT X (Prog.lift (.waitDma2 sm src dst hsrc hdst) >>= k) Φ := by
  simp only [Prog.lift, Prog.bind_op, Prog.bind_ret]
  unfold Owed at *
  iintro ⟨HF, ⟨#Hlv, %W', %hW, HO⟩, HR⟩
  iapply (wp_waitLocalO EC 𝒱₀ X.t none none (srcw := src) (dstw := dst) (O := X.O) (W := W') hN) $$ [HF HO]
  · isplitl [HF]; · iexact HF
    isplitl [HO]; · iexact HO
    iapply ((K (F := F)).mayWait_none (SemLoc.dma sm) X.hO); iexact Hlv
  iintro ⟨HD, Hv, HO⟩
  iapply h
  isplitl [Hv]; · iexact Hv
  isplitl [HD]; · iexact HD
  isplitr [HR]
  · isplitr; · iexact Hlv
    iexists (insert (SemLoc.dma sm, none) W'); isplitr
    · ipureintro
      exact fun p hp => (Finset.mem_insert.mp hp).elim (fun e => .inr (congrArg Prod.snd e)) (hW p)
    · iexact HO
  · iexact HR

/-- A copy started and waited for at once. -/
theorem copy {s' : Shape} {e' : EltTy} {sp₂ sp₂' : Space} {src' : Memref sig .scVector sp₂ s' e'} {dst' : Memref sig .scVector sp₂' s' e'}
    {hsrc : src.view.WordExact} {hdst : dst.view.WordExact} {hsem : DmaTarget.Typed (nD := nD) sp (.dma sm) (DmaTarget.here (p := X.t.2) dst)}
    {hsrc' : src'.view.WordExact} {hdst' : dst'.view.WordExact}
    {k : PUnit → Prog (TpuEff nD τ sig (Elt F) Λ₀ X.t.2) α} (hm : ((X.t, .dma sm) : GSem nD τ sig) ∈ X.cells)
    (hN' : dst'.view.dmaCredit = dst.view.dmaCredit) (h0 : 0 < dst.view.dmaCredit)
    (h : iprop(Lands X src dst q fs fd ∗ Own X ∅ ∗ R) ⊢ wpT X (k ⟨⟩) Φ) :
    iprop((src.view.loc X.t ↦[src.view.set]{q} fs) ∗ (dst.view.loc X.t ↦[dst.view.set]{fullShare} fd) ∗ Own X ∅ ∗ R)
      ⊢ wpT X (Prog.lift (.enqueueDma src (.here dst) (.dma sm) hsrc hdst hsem) >>= fun _ =>
          Prog.lift (.waitDma2 sm src' dst' hsrc' hdst') >>= k) Φ := by
  have h1 := await (X := X) (Φ := Φ) (src := src') (dst := dst') (hsrc := hsrc') (hdst := hdst') (k := k) (sm := sm)
    (D := Lands X src dst q fs fd) (R := iprop((bigSep (X.cells \ {((X.t, .dma sm) : GSem nD τ sig)}) fun g => semVal g 0) ∗ R)) hN' (by
      refine BIBase.Entails.trans ?_ h
      iintro ⟨Hv, HD, HO, Hc, HR⟩
      isplitl [HD]; · iexact HD
      isplitr [HR]
      · iapply (own_put X hm)
        unfold Own
        isplitr [Hv]
        · isplitl [HO] <;> iassumption
        · iexact Hv
      · iexact HR)
  have h2 := start (X := X) (Φ := Φ) (src := src) (dst := dst) (hsrc := hsrc) (hdst := hdst) (hsem := hsem) (q := q) (fs := fs) (fd := fd) (sm := sm)
    (k := fun _ => Prog.lift (.waitDma2 sm src' dst' hsrc' hdst') >>= k) dst.view.dmaCredit rfl h0 h1
  refine BIBase.Entails.trans ?_ h2
  iintro ⟨Hs, Hd, HW, HR⟩
  ihave HW' := (own_take X hm) $$ HW
  unfold Own
  icases HW' with ⟨⟨HO, Hc⟩, Hv⟩
  iframe

end Copy

end Cert.Proof.Tile

end
-- ==== Proof.Pos.lean ====
/-
  The positions: for each batch a tile fills a buffer of 128 words by a loop of eight stores and copies it out.
-/
module

public import proofs.«01_k».proof.Proof.Core

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

/-! ## The lengths as the program reads them -/

/-- The vector of lengths, once loaded. -/
def V3 (ln : LenA) : IVec S16 32 := shapeCast S16 ln shapeCasts_S16_S16
/-- Its entry `b`. -/
def lenX (v : IVec S16 32) (b : ℕ) (h : S16.Slices ![b] S1) : BitVec 32 := extractAt ![0] (extractStridedSlice S1 ![b] v h) inpos_S1_p0

theorem V3_eq (ln : LenA) : V3 ln = ln := by
  funext x
  show ln (Shape.reshapeEquiv shapeCasts_S16_S16 x) = ln x
  exact congrArg ln (Shape.reshapeEquiv_eq_of_rowMajor _ rfl)

theorem lenX_eq (ln : LenA) {b : ℕ} (hb : b < 16) (h : S16.Slices ![b] S1) : lenX (V3 ln) b h = lenW ln b := by
  rw [V3_eq]
  refine congrArg ln (funext fun a => ?_)
  match a with
  | 0 => exact Fin.ext (by show b + 0 = b % 16; omega)

/-! ## A family of pieces, the first `k` of which are done -/

section Family
variable {M : Type} [URA M]

/-- Sixteen pieces, of which the first `k` are `A` and the others `B`. -/
def Upto (A B : ℕ → sProp M) (k : ℕ) : sProp M := bigSep (Finset.range 16) fun b => if b < k then A b else B b
/-- The same without piece `k`. -/
def But (A B : ℕ → sProp M) (k : ℕ) : sProp M := bigSep ((Finset.range 16).erase k) fun b => if b < k then A b else B b

theorem upto_zero (A B : ℕ → sProp M) : Upto A B 0 = bigSep (Finset.range 16) B := rfl
theorem upto_all (A B : ℕ → sProp M) : Upto A B 16 = bigSep (Finset.range 16) A :=
  bigSep_congr fun b hb => if_pos (Finset.mem_range.mp hb)
theorem upto_take (A B : ℕ → sProp M) {k : ℕ} (hk : k < 16) : Upto A B k = iprop(B k ∗ But A B k) := by
  unfold Upto But
  rw [SparseCore.bigSep_erase' (Finset.mem_range.mpr hk), if_neg (lt_irrefl k)]
theorem upto_put (A B : ℕ → sProp M) {k : ℕ} (hk : k < 16) : Upto A B (k + 1) = iprop(A k ∗ But A B k) := by
  unfold Upto But
  rw [SparseCore.bigSep_erase' (Finset.mem_range.mpr hk), if_pos (Nat.lt_succ_self k)]
  congr 1
  refine bigSep_congr fun b hb => ?_
  have := Finset.ne_of_mem_erase hb
  by_cases h : b < k
  · rw [if_pos h, if_pos (by omega)]
  · rw [if_neg h, if_neg (by omega)]

end Family

/-! ## One batch's positions -/

/-- Where batch `b`'s words of this tile begin. -/
def pB (b : ℕ) (L : grid0.Coords) : ℕ := 4096 * b + 256 * (L 1).val + 128 * (L 0).val

theorem pB_le {b : ℕ} (hb : b < 16) (L : grid0.Coords) : pB b L + 128 ≤ 65536 := by
  have := L0_lt L; have := L1_lt L; simp only [pB]; omega

abbrev posLoop : Scf.Loop 32 := ⟨0#32, Scalar.addi 0#32 8#32, 1#32⟩
def posOff (t : Fin posLoop.trips) : Fin 1 → ℕ := ![(Scalar.indexCast (Scalar.muli (Scf.iv 0#32 1#32 t) 16#32)).toNat]
/-- The sixteen words trip `t` stores. -/
def posPay (L : grid0.Coords) (v : IVec S16 32) (b : ℕ) (h : S16.Slices ![b] S1) (t : Fin posLoop.trips) : IVec S16 32 :=
  let w : IVec S16 32 := addi (broadcast S16 (Scalar.addi (Scalar.addi (Scalar.muli (Scalar.addi (Scalar.muli (BitVec.ofNat 32 (L 1).val) 2#32)
    (BitVec.ofNat 32 (L 0).val)) 128#32) (Scalar.muli (Scf.iv 0#32 1#32 t) 16#32)) 1#32)) (iota .scVector S16 32 [0] iota_S16_d0_w32_scVector)
  shapeCast S16 (select (cmpi .sle w (broadcast S16 (lenX v b h))) w (broadcast S16 0#32)) shapeCasts_S16_S16

theorem posLoop_trips : posLoop.trips = 8 := by decide
theorem posIv (t : Fin posLoop.trips) : Scf.iv 0#32 1#32 t = BitVec.ofNat 32 t.val := by
  simp [Scf.iv]
theorem posOff_eq (t : Fin posLoop.trips) : posOff t = ![16 * t.val] := by
  have ht : t.val < 8 := lt_of_lt_of_eq t.isLt posLoop_trips
  unfold posOff
  rw [posIv]
  simp only [Scalar.indexCast, Scalar.muli, IntOp.muli, BitVec.toNat_mul, BitVec.toNat_ofNat]
  congr 1; omega

theorem posPay_eq (ln : LenA) (L : grid0.Coords) {b : ℕ} (hb : b < 16) (h : S16.Slices ![b] S1) (t : Fin posLoop.trips) (y : S16.Idx) (x : S128.Idx)
    (hx : (x 0).val = 16 * t.val + (y 0).val) : posPay L (V3 ln) b h t y = PV ln (pIx (pB b L) x) := by
  have h0 := L0_lt L; have h1 := L1_lt L
  have hx0 : (x 0).val < 128 := (x 0).isLt
  have e0 : ((pIx (pB b L) x) 0).val = pB b L + (x 0).val := by
    show (pB b L + (x 0).val) % 65536 = _
    have := pB_le hb L; omega
  have e1 : Shape.reshapeEquiv shapeCasts_S16_S16 y = y := Shape.reshapeEquiv_eq_of_rowMajor _ rfl
  have e2 : (pB b L + (x 0).val) % 4096 = 256 * (L 1).val + 128 * (L 0).val + (x 0).val := by simp only [pB]; omega
  have e3 : (pB b L + (x 0).val) / 4096 = b := by simp only [pB]; omega
  unfold PV
  rw [e0, e2, e3]
  unfold posPay
  simp only [shapeCast, e1, select, cmpi, addi, broadcast, lenX_eq ln hb h, posIv]
  have ew : IntOp.addi (Scalar.addi (Scalar.addi (Scalar.muli (Scalar.addi (Scalar.muli (BitVec.ofNat 32 (L 1).val) 2#32)
      (BitVec.ofNat 32 (L 0).val)) 128#32) (Scalar.muli (BitVec.ofNat 32 t.val) 16#32)) 1#32) (iota .scVector S16 32 [0] iota_S16_d0_w32_scVector y)
      = BitVec.ofNat 32 (256 * (L 1).val + 128 * (L 0).val + (x 0).val) + 1#32 := by
    apply BitVec.eq_of_toNat_eq
    simp only [iota, List.foldl, Scalar.muli, Scalar.addi, IntOp.muli, IntOp.addi, BitVec.toNat_mul, BitVec.toNat_add, BitVec.toNat_ofNat]
    have hy : (y 0).val < 16 := (y 0).isLt
    have ht : t.val < 8 := lt_of_lt_of_eq t.isLt posLoop_trips
    rw [hx]
    omega
  rw [ew]
  cases hc : (BitVec.ofNat 32 (256 * (L 1).val + 128 * (L 0).val + (x 0).val) + 1#32).sle (lenW ln b) <;> simp [IntOp.cmpi, Scalar.select, hc]

variable {X : Task F} {α β : Type}
variable {Φ : α → sProp (MT nD τ sig (HIx 1) (Elt F) ℕ UU ℕ)} {R : sProp (MT nD τ sig (HIx 1) (Elt F) ℕ UU ℕ)}

/-- The position buffer holding something. -/
def PosAny (X : Task F) : sProp 𝕄 := iprop(∃ f : S128.Idx → BitVec 32, sPos.view.loc X.t ↦[Finset.univ]{fullShare} f)
/-- The position buffer, its first `m` words those of batch `b`. -/
def PosTo (X : Task F) (b m : ℕ) : sProp 𝕄 :=
  iprop(∃ f : S128.Idx → BitVec 32, ⌜∀ x, (x 0).val < m → f x = PV X.ln (pIx (pB b X.L) x)⌝ ∗ sPos.view.loc X.t ↦[Finset.univ]{fullShare} f)

/-- Batch `b`'s block of positions before its copy, and after. -/
def posPre (X : Task F) (b : ℕ) : sProp 𝕄 := iprop(posLoc X.d ↦[pBlk (pB b X.L)]{fullShare} X.p0)
def posEnd (X : Task F) (b : ℕ) : sProp 𝕄 := iprop(posLoc X.d ↦[pBlk (pB b X.L)]{fullShare} PV X.ln)

/-- The loop fills the position buffer with batch `b`'s words. -/
theorem pos_loop {b : ℕ} {ok : posLoop.OK} {inb : ∀ t a, posOff t a + S16.size a ≤ S128.size a}
    {hl : ∀ t, sPos.view.LoadsAt (Rect.unit (s := S128) (posOff t) S16.size (inb t)).toLoadRect}
    {hst : ∀ t, (sPos.access (Rect.unit (s := S128) (posOff t) S16.size (inb t))).Stores Finset.univ}
    {hm : ∀ t, (Finset.univ : Finset (Rect.unit (s := S128) (posOff t) S16.size (inb t)).shape.Idx) = Finset.univ ∨
      ∀ a, (Rect.unit (s := S128) (posOff t) S16.size (inb t)).stride a = 1}
    {k : PUnit → Prog (TpuEff nD τ sig (Elt F) Λ₀ X.t.2) α}
    (h : iprop(PosTo X b 128 ∗ (Upto (posEnd X) (posPre X) b ∗ R)) ⊢ wpT X (k ⟨⟩) Φ) (hb : b < 16) (hs : S16.Slices ![b] S1) :
    iprop(PosAny X ∗ (Upto (posEnd X) (posPre X) b ∗ R)) ⊢ wpT X (Scf.Loop.for posLoop ok PUnit.unit (fun t _ => do
        let _ ← Prog.lift (.load sPos (Rect.unit (s := S128) (posOff t) S16.size (inb t)).toLoadRect (hl t))
        Prog.lift (.store sPos (Rect.unit (s := S128) (posOff t) S16.size (inb t)) (posPay X.L (V3 X.ln) b hs t) Finset.univ (hst t) (hm t))
        pure PUnit.unit) >>= k) Φ := by
  unfold PosAny
  iintro ⟨⟨%f, Hf⟩, HR⟩
  iapply (Scf.wp_for_bind frame (wpE defs₀ 𝒱₀ X.t none) Set.univ posLoop.lb posLoop.ub posLoop.st ok PUnit.unit _ (fun m _ => PosTo X b (16 * m)) ?region) $$ [Hf]
  case region =>
    intro t _
    unfold PosTo
    iintro ⟨%f, %hf, Hf⟩
    simp only [Prog.lift, Prog.bind_op, Prog.bind_ret]
    iapply (wp_load_rect 𝒱₀ X.t none Set.univ (m := sPos) (r := Rect.unit (s := S128) (posOff t) S16.size (inb t)) (S := Finset.univ) (q := fullShare)
      (f := f) (Finset.subset_univ _)) $$ Hf
    iintro Hf
    iapply (wp_store 𝒱₀ X.t none Set.univ (m := sPos) (r := Rect.unit (s := S128) (posOff t) S16.size (inb t)) (S := Finset.univ)
      (f := f) (Finset.subset_univ _)) $$ Hf
    iintro Hf
    iapply (le_wp_ret _ _ _ _ _)
    iexists _
    isplitr
    swap
    · iexact Hf
    · ipureintro
      intro x hx
      have ho := posOff_eq t
      have hx0 : (x 0).val < 128 := (x 0).isLt
      by_cases hx' : (x 0).val < 16 * t.val
      · rw [View.write_of_not_mem]
        · exact hf x hx'
        · rw [show (sPos.access (Rect.unit (s := S128) (posOff t) S16.size (inb t))).setOn Finset.univ = _ from View.set_slice _ _]
          intro hmem
          have h0 := (Rect.mem_set_unit.mp ((Finset.map_refl (s := (Rect.unit (s := S128) (posOff t) S16.size (inb t)).set)) ▸ hmem)) 0
          rw [ho] at h0
          have : 16 * t.val ≤ (x 0).val := h0.1
          omega
      · have he : x = (sPos.access (Rect.unit (s := S128) (posOff t) S16.size (inb t))).emb (ix1 (⟨(x 0).val - 16 * t.val, by omega⟩ : Fin 16)) := by
          funext a
          match a with
          | 0 =>
            refine Fin.ext ?_
            show (x 0).val = posOff t 0 + 1 * ((x 0).val - 16 * t.val)
            rw [ho]
            show (x 0).val = 16 * t.val + 1 * ((x 0).val - 16 * t.val)
            omega
        rw [he, View.write_emb_of_mem _ _ (Finset.mem_univ _), ← he]
        refine posPay_eq X.ln X.L hb hs t _ x ?_
        show (x 0).val = 16 * t.val + ((x 0).val - 16 * t.val)
        omega
  · unfold PosTo
    iexists f; isplitr
    · ipureintro; intro x hx; omega
    · iexact Hf
  · iintro %_ Hf
    iapply h
    isplitl [Hf]
    · iexact Hf
    · iexact HR

/-- The filled buffer is copied to batch `b`'s block. -/
theorem pos_copy {b : ℕ} {s : DmaSems sig S_}
    {inb : ∀ a, k0_off3 X.L (BitVec.ofNat 32 (4096 * b)) a + S128.size a ≤ S65536.size a}
    {hsrc : sPos.view.WordExact} {hdst : (pSl _ inb).view.WordExact} {hsem : DmaTarget.Typed (nD := nD) .vmem (.dma s.sem) (DmaTarget.here (p := X.t.2) (pSl _ inb))}
    {hsrc' : sPos.view.WordExact} {hdst' : (pSl _ inb).view.WordExact}
    {k : PUnit → Prog (TpuEff nD τ sig (Elt F) Λ₀ X.t.2) α}
    (h : iprop(PosAny X ∗ Upto (posEnd X) (posPre X) (b + 1) ∗ Own X ∅ ∗ R) ⊢ wpT X (k ⟨⟩) Φ) (hb : b < 16) (hs : Apart s) :
    iprop(PosTo X b 128 ∗ Upto (posEnd X) (posPre X) b ∗ Own X ∅ ∗ R) ⊢ wpT X (Prog.lift (.enqueueDma sPos (.here (pSl _ inb)) (.dma s.sem) hsrc hdst hsem) >>= fun _ =>
          Prog.lift (.waitDma2 s.sem sPos (pSl _ inb) hsrc' hdst') >>= k) Φ := by
  have ho : k0_off3 X.L (BitVec.ofNat 32 (4096 * b)) = ![pB b X.L] := k0_off3_eq X.L ⟨b, hb⟩
  have hS : (pSl _ inb).view.set = pBlk (pB b X.L) := set_pSl inb ho
  rw [upto_take _ _ hb]
  rw [upto_put _ _ hb] at h
  unfold PosTo
  iintro ⟨⟨%f, %hf, Hf⟩, ⟨Hp, Hb⟩, HO, HR⟩
  iapply (copy (src := sPos) (dst := pSl _ inb) (q := fullShare) (fs := f) (fd := X.p0) (R := iprop(But (posEnd X) (posPre X) b ∗ R)) (apart_cells X hs) rfl
    (View.dmaCredit_pos _ (by decide)) ?_)
  rotate_left
  · isplitl [Hf]; · rw [View.set_whole]; iexact Hf
    isplitl [Hp]; · unfold posPre; rw [hS]; iexact Hp
    isplitl [HO]; · iexact HO
    isplitl [Hb]; · iexact Hb
    iexact HR
  · refine BIBase.Entails.trans ?_ h
    iintro ⟨⟨Hp, Hf⟩, HO, Hb, HR⟩
    isplitl [Hf]
    · unfold PosAny
      rw [View.set_whole]
      iexists f; iexact Hf
    isplitl [Hp Hb]
    · isplitl [Hp]
      · unfold posEnd
        iapply (landed (X := X) (dst := pSl _ inb) hS (fun x => ?_)) $$ Hp
        rw [emb_pSl inb ho (pB_le hb X.L)]
        exact hf x (x 0).isLt
      · iexact Hb
    isplitl [HO]; · iexact HO
    iexact HR

end Cert.Proof.Tile

end
-- ==== Proof.Merge.lean ====
/-
  The merges: where a batch's sequence ends inside a chunk, the chunk's later rows are zeroed in the tile's buffer, the
  buffer is copied out, and the chunk's rows are copied in again from the table.
-/
module

public import proofs.«01_k».proof.Proof.Pos

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

/-! ## The tests a chunk's word decides -/

/-- Whether the chunk is covered whole, not at all, or in part, as the program tests it. -/
def fullW (n : BitVec 32) : BitVec 1 := Scalar.cmpi .ne (Scalar.extui (Scalar.cmpi .sge n 32#32) : BitVec 32) 0#32
def emptyW (n : BitVec 32) : BitVec 1 := Scalar.cmpi .ne (Scalar.extui (Scalar.cmpi .sle n 0#32) : BitVec 32) 0#32
def midW (n : BitVec 32) : BitVec 1 :=
  Scalar.cmpi .ne (Scalar.extui (Scalar.andi (Scalar.cmpi .sgt n 0#32) (Scalar.cmpi .slt n 32#32)) : BitVec 32) 0#32

theorem flag_iff (v : BitVec 1) : Scalar.cmpi .ne (Scalar.extui v : BitVec 32) 0#32 = 1#1 ↔ v = 1#1 := by
  revert v; decide
theorem ofBool_iff (b : Bool) : BitVec.ofBool b = 1#1 ↔ b = true := by cases b <;> decide

theorem fullW_iff (n : BitVec 32) : fullW n = 1#1 ↔ 32 ≤ n.toInt := by
  rw [fullW, flag_iff]
  simp only [Scalar.cmpi, IntOp.cmpi, ofBool_iff, BitVec.sle_iff_toInt_le]
  rfl
theorem emptyW_iff (n : BitVec 32) : emptyW n = 1#1 ↔ n.toInt ≤ 0 := by
  rw [emptyW, flag_iff]
  simp only [Scalar.cmpi, IntOp.cmpi, ofBool_iff, BitVec.sle_iff_toInt_le]
  rfl
theorem midW_iff (n : BitVec 32) : midW n = 1#1 ↔ 0 < n.toInt ∧ n.toInt < 32 := by
  rw [midW, flag_iff]
  have h : ∀ a b : Bool, Scalar.andi (BitVec.ofBool a) (BitVec.ofBool b) = 1#1 ↔ a = true ∧ b = true := by decide
  simp only [Scalar.cmpi, IntOp.cmpi, h, BitVec.slt_iff_toInt_lt]
  rfl

/-! ## The loops that zero a buffer's rows -/

/-- The loops over the rows from `n`, over a row's groups of sixteen words, and over the rows left after those the first
    loop takes (there are none). -/
abbrev rowLoop (n : BitVec 32) : Scf.Loop 32 := ⟨n, Scalar.addi n (Scalar.muli (Scalar.divsi (Scalar.subi 32#32 n) 1#32) 1#32), 1#32⟩
abbrev wordLoop : Scf.Loop 32 := ⟨0#32, Scalar.addi 0#32 64#32, 1#32⟩
abbrev restLoop (n : BitVec 32) : Scf.Loop 32 :=
  ⟨Scalar.addi n (Scalar.muli (Scalar.divsi (Scalar.subi 32#32 n) 1#32) 1#32), Scalar.addi n (Scalar.subi 32#32 n), 1#32⟩
/-- Where a trip of the two loops stores. -/
def rowOff (lb : BitVec 32) (t t' : ℕ) : Fin 2 → ℕ :=
  ![(Scalar.indexCast (Scf.iv lb 1#32 t)).toNat, (Scalar.indexCast (Scalar.muli (Scf.iv 0#32 1#32 t') 16#32)).toNat]

/-- What the program checks of those loops before it runs them. -/
abbrev Chk (n : BitVec 32) : Prop :=
  (midW n = 1#1 → (rowLoop n).OK) ∧
  (∀ (t : Fin (rowLoop n).trips) (t' : Fin wordLoop.trips), midW n = 1#1 → ∀ a, rowOff (rowLoop n).lb t t' a + S1x16.size a ≤ S32x1024.size a) ∧
  (midW n = 1#1 → (restLoop n).OK) ∧
  (∀ (t : Fin (restLoop n).trips) (t' : Fin wordLoop.trips), midW n = 1#1 → ∀ a, rowOff (restLoop n).lb t t' a + S1x16.size a ≤ S32x1024.size a)

theorem rowEnds : ∀ m : Fin 32, 0 < m.val → (rowLoop (BitVec.ofNat 32 m.val)).ub = 32#32 ∧ (restLoop (BitVec.ofNat 32 m.val)).ub = 32#32 := by decide
theorem wordLoop_trips : wordLoop.trips = 64 := by decide

theorem mid_word {n : BitVec 32} (h : midW n = 1#1) : ∃ m : ℕ, 0 < m ∧ m < 32 ∧ n = BitVec.ofNat 32 m ∧ n.toInt = m := by
  obtain ⟨h0, h1⟩ := (midW_iff n).mp h
  refine ⟨n.toInt.toNat, by omega, by omega, ?_, by omega⟩
  rw [← BitVec.ofInt_natCast, Int.toNat_of_nonneg (by omega), BitVec.ofInt_toInt]

theorem row_loop {n : BitVec 32} {m : ℕ} (h0 : 0 < m) (h1 : m < 32) (hn : n = BitVec.ofNat 32 m) :
    (rowLoop n).OK ∧ (rowLoop n).trips = 32 - m ∧ (restLoop n).OK ∧ (restLoop n).trips = 0 := by
  subst hn
  have : ∀ m : Fin 32, 0 < m.val → (rowLoop (BitVec.ofNat 32 m.val)).OK ∧ (rowLoop (BitVec.ofNat 32 m.val)).trips = 32 - m.val ∧
    (restLoop (BitVec.ofNat 32 m.val)).OK ∧ (restLoop (BitVec.ofNat 32 m.val)).trips = 0 := by decide
  exact this ⟨m, h1⟩ h0

theorem rowOff_eq {m t t' : ℕ} (h : m + t < 32) (h' : t' < 64) : rowOff (BitVec.ofNat 32 m) t t' = ![m + t, 16 * t'] := by
  simp only [rowOff, Scf.iv, Scalar.indexCast, Scalar.muli, IntOp.muli, BitVec.toNat_add, BitVec.toNat_mul, BitVec.toNat_ofNat]
  congr 1
  · omega
  · congr 1; omega

theorem chk_holds (n : BitVec 32) : Chk n := by
  refine ⟨fun h => ?_, fun t t' h => ?_, fun h => ?_, fun t t' h => ?_⟩
  all_goals
    obtain ⟨m, h0, h1, hn, -⟩ := mid_word h
    obtain ⟨k1, k2, k3, k4⟩ := row_loop h0 h1 hn
  · exact k1
  · have ht := lt_of_lt_of_eq t.isLt k2; have ht' := lt_of_lt_of_eq t'.isLt wordLoop_trips
    rw [show (rowLoop n).lb = BitVec.ofNat 32 m from hn, rowOff_eq (by omega) ht']
    intro a
    match a with
    | 0 => show m + t.val + 1 ≤ 32; omega
    | 1 => show 16 * t'.val + 16 ≤ 1024; omega
  · exact k3
  · exact absurd (lt_of_lt_of_eq t.isLt k4) (Nat.not_lt_zero _)

variable {X : Task F} {α β : Type}
variable {Φ : α → sProp (MT nD τ sig (HIx 1) (Elt F) ℕ UU ℕ)} {R : sProp (MT nD τ sig (HIx 1) (Elt F) ℕ UU ℕ)}

/-- The two buffers the chunks are loaded into by turns. -/
def buf : Bool → Memref sig .scVector .vmem S32x1024 .f32
  | false => sTbA
  | true => sTbB
/-- A buffer holding `g`. -/
def At (X : Task F) (p : Bool) (g : ChA F) : sProp 𝕄 :=
  match p with
  | false => iprop(sTbA.view.loc X.t ↦[Finset.univ]{fullShare} g)
  | true => iprop(sTbB.view.loc X.t ↦[Finset.univ]{fullShare} g)

/-- A chunk whose rows from `m` on are zero as far as trip `t'` of row `m + t`. -/
def zd (w : ChA F) (m t t' : ℕ) : ChA F := fun x =>
  if m ≤ (x 0).val ∧ ((x 0).val < m + t ∨ ((x 0).val = m + t ∧ (x 1).val < 16 * t')) then Z else w x

theorem zd_row (w : ChA F) (m t : ℕ) : zd w m t 64 = zd w m (t + 1) 0 := by
  funext x
  have h1 : (x 1).val < 1024 := (x 1).isLt
  unfold zd
  congr 1
  exact propext ⟨fun h => ⟨h.1, by omega⟩, fun h => ⟨h.1, by omega⟩⟩
theorem zd_zero (w : ChA F) (m : ℕ) : zd w m 0 0 = w := by
  funext x
  unfold zd
  rw [if_neg (by omega)]
theorem zd_all (w : ChA F) {m : ℕ} (hm : m < 32) {n : BitVec 32} (hn : n.toInt = m) : zd w m (32 - m) 0 = cut n w := by
  funext x
  have h0 : (x 0).val < 32 := (x 0).isLt
  unfold zd cut
  rw [hn]
  by_cases h : (x 0).val < m
  · rw [if_neg (by omega), if_pos (by omega)]
  · rw [if_pos (by omega), if_neg (by omega)]

/-- The sixteen zeros a trip stores. -/
def zPay : FVec F S1x16 .f32 := shapeCast S1x16 (broadcast S16 (Scalar.ofBits (F := F) .f32 0x00000000#32)) shapeCasts_S16_S1x16

/-- A buffer after a store of sixteen zeros. -/
def zStore (p : Bool) (off : Fin 2 → ℕ) (inb : ∀ a, off a + S1x16.size a ≤ S32x1024.size a) (g : ChA F) : ChA F :=
  match p with
  | false => (sTbA.access (Rect.unit (s := S32x1024) off S1x16.size inb)).write (Elt F) g zPay Finset.univ
  | true => (sTbB.access (Rect.unit (s := S32x1024) off S1x16.size inb)).write (Elt F) g zPay Finset.univ

/-- A trip's store zeroes sixteen more words. -/
theorem zStore_eq (p : Bool) {off : Fin 2 → ℕ} (inb : ∀ a, off a + S1x16.size a ≤ S32x1024.size a) (w : ChA F) {m t t' : ℕ} (ho : off = ![m + t, 16 * t'])
    (ht : t' < 64) : zStore p off inb (zd w m t t') = zd w m t (t' + 1) := by
  subst ho
  funext x
  have hx1 : (x 1).val < 1024 := (x 1).isLt
  unfold zStore
  by_cases hx : (x 0).val = m + t ∧ 16 * t' ≤ (x 1).val ∧ (x 1).val < 16 * t' + 16
  · have hy : x = (Rect.unit (s := S32x1024) ![m + t, 16 * t'] S1x16.size inb).emb (ix2 (0 : Fin 1) (⟨(x 1).val - 16 * t', by omega⟩ : Fin 16)) := by
      funext a
      match a with
      | 0 => exact Fin.ext (by show (x 0).val = m + t + 1 * 0; omega)
      | 1 => exact Fin.ext (by show (x 1).val = 16 * t' + 1 * ((x 1).val - 16 * t'); omega)
    have hz : zd w m t (t' + 1) x = Z := by unfold zd; rw [if_pos (by omega)]
    rw [hz, hy]
    cases p
    · exact View.write_emb_of_mem (v := sTbA.access (Rect.unit (s := S32x1024) ![m + t, 16 * t'] S1x16.size inb)) _ _ (Finset.mem_univ _)
    · exact View.write_emb_of_mem (v := sTbB.access (Rect.unit (s := S32x1024) ![m + t, 16 * t'] S1x16.size inb)) _ _ (Finset.mem_univ _)
  · have hm : x ∉ ((Rect.unit (s := S32x1024) ![m + t, 16 * t'] S1x16.size inb).set).map (Function.Embedding.refl _) := by
      rw [Finset.map_refl, Rect.mem_set_unit]
      intro h
      have h0 := h 0; have h1 := h 1
      have h0' : m + t ≤ (x 0).val ∧ (x 0).val < m + t + 1 := h0
      have h1' : 16 * t' ≤ (x 1).val ∧ (x 1).val < 16 * t' + 16 := h1
      omega
    have hz : zd w m t (t' + 1) x = zd w m t t' x := by
      unfold zd
      congr 1
      exact propext ⟨fun h => ⟨h.1, by omega⟩, fun h => ⟨h.1, by omega⟩⟩
    rw [hz]
    cases p
    · exact View.write_of_not_mem (v := sTbA.access (Rect.unit (s := S32x1024) ![m + t, 16 * t'] S1x16.size inb)) _ _ _
        (by rw [show (sTbA.access (Rect.unit (s := S32x1024) ![m + t, 16 * t'] S1x16.size inb)).setOn Finset.univ = _ from View.set_slice _ _]; exact hm)
    · exact View.write_of_not_mem (v := sTbB.access (Rect.unit (s := S32x1024) ![m + t, 16 * t'] S1x16.size inb)) _ _ _
        (by rw [show (sTbB.access (Rect.unit (s := S32x1024) ![m + t, 16 * t'] S1x16.size inb)).setOn Finset.univ = _ from View.set_slice _ _]; exact hm)

/-- One store of sixteen zeros, after a load whose result nothing reads. -/
theorem zero_step (p : Bool) {off : Fin 2 → ℕ} {inb : ∀ a, off a + S1x16.size a ≤ S32x1024.size a} {g : ChA F}
    {hl : (buf p).view.LoadsAt (Rect.unit (s := S32x1024) off S1x16.size inb).toLoadRect}
    {hst : ((buf p).access (Rect.unit (s := S32x1024) off S1x16.size inb)).Stores Finset.univ}
    {hm : (Finset.univ : Finset (Rect.unit (s := S32x1024) off S1x16.size inb).shape.Idx) = Finset.univ ∨
      ∀ a, (Rect.unit (s := S32x1024) off S1x16.size inb).stride a = 1}
    {k : PUnit → Prog (TpuEff nD τ sig (Elt F) Λ₀ X.t.2) α}
    (h : At X p (zStore p off inb g) ⊢ wpT X (k ⟨⟩) Φ) :
    At X p g ⊢ wpT X (Prog.lift (.load (buf p) (Rect.unit (s := S32x1024) off S1x16.size inb).toLoadRect hl) >>= fun _ =>
      Prog.lift (.store (buf p) (Rect.unit (s := S32x1024) off S1x16.size inb) zPay Finset.univ hst hm) >>= k) Φ := by
  simp only [Prog.lift, Prog.bind_op, Prog.bind_ret]
  cases p
  · unfold At at *
    iintro Hf
    iapply (wp_load_rect 𝒱₀ X.t none Set.univ (m := sTbA) (r := Rect.unit (s := S32x1024) off S1x16.size inb) (S := Finset.univ) (q := fullShare)
      (f := g) (Finset.subset_univ _)) $$ Hf
    iintro Hf
    iapply (wp_store 𝒱₀ X.t none Set.univ (m := sTbA) (r := Rect.unit (s := S32x1024) off S1x16.size inb) (S := Finset.univ) (f := g) (Finset.subset_univ _)) $$ Hf
    iintro Hf
    iapply h
    iexact Hf
  · unfold At at *
    iintro Hf
    iapply (wp_load_rect 𝒱₀ X.t none Set.univ (m := sTbB) (r := Rect.unit (s := S32x1024) off S1x16.size inb) (S := Finset.univ) (q := fullShare)
      (f := g) (Finset.subset_univ _)) $$ Hf
    iintro Hf
    iapply (wp_store 𝒱₀ X.t none Set.univ (m := sTbB) (r := Rect.unit (s := S32x1024) off S1x16.size inb) (S := Finset.univ) (f := g) (Finset.subset_univ _)) $$ Hf
    iintro Hf
    iapply h
    iexact Hf

/-- A loop from an invariant, beside what it does not touch. -/
theorem loop {l : Scf.Loop 32} {ok : l.OK} {body : Fin l.trips → PUnit → Prog (TpuEff nD τ sig (Elt F) Λ₀ X.t.2) PUnit} (I : ℕ → sProp 𝕄)
    (hb : ∀ t : Fin l.trips, I t.val ⊢ wpT X (body t ⟨⟩) fun _ => I (t.val + 1)) {k : PUnit → Prog (TpuEff nD τ sig (Elt F) Λ₀ X.t.2) α}
    (h : iprop(I l.trips ∗ R) ⊢ wpT X (k ⟨⟩) Φ) : iprop(I 0 ∗ R) ⊢ wpT X (Scf.Loop.for l ok PUnit.unit body >>= k) Φ := by
  iintro ⟨HI, HR⟩
  iapply (Scf.wp_for_bind frame (wpE defs₀ 𝒱₀ X.t none) Set.univ l.lb l.ub l.st ok PUnit.unit body (fun m _ => I m) (fun t _ => hb t)) $$ HI
  iintro %_ HI
  iapply h
  isplitl [HI]
  · iexact HI
  · iexact HR

theorem alone {R : sProp 𝕄} {p : Prog (TpuEff nD τ sig (Elt F) Λ₀ X.t.2) α} {Φ : α → sProp 𝕄} (h : iprop(R ∗ emp) ⊢ wpT X p Φ) : R ⊢ wpT X p Φ := by
  refine BIBase.Entails.trans ?_ h
  iintro HR
  iframe

/-- The loops zero the rows that the sequence does not cover. -/
theorem zero_rows (p : Bool) {n : BitVec 32} (hn : midW n = 1#1) {w : ChA F} {ok : (rowLoop n).OK} {ok' : wordLoop.OK}
    {inb : ∀ (t : Fin (rowLoop n).trips) (t' : Fin wordLoop.trips), ∀ a, rowOff (rowLoop n).lb t t' a + S1x16.size a ≤ S32x1024.size a}
    {hl : ∀ (t : Fin (rowLoop n).trips) (t' : Fin wordLoop.trips), (buf p).view.LoadsAt (Rect.unit (s := S32x1024) (rowOff (rowLoop n).lb t t') S1x16.size (inb t t')).toLoadRect}
    {hst : ∀ (t : Fin (rowLoop n).trips) (t' : Fin wordLoop.trips), ((buf p).access (Rect.unit (s := S32x1024) (rowOff (rowLoop n).lb t t') S1x16.size (inb t t'))).Stores Finset.univ}
    {hm : ∀ (t : Fin (rowLoop n).trips) (t' : Fin wordLoop.trips), (Finset.univ : Finset (Rect.unit (s := S32x1024) (rowOff (rowLoop n).lb t t') S1x16.size (inb t t')).shape.Idx) = Finset.univ ∨
      ∀ a, (Rect.unit (s := S32x1024) (rowOff (rowLoop n).lb t t') S1x16.size (inb t t')).stride a = 1}
    {ok₂ : (restLoop n).OK} {body : Fin (restLoop n).trips → PUnit → Prog (TpuEff nD τ sig (Elt F) Λ₀ X.t.2) PUnit}
    {k : PUnit → Prog (TpuEff nD τ sig (Elt F) Λ₀ X.t.2) α}
    (h : iprop(At X p (cut n w) ∗ R) ⊢ wpT X (k ⟨⟩) Φ) :
    iprop(At X p w ∗ R) ⊢ wpT X (Scf.Loop.for (rowLoop n) ok PUnit.unit (fun t _ => do
        Scf.Loop.for wordLoop ok' PUnit.unit (fun t' _ => do
          let _ ← Prog.lift (.load (buf p) (Rect.unit (s := S32x1024) (rowOff (rowLoop n).lb t t') S1x16.size (inb t t')).toLoadRect (hl t t'))
          Prog.lift (.store (buf p) (Rect.unit (s := S32x1024) (rowOff (rowLoop n).lb t t') S1x16.size (inb t t')) zPay Finset.univ (hst t t') (hm t t'))
          pure PUnit.unit)
        pure PUnit.unit) >>= fun _ => Scf.Loop.for (restLoop n) ok₂ PUnit.unit body >>= k) Φ := by
  obtain ⟨m, h0, h1, rfl, hi⟩ := mid_word hn
  obtain ⟨k1, k2, k3, k4⟩ := row_loop h0 h1 rfl
  have e0 : At X p w = At X p (zd w m 0 0) := by rw [zd_zero]
  rw [e0]
  refine loop (fun t => At X p (zd w m t 0)) (fun t => ?_) ?_
  · have ht : t.val < 32 - m := lt_of_lt_of_eq t.isLt k2
    refine alone (loop (fun t' => At X p (zd w m t.val t')) (fun t' => ?_) ?_)
    · have ht' : t'.val < 64 := lt_of_lt_of_eq t'.isLt wordLoop_trips
      refine zero_step p (leave ?_)
      rw [zStore_eq p _ w (rowOff_eq (by omega) ht') ht']
    · rw [wordLoop_trips, zd_row]
      refine leave ?_
      iintro ⟨H, -⟩; iexact H
  · rw [k2, zd_all w h1 hi]
    refine loop (fun _ => At X p (cut _ w)) (fun t => absurd (lt_of_lt_of_eq t.isLt k4) (Nat.not_lt_zero _)) h

/-! ## Copies between a buffer and the arrays -/

/-- A chunk as the contents of a buffer. -/
def into (X : Task F) (p : Bool) (g : ChA F) : Buf (Elt F) ((buf p).view.loc X.t) :=
  match p with
  | false => g
  | true => g

theorem set_buf (p : Bool) : (buf p).view.set = Finset.univ := by cases p <;> exact View.set_whole _
theorem at_eq (p : Bool) (g : ChA F) : At X p g = iprop((buf p).view.loc X.t ↦[(buf p).view.set]{fullShare} into X p g) := by
  rw [set_buf]; cases p <;> rfl
theorem read_into (p : Bool) (g : ChA F) : (buf p).view.read (Elt F) (into X p g) = g := by cases p <;> rfl
theorem write_into (p : Bool) (f : Buf (Elt F) ((buf p).view.loc X.t)) (w : ChA F) : (buf p).view.write (Elt F) f w Finset.univ = into X p w := by
  cases p <;> exact View.write_whole_univ ..
theorem credit_buf (p : Bool) : 0 < (buf p).view.dmaCredit := by cases p <;> exact View.dmaCredit_pos _ (by decide)

/-- Where chunk `c` of batch `b` lies, as the program computes it. -/
def eOff (b c : ℕ) (L : grid0.Coords) : Fin 3 → ℕ := ![b, (sB c L).toNat, 0]
def tOff (c : ℕ) (L : grid0.Coords) : Fin 2 → ℕ := ![(sB c L).toNat, 0]
theorem eOff_eq (b : ℕ) {c : ℕ} (hc : c < 4) (L : grid0.Coords) : eOff b c L = ![b, s0 c L, 0] := by rw [eOff, sB_toNat hc]
theorem tOff_eq {c : ℕ} (hc : c < 4) (L : grid0.Coords) : tOff c L = ![s0 c L, 0] := by rw [tOff, sB_toNat hc]

/-- Chunk `c`'s rows of the table. -/
def tPart (X : Task F) (c : ℕ) : sProp 𝕄 := iprop(tblLoc X.d ↦[tBlk (s0 c X.L)]{fullShare} X.tb)
/-- Chunk `c` of batch `b` of the embedding result before the kernel, and after. -/
def ePre (X : Task F) (c b : ℕ) : sProp 𝕄 := iprop(embLoc X.d ↦[eBlk b (s0 c X.L)]{fullShare} X.e0)
def eEnd (X : Task F) (c b : ℕ) : sProp 𝕄 := iprop(embLoc X.d ↦[eBlk b (s0 c X.L)]{fullShare} EV X.ln X.tb)

/-- A chunk whose later rows are zero lands at its block's values. -/
theorem landed_e {b c : ℕ} (hb : b < 16) (hc : c < 4) {inb : ∀ a, eOff b c X.L a + S1x32x1024.size a ≤ S16x4096x1024.size a} {w : ChA F}
    (hw : w = cut (nW X.ln X.L c b) (TC X.tb (s0 c X.L))) :
    ((eSl _ inb).view.loc X.t ↦[(eSl _ inb).view.set]{fullShare} ((eSl _ inb).view.write (Elt F) X.e0 w Finset.univ)) ⊢ (eEnd X c b : sProp 𝕄) := by
  unfold eEnd
  refine landed (X := X) (dst := eSl _ inb) (set_eSl inb (eOff_eq b hc X.L)) (fun x => ?_)
  rw [emb_eSl inb (eOff_eq b hc X.L) hb (s0_le hc X.L), EV_eIx X.ln X.tb X.L hc, ← hw]
  rfl

theorem read_t {c : ℕ} (hc : c < 4) {inb : ∀ a, tOff c X.L a + S32x1024.size a ≤ S4096x1024.size a} :
    (tSl _ inb).view.read (Elt F) X.tb = TC X.tb (s0 c X.L) := by
  funext x
  show X.tb ((tSl _ inb).view.emb x) = _
  rw [emb_tSl inb (tOff_eq hc X.L) (s0_le hc X.L)]
  rfl

/-! ## The merge -/

/-- Batch `b`'s block of chunk `c` once the merges have passed it. -/
def mEnd (X : Task F) (c b : ℕ) : sProp 𝕄 := if midW (nW X.ln X.L c b) = 1#1 then eEnd X c b else ePre X c b

theorem word_eq (X : Task F) (c : ℕ) {b : ℕ} (hb : b < 16) (hs : S16.Slices ![b] S1) : Scalar.subi (lenX (V3 X.ln) b hs) (sB c X.L) = nW X.ln X.L c b := by
  rw [lenX_eq _ hb]; rfl

theorem merge (p : Bool) {b c : ℕ} {n : BitVec 32} {s s' : DmaSems sig S_}
    {ok : midW n = 1#1 → (rowLoop n).OK} {ok' : midW n = 1#1 → wordLoop.OK}
    {inb : ∀ (_ : midW n = 1#1) (t : Fin (rowLoop n).trips) (t' : Fin wordLoop.trips), ∀ a, rowOff (rowLoop n).lb t t' a + S1x16.size a ≤ S32x1024.size a}
    {hl : ∀ (h : midW n = 1#1) (t : Fin (rowLoop n).trips) (t' : Fin wordLoop.trips),
      (buf p).view.LoadsAt (Rect.unit (s := S32x1024) (rowOff (rowLoop n).lb t t') S1x16.size (inb h t t')).toLoadRect}
    {hst : ∀ (h : midW n = 1#1) (t : Fin (rowLoop n).trips) (t' : Fin wordLoop.trips),
      ((buf p).access (Rect.unit (s := S32x1024) (rowOff (rowLoop n).lb t t') S1x16.size (inb h t t'))).Stores Finset.univ}
    {hm : ∀ (h : midW n = 1#1) (t : Fin (rowLoop n).trips) (t' : Fin wordLoop.trips),
      (Finset.univ : Finset (Rect.unit (s := S32x1024) (rowOff (rowLoop n).lb t t') S1x16.size (inb h t t')).shape.Idx) = Finset.univ ∨
      ∀ a, (Rect.unit (s := S32x1024) (rowOff (rowLoop n).lb t t') S1x16.size (inb h t t')).stride a = 1}
    {ok₂ : midW n = 1#1 → (restLoop n).OK} {body : midW n = 1#1 → Fin (restLoop n).trips → PUnit → Prog (TpuEff nD τ sig (Elt F) Λ₀ X.t.2) PUnit}
    {inbe : ∀ a, eOff b c X.L a + S1x32x1024.size a ≤ S16x4096x1024.size a} {inbt : ∀ a, tOff c X.L a + S32x1024.size a ≤ S4096x1024.size a}
    {g1 : (buf p).view.WordExact} {g2 : (eSl _ inbe).view.WordExact} {g3 : DmaTarget.Typed (nD := nD) .vmem (.dma s.sem) (DmaTarget.here (p := X.t.2) (eSl _ inbe))}
    {g4 : (tSl _ inbt).view.WordExact} {g5 : DmaTarget.Typed (nD := nD) .hbm (.dma s'.sem) (DmaTarget.here (p := X.t.2) (buf p))}
    {k : Prog (TpuEff nD τ sig (Elt F) Λ₀ X.t.2) α}
    (h : iprop(At X p (TC X.tb (s0 c X.L)) ∗ tPart X c ∗ Upto (mEnd X c) (ePre X c) (b + 1) ∗ Own X ∅ ∗ R) ⊢ wpT X k Φ)
    (hb : b < 16) (hc : c < 4) (en : n = nW X.ln X.L c b)
    (hs1 : Apart s) (hs2 : Apart s') :
    iprop(At X p (TC X.tb (s0 c X.L)) ∗ tPart X c ∗ Upto (mEnd X c) (ePre X c) b ∗ Own X ∅ ∗ R) ⊢ wpT X
      (if hn : midW n = 1#1 then
        Scf.Loop.for (rowLoop n) (ok hn) PUnit.unit (fun t _ => do
          Scf.Loop.for wordLoop (ok' hn) PUnit.unit (fun t' _ => do
            let _ ← Prog.lift (.load (buf p) (Rect.unit (s := S32x1024) (rowOff (rowLoop n).lb t t') S1x16.size (inb hn t t')).toLoadRect (hl hn t t'))
            Prog.lift (.store (buf p) (Rect.unit (s := S32x1024) (rowOff (rowLoop n).lb t t') S1x16.size (inb hn t t')) zPay Finset.univ (hst hn t t') (hm hn t t'))
            pure PUnit.unit)
          pure PUnit.unit) >>= fun _ => Scf.Loop.for (restLoop n) (ok₂ hn) PUnit.unit (body hn) >>= fun _ =>
        Prog.lift (.enqueueDma (buf p) (.here (eSl _ inbe)) (.dma s.sem) g1 g2 g3) >>= fun _ =>
        Prog.lift (.waitDma2 s.sem (buf p) (eSl _ inbe) g1 g2) >>= fun _ =>
        Prog.lift (.enqueueDma (tSl _ inbt) (.here (buf p)) (.dma s'.sem) g4 g1 g5) >>= fun _ =>
        Prog.lift (.waitDma2 s'.sem (tSl _ inbt) (buf p) g4 g1) >>= fun _ => k
      else k) Φ := by
  by_cases hn : midW n = 1#1
  · rw [dif_pos hn]
    rw [upto_put _ _ hb, show mEnd X c b = eEnd X c b from if_pos (en ▸ hn)] at h
    rw [upto_take _ _ hb]
    refine zero_rows p hn ?_
    have hS := set_eSl inbe (eOff_eq b hc X.L)
    have hT := set_tSl inbt (tOff_eq hc X.L)
    have h2 := copy (X := X) (Φ := Φ) (src := tSl _ inbt) (dst := buf p) (q := fullShare) (fs := X.tb) (fd := into X p (cut n (TC X.tb (s0 c X.L)))) (sm := s'.sem)
      (src' := tSl _ inbt) (dst' := buf p) (hsrc := g4) (hdst := g1) (hsem := g5) (hsrc' := g4) (hdst' := g1) (k := fun _ => k)
      (R := iprop((eEnd X c b ∗ But (mEnd X c) (ePre X c) b) ∗ R)) (apart_cells X hs2) rfl (credit_buf p) (by
        refine BIBase.Entails.trans ?_ h
        unfold Lands tPart
        rw [write_into, read_t hc, at_eq, hT]
        iintro ⟨⟨Hb, Ht⟩, HO, He, HR⟩
        isplitl [Hb]; · iexact Hb
        isplitl [Ht]; · iexact Ht
        isplitl [He]; · iexact He
        isplitl [HO]; · iexact HO
        iexact HR)
    have h1 := copy (X := X) (Φ := Φ) (src := buf p) (dst := eSl _ inbe) (q := fullShare) (fs := into X p (cut n (TC X.tb (s0 c X.L)))) (fd := X.e0) (sm := s.sem)
      (src' := buf p) (dst' := eSl _ inbe) (hsrc := g1) (hdst := g2) (hsem := g3) (hsrc' := g1) (hdst' := g2)
      (k := fun _ => Prog.lift (.enqueueDma (tSl _ inbt) (.here (buf p)) (.dma s'.sem) g4 g1 g5) >>= fun _ =>
        Prog.lift (.waitDma2 s'.sem (tSl _ inbt) (buf p) g4 g1) >>= fun _ => k)
      (R := iprop(tPart X c ∗ But (mEnd X c) (ePre X c) b ∗ R)) (apart_cells X hs1) rfl (View.dmaCredit_pos _ (by decide)) (by
        refine BIBase.Entails.trans ?_ h2
        unfold Lands tPart
        rw [read_into, hT]
        iintro ⟨⟨He, Hb⟩, HO, Ht, Hu, HR⟩
        isplitl [Ht]; · iexact Ht
        isplitl [Hb]; · iexact Hb
        isplitl [HO]; · iexact HO
        isplitr [HR]
        · isplitl [He]
          · iapply (landed_e hb hc (by rw [en])) $$ He
          · iexact Hu
        · iexact HR)
    refine BIBase.Entails.trans ?_ h1
    rw [at_eq, hS]
    unfold ePre
    iintro ⟨Hb, Ht, ⟨He, Hu⟩, HO, HR⟩
    isplitl [Hb]; · iexact Hb
    isplitl [He]; · iexact He
    isplitl [HO]; · iexact HO
    isplitl [Ht]; · iexact Ht
    isplitl [Hu]; · iexact Hu
    iexact HR
  · rw [dif_neg hn]
    rw [upto_put _ _ hb, show mEnd X c b = ePre X c b from if_neg (en ▸ hn)] at h
    rw [upto_take _ _ hb]
    exact h

end Cert.Proof.Tile

end
-- ==== Proof.Writes.lean ====
/-
  The writes of a chunk: those that need no change go out as one batch of copies on one semaphore, and are waited for
  together later. A batch whose rows the sequence covers is copied from the chunk, one it covers nothing of from the zeros.
-/
module

public import proofs.«01_k».proof.Proof.Merge

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

variable {X : Task F} {α β : Type}
variable {Φ : α → sProp (MT nD τ sig (HIx 1) (Elt F) ℕ UU ℕ)} {R : sProp (MT nD τ sig (HIx 1) (Elt F) ℕ UU ℕ)}

/-- The semaphore the writes from a buffer share. -/
def wS : Bool → DmaSems sig S_
  | false => cc0_scratch6
  | true => cc0_scratch7

/-- Batch `b` of chunk `c` is one of those writes. -/
def Hit (X : Task F) (c b : ℕ) : Prop := fullW (nW X.ln X.L c b) = 1#1 ∨ emptyW (nW X.ln X.L c b) = 1#1
instance (X : Task F) (c : ℕ) : DecidablePred (Hit X c) := fun _ => inferInstanceAs (Decidable (_ ∨ _))

theorem full_not_empty {n : BitVec 32} (h : fullW n = 1#1) : emptyW n ≠ 1#1 := by
  rw [fullW_iff] at h; rw [Ne, emptyW_iff]; omega
theorem hit_not_mid {c b : ℕ} (h : Hit X c b) : midW (nW X.ln X.L c b) ≠ 1#1 := by
  unfold Hit at h; rw [fullW_iff, emptyW_iff] at h; rw [Ne, midW_iff]; omega
theorem mid_of_not_hit {c b : ℕ} (h : ¬ Hit X c b) : midW (nW X.ln X.L c b) = 1#1 := by
  unfold Hit at h; rw [fullW_iff, emptyW_iff] at h; rw [midW_iff]; omega

/-- How many of the first `k` are. -/
def cnt (X : Task F) (c k : ℕ) : ℕ := Nat.count (Hit X c) k
theorem cnt_zero {c : ℕ} : cnt X c 0 = 0 := rfl
theorem cnt_hit {c k : ℕ} (h : Hit X c k) : cnt X c (k + 1) = cnt X c k + 1 := by rw [cnt, Nat.count_succ, if_pos h]; rfl
theorem cnt_miss {c k : ℕ} (h : ¬ Hit X c k) : cnt X c (k + 1) = cnt X c k := by rw [cnt, Nat.count_succ, if_neg h]; rfl
theorem cnt_lt {c k : ℕ} (h : Hit X c k) (hk : k < 16) : cnt X c k < cnt X c 16 := Nat.count_strict_mono h hk
theorem cnt_le {c k : ℕ} (hk : k ≤ 16) : cnt X c k ≤ cnt X c 16 := Nat.count_monotone _ hk

/-- Which batch write `t` is of, as a set of one. -/
def nthS (X : Task F) (c t : ℕ) : Finset ℕ := (Finset.range 16).filter fun b => Hit X c b ∧ cnt X c b = t
theorem nthS_hit {c b : ℕ} (hb : b < 16) (h : Hit X c b) : nthS X c (cnt X c b) = {b} := by
  ext b'
  rw [nthS, Finset.mem_filter, Finset.mem_singleton, Finset.mem_range]
  exact ⟨fun h' => Nat.count_injective h'.2.1 h h'.2.2, fun e => by subst e; exact ⟨hb, h, rfl⟩⟩
theorem nthS_all (X : Task F) (c : ℕ) : (Finset.univ : Finset (Fin (cnt X c 16))).biUnion (fun t => nthS X c t.val) = (Finset.range 16).filter (Hit X c) := by
  ext b
  simp only [nthS, Finset.mem_biUnion, Finset.mem_univ, true_and, Finset.mem_filter, Finset.mem_range]
  exact ⟨fun ⟨_, hb, h, _⟩ => ⟨hb, h⟩, fun ⟨hb, h⟩ => ⟨⟨cnt X c b, cnt_lt h hb⟩, hb, h, rfl⟩⟩

/-- The share of the chunk that write `b` reads, and that of the zeros. -/
def bTok (X : Task F) (p : Bool) (c b : ℕ) : sProp 𝕄 :=
  iprop((buf p).view.loc X.t ↦[(buf p).view.set]{shareTokN fullShare b} into X p (TC X.tb (s0 c X.L)))
def zTok (X : Task F) (b : ℕ) : sProp 𝕄 := iprop(sZer.view.loc X.t ↦[sZer.view.set]{shareTokN fullShare b} (fun _ => Z : ChA F))
/-- What is left of both. -/
def bDrop (X : Task F) (p : Bool) (c : ℕ) : sProp 𝕄 :=
  iprop((buf p).view.loc X.t ↦[(buf p).view.set]{shareDrop fullShare 16} into X p (TC X.tb (s0 c X.L)))
def zDrop (X : Task F) : sProp 𝕄 := iprop(sZer.view.loc X.t ↦[sZer.view.set]{shareDrop fullShare 16} (fun _ => Z : ChA F))
/-- The buffer of zeros. -/
def ZerAt (X : Task F) : sProp 𝕄 := iprop(sZer.view.loc X.t ↦[Finset.univ]{fullShare} (fun _ => Z : ChA F))

theorem buf_split (p : Bool) (c : ℕ) : (At X p (TC X.tb (s0 c X.L)) : sProp 𝕄) ⊣⊢ iprop(bDrop X p c ∗ bigSep (Finset.range 16) (bTok X p c)) := by
  rw [at_eq]; exact pointsTo_toks_range fullShare 16
theorem zer_split : (ZerAt X : sProp 𝕄) ⊣⊢ iprop(zDrop X ∗ bigSep (Finset.range 16) (zTok X)) := by
  unfold ZerAt zDrop zTok
  rw [View.set_whole]; exact pointsTo_toks_range fullShare 16

/-- What write `b` delivers: its block, and the share it read. -/
def Dlv (X : Task F) (p : Bool) (c b : ℕ) : sProp 𝕄 :=
  if fullW (nW X.ln X.L c b) = 1#1 then iprop(eEnd X c b ∗ bTok X p c b) else iprop(eEnd X c b ∗ zTok X b)
/-- Batch `b`'s pieces before its write is started, and after. -/
def wPre (X : Task F) (p : Bool) (c b : ℕ) : sProp 𝕄 := iprop(mEnd X c b ∗ bTok X p c b ∗ zTok X b)
def wLeft (X : Task F) (p : Bool) (c b : ℕ) : sProp 𝕄 :=
  if fullW (nW X.ln X.L c b) = 1#1 then zTok X b else if emptyW (nW X.ln X.L c b) = 1#1 then bTok X p c b else iprop(eEnd X c b ∗ bTok X p c b ∗ zTok X b)

instance (p : Bool) (c b : ℕ) : Storable (upEmb : UEmb _ (MT nD τ sig (HIx 1) (Elt F) ℕ UU ℕ)) (Dlv X p c b) := by
  unfold Dlv eEnd bTok zTok
  split <;> infer_instance

/-- The bytes of one write. -/
def NE : ℕ := (eSl ![0, 0, 0] (by decide)).view.dmaCredit

theorem NE_pos : 0 < NE := View.dmaCredit_pos _ (by decide)

/-- The batch's writes, of which `j` are started and `u` bytes waited for. -/
def Bat (X : Task F) (p : Bool) (c j u : ℕ) : sProp 𝕄 :=
  Batch (n := cnt X c 16) EC X.t (.dma (wS p).sem) none NE (fun t => bigSep (nthS X c t.val) (Dlv X p c)) j u

/-- The writes of the first `k` batches started. -/
def Is (X : Task F) (p : Bool) (c k : ℕ) : sProp 𝕄 :=
  iprop(Bat X p c (cnt X c k) 0 ∗ Upto (wLeft X p c) (wPre X p c) k ∗ bDrop X p c ∗ zDrop X)
/-- The same between batch `k`'s two tests. -/
def IsH (X : Task F) (p : Bool) (c k : ℕ) : sProp 𝕄 := if fullW (nW X.ln X.L c k) = 1#1 then Is X p c (k + 1) else Is X p c k
/-- All started, and the first `k` batches' waited for. -/
def Dr (X : Task F) (p : Bool) (c k : ℕ) : sProp 𝕄 :=
  iprop(Bat X p c (cnt X c 16) (NE * cnt X c k) ∗ bigSep (Finset.range 16) (wLeft X p c) ∗ bDrop X p c ∗ zDrop X)
def DrH (X : Task F) (p : Bool) (c k : ℕ) : sProp 𝕄 := if fullW (nW X.ln X.L c k) = 1#1 then Dr X p c (k + 1) else Dr X p c k

/-- The batch is opened once its chunk is merged. -/
theorem open_writes (p : Bool) (c : ℕ) {k : Prog (TpuEff nD τ sig (Elt F) Λ₀ X.t.2) α}
    (h : iprop(Is X p c 0 ∗ R) ⊢ wpT X k Φ) :
    iprop(semVal (X.t, .dma (wS p).sem) 0 ∗ At X p (TC X.tb (s0 c X.L)) ∗ ZerAt X ∗ Upto (mEnd X c) (ePre X c) 16 ∗ R) ⊢ wpT X k Φ := by
  rw [upto_all]
  refine BIBase.Entails.trans ?_ (fupd_wp _ _ _ _ _)
  iintro ⟨Hv, Hb, Hz, He, HR⟩
  imod (batch_alloc' (n := cnt X c 16) EC X.t none NE (fun t => bigSep (nthS X c t.val) (Dlv X p c)) (E := Set.univ)) $$ Hv with HB
  imodintro
  iapply h
  unfold Is Bat wPre
  rw [cnt_zero, upto_zero, bigSep_sep', bigSep_sep']
  ihave Hb' := (buf_split p c).1 $$ Hb
  ihave Hz' := zer_split.1 $$ Hz
  icases Hb' with ⟨Hb, Hbs⟩
  icases Hz' with ⟨Hz, Hzs⟩
  iframe

/-- A write of the batch is started. -/
theorem push (p : Bool) {b c : ℕ} (hb : b < 16) (hc : c < 4) (hit : Hit X c b) {sp : Space} {src : Memref sig .scVector sp S32x1024 .f32}
    {fs : Buf (Elt F) (src.view.loc X.t)} {T : sProp 𝕄}
    (hw : src.view.read (Elt F) fs = cut (nW X.ln X.L c b) (TC X.tb (s0 c X.L)))
    (hT : T = iprop(src.view.loc X.t ↦[src.view.set]{shareTokN fullShare b} fs)) (hD : iprop(eEnd X c b ∗ T) = Dlv X p c b)
    {inb : ∀ a, eOff b c X.L a + S1x32x1024.size a ≤ S16x4096x1024.size a}
    {g1 : src.view.WordExact} {g2 : (eSl _ inb).view.WordExact} {g3 : DmaTarget.Typed (nD := nD) sp (.dma (wS p).sem) (DmaTarget.here (p := X.t.2) (eSl _ inb))}
    {k : PUnit → Prog (TpuEff nD τ sig (Elt F) Λ₀ X.t.2) α}
    (h : iprop(Bat X p c (cnt X c (b + 1)) 0 ∗ R) ⊢ wpT X (k ⟨⟩) Φ) :
    iprop(Bat X p c (cnt X c b) 0 ∗ ePre X c b ∗ T ∗ R) ⊢ wpT X
      (Prog.lift (.enqueueDma src (.here (eSl _ inb)) (.dma (wS p).sem) g1 g2 g3) >>= k) Φ := by
  rw [cnt_hit hit] at h
  simp only [Prog.lift, Prog.bind_op, Prog.bind_ret]
  have hS := set_eSl inb (eOff_eq b hc X.L)
  unfold Bat at *
  subst hT
  iintro ⟨HB, He, Hs, HR⟩
  iapply (wp_dmaBatch EC 𝒱₀ X.t none (src := src) (dst := eSl _ inb) (sm := .dma (wS p).sem) (q := shareTokN fullShare b) (fs := fs) (fd := X.e0)
    (n := cnt X c 16) (D := fun t => bigSep (nthS X c t.val) (Dlv X p c)) none NE rfl subset_rfl (cnt_lt hit hb) (Nat.zero_le _) ?_) $$ [HB He Hs]
  · dsimp only
    rw [nthS_hit hb hit, bigSep_singleton, ← hD]
    iintro ⟨Hd, Hs⟩
    isplitl [Hd]
    · iapply (landed_e hb hc hw) $$ Hd
    · iexact Hs
  · unfold ePre
    rw [hS]
    iframe
  · iintro HB
    iapply h
    iframe

theorem dlv_full {p : Bool} {c b : ℕ} (hf : fullW (nW X.ln X.L c b) = 1#1) : (Dlv X p c b : sProp 𝕄) = iprop(eEnd X c b ∗ bTok X p c b) := if_pos hf
theorem dlv_empty {p : Bool} {c b : ℕ} (hf : fullW (nW X.ln X.L c b) ≠ 1#1) : (Dlv X p c b : sProp 𝕄) = iprop(eEnd X c b ∗ zTok X b) := if_neg hf

/-- The first of a batch's two tests: the chunk itself is written where the sequence covers it all. -/
theorem issue_full (p : Bool) {b c : ℕ} {n : BitVec 32}
    {inb : ∀ a, eOff b c X.L a + S1x32x1024.size a ≤ S16x4096x1024.size a}
    {g1 : (buf p).view.WordExact} {g2 : (eSl _ inb).view.WordExact} {g3 : DmaTarget.Typed (nD := nD) .vmem (.dma (wS p).sem) (DmaTarget.here (p := X.t.2) (eSl _ inb))}
    {k : Prog (TpuEff nD τ sig (Elt F) Λ₀ X.t.2) α} (h : iprop(IsH X p c b ∗ R) ⊢ wpT X k Φ)
    (hb : b < 16) (hc : c < 4) (en : n = nW X.ln X.L c b) :
    iprop(Is X p c b ∗ R) ⊢ wpT X
      (if fullW n = 1#1 then Prog.lift (.enqueueDma (buf p) (.here (eSl _ inb)) (.dma (wS p).sem) g1 g2 g3) >>= fun _ => k else k) Φ := by
  subst en
  by_cases hf : fullW (nW X.ln X.L c b) = 1#1
  · rw [if_pos hf]
    rw [IsH, if_pos hf] at h
    unfold Is at *
    have hh : Hit X c b := .inl hf
    rw [upto_take _ _ hb]
    rw [upto_put _ _ hb, show wLeft X p c b = zTok X b from if_pos hf] at h
    refine BIBase.Entails.trans ?_ (push (X := X) (Φ := Φ) p hb hc hh (src := buf p) (fs := into X p (TC X.tb (s0 c X.L))) (T := bTok X p c b)
      ((read_into p _).trans (cut_full ((fullW_iff _).mp hf) _).symm) rfl (dlv_full hf).symm (inb := inb) (g1 := g1) (g2 := g2) (g3 := g3) (k := fun _ => k)
      (R := iprop(zTok X b ∗ But (wLeft X p c) (wPre X p c) b ∗ bDrop X p c ∗ zDrop X ∗ R)) (BIBase.Entails.trans ?_ h))
    · unfold wPre
      rw [show mEnd X c b = ePre X c b from if_neg (hit_not_mid hh)]
      iintro ⟨⟨HB, ⟨⟨He, Hb, Hz⟩, Hu⟩, Hd, Hd'⟩, HR⟩
      iframe
    · iintro ⟨HB, Hz, Hu, Hd, Hd', HR⟩
      iframe
  · rw [if_neg hf]
    rw [IsH, if_neg hf] at h
    exact h

/-- The second: zeros are written where it covers nothing. -/
theorem issue_empty (p : Bool) {b c : ℕ} {n : BitVec 32}
    {inb : ∀ a, eOff b c X.L a + S1x32x1024.size a ≤ S16x4096x1024.size a}
    {g1 : sZer.view.WordExact} {g2 : (eSl _ inb).view.WordExact} {g3 : DmaTarget.Typed (nD := nD) .vmem (.dma (wS p).sem) (DmaTarget.here (p := X.t.2) (eSl _ inb))}
    {k : Prog (TpuEff nD τ sig (Elt F) Λ₀ X.t.2) α} (h : iprop(Is X p c (b + 1) ∗ R) ⊢ wpT X k Φ)
    (hb : b < 16) (hc : c < 4) (en : n = nW X.ln X.L c b) :
    iprop(IsH X p c b ∗ R) ⊢ wpT X
      (if emptyW n = 1#1 then Prog.lift (.enqueueDma sZer (.here (eSl _ inb)) (.dma (wS p).sem) g1 g2 g3) >>= fun _ => k else k) Φ := by
  subst en
  unfold IsH
  by_cases hf : fullW (nW X.ln X.L c b) = 1#1
  · rw [if_pos hf, if_neg (full_not_empty hf)]
    exact h
  rw [if_neg hf]
  unfold Is at *
  rw [upto_take _ _ hb]
  rw [upto_put _ _ hb] at h
  by_cases he : emptyW (nW X.ln X.L c b) = 1#1
  · rw [if_pos he]
    have hh : Hit X c b := .inr he
    rw [show wLeft X p c b = bTok X p c b from (if_neg hf).trans (if_pos he)] at h
    refine BIBase.Entails.trans ?_ (push (X := X) (Φ := Φ) p hb hc hh (src := sZer) (fs := (fun _ => Z : ChA F)) (T := zTok X b)
      (cut_empty ((emptyW_iff _).mp he) _).symm rfl (dlv_empty hf).symm (inb := inb) (g1 := g1) (g2 := g2) (g3 := g3) (k := fun _ => k)
      (R := iprop(bTok X p c b ∗ But (wLeft X p c) (wPre X p c) b ∗ bDrop X p c ∗ zDrop X ∗ R)) (BIBase.Entails.trans ?_ h))
    · unfold wPre
      rw [show mEnd X c b = ePre X c b from if_neg (hit_not_mid hh)]
      iintro ⟨⟨HB, ⟨⟨He, Hb, Hz⟩, Hu⟩, Hd, Hd'⟩, HR⟩
      iframe
    · iintro ⟨HB, Hz, Hu, Hd, Hd', HR⟩
      iframe
  · rw [if_neg he]
    have hh : ¬ Hit X c b := fun h => h.elim hf he
    refine BIBase.Entails.trans ?_ h
    rw [cnt_miss hh, show wLeft X p c b = wPre X p c b from ?_]
    rw [wLeft, if_neg hf, if_neg he, wPre, show mEnd X c b = eEnd X c b from if_pos (mid_of_not_hit hh)]

/-- The last batch's tests done, the waits begin. -/
theorem issued (p : Bool) (c : ℕ) : (Is X p c 16 : sProp 𝕄) = Dr X p c 0 := by
  rw [Is, Dr, upto_all]; rfl

/-- A write of the batch is waited for. -/
theorem pull (p : Bool) {b c : ℕ} (hb : b < 16) (hit : Hit X c b) {sp : Space} {src : Memref sig .scVector sp S32x1024 .f32}
    {off : Fin 3 → ℕ} {inb : ∀ a, off a + S1x32x1024.size a ≤ S16x4096x1024.size a}
    {g1 : src.view.WordExact} {g2 : (eSl _ inb).view.WordExact}
    {k : PUnit → Prog (TpuEff nD τ sig (Elt F) Λ₀ X.t.2) α}
    (h : iprop(Dr X p c (b + 1) ∗ Own X ∅ ∗ R) ⊢ wpT X (k ⟨⟩) Φ) :
    iprop(Dr X p c b ∗ Own X ∅ ∗ R) ⊢ wpT X (Prog.lift (.waitDma2 (wS p).sem src (eSl _ inb) g1 g2) >>= k) Φ := by
  unfold Dr at *
  rw [cnt_hit hit, Nat.mul_add, Nat.mul_one] at h
  simp only [Prog.lift, Prog.bind_op, Prog.bind_ret]
  unfold Bat Own Owed at *
  iintro ⟨⟨HB, HL⟩, ⟨⟨#Hlv, %W', %hW, HO⟩, Hc⟩, HR⟩
  iapply (wp_waitBatchMulO EC 𝒱₀ X.t none (srcw := src) (dstw := eSl _ inb) none 1 (N := NE) (j := cnt X c 16) (u := NE * cnt X c b) (O := X.O) (W := W')
    (Nat.one_mul NE).symm (by
      have := Nat.mul_le_mul_left NE (cnt_lt hit hb)
      rw [Nat.mul_succ] at this
      omega)) $$ [HB HO]
  · isplitl [HB]; · iexact HB
    isplitl [HO]; · iexact HO
    iapply ((K (F := F)).mayWait_none (SemLoc.dma (wS p).sem) X.hO); iexact Hlv
  rw [Nat.one_mul]
  iintro ⟨HB, HO⟩
  iapply h
  isplitl [HB HL]
  · isplitl [HB]; · iexact HB
    iexact HL
  isplitr [HR]
  · isplitr [Hc]
    · isplitr; · iexact Hlv
      iexists (insert (SemLoc.dma (wS p).sem, none) W'); isplitr
      · ipureintro
        exact fun q hq => (Finset.mem_insert.mp hq).elim (fun e => .inr (congrArg Prod.snd e)) (hW q)
      · iexact HO
    · iexact Hc
  · iexact HR

/-- The waits, under the same two tests. -/
theorem drain_full (p : Bool) {b c : ℕ} {n : BitVec 32}
    {off : Fin 3 → ℕ} {inb : ∀ a, off a + S1x32x1024.size a ≤ S16x4096x1024.size a} {g1 : (buf p).view.WordExact} {g2 : (eSl _ inb).view.WordExact}
    {k : Prog (TpuEff nD τ sig (Elt F) Λ₀ X.t.2) α} (h : iprop(DrH X p c b ∗ Own X ∅ ∗ R) ⊢ wpT X k Φ)
    (hb : b < 16) (en : n = nW X.ln X.L c b) :
    iprop(Dr X p c b ∗ Own X ∅ ∗ R) ⊢ wpT X
      (if fullW n = 1#1 then Prog.lift (.waitDma2 (wS p).sem (buf p) (eSl _ inb) g1 g2) >>= fun _ => k else k) Φ := by
  subst en
  by_cases hf : fullW (nW X.ln X.L c b) = 1#1
  · rw [if_pos hf]
    rw [DrH, if_pos hf] at h
    exact pull p hb (.inl hf) h
  · rw [if_neg hf]
    rw [DrH, if_neg hf] at h
    exact h

theorem drain_empty (p : Bool) {b c : ℕ} {n : BitVec 32}
    {off : Fin 3 → ℕ} {inb : ∀ a, off a + S1x32x1024.size a ≤ S16x4096x1024.size a} {g1 : sZer.view.WordExact} {g2 : (eSl _ inb).view.WordExact}
    {k : Prog (TpuEff nD τ sig (Elt F) Λ₀ X.t.2) α} (h : iprop(Dr X p c (b + 1) ∗ Own X ∅ ∗ R) ⊢ wpT X k Φ)
    (hb : b < 16) (en : n = nW X.ln X.L c b) :
    iprop(DrH X p c b ∗ Own X ∅ ∗ R) ⊢ wpT X
      (if emptyW n = 1#1 then Prog.lift (.waitDma2 (wS p).sem sZer (eSl _ inb) g1 g2) >>= fun _ => k else k) Φ := by
  subst en
  unfold DrH
  by_cases hf : fullW (nW X.ln X.L c b) = 1#1
  · rw [if_pos hf, if_neg (full_not_empty hf)]
    exact h
  rw [if_neg hf]
  by_cases he : emptyW (nW X.ln X.L c b) = 1#1
  · rw [if_pos he]
    exact pull p hb (.inr he) h
  · rw [if_neg he]
    refine BIBase.Entails.trans ?_ h
    unfold Dr
    rw [cnt_miss (fun h => h.elim hf he)]

/-- The deliveries, one for each write of the batch. -/
theorem deliveries (p : Bool) (c : ℕ) : (bigSep (Finset.univ : Finset (Fin (cnt X c 16))) fun t => bigSep (nthS X c t.val) (Dlv X p c))
    ⊢ (bigSep ((Finset.range 16).filter (Hit X c)) (Dlv X p c) : sProp 𝕄) := by
  rw [← nthS_all]; exact bigSep_biUnion _ _

/-- A write's delivery and what it left are the block and both shares again. -/
theorem pieces (p : Bool) (c : ℕ) : iprop(bigSep ((Finset.range 16).filter (Hit X c)) (Dlv X p c) ∗ bigSep (Finset.range 16) (wLeft X p c))
    ⊢ (iprop(bigSep (Finset.range 16) (eEnd X c) ∗ bigSep (Finset.range 16) (bTok X p c) ∗ bigSep (Finset.range 16) (zTok X)) : sProp 𝕄) := by
  rw [bigSep_filter, ← bigSep_sep', ← bigSep_sep', ← bigSep_sep']
  refine bigSep_mono fun b _ => (?_ : iprop(_ ∗ _) ⊢ (_ : sProp 𝕄))
  by_cases hf : fullW (nW X.ln X.L c b) = 1#1
  · rw [if_pos (show Hit X c b from .inl hf), dlv_full hf, wLeft, if_pos hf]
    iintro ⟨⟨He, Hb⟩, Hz⟩; iframe
  rw [dlv_empty hf, wLeft, if_neg hf]
  by_cases he : emptyW (nW X.ln X.L c b) = 1#1
  · rw [if_pos (show Hit X c b from .inr he), if_pos he]
    iintro ⟨⟨He, Hb⟩, Hz⟩; iframe
  · rw [if_neg (show ¬ Hit X c b from fun h => h.elim hf he), if_neg he]
    iintro ⟨-, H⟩; iexact H

/-- Once all are waited for, the batch is closed. -/
theorem close_writes (p : Bool) (c : ℕ) {k : Prog (TpuEff nD τ sig (Elt F) Λ₀ X.t.2) α}
    (h : iprop(semVal (X.t, .dma (wS p).sem) 0 ∗ At X p (TC X.tb (s0 c X.L)) ∗ ZerAt X ∗ bigSep (Finset.range 16) (eEnd X c) ∗ R) ⊢ wpT X k Φ) :
    iprop(Dr X p c 16 ∗ R) ⊢ wpT X k Φ := by
  refine BIBase.Entails.trans ?_ (fupd_wp _ _ _ _ _)
  unfold Dr Bat
  iintro ⟨⟨HB, HL, Hb, Hz⟩, HR⟩
  imod (batch_collect' EC X.t (NE_pos)) $$ HB with ⟨HD, Hv⟩
  imodintro
  iapply h
  isplitl [Hv]; · iexact Hv
  ihave HD' := (deliveries p c) $$ HD
  ihave Hp := (pieces p c) $$ [HD' HL]
  · iframe
  icases Hp with ⟨He, Hbs, Hzs⟩
  isplitl [Hb Hbs]
  · iapply (buf_split p c).2; iframe
  isplitl [Hz Hzs]
  · iapply zer_split.2; iframe
  iframe

end Cert.Proof.Tile

end
-- ==== Proof.Turns.lean ====
/-
  A tile from one chunk to the next: the copies it begins with, the loads, and what it holds at each turn.
-/
module

public import proofs.«01_k».proof.Proof.Writes

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

variable {X : Task F} {α β : Type}
variable {Φ : α → sProp (MT nD τ sig (HIx 1) (Elt F) ℕ UU ℕ)} {R : sProp (MT nD τ sig (HIx 1) (Elt F) ℕ UU ℕ)}

/-! ## The beginning -/

/-- A share of the lengths, and of the zeros. -/
def lenTok (X : Task F) (q : PosShare TreeShare) : sProp 𝕄 := iprop(lenLoc X.d ↦[Finset.univ]{q} X.ln)
def zerTok (X : Task F) (q : PosShare TreeShare) : sProp 𝕄 := iprop(zerLoc X.d ↦[Finset.univ]{q} (fun _ => Z : ChA F))
/-- The lengths' buffer. -/
def LenAt (X : Task F) (g : LenA) : sProp 𝕄 := iprop(sLen.view.loc X.t ↦[Finset.univ]{fullShare} g)
/-- The zeros' buffer holding something. -/
def ZerAny (X : Task F) : sProp 𝕄 := iprop(∃ g : ChA F, sZer.view.loc X.t ↦[Finset.univ]{fullShare} g)

/-- The lengths are copied to the tile. -/
theorem fetch_len {q : PosShare TreeShare} {g : LenA} {s : DmaSems sig S_} (hs : Apart s)
    {g1 : aLen.view.WordExact} {g2 : sLen.view.WordExact} {g3 : DmaTarget.Typed (nD := nD) .hbm (.dma s.sem) (DmaTarget.here (p := X.t.2) sLen)}
    {k : PUnit → Prog (TpuEff nD τ sig (Elt F) Λ₀ X.t.2) α}
    (h : iprop(lenTok X q ∗ LenAt X X.ln ∗ Own X ∅ ∗ R) ⊢ wpT X (k ⟨⟩) Φ) :
    iprop(lenTok X q ∗ LenAt X g ∗ Own X ∅ ∗ R) ⊢ wpT X (Prog.lift (.enqueueDma aLen (.here sLen) (.dma s.sem) g1 g2 g3) >>= fun _ =>
          Prog.lift (.waitDma2 s.sem aLen sLen g1 g2) >>= k) Φ := by
  refine BIBase.Entails.trans ?_ (copy (X := X) (Φ := Φ) (src := aLen) (dst := sLen) (q := q) (fs := X.ln) (fd := g) (R := R) (apart_cells X hs) rfl
    (View.dmaCredit_pos _ (by decide)) (BIBase.Entails.trans ?_ h))
  · unfold lenTok LenAt
    rw [View.set_whole, View.set_whole]
  · unfold lenTok LenAt Lands
    rw [View.set_whole, View.set_whole, View.write_whole_univ, View.read_whole]
    iintro ⟨⟨Hd, Hs⟩, HO, HR⟩; iframe

/-- The zeros are copied to the tile. -/
theorem fetch_zer {q : PosShare TreeShare} {s : DmaSems sig S_} (hs : Apart s)
    {g1 : aZer.view.WordExact} {g2 : sZer.view.WordExact} {g3 : DmaTarget.Typed (nD := nD) .hbm (.dma s.sem) (DmaTarget.here (p := X.t.2) sZer)}
    {k : PUnit → Prog (TpuEff nD τ sig (Elt F) Λ₀ X.t.2) α}
    (h : iprop(zerTok X q ∗ ZerAt X ∗ Own X ∅ ∗ R) ⊢ wpT X (k ⟨⟩) Φ) :
    iprop(zerTok X q ∗ ZerAny X ∗ Own X ∅ ∗ R) ⊢ wpT X (Prog.lift (.enqueueDma aZer (.here sZer) (.dma s.sem) g1 g2 g3) >>= fun _ =>
          Prog.lift (.waitDma2 s.sem aZer sZer g1 g2) >>= k) Φ := by
  unfold ZerAny
  iintro ⟨Hz, ⟨%g, Hg⟩, HO, HR⟩
  iapply (copy (X := X) (Φ := Φ) (src := aZer) (dst := sZer) (q := q) (fs := (fun _ => Z : ChA F)) (fd := g) (R := R) (apart_cells X hs) rfl
    (View.dmaCredit_pos _ (by decide)) (BIBase.Entails.trans ?_ h))
  · unfold zerTok ZerAt Lands
    rw [View.set_whole, View.set_whole, View.write_whole_univ, View.read_whole]
    iintro ⟨⟨Hd, Hs⟩, HO, HR⟩; iframe
  · unfold zerTok
    rw [View.set_whole, View.set_whole]
    iframe

/-- The lengths are loaded. -/
theorem load_len {inb : ∀ a, (![0] : Fin 1 → ℕ) a + S16.size a ≤ S16.size a} {hl : sLen.view.LoadsAt (Rect.unit (s := S16) ![0] S16.size inb).toLoadRect}
    {k : (S16.Idx → BitVec 32) → Prog (TpuEff nD τ sig (Elt F) Λ₀ X.t.2) α}
    (h : iprop(LenAt X X.ln ∗ R) ⊢ wpT X (k X.ln) Φ) :
    iprop(LenAt X X.ln ∗ R) ⊢ wpT X (Prog.lift (.load sLen (Rect.unit (s := S16) ![0] S16.size inb).toLoadRect hl) >>= k) Φ := by
  simp only [Prog.lift, Prog.bind_op, Prog.bind_ret]
  unfold LenAt at *
  iintro ⟨Hl, HR⟩
  iapply (wp_load_rect 𝒱₀ X.t none Set.univ (m := sLen) (r := Rect.unit (s := S16) ![0] S16.size inb) (S := Finset.univ) (q := fullShare)
      (f := X.ln) (Finset.subset_univ _)) $$ Hl
  iintro Hl
  rw [show (sLen.access (Rect.unit (s := S16) ![0] S16.size inb)).read (Elt F) X.ln = X.ln from ?_]
  · iapply h; iframe
  · funext x
    refine congrArg X.ln (funext fun a => ?_)
    match a with
    | 0 => exact Fin.ext (by show 0 + 1 * (x 0).val = (x 0).val; omega)

/-! ## Loads -/

/-- Chunk `c` under way to a buffer. -/
def Ld (X : Task F) (p : Bool) (c : ℕ) : sProp 𝕄 :=
  iprop(∃ (inb : ∀ a, tOff c X.L a + S32x1024.size a ≤ S4096x1024.size a) (f : ChA F),
    Flight EC X.t (.dma cc0_scratch5.sem) none (buf p).view.dmaCredit (Lands X (tSl _ inb) (buf p) fullShare X.tb (into X p f)))

theorem load_start (p : Bool) {c : ℕ} (hc : c < 4) {g : ChA F} {inb : ∀ a, tOff c X.L a + S32x1024.size a ≤ S4096x1024.size a}
    {g1 : (tSl _ inb).view.WordExact} {g2 : (buf p).view.WordExact} {g3 : DmaTarget.Typed (nD := nD) .hbm (.dma cc0_scratch5.sem) (DmaTarget.here (p := X.t.2) (buf p))}
    {k : PUnit → Prog (TpuEff nD τ sig (Elt F) Λ₀ X.t.2) α}
    (h : iprop(Ld X p c ∗ R) ⊢ wpT X (k ⟨⟩) Φ) :
    iprop(semVal X.gL 0 ∗ tPart X c ∗ At X p g ∗ R) ⊢ wpT X (Prog.lift (.enqueueDma (tSl _ inb) (.here (buf p)) (.dma cc0_scratch5.sem) g1 g2 g3) >>= k) Φ := by
  refine BIBase.Entails.trans ?_ (start (X := X) (Φ := Φ) (src := tSl _ inb) (dst := buf p) (q := fullShare) (fs := X.tb) (fd := into X p g) (R := R)
    _ rfl (credit_buf p) (BIBase.Entails.trans ?_ h))
  · unfold tPart
    rw [at_eq, set_tSl inb (tOff_eq hc X.L)]
  · unfold Ld
    iintro ⟨HF, HR⟩
    iframe
    iexists inb, g
    iexact HF

theorem load_wait (p : Bool) {c : ℕ} (hc : c < 4) {inb : ∀ a, tOff c X.L a + S32x1024.size a ≤ S4096x1024.size a}
    {g1 : (tSl _ inb).view.WordExact} {g2 : (buf p).view.WordExact} {k : PUnit → Prog (TpuEff nD τ sig (Elt F) Λ₀ X.t.2) α}
    (h : iprop(semVal X.gL 0 ∗ tPart X c ∗ At X p (TC X.tb (s0 c X.L)) ∗ Own X ∅ ∗ R) ⊢ wpT X (k ⟨⟩) Φ) :
    iprop(Ld X p c ∗ Own X ∅ ∗ R) ⊢ wpT X (Prog.lift (.waitDma2 cc0_scratch5.sem (tSl _ inb) (buf p) g1 g2) >>= k) Φ := by
  unfold Ld Own at *
  iintro ⟨⟨%inb', %f, HF⟩, ⟨HO, Hc⟩, HR⟩
  iapply (await (X := X) (Φ := Φ) (src := tSl _ inb) (dst := buf p) (D := Lands X (tSl _ inb') (buf p) fullShare X.tb (into X p f)) (R := iprop((bigSep (X.cells \ ∅) fun g => semVal g 0) ∗ R)) rfl (BIBase.Entails.trans ?_ h)) $$ [HF HO Hc HR]
  · unfold Lands tPart
    rw [write_into, read_t hc, at_eq, set_tSl inb' (tOff_eq hc X.L)]
    iintro ⟨Hv, ⟨Hb, Ht⟩, HO, Hc, HR⟩
    iframe
  · iframe

/-! ## From chunk to chunk -/

/-- Chunk `c` before its load: its rows of the table and its blocks of the result; and after its writes. -/
def cPre (X : Task F) (c : ℕ) : sProp 𝕄 := iprop(tPart X c ∗ bigSep (Finset.range 16) (ePre X c))
def cEnd (X : Task F) (c : ℕ) : sProp 𝕄 := iprop(tPart X c ∗ bigSep (Finset.range 16) (eEnd X c))
/-- The chunks before `i` done, and those from `j` on not begun. -/
def Bank (X : Task F) (i j : ℕ) : sProp 𝕄 := iprop(bigSep (Finset.range i) (cEnd X) ∗ bigSep (Finset.Ico j 4) (cPre X))

theorem bank_take {i j : ℕ} (hj : j < 4) : Bank X i j ⊢ (iprop(cPre X j ∗ Bank X i (j + 1)) : sProp 𝕄) := by
  unfold Bank
  rw [show Finset.Ico j 4 = insert j (Finset.Ico (j + 1) 4) from (Finset.insert_Ico_add_one_left_eq_Ico hj).symm, SparseCore.bigSep_insert' (by simp)]
  iintro ⟨H, Hj, H'⟩; iframe
theorem bank_put {i j : ℕ} : (iprop(cEnd X i ∗ Bank X i j) : sProp 𝕄) ⊢ Bank X (i + 1) j := by
  unfold Bank
  rw [Finset.range_add_one, SparseCore.bigSep_insert' (by simp)]
  iintro ⟨H, Hj, H'⟩; iframe

/-- Chunk `c` under way to a buffer, and its blocks of the result. -/
def Nx (X : Task F) (p : Bool) (c : ℕ) : sProp 𝕄 := iprop(Ld X p c ∗ bigSep (Finset.range 16) (ePre X c))
/-- The writes from a buffer all waited for. -/
abbrev sv (X : Task F) (p : Bool) : sProp 𝕄 := semVal (X.t, .dma (wS p).sem) 0

/-- The first chunk has come. -/
theorem first_wait {g : ChA F} {inb : ∀ a, tOff 0 X.L a + S32x1024.size a ≤ S4096x1024.size a}
    {g1 : (tSl _ inb).view.WordExact} {g2 : (buf false).view.WordExact} {k : PUnit → Prog (TpuEff nD τ sig (Elt F) Λ₀ X.t.2) α}
    (h : iprop(At X false (TC X.tb (s0 0 X.L)) ∗ tPart X 0 ∗ Upto (mEnd X 0) (ePre X 0) 0 ∗ Own X ∅ ∗
        (semVal X.gL 0 ∗ sv X false ∗ sv X true ∗ At X true g ∗ ZerAt X ∗ Bank X 0 1 ∗ R)) ⊢ wpT X (k ⟨⟩) Φ) :
    iprop(Nx X false 0 ∗ Own X ∅ ∗ (sv X false ∗ sv X true ∗ At X true g ∗ ZerAt X ∗ Bank X 0 1 ∗ R)) ⊢ wpT X
      (Prog.lift (.waitDma2 cc0_scratch5.sem (tSl _ inb) (buf false) g1 g2) >>= k) Φ := by
  refine BIBase.Entails.trans ?_ (load_wait (X := X) (Φ := Φ) (g1 := g1) (g2 := g2) false (c := 0) (by decide)
    (R := iprop(bigSep (Finset.range 16) (ePre X 0) ∗ (sv X false ∗ sv X true ∗ At X true g ∗ ZerAt X ∗ Bank X 0 1 ∗ R))) (BIBase.Entails.trans ?_ h))
  · unfold Nx
    iintro ⟨⟨HL, He⟩, HO, HR⟩; isplitl [HL]; · iexact HL
    isplitl [HO]; · iexact HO
    isplitl [He]; · iexact He
    iexact HR
  · rw [upto_zero]
    iintro ⟨Hv, Ht, Hb, HO, He, HR⟩
    isplitl [Hb]; · iexact Hb
    isplitl [Ht]; · iexact Ht
    isplitl [He]; · iexact He
    isplitl [HO]; · iexact HO
    isplitl [Hv]; · iexact Hv
    iexact HR

/-- It is merged: the next is started, and its writes begin. -/
theorem first_start {g : ChA F} {inb : ∀ a, tOff 1 X.L a + S32x1024.size a ≤ S4096x1024.size a}
    {g1 : (tSl _ inb).view.WordExact} {g2 : (buf true).view.WordExact} {g3 : DmaTarget.Typed (nD := nD) .hbm (.dma cc0_scratch5.sem) (DmaTarget.here (p := X.t.2) (buf true))}
    {k : PUnit → Prog (TpuEff nD τ sig (Elt F) Λ₀ X.t.2) α}
    (h : iprop(Is X false 0 0 ∗ (Own X ∅ ∗ Nx X true 1 ∗ tPart X 0 ∗ sv X true ∗ Bank X 0 2 ∗ R)) ⊢ wpT X (k ⟨⟩) Φ) :
    iprop(At X false (TC X.tb (s0 0 X.L)) ∗ tPart X 0 ∗ Upto (mEnd X 0) (ePre X 0) 16 ∗ Own X ∅ ∗
        (semVal X.gL 0 ∗ sv X false ∗ sv X true ∗ At X true g ∗ ZerAt X ∗ Bank X 0 1 ∗ R)) ⊢ wpT X
      (Prog.lift (.enqueueDma (tSl _ inb) (.here (buf true)) (.dma cc0_scratch5.sem) g1 g2 g3) >>= k) Φ := by
  refine BIBase.Entails.trans ?_ (load_start (X := X) (Φ := Φ)
      (R := iprop(bigSep (Finset.range 16) (ePre X 1) ∗ At X false (TC X.tb (s0 0 X.L)) ∗ tPart X 0 ∗ Upto (mEnd X 0) (ePre X 0) 16 ∗ Own X ∅ ∗
        sv X false ∗ sv X true ∗ ZerAt X ∗ Bank X 0 2 ∗ R)) (g1 := g1) (g2 := g2) (g3 := g3) true (c := 1) (g := g) (by decide)
    (BIBase.Entails.trans ?_ (open_writes (X := X) (Φ := Φ)
      (R := iprop(Ld X true 1 ∗ bigSep (Finset.range 16) (ePre X 1) ∗ tPart X 0 ∗ Own X ∅ ∗ sv X true ∗ Bank X 0 2 ∗ R)) false 0 (BIBase.Entails.trans ?_ h))))
  · iintro ⟨Hb, Ht, Hu, HO, Hv, Hf, Ht', Hb', Hz, HB, HR⟩
    ihave HB' := (bank_take (X := X) (i := 0) (j := 1) (by decide)) $$ HB
    unfold cPre
    icases HB' with ⟨⟨Hc, He⟩, HB⟩
    iframe
  · iintro ⟨HL, He, Hb, Ht, Hu, HO, Hf, Ht', Hz, HB, HR⟩
    iframe
  · unfold Nx
    iintro ⟨HI, HL, He, Ht, HO, Hv, HB, HR⟩
    iframe

/-- A later chunk has come, while the writes of the one before are under way. -/
theorem next_wait (p p' : Bool) {c c' : ℕ} (hc : c < 4) {inb : ∀ a, tOff c X.L a + S32x1024.size a ≤ S4096x1024.size a}
    {g1 : (tSl _ inb).view.WordExact} {g2 : (buf p).view.WordExact} {k : PUnit → Prog (TpuEff nD τ sig (Elt F) Λ₀ X.t.2) α}
    (h : iprop(At X p (TC X.tb (s0 c X.L)) ∗ tPart X c ∗ Upto (mEnd X c) (ePre X c) 0 ∗ Own X ∅ ∗
        (semVal X.gL 0 ∗ Dr X p' c' 0 ∗ R)) ⊢ wpT X (k ⟨⟩) Φ) :
    iprop(Is X p' c' 16 ∗ (Own X ∅ ∗ Nx X p c ∗ R)) ⊢ wpT X
      (Prog.lift (.waitDma2 cc0_scratch5.sem (tSl _ inb) (buf p) g1 g2) >>= k) Φ := by
  refine BIBase.Entails.trans ?_ (load_wait (X := X) (Φ := Φ) (g1 := g1) (g2 := g2) p (c := c) hc
    (R := iprop(bigSep (Finset.range 16) (ePre X c) ∗ Dr X p' c' 0 ∗ R)) (BIBase.Entails.trans ?_ h))
  · rw [issued]
    unfold Nx
    iintro ⟨HI, HO, ⟨HL, He⟩, HR⟩; iframe
  · rw [upto_zero]
    iintro ⟨Hv, Ht, Hb, HO, He, HD, HR⟩
    iframe

/-- It is merged: those writes are waited for. -/
theorem next_drain (p p' : Bool) {c c' : ℕ} {k : Prog (TpuEff nD τ sig (Elt F) Λ₀ X.t.2) α}
    (h : iprop(Dr X p' c' 0 ∗ Own X ∅ ∗ (At X p (TC X.tb (s0 c X.L)) ∗ tPart X c ∗ Upto (mEnd X c) (ePre X c) 16 ∗ semVal X.gL 0 ∗ R)) ⊢ wpT X k Φ) :
    iprop(At X p (TC X.tb (s0 c X.L)) ∗ tPart X c ∗ Upto (mEnd X c) (ePre X c) 16 ∗ Own X ∅ ∗
        (semVal X.gL 0 ∗ Dr X p' c' 0 ∗ R)) ⊢ wpT X k Φ := by
  refine BIBase.Entails.trans ?_ h
  iintro ⟨Hb, Ht, Hu, HO, Hv, HD, HR⟩
  iframe

/-- They are done: their buffer takes the chunk after, and this one's writes begin. -/
theorem next_start (p p' : Bool) {c : ℕ} (hc : c + 2 < 4) {inb : ∀ a, tOff (c + 2) X.L a + S32x1024.size a ≤ S4096x1024.size a}
    {g1 : (tSl _ inb).view.WordExact} {g2 : (buf p').view.WordExact} {g3 : DmaTarget.Typed (nD := nD) .hbm (.dma cc0_scratch5.sem) (DmaTarget.here (p := X.t.2) (buf p'))}
    {k : PUnit → Prog (TpuEff nD τ sig (Elt F) Λ₀ X.t.2) α}
    (h : iprop(Is X p (c + 1) 0 ∗ (Own X ∅ ∗ Nx X p' (c + 2) ∗ tPart X (c + 1) ∗ sv X p' ∗ Bank X (c + 1) (c + 3) ∗ R)) ⊢ wpT X (k ⟨⟩) Φ) :
    iprop(Dr X p' c 16 ∗ Own X ∅ ∗ (At X p (TC X.tb (s0 (c + 1) X.L)) ∗ tPart X (c + 1) ∗ Upto (mEnd X (c + 1)) (ePre X (c + 1)) 16 ∗ semVal X.gL 0 ∗
        (tPart X c ∗ sv X p ∗ Bank X c (c + 2) ∗ R))) ⊢ wpT X
      (Prog.lift (.enqueueDma (tSl _ inb) (.here (buf p')) (.dma cc0_scratch5.sem) g1 g2 g3) >>= k) Φ := by
  refine close_writes (X := X) (Φ := Φ) p' c (BIBase.Entails.trans ?_ (load_start (X := X) (Φ := Φ)
      (R := iprop(bigSep (Finset.range 16) (ePre X (c + 2)) ∗ At X p (TC X.tb (s0 (c + 1) X.L)) ∗ tPart X (c + 1) ∗ Upto (mEnd X (c + 1)) (ePre X (c + 1)) 16 ∗ Own X ∅ ∗
        sv X p ∗ sv X p' ∗ ZerAt X ∗ Bank X (c + 1) (c + 3) ∗ R)) (g1 := g1) (g2 := g2) (g3 := g3) p' (c := c + 2)
    (g := TC X.tb (s0 c X.L)) hc (BIBase.Entails.trans ?_ (open_writes (X := X) (Φ := Φ)
      (R := iprop(Ld X p' (c + 2) ∗ bigSep (Finset.range 16) (ePre X (c + 2)) ∗ tPart X (c + 1) ∗ Own X ∅ ∗ sv X p' ∗ Bank X (c + 1) (c + 3) ∗ R)) p (c + 1) (BIBase.Entails.trans ?_ h)))))
  · iintro ⟨Hv', Hb', Hz, He', HO, Hb, Ht, Hu, Hv, Ht', Hs, HB, HR⟩
    ihave HB' := (bank_take (X := X) (i := c) (j := c + 2) hc) $$ HB
    unfold cPre
    icases HB' with ⟨⟨Hc, He⟩, HB⟩
    ihave HB' := (bank_put (X := X) (i := c) (j := c + 3)) $$ [Ht' He' HB]
    · unfold cEnd; iframe
    iframe
  · iintro ⟨HL, He, Hb, Ht, Hu, HO, Hf, Ht', Hz, HB, HR⟩
    iframe
  · unfold Nx
    iintro ⟨HI, HL, He, Ht, HO, Hv, HB, HR⟩
    iframe

/-- The same when no chunk is left to load. -/
theorem last_start (p p' : Bool) {c : ℕ} {k : Prog (TpuEff nD τ sig (Elt F) Λ₀ X.t.2) α}
    (h : iprop(Is X p (c + 1) 0 ∗ (Own X ∅ ∗ At X p' (TC X.tb (s0 c X.L)) ∗ semVal X.gL 0 ∗ tPart X (c + 1) ∗ sv X p' ∗ Bank X (c + 1) (c + 2) ∗ R)) ⊢ wpT X k Φ) :
    iprop(Dr X p' c 16 ∗ Own X ∅ ∗ (At X p (TC X.tb (s0 (c + 1) X.L)) ∗ tPart X (c + 1) ∗ Upto (mEnd X (c + 1)) (ePre X (c + 1)) 16 ∗ semVal X.gL 0 ∗
        (tPart X c ∗ sv X p ∗ Bank X c (c + 2) ∗ R))) ⊢ wpT X k Φ := by
  refine close_writes (X := X) (Φ := Φ) p' c (BIBase.Entails.trans ?_ (open_writes (X := X) (Φ := Φ)
      (R := iprop(At X p' (TC X.tb (s0 c X.L)) ∗ semVal X.gL 0 ∗ tPart X (c + 1) ∗ Own X ∅ ∗ sv X p' ∗ Bank X (c + 1) (c + 2) ∗ R)) p (c + 1) (BIBase.Entails.trans ?_ h)))
  · iintro ⟨Hv', Hb', Hz, He', HO, Hb, Ht, Hu, Hv, Ht', Hs, HB, HR⟩
    ihave HB' := (bank_put (X := X) (i := c) (j := c + 2)) $$ [Ht' He' HB]
    · unfold cEnd; iframe
    iframe
  · iintro ⟨HI, Hb, Hv, Ht, HO, Hs, HB, HR⟩
    iframe

/-- The last writes begin to be waited for. -/
theorem last_drain (p : Bool) {c : ℕ} {S : sProp (MT nD τ sig (HIx 1) (Elt F) ℕ UU ℕ)} {k : Prog (TpuEff nD τ sig (Elt F) Λ₀ X.t.2) α}
    (h : iprop(Dr X p c 0 ∗ Own X ∅ ∗ S) ⊢ wpT X k Φ) : iprop(Is X p c 16 ∗ (Own X ∅ ∗ S)) ⊢ wpT X k Φ := by
  rw [issued]; exact h

/-- They are done. -/
theorem last_done (p p' : Bool) {c : ℕ} {g : ChA F} {k : Prog (TpuEff nD τ sig (Elt F) Λ₀ X.t.2) α}
    (h : iprop(sv X p ∗ sv X p' ∗ semVal X.gL 0 ∗ At X p (TC X.tb (s0 c X.L)) ∗ At X p' g ∗ ZerAt X ∗ Own X ∅ ∗ Bank X (c + 1) (c + 1) ∗ R) ⊢ wpT X k Φ) :
    iprop(Dr X p c 16 ∗ Own X ∅ ∗ (At X p' g ∗ semVal X.gL 0 ∗ tPart X c ∗ sv X p' ∗ Bank X c (c + 1) ∗ R)) ⊢ wpT X k Φ := by
  refine close_writes (X := X) (Φ := Φ) p c (BIBase.Entails.trans ?_ h)
  iintro ⟨Hv, Hb, Hz, He, HO, Hb', Hl, Ht, Hv', HB, HR⟩
  ihave HB' := (bank_put (X := X) (i := c) (j := c + 1)) $$ [Ht He HB]
  · unfold cEnd; iframe
  iframe

/-! ## The whole tile -/

/-- What a tile holds when it starts, beside what the launch lends it. -/
def Before (X : Task F) (q : PosShare TreeShare) (g : LenA) (g1 g2 : ChA F) : sProp 𝕄 :=
  iprop(lenTok X q ∗ LenAt X g ∗ Own X ∅ ∗ zerTok X q ∗ ZerAny X ∗ semVal X.gL 0 ∗ sv X false ∗ sv X true ∗
    At X false g1 ∗ At X true g2 ∗ PosAny X ∗ Upto (posEnd X) (posPre X) 0 ∗ Bank X 0 0)
/-- And when it ends. -/
def After (X : Task F) (q : PosShare TreeShare) : sProp 𝕄 :=
  iprop(∃ (g1 g2 : ChA F), lenTok X q ∗ LenAt X X.ln ∗ Own X ∅ ∗ zerTok X q ∗ ZerAt X ∗ semVal X.gL 0 ∗ sv X false ∗ sv X true ∗
    At X false g1 ∗ At X true g2 ∗ PosAny X ∗ Upto (posEnd X) (posPre X) 16 ∗ Bank X 4 4)

/-- The lengths and the zeros come, and the first chunk is started. -/
theorem begins {q : PosShare TreeShare} {g : LenA} {f1 f2 : ChA F} {s s' : DmaSems sig S_} (hs : Apart s) (hs' : Apart s')
    {g1 : aLen.view.WordExact} {g2 : sLen.view.WordExact} {g3 : DmaTarget.Typed (nD := nD) .hbm (.dma s.sem) (DmaTarget.here (p := X.t.2) sLen)}
    {g4 : aZer.view.WordExact} {g5 : sZer.view.WordExact} {g6 : DmaTarget.Typed (nD := nD) .hbm (.dma s'.sem) (DmaTarget.here (p := X.t.2) sZer)}
    {inb : ∀ a, (![0] : Fin 1 → ℕ) a + S16.size a ≤ S16.size a} {hl : sLen.view.LoadsAt (Rect.unit (s := S16) ![0] S16.size inb).toLoadRect}
    {inbt : ∀ a, tOff 0 X.L a + S32x1024.size a ≤ S4096x1024.size a}
    {g7 : (tSl _ inbt).view.WordExact} {g8 : (buf false).view.WordExact} {g9 : DmaTarget.Typed (nD := nD) .hbm (.dma cc0_scratch5.sem) (DmaTarget.here (p := X.t.2) (buf false))}
    {k : (S16.Idx → BitVec 32) → PUnit → Prog (TpuEff nD τ sig (Elt F) Λ₀ X.t.2) α}
    (h : iprop(PosAny X ∗ (Upto (posEnd X) (posPre X) 0 ∗ (Own X ∅ ∗ (Nx X false 0 ∗ (sv X false ∗ sv X true ∗ At X true f2 ∗ ZerAt X ∗ Bank X 0 1) ∗
        (lenTok X q ∗ LenAt X X.ln ∗ zerTok X q))))) ⊢ wpT X (k X.ln ⟨⟩) Φ) :
    Before X q g f1 f2 ⊢ wpT X (Prog.lift (.enqueueDma aLen (.here sLen) (.dma s.sem) g1 g2 g3) >>= fun _ =>
          Prog.lift (.waitDma2 s.sem aLen sLen g1 g2) >>= fun _ =>
          Prog.lift (.enqueueDma aZer (.here sZer) (.dma s'.sem) g4 g5 g6) >>= fun _ =>
          Prog.lift (.waitDma2 s'.sem aZer sZer g4 g5) >>= fun _ =>
          Prog.lift (.load sLen (Rect.unit (s := S16) ![0] S16.size inb).toLoadRect hl) >>= fun (v : S16.Idx → BitVec 32) =>
          Prog.lift (.enqueueDma (tSl _ inbt) (.here (buf false)) (.dma cc0_scratch5.sem) g7 g8 g9) >>= k v) Φ := by
  unfold Before
  refine (fetch_len (X := X) (Φ := Φ) hs (BIBase.Entails.trans ?_ (fetch_zer (X := X) (Φ := Φ)
      (R := iprop(LenAt X X.ln ∗ lenTok X q ∗ semVal X.gL 0 ∗ sv X false ∗ sv X true ∗
      At X false f1 ∗ At X true f2 ∗ PosAny X ∗ Upto (posEnd X) (posPre X) 0 ∗ Bank X 0 0)) (q := q) hs' (BIBase.Entails.trans ?_ (load_len (X := X) (Φ := Φ)
      (R := iprop(ZerAt X ∗ Own X ∅ ∗ zerTok X q ∗ lenTok X q ∗ semVal X.gL 0 ∗ sv X false ∗ sv X true ∗
      At X false f1 ∗ At X true f2 ∗ PosAny X ∗ Upto (posEnd X) (posPre X) 0 ∗ Bank X 0 0))
    (BIBase.Entails.trans ?_ (load_start (X := X) (Φ := Φ)
      (R := iprop(LenAt X X.ln ∗ ZerAt X ∗ Own X ∅ ∗ zerTok X q ∗ lenTok X q ∗ sv X false ∗ sv X true ∗
      At X true f2 ∗ PosAny X ∗ Upto (posEnd X) (posPre X) 0 ∗ bigSep (Finset.range 16) (ePre X 0) ∗ Bank X 0 1)) false (c := 0) (g := f1) (by decide) (BIBase.Entails.trans ?_ h))))))))
  · iintro ⟨Hl, Hg, HO, Hz, Hy, HR⟩
    iframe
  · iintro ⟨Hz, Hy, HO, Hg, Hl, HR⟩
    iframe
  · iintro ⟨Hg, Hy, HO, Hz, Hl, Hv, Hf, Ht, Hb1, Hb2, Hp, Hu, HB⟩
    ihave HB' := (bank_take (X := X) (i := 0) (j := 0) (by decide)) $$ HB
    unfold cPre
    icases HB' with ⟨⟨Hc, He⟩, HB⟩
    iframe
  · unfold Nx
    iintro ⟨HL, Hg, Hy, HO, Hz, Hl, Hf, Ht, Hb2, Hp, Hu, He, HB⟩
    iframe

/-- The positions are out: the first chunk is waited for. -/
theorem first_turn {S : sProp (MT nD τ sig (HIx 1) (Elt F) ℕ UU ℕ)} {g : ChA F} {k : Prog (TpuEff nD τ sig (Elt F) Λ₀ X.t.2) α}
    (h : iprop(Nx X false 0 ∗ Own X ∅ ∗ (sv X false ∗ sv X true ∗ At X true g ∗ ZerAt X ∗ Bank X 0 1 ∗ (S ∗ PosAny X ∗ Upto (posEnd X) (posPre X) 16))) ⊢ wpT X k Φ) :
    iprop(PosAny X ∗ (Upto (posEnd X) (posPre X) 16 ∗ (Own X ∅ ∗ (Nx X false 0 ∗ (sv X false ∗ sv X true ∗ At X true g ∗ ZerAt X ∗ Bank X 0 1) ∗ S)))) ⊢ wpT X k Φ := by
  refine BIBase.Entails.trans ?_ h
  iintro ⟨Hp, Hu, HO, HN, ⟨Hf, Ht, Hb, Hz, HB⟩, HS⟩
  iframe

end Cert.Proof.Tile

end
-- ==== Proof.Walk.lean ====
/-
  One tile's whole program: the positions, then the four chunks in turn, each loaded, merged, drained and written.
-/
module

public import proofs.«01_k».proof.Proof.Turns

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

/-! # A whole tile

The program of one tile, walked from its first copy to its last wait. -/

variable {X : Task F} {α β : Type}
variable {Φ : α → sProp (MT nD τ sig (HIx 1) (Elt F) ℕ UU ℕ)} {R : sProp (MT nD τ sig (HIx 1) (Elt F) ℕ UU ℕ)}
set_option maxRecDepth 65536

/-- Before a partly filled chunk is merged, the program checks the row it merges from: the check holds of any length. -/
theorem check (p : Bool) {b c : ℕ} {P : Prop} {dP : Decidable P} {k : PLift P → Prog (TpuEff nD τ sig (Elt F) Λ₀ X.t.2) α}
    (h : ∀ hP : P, iprop(At X p (TC X.tb (s0 c X.L)) ∗ tPart X c ∗ Upto (mEnd X c) (ePre X c) b ∗ R) ⊢ wpT X (k ⟨hP⟩) Φ)
    (hs : S16.Slices ![b] S1 := by decide) (hP : Chk (Scalar.subi (lenX (V3 X.ln) b hs) (sB c X.L)) → P := by exact fun h => h) :
    iprop(At X p (TC X.tb (s0 c X.L)) ∗ tPart X c ∗ Upto (mEnd X c) (ePre X c) b ∗ R) ⊢ wpT X (Prog.lift (.assume P dP) >>= k) Φ :=
  passes (hP (chk_holds _)) (h _)

/-- All four chunks are written: what is left is what the tile is to end with. -/
theorem ends {q : PosShare TreeShare} {g1 g2 : ChA F} :
    iprop(sv X true ∗ sv X false ∗ semVal X.gL 0 ∗ At X true g2 ∗ At X false g1 ∗ ZerAt X ∗ Own X ∅ ∗ Bank X 4 4 ∗
      ((lenTok X q ∗ LenAt X X.ln ∗ zerTok X q) ∗ PosAny X ∗ Upto (posEnd X) (posPre X) 16)) ⊢ (After X q : sProp 𝕄) := by
  unfold After
  iintro ⟨Ht, Hf, HL, Hb, Hb', Hz, HO, HB, ⟨Hl, Hg, Hy⟩, Hp, Hu⟩
  iexists g1
  iexists g2
  iframe

set_option maxHeartbeats 40000000 in
/-- A tile fetches the lengths and the zeros, writes its positions batch by batch, and then takes its four chunks in turn: wait for the chunk's rows, merge
the rows of each batch that is partly filled, start the sixteen writes, and wait for those of the chunk before. -/
theorem walk {q : PosShare TreeShare} {g : LenA} {f1 f2 : ChA F} :
    Before X q g f1 f2 ⊢ wpT X (cc0__pe_sc X.L (Memref.whole main_arg0_scv) (Memref.isWhole_whole _) (Memref.whole main_v0_scv) (Memref.isWhole_whole _) (Memref.whole main_v1_scv)
      (Memref.isWhole_whole _) (Memref.whole main_v2_0_scv) (Memref.isWhole_whole _) (Memref.whole main_v2_1_scv) (Memref.isWhole_whole _) (Memref.whole
      cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7
      cc0_scoped0 cc0_scoped1 cc0_scoped2 cc0_scoped3 cc0_scoped4 cc0_scoped5 cc0_scoped6 cc0_scoped7 cc0_scoped8 cc0_scoped9 cc0_scoped10 cc0_scoped11
      cc0_scoped12 cc0_scoped13 cc0_scoped14 cc0_scoped15 cc0_scoped16 cc0_scoped17 cc0_scoped18 cc0_scoped19 cc0_scoped20 cc0_scoped21 cc0_scoped22
      cc0_scoped23 cc0_scoped24 cc0_scoped25 cc0_scoped26 cc0_scoped27 cc0_scoped28 cc0_scoped29 cc0_scoped30 cc0_scoped31 cc0_scoped32 cc0_scoped33
      cc0_scoped34 cc0_scoped35 cc0_scoped36 cc0_scoped37 cc0_scoped38 cc0_scoped39 cc0_scoped40 cc0_scoped41 cc0_scoped42 cc0_scoped43 cc0_scoped44
      cc0_scoped45 cc0_scoped46 cc0_scoped47 cc0_scoped48 cc0_scoped49 cc0_scoped50 cc0_scoped51 cc0_scoped52 cc0_scoped53 cc0_scoped54 cc0_scoped55
      cc0_scoped56 cc0_scoped57 cc0_scoped58 cc0_scoped59 cc0_scoped60 cc0_scoped61 cc0_scoped62 cc0_scoped63 cc0_scoped64 cc0_scoped65 cc0_scoped66
      cc0_scoped67 cc0_scoped68 cc0_scoped69 cc0_scoped70 cc0_scoped71 cc0_scoped72 cc0_scoped73 cc0_scoped74 cc0_scoped75 cc0_scoped76 cc0_scoped77
      cc0_scoped78 cc0_scoped79 cc0_scoped80 cc0_scoped81 cc0_scoped82 cc0_scoped83 cc0_scoped84 cc0_scoped85 cc0_scoped86 cc0_scoped87 cc0_scoped88
      cc0_scoped89 cc0_scoped90 cc0_scoped91 cc0_scoped92 cc0_scoped93 cc0_scoped94 cc0_scoped95 cc0_scoped96 cc0_scoped97 cc0_scoped98 cc0_scoped99
      cc0_scoped100 cc0_scoped101 cc0_scoped102 cc0_scoped103 cc0_scoped104 cc0_scoped105 cc0_scoped106 cc0_scoped107 cc0_scoped108 cc0_scoped109
      cc0_scoped110 cc0_scoped111 cc0_scoped112 cc0_scoped113 cc0_scoped114 cc0_scoped115 cc0_scoped116 cc0_scoped117 cc0_scoped118 cc0_scoped119
      cc0_scoped120 cc0_scoped121 cc0_scoped122 cc0_scoped123 cc0_scoped124 cc0_scoped125 cc0_scoped126 cc0_scoped127 cc0_scoped128 cc0_scoped129
      cc0_scoped130 cc0_scoped131 cc0_scoped132 cc0_scoped133 cc0_scoped134 cc0_scoped135 cc0_scoped136 cc0_scoped137 cc0_scoped138 cc0_scoped139
      cc0_scoped140 cc0_scoped141 cc0_scoped142 cc0_scoped143 cc0_scoped144 cc0_scoped145) (fun _ => After X q) := by
  rw [cc0__pe_sc_eq_skeleton]
  refine enter ?_
  rw [k0_part53_eq_skeleton]
  refine enter ?_
  rw [k0_part1_eq_skeleton]
  refine begins (by decide) (by decide) ?_
  iterate 2 (refine pos_loop ?_ (by decide) (by decide); refine pos_copy ?_ (by decide) (by decide))
  refine leave ?_
  refine enter ?_
  rw [k0_part2_eq_skeleton]
  iterate 3 (refine pos_loop ?_ (by decide) (by decide); refine pos_copy ?_ (by decide) (by decide))
  refine pos_loop ?_ (by decide) (by decide)
  refine leave ?_
  refine enter ?_
  rw [k0_part3_eq_skeleton]
  iterate 3 (refine pos_copy ?_ (by decide) (by decide); refine pos_loop ?_ (by decide) (by decide))
  refine pos_copy ?_ (by decide) (by decide)
  refine leave ?_
  refine enter ?_
  rw [k0_part4_eq_skeleton]
  iterate 3 (refine pos_loop ?_ (by decide) (by decide); refine pos_copy ?_ (by decide) (by decide))
  refine pos_loop ?_ (by decide) (by decide)
  refine leave ?_
  refine enter ?_
  rw [k0_part5_eq_skeleton]
  iterate 3 (refine pos_copy ?_ (by decide) (by decide); refine pos_loop ?_ (by decide) (by decide))
  refine pos_copy ?_ (by decide) (by decide)
  refine first_turn ?_
  refine leave ?_
  refine enter ?_
  rw [k0_part6_eq_skeleton]
  refine first_wait ?_
  iterate 4 (refine check false (fun _ => ?_) (by decide) fun h => h; refine merge false ?_ (by decide) (by decide) (word_eq X _ (by decide) (by decide)) (by decide) (by decide))
  refine leave ?_
  refine enter ?_
  rw [k0_part7_eq_skeleton]
  iterate 4 (refine check false (fun _ => ?_) (by decide) fun h => h; refine merge false ?_ (by decide) (by decide) (word_eq X _ (by decide) (by decide)) (by decide) (by decide))
  refine check false (fun _ => ?_) (by decide) fun h => h
  refine leave ?_
  refine enter ?_
  rw [k0_part8_eq_skeleton]
  iterate 5 (refine merge false ?_ (by decide) (by decide) (word_eq X _ (by decide) (by decide)) (by decide) (by decide); refine check false (fun _ => ?_) (by decide) fun h => h)
  refine leave ?_
  refine enter ?_
  rw [k0_part9_eq_skeleton]
  iterate 2 (refine merge false ?_ (by decide) (by decide) (word_eq X _ (by decide) (by decide)) (by decide) (by decide); refine check false (fun _ => ?_) (by decide) fun h => h)
  refine merge false ?_ (by decide) (by decide) (word_eq X _ (by decide) (by decide)) (by decide) (by decide)
  refine first_start ?_
  refine issue_full false ?_ (by decide) (by decide) (word_eq X _ (by decide) (by decide))
  refine leave ?_
  refine enter ?_
  rw [k0_part10_eq_skeleton]
  iterate 4 (refine issue_empty false ?_ (by decide) (by decide) (word_eq X _ (by decide) (by decide)); refine issue_full false ?_ (by decide) (by decide) (word_eq X _ (by decide) (by decide)))
  refine leave ?_
  refine enter ?_
  rw [k0_part11_eq_skeleton]
  iterate 4 (refine issue_empty false ?_ (by decide) (by decide) (word_eq X _ (by decide) (by decide)); refine issue_full false ?_ (by decide) (by decide) (word_eq X _ (by decide) (by decide)))
  refine leave ?_
  refine enter ?_
  rw [k0_part12_eq_skeleton]
  iterate 4 (refine issue_empty false ?_ (by decide) (by decide) (word_eq X _ (by decide) (by decide)); refine issue_full false ?_ (by decide) (by decide) (word_eq X _ (by decide) (by decide)))
  refine leave ?_
  refine enter ?_
  rw [k0_part13_eq_skeleton]
  iterate 3 (refine issue_empty false ?_ (by decide) (by decide) (word_eq X _ (by decide) (by decide)); refine issue_full false ?_ (by decide) (by decide) (word_eq X _ (by decide) (by decide)))
  refine issue_empty false ?_ (by decide) (by decide) (word_eq X _ (by decide) (by decide))
  refine next_wait true false (by decide) ?_
  refine leave ?_
  refine enter ?_
  rw [k0_part14_eq_skeleton]
  iterate 4 (refine check true (fun _ => ?_) (by decide) fun h => h; refine merge true ?_ (by decide) (by decide) (word_eq X _ (by decide) (by decide)) (by decide) (by decide))
  refine check true (fun _ => ?_) (by decide) fun h => h
  refine leave ?_
  refine enter ?_
  rw [k0_part15_eq_skeleton]
  iterate 5 (refine merge true ?_ (by decide) (by decide) (word_eq X _ (by decide) (by decide)) (by decide) (by decide); refine check true (fun _ => ?_) (by decide) fun h => h)
  refine leave ?_
  refine enter ?_
  rw [k0_part16_eq_skeleton]
  iterate 4 (refine merge true ?_ (by decide) (by decide) (word_eq X _ (by decide) (by decide)) (by decide) (by decide); refine check true (fun _ => ?_) (by decide) fun h => h)
  refine merge true ?_ (by decide) (by decide) (word_eq X _ (by decide) (by decide)) (by decide) (by decide)
  refine leave ?_
  refine enter ?_
  rw [k0_part17_eq_skeleton]
  iterate 2 (refine check true (fun _ => ?_) (by decide) fun h => h; refine merge true ?_ (by decide) (by decide) (word_eq X _ (by decide) (by decide)) (by decide) (by decide))
  refine next_drain true false ?_
  refine drain_full false ?_ (by decide) (word_eq X _ (by decide) (by decide))
  refine drain_empty false ?_ (by decide) (word_eq X _ (by decide) (by decide))
  refine drain_full false ?_ (by decide) (word_eq X _ (by decide) (by decide))
  refine leave ?_
  refine enter ?_
  rw [k0_part18_eq_skeleton]
  iterate 4 (refine drain_empty false ?_ (by decide) (word_eq X _ (by decide) (by decide)); refine drain_full false ?_ (by decide) (word_eq X _ (by decide) (by decide)))
  refine leave ?_
  refine enter ?_
  rw [k0_part19_eq_skeleton]
  iterate 4 (refine drain_empty false ?_ (by decide) (word_eq X _ (by decide) (by decide)); refine drain_full false ?_ (by decide) (word_eq X _ (by decide) (by decide)))
  refine leave ?_
  refine enter ?_
  rw [k0_part20_eq_skeleton]
  iterate 4 (refine drain_empty false ?_ (by decide) (word_eq X _ (by decide) (by decide)); refine drain_full false ?_ (by decide) (word_eq X _ (by decide) (by decide)))
  refine leave ?_
  refine enter ?_
  rw [k0_part21_eq_skeleton]
  iterate 2 (refine drain_empty false ?_ (by decide) (word_eq X _ (by decide) (by decide)); refine drain_full false ?_ (by decide) (word_eq X _ (by decide) (by decide)))
  refine drain_empty false ?_ (by decide) (word_eq X _ (by decide) (by decide))
  refine next_start true false (by decide) ?_
  refine issue_full true ?_ (by decide) (by decide) (word_eq X _ (by decide) (by decide))
  refine issue_empty true ?_ (by decide) (by decide) (word_eq X _ (by decide) (by decide))
  refine leave ?_
  refine enter ?_
  rw [k0_part22_eq_skeleton]
  iterate 4 (refine issue_full true ?_ (by decide) (by decide) (word_eq X _ (by decide) (by decide)); refine issue_empty true ?_ (by decide) (by decide) (word_eq X _ (by decide) (by decide)))
  refine leave ?_
  refine enter ?_
  rw [k0_part23_eq_skeleton]
  iterate 4 (refine issue_full true ?_ (by decide) (by decide) (word_eq X _ (by decide) (by decide)); refine issue_empty true ?_ (by decide) (by decide) (word_eq X _ (by decide) (by decide)))
  refine leave ?_
  refine enter ?_
  rw [k0_part24_eq_skeleton]
  iterate 4 (refine issue_full true ?_ (by decide) (by decide) (word_eq X _ (by decide) (by decide)); refine issue_empty true ?_ (by decide) (by decide) (word_eq X _ (by decide) (by decide)))
  refine leave ?_
  refine enter ?_
  rw [k0_part25_eq_skeleton]
  iterate 3 (refine issue_full true ?_ (by decide) (by decide) (word_eq X _ (by decide) (by decide)); refine issue_empty true ?_ (by decide) (by decide) (word_eq X _ (by decide) (by decide)))
  refine next_wait false true (by decide) ?_
  refine check false (fun _ => ?_) (by decide) fun h => h
  refine leave ?_
  refine enter ?_
  rw [k0_part26_eq_skeleton]
  iterate 4 (refine merge false ?_ (by decide) (by decide) (word_eq X _ (by decide) (by decide)) (by decide) (by decide); refine check false (fun _ => ?_) (by decide) fun h => h)
  refine merge false ?_ (by decide) (by decide) (word_eq X _ (by decide) (by decide)) (by decide) (by decide)
  refine leave ?_
  refine enter ?_
  rw [k0_part27_eq_skeleton]
  iterate 4 (refine check false (fun _ => ?_) (by decide) fun h => h; refine merge false ?_ (by decide) (by decide) (word_eq X _ (by decide) (by decide)) (by decide) (by decide))
  refine check false (fun _ => ?_) (by decide) fun h => h
  refine leave ?_
  refine enter ?_
  rw [k0_part28_eq_skeleton]
  iterate 5 (refine merge false ?_ (by decide) (by decide) (word_eq X _ (by decide) (by decide)) (by decide) (by decide); refine check false (fun _ => ?_) (by decide) fun h => h)
  refine leave ?_
  refine enter ?_
  rw [k0_part29_eq_skeleton]
  refine merge false ?_ (by decide) (by decide) (word_eq X _ (by decide) (by decide)) (by decide) (by decide)
  refine check false (fun _ => ?_) (by decide) fun h => h
  refine merge false ?_ (by decide) (by decide) (word_eq X _ (by decide) (by decide)) (by decide) (by decide)
  refine next_drain false true ?_
  iterate 2 (refine drain_full true ?_ (by decide) (word_eq X _ (by decide) (by decide)); refine drain_empty true ?_ (by decide) (word_eq X _ (by decide) (by decide)))
  refine leave ?_
  refine enter ?_
  rw [k0_part30_eq_skeleton]
  iterate 4 (refine drain_full true ?_ (by decide) (word_eq X _ (by decide) (by decide)); refine drain_empty true ?_ (by decide) (word_eq X _ (by decide) (by decide)))
  refine leave ?_
  refine enter ?_
  rw [k0_part31_eq_skeleton]
  iterate 4 (refine drain_full true ?_ (by decide) (word_eq X _ (by decide) (by decide)); refine drain_empty true ?_ (by decide) (word_eq X _ (by decide) (by decide)))
  refine leave ?_
  refine enter ?_
  rw [k0_part32_eq_skeleton]
  iterate 4 (refine drain_full true ?_ (by decide) (word_eq X _ (by decide) (by decide)); refine drain_empty true ?_ (by decide) (word_eq X _ (by decide) (by decide)))
  refine leave ?_
  refine enter ?_
  rw [k0_part33_eq_skeleton]
  iterate 2 (refine drain_full true ?_ (by decide) (word_eq X _ (by decide) (by decide)); refine drain_empty true ?_ (by decide) (word_eq X _ (by decide) (by decide)))
  refine next_start false true (by decide) ?_
  refine issue_full false ?_ (by decide) (by decide) (word_eq X _ (by decide) (by decide))
  refine issue_empty false ?_ (by decide) (by decide) (word_eq X _ (by decide) (by decide))
  refine leave ?_
  refine enter ?_
  rw [k0_part34_eq_skeleton]
  iterate 4 (refine issue_full false ?_ (by decide) (by decide) (word_eq X _ (by decide) (by decide)); refine issue_empty false ?_ (by decide) (by decide) (word_eq X _ (by decide) (by decide)))
  refine leave ?_
  refine enter ?_
  rw [k0_part35_eq_skeleton]
  iterate 4 (refine issue_full false ?_ (by decide) (by decide) (word_eq X _ (by decide) (by decide)); refine issue_empty false ?_ (by decide) (by decide) (word_eq X _ (by decide) (by decide)))
  refine leave ?_
  refine enter ?_
  rw [k0_part36_eq_skeleton]
  iterate 4 (refine issue_full false ?_ (by decide) (by decide) (word_eq X _ (by decide) (by decide)); refine issue_empty false ?_ (by decide) (by decide) (word_eq X _ (by decide) (by decide)))
  refine leave ?_
  refine enter ?_
  rw [k0_part37_eq_skeleton]
  iterate 3 (refine issue_full false ?_ (by decide) (by decide) (word_eq X _ (by decide) (by decide)); refine issue_empty false ?_ (by decide) (by decide) (word_eq X _ (by decide) (by decide)))
  refine next_wait true false (by decide) ?_
  refine check true (fun _ => ?_) (by decide) fun h => h
  refine leave ?_
  refine enter ?_
  rw [k0_part38_eq_skeleton]
  iterate 5 (refine merge true ?_ (by decide) (by decide) (word_eq X _ (by decide) (by decide)) (by decide) (by decide); refine check true (fun _ => ?_) (by decide) fun h => h)
  refine leave ?_
  refine enter ?_
  rw [k0_part39_eq_skeleton]
  iterate 4 (refine merge true ?_ (by decide) (by decide) (word_eq X _ (by decide) (by decide)) (by decide) (by decide); refine check true (fun _ => ?_) (by decide) fun h => h)
  refine merge true ?_ (by decide) (by decide) (word_eq X _ (by decide) (by decide)) (by decide) (by decide)
  refine leave ?_
  refine enter ?_
  rw [k0_part40_eq_skeleton]
  iterate 4 (refine check true (fun _ => ?_) (by decide) fun h => h; refine merge true ?_ (by decide) (by decide) (word_eq X _ (by decide) (by decide)) (by decide) (by decide))
  refine check true (fun _ => ?_) (by decide) fun h => h
  refine leave ?_
  refine enter ?_
  rw [k0_part41_eq_skeleton]
  refine merge true ?_ (by decide) (by decide) (word_eq X _ (by decide) (by decide)) (by decide) (by decide)
  refine check true (fun _ => ?_) (by decide) fun h => h
  refine merge true ?_ (by decide) (by decide) (word_eq X _ (by decide) (by decide)) (by decide) (by decide)
  refine next_drain true false ?_
  iterate 2 (refine drain_full false ?_ (by decide) (word_eq X _ (by decide) (by decide)); refine drain_empty false ?_ (by decide) (word_eq X _ (by decide) (by decide)))
  refine leave ?_
  refine enter ?_
  rw [k0_part42_eq_skeleton]
  iterate 4 (refine drain_full false ?_ (by decide) (word_eq X _ (by decide) (by decide)); refine drain_empty false ?_ (by decide) (word_eq X _ (by decide) (by decide)))
  refine leave ?_
  refine enter ?_
  rw [k0_part43_eq_skeleton]
  iterate 4 (refine drain_full false ?_ (by decide) (word_eq X _ (by decide) (by decide)); refine drain_empty false ?_ (by decide) (word_eq X _ (by decide) (by decide)))
  refine leave ?_
  refine enter ?_
  rw [k0_part44_eq_skeleton]
  iterate 4 (refine drain_full false ?_ (by decide) (word_eq X _ (by decide) (by decide)); refine drain_empty false ?_ (by decide) (word_eq X _ (by decide) (by decide)))
  refine leave ?_
  refine enter ?_
  rw [k0_part45_eq_skeleton]
  iterate 2 (refine drain_full false ?_ (by decide) (word_eq X _ (by decide) (by decide)); refine drain_empty false ?_ (by decide) (word_eq X _ (by decide) (by decide)))
  refine last_start true false ?_
  iterate 2 (refine issue_full true ?_ (by decide) (by decide) (word_eq X _ (by decide) (by decide)); refine issue_empty true ?_ (by decide) (by decide) (word_eq X _ (by decide) (by decide)))
  refine leave ?_
  refine enter ?_
  rw [k0_part46_eq_skeleton]
  iterate 4 (refine issue_full true ?_ (by decide) (by decide) (word_eq X _ (by decide) (by decide)); refine issue_empty true ?_ (by decide) (by decide) (word_eq X _ (by decide) (by decide)))
  refine leave ?_
  refine enter ?_
  rw [k0_part47_eq_skeleton]
  iterate 4 (refine issue_full true ?_ (by decide) (by decide) (word_eq X _ (by decide) (by decide)); refine issue_empty true ?_ (by decide) (by decide) (word_eq X _ (by decide) (by decide)))
  refine leave ?_
  refine enter ?_
  rw [k0_part48_eq_skeleton]
  iterate 4 (refine issue_full true ?_ (by decide) (by decide) (word_eq X _ (by decide) (by decide)); refine issue_empty true ?_ (by decide) (by decide) (word_eq X _ (by decide) (by decide)))
  refine leave ?_
  refine enter ?_
  rw [k0_part49_eq_skeleton]
  iterate 2 (refine issue_full true ?_ (by decide) (by decide) (word_eq X _ (by decide) (by decide)); refine issue_empty true ?_ (by decide) (by decide) (word_eq X _ (by decide) (by decide)))
  refine last_drain true ?_
  iterate 2 (refine drain_full true ?_ (by decide) (word_eq X _ (by decide) (by decide)); refine drain_empty true ?_ (by decide) (word_eq X _ (by decide) (by decide)))
  refine leave ?_
  refine enter ?_
  rw [k0_part50_eq_skeleton]
  iterate 4 (refine drain_full true ?_ (by decide) (word_eq X _ (by decide) (by decide)); refine drain_empty true ?_ (by decide) (word_eq X _ (by decide) (by decide)))
  refine leave ?_
  refine enter ?_
  rw [k0_part51_eq_skeleton]
  iterate 4 (refine drain_full true ?_ (by decide) (word_eq X _ (by decide) (by decide)); refine drain_empty true ?_ (by decide) (word_eq X _ (by decide) (by decide)))
  refine leave ?_
  refine enter ?_
  rw [k0_part52_eq_skeleton]
  iterate 4 (refine drain_full true ?_ (by decide) (word_eq X _ (by decide) (by decide)); refine drain_empty true ?_ (by decide) (word_eq X _ (by decide) (by decide)))
  refine leave ?_
  refine leave ?_
  iterate 2 (refine drain_full true ?_ (by decide) (word_eq X _ (by decide) (by decide)); refine drain_empty true ?_ (by decide) (word_eq X _ (by decide) (by decide)))
  refine last_done true false ?_
  exact leave ends

end Cert.Proof.Tile

end
-- ==== Proof.Parts.lean ====
/-
  One tile's task from the launch's hands back to them, and the arrays cut into the tiles' blocks.
-/
module

public import proofs.«01_k».proof.Proof.Walk

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx

variable {F : FTy → Type} [FloatOps F]

local notation "𝕄" => MT nD τ sig (HIx 1) (Elt F) ℕ UU ℕ

/-! ## One tile's task, from what the launch gives it to what it hands back -/

/-- What a tile is given: its share of the lengths and of the zeros, its rows of the table, and its blocks of the results. -/
def Gives (X : Task F) (q : PosShare TreeShare) : sProp 𝕄 :=
  iprop(lenTok X q ∗ zerTok X q ∗ (bigSep (Finset.range 4) (cPre X)) ∗ bigSep (Finset.range 16) (posPre X))
/-- What it hands back: the same, the blocks of the results holding their values. -/
def Back (X : Task F) (q : PosShare TreeShare) : sProp 𝕄 :=
  iprop(lenTok X q ∗ zerTok X q ∗ (bigSep (Finset.range 4) (cEnd X)) ∗ bigSep (Finset.range 16) (posEnd X))

instance gives_storable (X : Task F) (q : PosShare TreeShare) : BI.Storable (upEmb : UEmb _ 𝕄) (Gives X q) := by
  unfold Gives lenTok zerTok cPre posPre tPart ePre; infer_instance
instance back_storable (X : Task F) (q : PosShare TreeShare) : BI.Storable (upEmb : UEmb _ 𝕄) (Back X q) := by
  unfold Back lenTok zerTok cEnd posEnd tPart eEnd; infer_instance

theorem bank_start (X : Task F) : (bigSep (Finset.range 4) (cPre X) : sProp 𝕄) ⊢ Bank X 0 0 := by
  unfold Bank
  rw [show Finset.Ico 0 4 = Finset.range 4 by decide, show Finset.range 0 = ∅ by decide, bigSep_empty]
  iintro H
  isplitr; · iempintro
  iexact H
theorem bank_end (X : Task F) : Bank X 4 4 ⊢ (bigSep (Finset.range 4) (cEnd X) : sProp 𝕄) := by
  unfold Bank
  iintro ⟨H, -⟩
  iexact H

variable (d : Dev nD) (L : grid0.Coords)

/-- The tile's buffers that the task does not use. -/
abbrev others : Finset (DevRef τ sig) :=
  (((((ownRefs (τ := τ) (sig := sig) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4)

theorem own_bufs : (ownBufs (thr d L) : sProp 𝕄)
    = iprop((∃ f, sLen.view.loc (thr d L) ↦{fullShare} f) ∗ (∃ f, sTbA.view.loc (thr d L) ↦{fullShare} f) ∗ (∃ f, sTbB.view.loc (thr d L) ↦{fullShare} f)
      ∗ (∃ f, sZer.view.loc (thr d L) ↦{fullShare} f) ∗ (∃ f, sPos.view.loc (thr d L) ↦{fullShare} f)
      ∗ bigSep (others L) fun b => iprop(∃ f, ((d, b) : Loc nD τ sig) ↦{fullShare} f)) := by
  have hne {r r' : Ref sig .scVector} (h : r ≠ r') : (Proc.scVector (cV L) (jV L)).devRef r ≠ (Proc.scVector (cV L) (jV L)).devRef r' :=
    fun e => h (Proc.devRef_injective _ e)
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨hne (r := cc0_scratch1) (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (r := cc0_scratch2) (by decide), Finset.mem_erase.mpr ⟨hne (r := cc0_scratch2) (by decide),
      SparseCore.Cfg.mem_ownRefs_of_owner (p := Proc.scVector (cV L) (jV L)) (b := (Proc.scVector (cV L) (jV L)).devRef cc0_scratch2) rfl⟩⟩),
    SparseCore.bigSep_erase' (Finset.mem_erase.mpr ⟨hne (r := cc0_scratch3) (by decide), Finset.mem_erase.mpr ⟨hne (r := cc0_scratch3) (by decide),
      Finset.mem_erase.mpr ⟨hne (r := cc0_scratch3) (by decide),
      SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨hne (r := cc0_scratch4) (by decide), Finset.mem_erase.mpr ⟨hne (r := cc0_scratch4) (by decide),
      Finset.mem_erase.mpr ⟨hne (r := cc0_scratch4) (by decide), Finset.mem_erase.mpr ⟨hne (r := cc0_scratch4) (by decide),
      SparseCore.Cfg.mem_ownRefs_of_owner (p := Proc.scVector (cV L) (jV L)) (b := (Proc.scVector (cV L) (jV L)).devRef cc0_scratch4) rfl⟩⟩⟩⟩)]

theorem own_sems (X : Task F) : (ownSems0 (Val := Elt F) X.t : sProp 𝕄)
    = iprop(semVal X.gL 0 ∗ sv X false ∗ sv X true ∗ bigSep X.cells fun g => semVal g 0) := by
  unfold SparseCore.Cfg.ownSems0
  have hm (s : SemLoc sig) (h : s.isScoped .scVector = true) : ((X.t, s) : GSem nD τ sig) ∈ ownCells X.t := (mem_ownCells (g := (X.t, s))).mpr ⟨rfl, h⟩
  have hne {s s' : SemLoc sig} (h : s ≠ s') : ((X.t, s) : GSem nD τ sig) ≠ (X.t, s') := fun e => h (Prod.mk.inj e).2
  rw [SparseCore.bigSep_erase' (hm (.dma cc0_scratch5.sem) (by decide)),
    SparseCore.bigSep_erase' (Finset.mem_erase.mpr ⟨hne (by decide), hm (.dma cc0_scratch6.sem) (by decide)⟩),
    SparseCore.bigSep_erase' (Finset.mem_erase.mpr ⟨hne (by decide), Finset.mem_erase.mpr ⟨hne (by decide), hm (.dma cc0_scratch7.sem) (by decide)⟩⟩)]
  rfl

theorem tile_start (X : Task F) (q : PosShare TreeShare) :
    iprop(Gives X q ∗ ownBufs X.t ∗ ownSems0 X.t ∗ levAts (K (F := F)).L (K (F := F)).lev ∗ owes X.t X.O X.W)
      ⊢ iprop(∃ (g : LenA) (f1 f2 : ChA F), Before X q g f1 f2
        ∗ bigSep (others X.L) fun b => (iprop(∃ f, ((X.d, b) : Loc nD τ sig) ↦{fullShare} f) : sProp 𝕄)) := by
  rw [show (ownBufs X.t : sProp 𝕄) = _ from own_bufs X.d X.L, own_sems]
  unfold Gives
  iintro ⟨⟨Hln, Hzr, Hc, Hp⟩, ⟨⟨%g, B0⟩, ⟨%f1, B1⟩, ⟨%f2, B2⟩, ⟨%f3, B3⟩, ⟨%f4, B4⟩, Hrest⟩, ⟨S0, S1, S2, Hcells⟩, #Hlev, Ho⟩
  iexists g, f1, f2
  isplitr [Hrest]
  · unfold Before
    isplitl [Hln]; · iexact Hln
    isplitl [B0]; · unfold LenAt; iexact B0
    isplitl [Hcells Ho]
    · unfold Own Owed
      rw [Finset.sdiff_empty]
      isplitl [Ho]
      · isplitr; · iexact Hlev
        iexists X.W
        isplitr; · ipureintro; exact fun p hp => Or.inl hp
        iexact Ho
      iexact Hcells
    isplitl [Hzr]; · iexact Hzr
    isplitl [B3]; · unfold ZerAny; iexists f3; iexact B3
    isplitl [S0]; · iexact S0
    isplitl [S1]; · iexact S1
    isplitl [S2]; · iexact S2
    isplitl [B1]; · unfold At; iexact B1
    isplitl [B2]; · unfold At; iexact B2
    isplitl [B4]; · unfold PosAny; iexists f4; iexact B4
    isplitl [Hp]; · rw [upto_zero]; iexact Hp
    iapply (bank_start X) $$ Hc
  iexact Hrest

theorem tile_end (X : Task F) (q : PosShare TreeShare) :
    iprop(After X q ∗ bigSep (others X.L) fun b => (iprop(∃ f, ((X.d, b) : Loc nD τ sig) ↦{fullShare} f) : sProp 𝕄))
      ⊢ iprop(Back X q ∗ ownBufs X.t ∗ ownSems0 X.t ∗ ∃ W', ⌜∀ p ∈ W', p ∈ X.W ∨ p.2 = none⌝ ∗ owes X.t X.O W') := by
  rw [show (ownBufs X.t : sProp 𝕄) = _ from own_bufs X.d X.L, own_sems]
  unfold After Own Owed
  rw [Finset.sdiff_empty, upto_all]
  iintro ⟨⟨%f1, %f2, Hln, B0, ⟨⟨-, Ho⟩, Hcells⟩, Hzr, B3, S0, S1, S2, B1, B2, B4, Hp, Hc⟩, Hrest⟩
  unfold Back
  isplitl [Hln Hzr Hp Hc]
  · isplitl [Hln]; · iexact Hln
    isplitl [Hzr]; · iexact Hzr
    isplitl [Hc]; · iapply (bank_end X) $$ Hc
    iexact Hp
  isplitl [B0 B1 B2 B3 B4 Hrest]
  · unfold LenAt ZerAt PosAny At
    icases B4 with ⟨%f4, B4⟩
    isplitl [B0]; · iexists _; iexact B0
    isplitl [B1]; · iexists _; iexact B1
    isplitl [B2]; · iexists _; iexact B2
    isplitl [B3]; · iexists _; iexact B3
    isplitl [B4]; · iexists _; iexact B4
    iexact Hrest
  isplitl [S0 S1 S2 Hcells]
  · isplitl [S0]; · iexact S0
    isplitl [S1]; · iexact S1
    isplitl [S2]; · iexact S2
    iexact Hcells
  iexact Ho

/-- The kernel's program on the tile at `L`. -/
abbrev prog (L : grid0.Coords) :=
  cc0__pe_sc (F := F) L
    (Memref.whole main_arg0_scv) (Memref.isWhole_whole _) (Memref.whole main_v0_scv) (Memref.isWhole_whole _) (Memref.whole main_v1_scv)
    (Memref.isWhole_whole _) (Memref.whole main_v2_0_scv) (Memref.isWhole_whole _) (Memref.whole main_v2_1_scv) (Memref.isWhole_whole _)
    (Memref.whole cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _) cc0_scratch5
    cc0_scratch6 cc0_scratch7 cc0_scoped0 cc0_scoped1 cc0_scoped2 cc0_scoped3 cc0_scoped4 cc0_scoped5 cc0_scoped6 cc0_scoped7 cc0_scoped8 cc0_scoped9
    cc0_scoped10 cc0_scoped11 cc0_scoped12 cc0_scoped13 cc0_scoped14 cc0_scoped15 cc0_scoped16 cc0_scoped17 cc0_scoped18 cc0_scoped19 cc0_scoped20
    cc0_scoped21 cc0_scoped22 cc0_scoped23 cc0_scoped24 cc0_scoped25 cc0_scoped26 cc0_scoped27 cc0_scoped28 cc0_scoped29 cc0_scoped30 cc0_scoped31
    cc0_scoped32 cc0_scoped33 cc0_scoped34 cc0_scoped35 cc0_scoped36 cc0_scoped37 cc0_scoped38 cc0_scoped39 cc0_scoped40 cc0_scoped41 cc0_scoped42
    cc0_scoped43 cc0_scoped44 cc0_scoped45 cc0_scoped46 cc0_scoped47 cc0_scoped48 cc0_scoped49 cc0_scoped50 cc0_scoped51 cc0_scoped52 cc0_scoped53
    cc0_scoped54 cc0_scoped55 cc0_scoped56 cc0_scoped57 cc0_scoped58 cc0_scoped59 cc0_scoped60 cc0_scoped61 cc0_scoped62 cc0_scoped63 cc0_scoped64
    cc0_scoped65 cc0_scoped66 cc0_scoped67 cc0_scoped68 cc0_scoped69 cc0_scoped70 cc0_scoped71 cc0_scoped72 cc0_scoped73 cc0_scoped74 cc0_scoped75
    cc0_scoped76 cc0_scoped77 cc0_scoped78 cc0_scoped79 cc0_scoped80 cc0_scoped81 cc0_scoped82 cc0_scoped83 cc0_scoped84 cc0_scoped85 cc0_scoped86
    cc0_scoped87 cc0_scoped88 cc0_scoped89 cc0_scoped90 cc0_scoped91 cc0_scoped92 cc0_scoped93 cc0_scoped94 cc0_scoped95 cc0_scoped96 cc0_scoped97
    cc0_scoped98 cc0_scoped99 cc0_scoped100 cc0_scoped101 cc0_scoped102 cc0_scoped103 cc0_scoped104 cc0_scoped105 cc0_scoped106 cc0_scoped107
    cc0_scoped108 cc0_scoped109 cc0_scoped110 cc0_scoped111 cc0_scoped112 cc0_scoped113 cc0_scoped114 cc0_scoped115 cc0_scoped116 cc0_scoped117
    cc0_scoped118 cc0_scoped119 cc0_scoped120 cc0_scoped121 cc0_scoped122 cc0_scoped123 cc0_scoped124 cc0_scoped125 cc0_scoped126 cc0_scoped127
    cc0_scoped128 cc0_scoped129 cc0_scoped130 cc0_scoped131 cc0_scoped132 cc0_scoped133 cc0_scoped134 cc0_scoped135 cc0_scoped136 cc0_scoped137
    cc0_scoped138 cc0_scoped139 cc0_scoped140 cc0_scoped141 cc0_scoped142 cc0_scoped143 cc0_scoped144 cc0_scoped145

theorem tile_run (X : Task F) (q : PosShare TreeShare) :
    iprop(Gives X q ∗ ownBufs X.t ∗ ownSems0 X.t ∗ levAts (K (F := F)).L (K (F := F)).lev ∗ owes X.t X.O X.W)
      ⊢ wpT X (prog X.L)
        fun _ => iprop(Back X q ∗ ownBufs X.t ∗ ownSems0 X.t ∗ ∃ W', ⌜∀ p ∈ W', p ∈ X.W ∨ p.2 = none⌝ ∗ owes X.t X.O W') := by
  refine (tile_start X q).trans ?_
  iintro ⟨%g, %f1, %f2, HB, HR⟩
  unfold wpT
  iapply (((sep_mono_left (walk (X := X) (q := q) (g := g) (f1 := f1) (f2 := f2))).trans (wp_frame_r frame _ _)).trans (wp_mono frame _ _ fun _ => tile_end X q)) $$ [HB HR]
  isplitl [HB]; · iexact HB
  iexact HR

/-! ## The arrays, cut into the tiles' blocks -/

/-- The coordinates of tile `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))
/-- The same of a pair. -/
abbrev co (t : Fin 2 × Fin 16) : grid0.Coords := coordsV t.1 t.2
/-- The share of an array that every tile reads which tile `i` of SparseCore `c` gets. -/
def tok (t : Fin 2 × Fin 16) : PosShare TreeShare := shareTok (shareTok fullShare 2 t.1) 16 t.2

theorem s0_co (c : ℕ) (t : Fin 2 × Fin 16) : s0 c (co t) = 256 * t.2.val + 128 * t.1.val + 32 * c := rfl
theorem pB_co (b : ℕ) (t : Fin 2 × Fin 16) : pB b (co t) = 4096 * b + 256 * t.2.val + 128 * t.1.val := rfl

theorem tile_ext {t u : Fin 2 × Fin 16} (h1 : t.1.val = u.1.val) (h2 : t.2.val = u.2.val) : t = u := Prod.ext (Fin.ext h1) (Fin.ext h2)

theorem eq_of_both {P Q : sProp (MT nD τ sig (HIx 1) (Elt F) ℕ UU ℕ)} (h : P ⊣⊢ Q) : P = Q := equiv_iff.mp ⟨h.1, h.2⟩

/-- What is left of an array that every tile reads, once each has its share. -/
def Left {ℓ : Loc nD τ sig} (f : Buf (Elt F) ℓ) : sProp 𝕄 :=
  iprop((ℓ ↦[Finset.univ]{shareDrop fullShare 2} f) ∗ bigSep Finset.univ fun c : Fin 2 => ℓ ↦[Finset.univ]{shareDrop (shareTok fullShare 2 c) 16} f)

theorem shares_eq {ℓ : Loc nD τ sig} (f : Buf (Elt F) ℓ) :
    (ℓ ↦[Finset.univ]{fullShare} f : sProp 𝕄) = iprop(Left f ∗ bigSep Finset.univ fun t : Fin 2 × Fin 16 => ℓ ↦[Finset.univ]{tok t} f) := by
  rw [bigSep_univ_prod, eq_of_both (pointsTo_toks (ℓ := ℓ) (S := Finset.univ) (f := f) fullShare 2)]
  rw [show (bigSep Finset.univ fun c : Fin 2 => (ℓ ↦[Finset.univ]{shareTok fullShare 2 c} f : sProp 𝕄)) = _ from
    bigSep_congr fun c _ => eq_of_both (pointsTo_toks (ℓ := ℓ) (S := Finset.univ) (f := f) (shareTok fullShare 2 c) 16), bigSep_sep']
  unfold Left
  exact (eq_of_both sep_assoc).symm

/-- An array held whole is its blocks, when every index lies in exactly one of them. -/
theorem blocks_eq {ι : Type} {ℓ : Loc nD τ sig} (U : Finset (Idx ℓ)) (s : Finset ι) (B : ι → Finset (Idx ℓ)) (f : Buf (Elt F) ℓ)
    (hU : ∀ j, j ∈ U) (hc : ∀ j, ∃ x ∈ s, j ∈ B x)
    (hd : ∀ x ∈ s, ∀ y ∈ s, ∀ j, j ∈ B x → j ∈ B y → x = y) :
    (ℓ ↦[U]{fullShare} f : sProp 𝕄) = bigSep s fun x => ℓ ↦[B x]{fullShare} f := by
  rw [← pointsTo_biUnion s B fun x hx y hy hne => Finset.disjoint_left.mpr fun j h1 h2 => hne (hd x hx y hy j h1 h2),
    show U = s.biUnion B from Finset.ext fun j => ⟨fun _ => Finset.mem_biUnion.mpr (hc j), fun _ => hU j⟩]

theorem tbl_cut (d : Dev nD) (f : TblA F) :
    (tblLoc d ↦[Finset.univ]{fullShare} f : sProp 𝕄)
      = bigSep Finset.univ fun t : Fin 2 × Fin 16 => bigSep (Finset.range 4) fun c => tblLoc d ↦[tBlk (s0 c (co t))]{fullShare} f := by
  rw [← SparseCore.bigSep_product (Finset.univ : Finset (Fin 2 × Fin 16)) (Finset.range 4) fun x => (tblLoc d ↦[tBlk (s0 x.2 (co x.1))]{fullShare} f : sProp 𝕄)]
  refine blocks_eq (ℓ := tblLoc d) _ _ (fun x : (Fin 2 × Fin 16) × ℕ => tBlk (s0 x.2 (co x.1))) f (fun j => Finset.mem_univ j) ?_ ?_
  · intro j
    have hj : (j 0).val < 4096 := (j 0).isLt
    refine ⟨((⟨(j 0).val / 128 % 2, by omega⟩, ⟨(j 0).val / 256, by omega⟩), (j 0).val / 32 % 4),
      Finset.mem_product.mpr ⟨Finset.mem_univ _, Finset.mem_range.mpr (by omega)⟩, ?_⟩
    rw [mem_tBlk, s0_co]; dsimp only; omega
  · rintro ⟨t, c⟩ h ⟨u, e⟩ h' j h1 h2
    have hc := Finset.mem_range.mp (Finset.mem_product.mp h).2; have he := Finset.mem_range.mp (Finset.mem_product.mp h').2
    dsimp only at hc he
    rw [mem_tBlk, s0_co] at h1 h2
    have := t.1.isLt; have := u.1.isLt
    dsimp only at h1 h2
    exact Prod.ext (tile_ext (show t.1.val = u.1.val by omega) (show t.2.val = u.2.val by omega)) (by show c = e; omega)

theorem emb_cut (d : Dev nD) (f : S16x4096x1024.Idx → F .f32) :
    (embLoc d ↦[Finset.univ]{fullShare} f : sProp 𝕄)
      = bigSep Finset.univ fun t : Fin 2 × Fin 16 => bigSep (Finset.range 4) fun c => bigSep (Finset.range 16) fun b =>
        embLoc d ↦[eBlk b (s0 c (co t))]{fullShare} f := by
  rw [show (bigSep Finset.univ fun t : Fin 2 × Fin 16 => bigSep (Finset.range 4) fun c => bigSep (Finset.range 16) fun b =>
        (embLoc d ↦[eBlk b (s0 c (co t))]{fullShare} f : sProp 𝕄)) = _ from bigSep_congr fun t _ => (SparseCore.bigSep_product (Finset.range 4) (Finset.range 16) fun y : ℕ × ℕ => (embLoc d ↦[eBlk y.2 (s0 y.1 (co t))]{fullShare} f : sProp 𝕄)).symm,
    ← SparseCore.bigSep_product (Finset.univ : Finset (Fin 2 × Fin 16)) (Finset.range 4 ×ˢ Finset.range 16) fun x => (embLoc d ↦[eBlk x.2.2 (s0 x.2.1 (co x.1))]{fullShare} f : sProp 𝕄)]
  refine blocks_eq (ℓ := embLoc d) _ _ (fun x : (Fin 2 × Fin 16) × (ℕ × ℕ) => eBlk x.2.2 (s0 x.2.1 (co x.1))) f (fun j => Finset.mem_univ j) ?_ ?_
  · intro j
    have hj : (j 1).val < 4096 := (j 1).isLt
    have hb : (j 0).val < 16 := (j 0).isLt
    refine ⟨((⟨(j 1).val / 128 % 2, by omega⟩, ⟨(j 1).val / 256, by omega⟩), ((j 1).val / 32 % 4, (j 0).val)),
      Finset.mem_product.mpr ⟨Finset.mem_univ _, Finset.mem_product.mpr ⟨Finset.mem_range.mpr (by dsimp only; omega), Finset.mem_range.mpr hb⟩⟩, ?_⟩
    rw [mem_eBlk, s0_co]; dsimp only; omega
  · rintro ⟨t, c, b⟩ h ⟨u, e, b'⟩ h' j h1 h2
    have hc := Finset.mem_range.mp (Finset.mem_product.mp (Finset.mem_product.mp h).2).1
    have he := Finset.mem_range.mp (Finset.mem_product.mp (Finset.mem_product.mp h').2).1
    dsimp only at hc he
    rw [mem_eBlk, s0_co] at h1 h2
    have := t.1.isLt; have := u.1.isLt
    dsimp only at h1 h2
    exact Prod.ext (tile_ext (show t.1.val = u.1.val by omega) (show t.2.val = u.2.val by omega)) (Prod.ext (by show c = e; omega) (by show b = b'; omega))

theorem pos_cut (d : Dev nD) (f : S65536.Idx → BitVec 32) :
    (posLoc d ↦[Finset.univ]{fullShare} f : sProp 𝕄)
      = bigSep Finset.univ fun t : Fin 2 × Fin 16 => bigSep (Finset.range 16) fun b => posLoc d ↦[pBlk (pB b (co t))]{fullShare} f := by
  rw [← SparseCore.bigSep_product (Finset.univ : Finset (Fin 2 × Fin 16)) (Finset.range 16) fun x => (posLoc d ↦[pBlk (pB x.2 (co x.1))]{fullShare} f : sProp 𝕄)]
  refine blocks_eq (ℓ := posLoc d) _ _ (fun x : (Fin 2 × Fin 16) × ℕ => pBlk (pB x.2 (co x.1))) f (fun j => Finset.mem_univ j) ?_ ?_
  · intro j
    have hj : (j 0).val < 65536 := (j 0).isLt
    refine ⟨((⟨(j 0).val / 128 % 2, by omega⟩, ⟨(j 0).val / 256 % 16, by omega⟩), (j 0).val / 4096),
      Finset.mem_product.mpr ⟨Finset.mem_univ _, Finset.mem_range.mpr (by dsimp only; omega)⟩, ?_⟩
    rw [mem_pBlk, pB_co]; dsimp only; omega
  · rintro ⟨t, b⟩ h ⟨u, b'⟩ h' j h1 h2
    rw [mem_pBlk, pB_co] at h1 h2
    have := t.1.isLt; have := u.1.isLt; have := t.2.isLt; have := u.2.isLt
    dsimp only at h1 h2
    exact Prod.ext (tile_ext (show t.1.val = u.1.val by omega) (show t.2.val = u.2.val by omega)) (by show b = b'; omega)

/-- Every tile's part of the arrays, the results holding `e` and `p`: the arrays the tiles read in shares, the others whole. -/
theorem tiles_eq (d : Dev nD) (ln : LenA) (tb : TblA F) (e : S16x4096x1024.Idx → F .f32) (p : S65536.Idx → BitVec 32) :
    (bigSep Finset.univ fun t : Fin 2 × Fin 16 => (iprop((lenLoc d ↦[Finset.univ]{tok t} ln) ∗ (zerLoc d ↦[Finset.univ]{tok t} (fun _ => Z : ChA F)) ∗
        (bigSep (Finset.range 4) fun c => iprop((tblLoc d ↦[tBlk (s0 c (co t))]{fullShare} tb) ∗
          bigSep (Finset.range 16) fun b => embLoc d ↦[eBlk b (s0 c (co t))]{fullShare} e)) ∗
        bigSep (Finset.range 16) fun b => posLoc d ↦[pBlk (pB b (co t))]{fullShare} p) : sProp 𝕄))
      = iprop((bigSep Finset.univ fun t : Fin 2 × Fin 16 => lenLoc d ↦[Finset.univ]{tok t} ln) ∗
        (bigSep Finset.univ fun t : Fin 2 × Fin 16 => zerLoc d ↦[Finset.univ]{tok t} (fun _ => Z : ChA F)) ∗
        ((tblLoc d ↦[Finset.univ]{fullShare} tb) ∗ embLoc d ↦[Finset.univ]{fullShare} e) ∗ posLoc d ↦[Finset.univ]{fullShare} p) := by
  rw [tbl_cut, emb_cut, pos_cut]
  simp only [bigSep_sep']

end Cert.Proof.Tile

end
-- ==== Proof.Launch.lean ====
/-
  The launch: what the handshakes carry, the host's program, and what the whole run leaves in memory.
-/
module

public import proofs.«01_k».proof.Proof.Parts

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers Idealize.ShloMosaic.ValueIdx Idealize.ShloMosaic.StableHlo

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- The lengths the program is given. -/
def lnV (d : Dev nD) : LenA := m (lenLoc d)
/-- The table without its first row. -/
def tbV (d : Dev nD) : TblA F :=
  extractStridedSlice S4096x1024 ![1, 0] (m (tabLoc d) : (⟨S4097x1024, .f32⟩ : BufTy).Contents (Elt F)) slices_S4097x1024_S4096x1024_1_0

/-- The task of the tile at `L`, when it owes `O` after waits `W`. -/
def task (d : Dev nD) (L : grid0.Coords) (O : CellTallies nD τ sig (HIx 1)) (W : Waits sig (HIx 1)) (hO : ∀ g, O g none = 0) : Task F :=
  { d := d, L := L, ln := lnV m d, tb := tbV m d, e0 := m (embLoc d), p0 := m (posLoc d), O := O, W := W, hO := hO }
/-- The same with nothing owed: for what it is given and hands back. -/
abbrev task₀ (d : Dev nD) (L : grid0.Coords) : Task F := task m d L 0 ∅ fun _ => rfl

/-- What the tile `t` is given, and what it hands back. -/
def giveT (d : Dev nD) (t : Fin 2 × Fin 16) : sProp 𝕄 := Gives (task₀ m d (co t)) (tok t)
def backT (d : Dev nD) (t : Fin 2 × Fin 16) : sProp 𝕄 := Back (task₀ m d (co t)) (tok t)
/-- The same for the sixteen tiles of SparseCore `c`. -/
def giveC (d : Dev nD) (c : Fin 2) : sProp 𝕄 := bigSep Finset.univ fun i : Fin 16 => giveT m d (c, i)
def backC (d : Dev nD) (c : Fin 2) : sProp 𝕄 := bigSep Finset.univ fun i : Fin 16 => backT m d (c, i)

instance giveT_storable (d : Dev nD) (t : Fin 2 × Fin 16) : BI.Storable (upEmb : UEmb _ 𝕄) (giveT m d t) := gives_storable _ _
instance backT_storable (d : Dev nD) (t : Fin 2 × Fin 16) : BI.Storable (upEmb : UEmb _ 𝕄) (backT m d t) := back_storable _ _
instance giveC_storable (d : Dev nD) (c : Fin 2) : BI.Storable (upEmb : UEmb _ 𝕄) (giveC m d c) := by unfold giveC; infer_instance
instance backC_storable (d : Dev nD) (c : Fin 2) : BI.Storable (upEmb : UEmb _ 𝕄) (backC m d c) := by unfold backC; infer_instance

def P : (K (F := F)).Pay (nD := nD) (Val := Elt F) (Name := ℕ) (U := UU) where
  st := fun q d c => match q with | 0 => giveC m d c
  dn := fun q d c => match q with | 0 => backC m d c
  go := fun q d c i => match q with | 0 => giveT m d (c, i)
  td := fun q d c i => match q with | 0 => backT m d (c, i)
  x := fun _ _ => iprop(emp)

instance P_storable : (P (F := F) m).IsStorable where
  st q d c := match q with | 0 => giveC_storable m d c
  dn q d c := match q with | 0 => backC_storable m d c
  go q d c i := match q with | 0 => giveT_storable m d (c, i)
  td q d c i := match q with | 0 => backT_storable m d (c, i)

/-! ## The obligations of the launch -/

theorem tile_body (d : Dev nD) (L : grid0.Coords) (q : PosShare TreeShare) (O : CellTallies nD τ sig (HIx 1)) (W : Waits sig (HIx 1)) (hO : ∀ g, O g none = 0) :
    iprop(levAts (K (F := F)).L (K (F := F)).lev ∗ emp ∗ Gives (task₀ m d L) q ∗ scopedBufs (thr d L) ∗ scopedSems0 (thr d L) ∗ owes (thr d L) O W)
      ⊢ wp frame (wpE (defs₀ (F := F)) 𝒱₀ (thr d L) none) Set.univ (prog L)
        fun _ => iprop(Back (task₀ m d L) q ∗ scopedBufs (thr d L) ∗ scopedSems0 (thr d L) ∗ ∃ W', ⌜∀ p ∈ W', p ∈ W ∨ p.2 = none⌝ ∗ owes (thr d L) O W') := by
  rw [show (scopedBufs (thr d L) : sProp 𝕄) = ownBufs (thr d L) from (K (F := F)).scopedBufs_V facts d (cV L) (jV L),
    show (scopedSems0 (Val := Elt F) (thr d L) : sProp 𝕄) = ownSems0 (thr d L) from SparseCore.Cfg.scopedSems0_V (Val := Elt F) d (cV L) (jV L)]
  refine BIBase.Entails.trans ?_ (tile_run (task m d L O W hO) q)
  iintro ⟨#Hlev, -, HG, HB, HS, Ho⟩
  isplitl [HG]; · iexact HG
  isplitl [HB]; · iexact HB
  isplitl [HS]; · iexact HS
  isplitr; · iexact Hlev
  iexact Ho

theorem defs₀_vector (c : Fin τ.nSC) (s : Fin τ.nSub) :
    defs₀ (F := F) (.scVector c s) 0 () = SparseCore.onTile hcore0 hsub0 (fun c s => prog (coordsV c s)) ⟨⟩ c s := rfl

/-- A task that recorded no wait of the call kept to it. -/
theorem obl_post {A B C : sProp (MT nD τ sig (HIx 1) (Elt F) ℕ UU ℕ)} {thr : Thread nD τ} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, Ho⟩
  iframe HA HB HC
  iexists W'
  isplitr
  · ipureintro; exact fun p hp => (hW p hp).imp_right Or.inl
  iexact Ho

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) (tok (c, i)) O W hO).trans (wp_mono frame _ _ fun _ => obl_post)

theorem split_self {A B : sProp (MT nD τ sig (HIx 1) (Elt F) ℕ UU ℕ)} : A ⊢ iprop(|={Set.univ}=> (A ∗ (B -∗ B))) := by
  iintro H
  imodintro
  isplitl [H]; · iexact H
  iintro H
  iexact H

theorem vecSplit : (K (F := F)).VecSplit' (P m) 0 := fun d c => split_self (A := giveC m d c) (B := backC m d c)

/-! ## The launch's ghost state -/

theorem nothings {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
      ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [nothings]; iempintro
  unfold P; dsimp only
  rw [show (bigSep Finset.univ fun _ : Thread nD τ => bigSep Finset.univ fun _ : Fin 1 => (iprop(emp) : sProp 𝕄)) = iprop(emp) from by
    rw [bigSep_congr fun _ _ => nothings _, nothings]]
  iempintro

/-! ## The host's program -/

/-- The host's arrays. -/
abbrev S8 : Finset (DevRef τ sig) :=
  {Proc.devRef .tc (main_arg0 : Ref sig .tc), Proc.devRef .tc (main_arg1 : Ref sig .tc), Proc.devRef .tc (main_v0 : Ref sig .tc),
    Proc.devRef .tc (main_cst : Ref sig .tc), Proc.devRef .tc (main_v1 : Ref sig .tc), Proc.devRef .tc (main_v2_0 : Ref sig .tc),
    Proc.devRef .tc (main_v2_1 : Ref sig .tc), Proc.devRef .tc (main_v3 : Ref sig .tc)}

abbrev cstLoc (d : Dev nD) : Loc nD τ sig := (SparseCore.T d).loc main_cst
abbrev outLoc (d : Dev nD) : Loc nD τ sig := (SparseCore.T d).loc main_v3

theorem held_eq (d : Dev nD) (V : Valuation τ sig (Elt F)) :
    (held (SparseCore.T d) S8 V : sProp 𝕄)
      = iprop((lenLoc d ↦{fullShare} V (Proc.devRef .tc main_arg0)) ∗ (tabLoc d ↦{fullShare} V (Proc.devRef .tc main_arg1))
        ∗ (tblLoc d ↦{fullShare} V (Proc.devRef .tc main_v0)) ∗ (cstLoc d ↦{fullShare} V (Proc.devRef .tc main_cst))
        ∗ (zerLoc d ↦{fullShare} V (Proc.devRef .tc main_v1)) ∗ (embLoc d ↦{fullShare} V (Proc.devRef .tc main_v2_0))
        ∗ (posLoc d ↦{fullShare} V (Proc.devRef .tc main_v2_1)) ∗ (outLoc d ↦{fullShare} V (Proc.devRef .tc main_v3))) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The contents at the launch. -/
def Vi (d : Dev nD) : Valuation τ sig (Elt F) := fun b => m (d, b)

theorem unscoped_held (d : Dev nD) : (unscopedBufs d (fun b => m ((SparseCore.T d).loc b)) : sProp 𝕄) = held (SparseCore.T d) S8 (Vi m d) := by
  rw [held_eq]
  unfold unscopedBufs
  rw [show (Finset.univ.filter fun b : Ref sig .tc => ¬ b.isScoped) = {main_arg0, main_arg1, main_v0, main_cst, main_v1, main_v2_0, main_v2_1, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- The host's operations: the table without its first row, the zero, the array of zeros, and the positions' reshape. -/
abbrev opS : HloOp τ sig (Elt F) := StableHlo.unary main_arg1 main_v0
  ((extractStridedSlice S4096x1024 ![1, 0] · slices_S4097x1024_S4096x1024_1_0) : (⟨S4097x1024, .f32⟩ : BufTy).Contents (Elt F) → (⟨S4096x1024, .f32⟩ : BufTy).Contents (Elt F))
abbrev opC : HloOp τ sig (Elt F) := StableHlo.nullary main_cst (constant S_ .f32 0x00000000#32)
abbrev opZ : HloOp τ sig (Elt F) := StableHlo.unary main_cst main_v1
  (broadcastInDim S32x1024 ![] bcast_S_S32x1024 : (⟨S_, .f32⟩ : BufTy).Contents (Elt F) → (⟨S32x1024, .f32⟩ : BufTy).Contents (Elt F))
abbrev opR : HloOp τ sig (Elt F) := StableHlo.reshape main_v2_1 main_v3 (rfl : (.i32 : EltTy) = .i32) shapeCasts_S65536_S16x4096

/-- The contents before the kernel, after it, and at the end. -/
def Vb (d : Dev nD) : Valuation τ sig (Elt F) := opZ.result (opC.result (opS.result (Vi m d)))
def Va (d : Dev nD) : Valuation τ sig (Elt F) :=
  Function.update (Function.update (Vb m d) (Proc.devRef .tc main_v2_0) (EV (lnV m d) (tbV m d))) (Proc.devRef .tc main_v2_1) (PV (lnV m d))
def Ve (d : Dev nD) : Valuation τ sig (Elt F) := opR.result (Va m d)

/-- The second result: the positions as a matrix. -/
def PosM (ln : LenA) : S16x4096.Idx → BitVec 32 := shapeCast S16x4096 (PV ln : S65536.Idx → BitVec 32) shapeCasts_S65536_S16x4096

theorem before_vals (d : Dev nD) : Vb m d (Proc.devRef .tc main_arg0) = lnV m d ∧ Vb m d (Proc.devRef .tc main_arg1) = m (tabLoc d)
    ∧ Vb m d (Proc.devRef .tc main_v0) = tbV m d ∧ Vb m d (Proc.devRef .tc main_v1) = (fun _ => Z : ChA F)
    ∧ Vb m d (Proc.devRef .tc main_v2_0) = m (embLoc d) ∧ Vb m d (Proc.devRef .tc main_v2_1) = m (posLoc d) := by
  have e {r : Ref sig .tc} (h0 : r ≠ main_v0) (h1 : r ≠ main_cst) (h2 : r ≠ main_v1) : Vb m d (Proc.devRef .tc r) = Vi m d (Proc.devRef .tc r) := by
    unfold Vb; rw [unary_result_ne _ _ _ _ _ _ h2, nullary_result_ne _ _ _ _ h1, unary_result_ne _ _ _ _ _ _ h0]
  refine ⟨e (by decide) (by decide) (by decide), e (by decide) (by decide) (by decide), ?_, ?_, e (by decide) (by decide) (by decide), e (by decide) (by decide) (by decide)⟩
  · unfold Vb; rw [unary_result_ne _ _ _ _ _ _ (by decide), nullary_result_ne _ _ _ _ (by decide), unary_result]; rfl
  · unfold Vb; rw [unary_result, nullary_result]; rfl

theorem held_before (d : Dev nD) : (held (SparseCore.T d) S8 (Vb m d) : sProp 𝕄)
    = iprop((lenLoc d ↦{fullShare} lnV m d) ∗ (tabLoc d ↦{fullShare} m (tabLoc d)) ∗ (tblLoc d ↦{fullShare} tbV m d)
      ∗ (cstLoc d ↦{fullShare} Vb m d (Proc.devRef .tc main_cst)) ∗ (zerLoc d ↦{fullShare} (fun _ => Z : ChA F)) ∗ (embLoc d ↦{fullShare} m (embLoc d))
      ∗ (posLoc d ↦{fullShare} m (posLoc d)) ∗ (outLoc d ↦{fullShare} Vb m d (Proc.devRef .tc main_v3))) := by
  obtain ⟨h0, h1, h2, h4, h5, h6⟩ := before_vals m d
  rw [held_eq, h0, h1, h2, h4, h5, h6]

theorem after_other (d : Dev nD) {r : Ref sig .tc} (h1 : Proc.devRef (τ := τ) .tc r ≠ Proc.devRef .tc main_v2_1)
    (h2 : Proc.devRef (τ := τ) .tc r ≠ Proc.devRef .tc main_v2_0) : Va m d (Proc.devRef .tc r) = Vb m d (Proc.devRef .tc r) := by
  unfold Va; rw [Function.update_of_ne h1, Function.update_of_ne h2]
theorem after_pos (d : Dev nD) : Va m d (Proc.devRef .tc main_v2_1) = PV (lnV m d) := by unfold Va; rw [Function.update_self]
theorem after_emb (d : Dev nD) : Va m d (Proc.devRef .tc main_v2_0) = EV (lnV m d) (tbV m d) := by
  unfold Va; rw [Function.update_of_ne (by decide), Function.update_self]

theorem held_after (d : Dev nD) : (held (SparseCore.T d) S8 (Va m d) : sProp 𝕄)
    = iprop((lenLoc d ↦{fullShare} lnV m d) ∗ (tabLoc d ↦{fullShare} m (tabLoc d)) ∗ (tblLoc d ↦{fullShare} tbV m d)
      ∗ (cstLoc d ↦{fullShare} Vb m d (Proc.devRef .tc main_cst)) ∗ (zerLoc d ↦{fullShare} (fun _ => Z : ChA F)) ∗ (embLoc d ↦{fullShare} EV (lnV m d) (tbV m d))
      ∗ (posLoc d ↦{fullShare} PV (lnV m d)) ∗ (outLoc d ↦{fullShare} Vb m d (Proc.devRef .tc main_v3))) := by
  have h := held_before m d
  rw [held_eq] at h ⊢
  obtain ⟨h0, h1, h2, h4⟩ := before_vals m d
  rw [after_pos, after_emb, after_other m d (r := main_arg0) (by decide) (by decide), after_other m d (r := main_arg1) (by decide) (by decide), after_other m d (r := main_v0) (by decide) (by decide),
    after_other m d (r := main_cst) (by decide) (by decide), after_other m d (r := main_v1) (by decide) (by decide), after_other m d (r := main_v3) (by decide) (by decide), h0, h1, h2, h4.1]

/-- What the launch leaves: the arguments as they were and the two results. -/
def FIN (d : Dev nD) : sProp 𝕄 :=
  iprop((lenLoc d ↦{fullShare} m (lenLoc d)) ∗ (tabLoc d ↦{fullShare} m (tabLoc d)) ∗ (embLoc d ↦{fullShare} EV (lnV m d) (tbV m d))
    ∗ outLoc d ↦{fullShare} PosM (lnV m d))

theorem held_end (d : Dev nD) : (held (SparseCore.T d) S8 (Ve m d) : sProp 𝕄) ⊢ FIN m d := by
  rw [held_eq]
  obtain ⟨h0, h1, -, -⟩ := before_vals m d
  have e {r : Ref sig .tc} (h : r ≠ main_v3) : Ve m d (Proc.devRef .tc r) = Va m d (Proc.devRef .tc r) := by
    unfold Ve; rw [reshape_result_ne _ _ _ _ _ _ _ h]
  have e5 : Ve m d (Proc.devRef .tc main_v2_0) = EV (lnV m d) (tbV m d) := by
    rw [e (by decide), after_emb]
  have e7 : Ve m d (Proc.devRef .tc main_v3) = PosM (lnV m d) := by
    unfold Ve; rw [reshape_result, after_pos]; rfl
  rw [e (r := main_arg0) (by decide), e (r := main_arg1) (by decide), after_other m d (r := main_arg0) (by decide) (by decide), after_other m d (r := main_arg1) (by decide) (by decide), h0, h1, e5, e7]
  unfold FIN
  iintro ⟨H0, H1, -, -, -, H5, -, H7⟩
  isplitl [H0]; · iexact H0
  isplitl [H1]; · iexact H1
  isplitl [H5]; · iexact H5
  iexact H7

/-- What the host keeps during the kernel. -/
def Kept (d : Dev nD) : sProp 𝕄 :=
  iprop(Left (ℓ := lenLoc d) (lnV m d) ∗ Left (ℓ := zerLoc d) (fun _ => Z : ChA F) ∗ (tabLoc d ↦{fullShare} m (tabLoc d))
    ∗ (cstLoc d ↦{fullShare} Vb m d (Proc.devRef .tc main_cst)) ∗ outLoc d ↦{fullShare} Vb m d (Proc.devRef .tc main_v3))

theorem all_give (d : Dev nD) : (bigSep Finset.univ fun c : Fin 2 => giveC m d c : sProp 𝕄)
    = bigSep Finset.univ fun t : Fin 2 × Fin 16 => giveT m d t := by rw [bigSep_univ_prod]; rfl
theorem all_back (d : Dev nD) : (bigSep Finset.univ fun c : Fin 2 => backC m d c : sProp 𝕄)
    = bigSep Finset.univ fun t : Fin 2 × Fin 16 => backT m d t := by rw [bigSep_univ_prod]; rfl

theorem host_gives (d : Dev nD) : (held (SparseCore.T d) S8 (Vb m d) : sProp 𝕄)
    ⊢ iprop((bigSep Finset.univ fun c : Fin 2 => giveC m d c) ∗ Kept m d) := by
  rw [held_before, all_give, show (bigSep Finset.univ fun t : Fin 2 × Fin 16 => giveT m d t : sProp 𝕄) = _ from
    tiles_eq d (lnV m d) (tbV m d) (m (embLoc d)) (m (posLoc d)), shares_eq (ℓ := lenLoc d), shares_eq (ℓ := zerLoc d)]
  unfold Kept
  iintro ⟨⟨L0, H0⟩, H1, H2, H3, ⟨L4, H4⟩, H5, H6, H7⟩
  isplitl [H0 H2 H4 H5 H6]
  · isplitl [H0]; · iexact H0
    isplitl [H4]; · iexact H4
    isplitl [H2 H5]
    · isplitl [H2]; · iexact H2
      iexact H5
    iexact H6
  isplitl [L0]; · iexact L0
  isplitl [L4]; · iexact L4
  isplitl [H1]; · iexact H1
  isplitl [H3]; · iexact H3
  iexact H7

theorem host_gets (d : Dev nD) : iprop((bigSep Finset.univ fun c : Fin 2 => backC m d c) ∗ Kept m d)
    ⊢ (held (SparseCore.T d) S8 (Va m d) : sProp 𝕄) := by
  rw [held_after, all_back, show (bigSep Finset.univ fun t : Fin 2 × Fin 16 => backT m d t : sProp 𝕄) = _ from
    tiles_eq d (lnV m d) (tbV m d) (EV (lnV m d) (tbV m d)) (PV (lnV m d)), shares_eq (ℓ := lenLoc d), shares_eq (ℓ := zerLoc d)]
  unfold Kept
  iintro ⟨⟨H0, H4, ⟨H2, H5⟩, H6⟩, L0, L4, H1, H3, H7⟩
  isplitl [L0 H0]
  · isplitl [L0]; · iexact L0
    iexact H0
  isplitl [H1]; · iexact H1
  isplitl [H2]; · iexact H2
  isplitl [H3]; · iexact H3
  isplitl [L4 H4]
  · isplitl [L4]; · iexact L4
    iexact H4
  isplitl [H5]; · iexact H5
  isplitl [H6]; · iexact H6
  iexact H7

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
        fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opS) (S := S8)
    (show ({Proc.devRef .tc (main_arg1 : Ref sig .tc), Proc.devRef .tc (main_v0 : Ref sig .tc)} : Finset (DevRef τ sig)) ⊆ S8 by decide) (V := Vi m d)) $$ [Hb Hheld]
  · isplitl [Hb] <;> iassumption
  iintro ⟨Hb, Hheld⟩
  rw [wp_ret]; imodintro
  iapply (wp_hlo_within 𝒱 (SparseCore.T d) none Set.univ (op := opC) (S := S8)
    (show ({Proc.devRef .tc (main_cst : Ref sig .tc)} : Finset (DevRef τ sig)) ⊆ S8 by decide) (V := opS.result (Vi m d))) $$ [Hb Hheld]
  · isplitl [Hb] <;> iassumption
  iintro ⟨Hb, Hheld⟩
  rw [wp_ret]; imodintro
  iapply (wp_hlo_within 𝒱 (SparseCore.T d) none Set.univ (op := opZ) (S := S8)
    (show ({Proc.devRef .tc (main_cst : Ref sig .tc), Proc.devRef .tc (main_v1 : Ref sig .tc)} : Finset (DevRef τ sig)) ⊆ S8 by decide) (V := opC.result (opS.result (Vi m d)))) $$ [Hb Hheld]
  · isplitl [Hb] <;> iassumption
  iintro ⟨Hb, Hheld⟩
  rw [wp_ret]; imodintro
  ihave Hg := (show (held (SparseCore.T d) S8 (opZ.result (opC.result (opS.result (Vi m d)))) : sProp 𝕄) ⊢ _ from host_gives m d) $$ Hheld
  icases Hg with ⟨Hg, Hk⟩
  iapply ((K (F := F)).wp_run (D (F := F)) 𝒱 (EH := EH) (P := P m) κ d 0) $$ [Hst Hg Hb Hts Hk]
  isplitr; · iexact Hctx
  isplitl [Hst]; · iexact Hst
  isplitl [Hg]; · iexact Hg
  iintro ⟨Hst, Hdn⟩
  ihave Hheld := (host_gets m d) $$ [Hdn Hk]
  · isplitl [Hdn]; · iexact Hdn
    iexact Hk
  iapply (wp_hlo_within 𝒱 (SparseCore.T d) none Set.univ (op := opR) (S := S8)
    (show ({Proc.devRef .tc (main_v2_1 : Ref sig .tc), Proc.devRef .tc (main_v3 : Ref sig .tc)} : Finset (DevRef τ sig)) ⊆ S8 by decide) (V := Va m d)) $$ [Hb Hheld]
  · isplitl [Hb] <;> iassumption
  iintro ⟨Hb, Hheld⟩
  rw [wp_ret]; imodintro
  ihave Hf := (show (held (SparseCore.T d) S8 (opR.result (Va m d)) : sProp 𝕄) ⊢ _ from held_end m d) $$ Hheld
  imodintro
  isplitl [Hst]; · iexact Hst
  isplitl [Hf]; · iexact Hf
  isplitl [Hb] <;> iassumption

/-! ## The run -/

/-- What the memory holds at the end, on device `d`. -/
def fq (d : Dev nD) (s : MemSt nD τ sig (Elt F)) : Prop :=
  s.mem (lenLoc d) = m (lenLoc d) ∧ s.mem (tabLoc d) = m (tabLoc d) ∧ s.mem (embLoc d) = EV (lnV m d) (tbV m d) ∧ s.mem (outLoc d) = PosM (lnV m d)

theorem hfin (d : Dev nD) (s' : Phys nD τ sig (Elt F)) : iprop(FIN m d ∗ SI s') ⊢ (⌜fq m d s'.mem⌝ : sProp 𝕄) := by
  unfold FIN
  iintro ⟨⟨H0, H1, H2, H3⟩, HSI⟩
  ihave H := (persistent_entails_right (SI_pointsTo_agree (st := s') (ℓ := lenLoc d) (I := Finset.univ) (q := fullShare) (f := m (lenLoc d)))) $$ [HSI H0]
  · isplitl [HSI] <;> iassumption
  icases H with ⟨%h0, HSI, -⟩
  ihave H := (persistent_entails_right (SI_pointsTo_agree (st := s') (ℓ := tabLoc d) (I := Finset.univ) (q := fullShare) (f := m (tabLoc d)))) $$ [HSI H1]
  · isplitl [HSI] <;> iassumption
  icases H with ⟨%h1, HSI, -⟩
  ihave H := (persistent_entails_right (SI_pointsTo_agree (st := s') (ℓ := embLoc d) (I := Finset.univ) (q := fullShare) (f := EV (lnV m d) (tbV m d)))) $$ [HSI H2]
  · isplitl [HSI] <;> iassumption
  icases H with ⟨%h2, HSI, -⟩
  ihave %h3 := (SI_pointsTo_agree (st := s') (ℓ := outLoc d) (I := Finset.univ) (q := fullShare) (f := PosM (lnV m d))) $$ [HSI H3]
  · isplitl [HSI] <;> iassumption
  ipureintro
  exact ⟨funext fun i => h0 i (Finset.mem_univ i), funext fun i => h1 i (Finset.mem_univ i), funext fun i => h2 i (Finset.mem_univ i),
    funext fun i => h3 i (Finset.mem_univ i)⟩

/-- The run's outcome: every device's arguments as they were, its results the two values, and every semaphore zero. -/
def QC : PUnit × MemSt nD τ sig (Elt F) → Prop := fun r => (∀ d, fq m d r.2) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K) (D := D) (𝒱 := 𝒱) (EH := EH) (P := P m) (A := ∅) facts v₀ (fun q hq => match q with | 0 => nomatch hq)
    (fun q _ => match q with | 0 => tileObl m) (fun q _ => match q with | 0 => SparseCore.Cfg.VecSplit.of_plain (vecSplit m)) m ρ main (fun _ => iprop(emp))
    (FIN m) (u₀ (F := F)) (sep_elim_left.trans (hu₀ m)) (hmain m ρ) (fun d s' => fq m d s'.mem) (hfin m) (QC m) (fun _ h hz => ⟨h, hz⟩)

end Cert.Proof.Tile

end
-- ==== Proof.Value.lean ====
/-
  The values of the reference and what the precondition says of the arguments: the reference's two results,
  written as functions of the lengths and the table, read at an index, and equal to the values that the
  kernel's run ends with.
-/
module

public import proofs.«01_k».proof.Proof.Launch
public import proofs.«01_k».proof.Pre_in_range
public import proofs.«01_k».proof.Proof.Gen.Pre_in_range
public import proofs.«01_k».proof.Proof.Gen.ReferenceIdeal.Run
public import Idealize.ShloMosaic.Lib.ReduceAll
public import Idealize.ShloMosaic.Lib.Pipeline.Value
public import Idealize.ShloMosaic.Lib.ValueLayout
public import Idealize.ShloMosaic.Lib.ValueLayoutCasts
public import Idealize.ShloMosaic.Lib.ValueIdxCore
public import Idealize.ShloMosaic.Lib.IdealHost

@[expose] public section

noncomputable section

namespace Cert.Proof.Ref

open Cert.ReferenceIdeal Cert.ReferenceIdeal.Gen
open Idealize.ShloMosaic Idealize.ShloMosaic.ValueIdx

variable {F : FTy → Type} [FloatOps F]

/-! ## The reference's positions -/

/-- The row of positions 1, …, 4096, as a matrix with one such row for each sequence. -/
def rowW : S16x4096.Idx → BitVec 32 :=
  broadcastInDim S16x4096 ![0, 1] bcast_S1x4096_S16x4096_0_1 (broadcastInDim S1x4096 ![1] bcast_S4096_S1x4096_1
    (addi (broadcastInDim S4096 ![] bcast_S_S4096 (constantI S_ 32 1#32)) (iotaInDim S4096 32 0)))

/-- The lengths, as a matrix with one column for each position. -/
def lenCol (ln : S16.Idx → BitVec 32) : S16x4096.Idx → BitVec 32 :=
  broadcastInDim S16x4096 ![0, 1] bcast_S16x1_S16x4096_0_1 (broadcastInDim S16x1 ![0] bcast_S16_S16x1_0 ln)

/-- The positions that the reference returns: the position where it is within the length, zero elsewhere. -/
def posR (ln : S16.Idx → BitVec 32) : S16x4096.Idx → BitVec 32 :=
  select (cmpi .sle rowW (lenCol ln)) rowW (broadcastInDim S16x4096 ![] bcast_S_S16x4096 (id (constantI S_ 32 0#32)))

theorem rowW_at (b : Fin 16) (s : Fin 4096) : rowW (ix2 b s) = BitVec.ofNat 32 s.val + 1#32 := by
  unfold rowW
  rw [broadcastInDim_apply _ _ _ (ix2 b s) (ix2 (0 : Fin 1) s) (by intro a; match a with | ⟨0, _⟩ => rfl | ⟨1, _⟩ => rfl),
    broadcastInDim_apply _ _ _ (ix2 (0 : Fin 1) s) (ix1 s) (by intro a; match a with | ⟨0, _⟩ => rfl)]
  exact BitVec.add_comm _ _

theorem lenCol_at (ln : S16.Idx → BitVec 32) (b : Fin 16) (s : Fin 4096) : lenCol ln (ix2 b s) = ln (ix1 b) := by
  unfold lenCol
  rw [broadcastInDim_apply _ _ _ (ix2 b s) (ix2 b (0 : Fin 1)) (by intro a; match a with | ⟨0, _⟩ => rfl | ⟨1, _⟩ => rfl),
    broadcastInDim_apply _ _ _ (ix2 b (0 : Fin 1)) (ix1 b) (by intro a; match a with | ⟨0, _⟩ => rfl)]

theorem posR_at (ln : S16.Idx → BitVec 32) (b : Fin 16) (s : Fin 4096) :
    posR ln (ix2 b s) = if (BitVec.ofNat 32 s.val + 1#32).sle (ln (ix1 b)) then BitVec.ofNat 32 s.val + 1#32 else 0#32 := by
  show (if BitVec.ofBool ((rowW (ix2 b s)).sle (lenCol ln (ix2 b s))) = 1#1 then rowW (ix2 b s) else 0#32) = _
  rw [rowW_at, lenCol_at]
  cases h : (BitVec.ofNat 32 s.val + 1#32).sle (ln (ix1 b)) <;> simp

/-- The word of a position, and what its comparison with a length says of integers. -/
theorem toInt_pos (s : Fin 4096) : (BitVec.ofNat 32 s.val + 1#32).toInt = (s.val : ℤ) + 1 := by
  have h := s.isLt
  rw [BitVec.toInt_eq_toNat_of_lt (by simp only [BitVec.toNat_add, BitVec.toNat_ofNat]; omega)]
  simp only [BitVec.toNat_add, BitVec.toNat_ofNat]
  omega

/-- A position that the reference returns, as a number. -/
theorem posR_toInt (ln : S16.Idx → BitVec 32) (b : Fin 16) (s : Fin 4096) :
    (posR ln (ix2 b s)).toInt = if (s.val : ℤ) + 1 ≤ (ln (ix1 b)).toInt then (s.val : ℤ) + 1 else 0 := by
  rw [posR_at]
  simp only [BitVec.sle_eq_decide, toInt_pos, decide_eq_true_eq]
  split
  · exact toInt_pos s
  · rfl

/-- The kernel's positions, put into rows of 4096, are the reference's. -/
theorem PosM_eq (ln : S16.Idx → BitVec 32) : Cert.Proof.Tile.PosM ln = posR ln := by
  funext j
  obtain ⟨b, s, rfl⟩ : ∃ b s, j = ix2 b s := ⟨j 0, j 1, funext fun a => by match a with | ⟨0, _⟩ => rfl | ⟨1, _⟩ => rfl⟩
  have hb := b.isLt
  have hs := s.isLt
  unfold Cert.Proof.Tile.PosM
  rw [shapeCast_apply _ _ (ix2 b s) (ix1 (⟨b.val * 4096 + s.val, by omega⟩ : Fin 65536))
    (by rw [Shape.rowMajor_val_one, Shape.rowMajor_val_two]; rfl), posR_at]
  have e1 : (b.val * 4096 + s.val) % 4096 = s.val := by omega
  have e2 : (b.val * 4096 + s.val) / 4096 = b.val := by omega
  have e3 : Fin.ofNat 16 b.val = b := Fin.ext (Nat.mod_eq_of_lt hb)
  show (if (BitVec.ofNat 32 ((b.val * 4096 + s.val) % 4096) + 1#32).sle (ln (ix1 (Fin.ofNat 16 ((b.val * 4096 + s.val) / 4096))))
    then BitVec.ofNat 32 ((b.val * 4096 + s.val) % 4096) + 1#32 else 0#32) = _
  rw [e1, e2, e3]

/-! ## Rows of the table, taken by position -/

/-- A selection where the condition holds. -/
theorem select_one {s : Shape} {α : Type} (c : s.Idx → BitVec 1) (x y : s.Idx → α) (j : s.Idx) (h : c j = 1#1) :
    select c x y j = x j := if_pos h

/-- Rows of `tb` gathered by a column of row numbers: the row whose number the entry is, held between 0 and 4096. -/
theorem gather_rows {α : Type} (tb : S4097x1024.Idx → α) (ix : S16x4096x1.Idx → BitVec 32) (b : Fin 16) (s : Fin 4096) (e : Fin 1024) :
    Host.gather gather_S4097x1024_S16x4096x1_S16x4096x1024_2_0_n_n_0_2_11024 tb ix (ix3 b s e)
      = tb (ix2 (⟨min (ix (ix3 b s (0 : Fin 1))).toInt.toNat 4096, by omega⟩ : Fin 4097) e) := by
  unfold Host.gather
  refine congrArg tb (funext fun a => Fin.ext ?_)
  show GatherDims.start _ (ix3 b s e) ix a + GatherDims.batchCoord _ (ix3 b s e) a + GatherDims.offCoord _ (ix3 b s e) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    refine (dif_pos (List.mem_singleton.mpr rfl)).trans ?_
    refine congrArg (fun x => min (ix x).toInt.toNat 4096) (funext fun c => Fin.ext ?_)
    match c with
    | ⟨0, _⟩ => rfl
    | ⟨1, _⟩ => rfl
    | ⟨2, _⟩ => rfl
  | ⟨1, _⟩ =>
    exact (congrArg (· + _) (dif_neg fun h => absurd (congrArg Fin.val (List.mem_singleton.mp h)) Nat.one_ne_zero)).trans (Nat.zero_add _)

/-- Row numbers as `jnp` counts them: a negative one counts from the end of the table. -/
def wrapR (p : S16x4096.Idx → BitVec 32) : S16x4096x1.Idx → BitVec 32 :=
  broadcastInDim S16x4096x1 ![0, 1] bcast_S16x4096_S16x4096x1_0_1
    (select (cmpi .slt p (broadcastInDim S16x4096 ![] bcast_S_S16x4096 (constantI S_ 32 0#32)))
      (addi p (broadcastInDim S16x4096 ![] bcast_S_S16x4096 (constantI S_ 32 4097#32))) p)

/-- Which of the row numbers `v` are rows of the table. -/
def inR (v : S16x4096x1.Idx → BitVec 32) : S16x4096.Idx → BitVec 1 :=
  Host.reduce IntOp.andi
    (andi (cmpi .sge v (broadcastInDim S16x4096x1 ![] bcast_S_S16x4096x1 (constantI S_ 32 0#32)))
      (cmpi .sle v (broadcastInDim S16x4096x1 ![0, 1, 2] bcast_S1x1x1_S16x4096x1_0_1_2
        (broadcastInDim S1x1x1 ![2] bcast_S1_S1x1x1_2 (constantI S1 32 4096#32)))))
    (constantI S_ 1 1#1) reducesTo_S16x4096x1_S16x4096_d2 h_S_

/-- The rows of `tb` at the positions `p`, and not-a-number where `p` is no row. -/
def takeR (tb : S4097x1024.Idx → F .f32) (p : S16x4096.Idx → BitVec 32) : S16x4096x1024.Idx → F .f32 :=
  select (broadcastInDim S16x4096x1024 ![0, 1] bcast_S16x4096_S16x4096x1024_0_1 (inR (wrapR p)))
    (Host.gather gather_S4097x1024_S16x4096x1_S16x4096x1024_2_0_n_n_0_2_11024 tb (wrapR p))
    (broadcastInDim S16x4096x1024 ![] bcast_S_S16x4096x1024 (constant S_ .f32 0x7FC00000#32))

theorem wrapR_at (p : S16x4096.Idx → BitVec 32) (hp : ∀ b s, 0 ≤ (p (ix2 b s)).toInt) (b : Fin 16) (s : Fin 4096) (z : Fin 1) :
    wrapR p (ix3 b s z) = p (ix2 b s) := by
  unfold wrapR
  rw [broadcastInDim_apply _ _ _ (ix3 b s z) (ix2 b s) (by intro a; match a with | ⟨0, _⟩ => rfl | ⟨1, _⟩ => rfl)]
  show (if BitVec.ofBool ((p (ix2 b s)).slt 0#32) = 1#1 then _ else p (ix2 b s)) = _
  have h : (p (ix2 b s)).slt 0#32 = false := by
    rw [BitVec.slt_eq_decide, decide_eq_false_iff_not]
    have := hp b s
    show ¬ (p (ix2 b s)).toInt < 0
    omega
  rw [h]
  rfl

theorem inR_at (v : S16x4096x1.Idx → BitVec 32) (h0 : ∀ b s z, 0 ≤ (v (ix3 b s z)).toInt) (h1 : ∀ b s z, (v (ix3 b s z)).toInt ≤ 4096)
    (j : S16x4096.Idx) : inR v j = 1#1 := by
  refine Host.reduce_andi_one _ _ _ _ _ rfl fun i => ?_
  obtain ⟨b, s, z, rfl⟩ : ∃ b s z, i = ix3 b s z :=
    ⟨i 0, i 1, i 2, funext fun a => by match a with | ⟨0, _⟩ => rfl | ⟨1, _⟩ => rfl | ⟨2, _⟩ => rfl⟩
  show BitVec.ofBool ((0#32).sle (v (ix3 b s z))) &&& BitVec.ofBool ((v (ix3 b s z)).sle 4096#32) = 1#1
  have e0 : (0#32).sle (v (ix3 b s z)) = true := by rw [BitVec.sle_eq_decide, decide_eq_true_eq]; exact h0 b s z
  have e1 : (v (ix3 b s z)).sle 4096#32 = true := by rw [BitVec.sle_eq_decide, decide_eq_true_eq]; exact h1 b s z
  rw [e0, e1]
  rfl

/-- Rows taken at positions that are all rows of the table. -/
theorem takeR_at (tb : S4097x1024.Idx → F .f32) (p : S16x4096.Idx → BitVec 32) (h0 : ∀ b s, 0 ≤ (p (ix2 b s)).toInt)
    (h1 : ∀ b s, (p (ix2 b s)).toInt ≤ 4096) (b : Fin 16) (s : Fin 4096) (e : Fin 1024) (r : Fin 4097) (hr : (p (ix2 b s)).toInt = r.val) :
    takeR tb p (ix3 b s e) = tb (ix2 r e) := by
  have hm : broadcastInDim S16x4096x1024 ![0, 1] bcast_S16x4096_S16x4096x1024_0_1 (inR (wrapR p)) (ix3 b s e) = 1#1 := by
    rw [broadcastInDim_apply _ _ _ (ix3 b s e) (ix2 b s) (by intro a; match a with | ⟨0, _⟩ => rfl | ⟨1, _⟩ => rfl)]
    exact inR_at _ (fun b s z => by rw [wrapR_at p h0]; exact h0 b s) (fun b s z => by rw [wrapR_at p h0]; exact h1 b s) _
  refine (select_one _ _ _ _ hm).trans ((gather_rows tb (wrapR p) b s e).trans ?_)
  refine congrArg (fun x => tb (ix2 x e)) (Fin.ext ?_)
  show min (wrapR p (ix3 b s (0 : Fin 1))).toInt.toNat 4096 = r.val
  rw [wrapR_at p h0, hr]
  have := r.isLt
  omega

/-! ## What the precondition says -/

/-- The precondition: no length is below the least from which a chunk's start can be taken without wrapping round. -/
theorem pre_len (ln : S16.Idx → BitVec 32) (tb : S4097x1024.Idx → Ideal .f32)
    (h : Cert.Pre_in_range.fn (F := Ideal) ln tb = fun _ => 1#1) (b : Fin 16) : -2147479584 ≤ (ln (ix1 b)).toInt := by
  have h1 := Host.reduce_andi_all _ _ _ _ _ (IntOp.andi_eq_one.1 (congrFun h ix0)).1 (ix1 b)
  have h2 : (2147487712#32).sle (ln (ix1 b)) = true := by
    cases e : (2147487712#32).sle (ln (ix1 b)) with
    | true => rfl
    | false =>
      have h3 : BitVec.ofBool ((2147487712#32).sle (ln (ix1 b))) = 1#1 := h1
      rw [e] at h3
      exact absurd h3 (by decide)
  rw [BitVec.sle_eq_decide, decide_eq_true_eq] at h2
  exact h2

/-- The precondition: row 0 of the table is zero. -/
theorem pre_row (ln : S16.Idx → BitVec 32) (tb : S4097x1024.Idx → Ideal .f32)
    (h : Cert.Pre_in_range.fn (F := Ideal) ln tb = fun _ => 1#1) (e : Fin 1024) :
    tb (ix2 (0 : Fin 4097) e) = Scalar.ofBits .f32 0x00000000#32 := by
  have h1 := Host.reduce_andi_all _ _ _ _ _ (IntOp.andi_eq_one.1 (congrFun h ix0)).2 (ix1 e)
  have h2 : Ideal.cmp .oeq (shapeCast Cert.Pre_in_range.S1024 (extractStridedSlice Cert.Pre_in_range.S1x1024 ![0, 0] tb
      Cert.Pre_in_range.Gen.slices_S4097x1024_S1x1024_0_0) Cert.Pre_in_range.Gen.shapeCasts_S1x1024_S1024 (ix1 e))
      (FloatOps.ofBits .f32 0x00000000#32 : Ideal .f32) = 1#1 := h1
  rw [shapeCast_1a_a_apply, extractStridedSlice_apply _ _ _ _ (ix2 (0 : Fin 4097) e)
    (by intro a; match a with | ⟨0, _⟩ => rfl | ⟨1, _⟩ => exact (Nat.zero_add _).symm)] at h2
  by_contra hne
  have h3 : BitVec.ofBool (decide (tb (ix2 (0 : Fin 4097) e) = FloatOps.ofBits .f32 0x00000000#32)) = 1#1 := h2
  rw [decide_eq_false hne] at h3
  exact absurd h3 (by decide)

/-! ## The two results are equal -/

/-- The kernel's rows are the reference's. -/
theorem EV_eq (ln : S16.Idx → BitVec 32) (tb : S4097x1024.Idx → Ideal .f32)
    (h : Cert.Pre_in_range.fn (F := Ideal) ln tb = fun _ => 1#1) :
    Cert.Proof.Tile.EV ln (extractStridedSlice Cert.KernelIdeal.S4096x1024 ![1, 0] tb
      Cert.KernelIdeal.Gen.slices_S4097x1024_S4096x1024_1_0) = takeR tb (posR ln) := by
  funext j
  obtain ⟨b, s, e, rfl⟩ : ∃ b s e, j = ix3 b s e :=
    ⟨j 0, j 1, j 2, funext fun a => by match a with | ⟨0, _⟩ => rfl | ⟨1, _⟩ => rfl | ⟨2, _⟩ => rfl⟩
  have hs := s.isLt
  have hl := pre_len ln tb h b
  have hu : (ln (ix1 b)).toInt < 2147483648 := by have := @BitVec.toInt_lt 32 (ln (ix1 b)); simpa using this
  have h0 : ∀ b s, 0 ≤ (posR ln (ix2 b s)).toInt := fun b s => by rw [posR_toInt]; split <;> omega
  have h1 : ∀ b s, (posR ln (ix2 b s)).toInt ≤ 4096 := fun b s => by
    have := s.isLt
    rw [posR_toInt]; split <;> omega
  have hc : (((s.val % 32 : ℕ) : ℤ) < (ln (ix1 b) - BitVec.ofNat 32 (s.val - s.val % 32)).toInt) ↔ (s.val : ℤ) + 1 ≤ (ln (ix1 b)).toInt := by
    have ht : (BitVec.ofNat 32 (s.val - s.val % 32)).toInt = ((s.val - s.val % 32 : ℕ) : ℤ) := by
      rw [BitVec.toInt_eq_toNat_of_lt (by simp only [BitVec.toNat_ofNat]; omega), BitVec.toNat_ofNat, Nat.mod_eq_of_lt (by omega)]
    rw [BitVec.toInt_sub, ht, Int.bmod_def]
    omega
  show (if ((s.val % 32 : ℕ) : ℤ) < (ln (ix1 b) - BitVec.ofNat 32 (s.val - s.val % 32)).toInt
    then extractStridedSlice Cert.KernelIdeal.S4096x1024 ![1, 0] tb
      Cert.KernelIdeal.Gen.slices_S4097x1024_S4096x1024_1_0 (ix2 s e) else Scalar.ofBits .f32 0x00000000#32) = _
  by_cases hlt : (s.val : ℤ) + 1 ≤ (ln (ix1 b)).toInt
  · rw [if_pos (hc.2 hlt), takeR_at tb _ h0 h1 b s e ⟨s.val + 1, by omega⟩ (by rw [posR_toInt, if_pos hlt]; rfl)]
    exact extractStridedSlice_apply _ _ _ _ _
      (by intro a; match a with | ⟨0, _⟩ => exact Nat.add_comm _ _ | ⟨1, _⟩ => exact (Nat.zero_add _).symm)
  · rw [if_neg (fun hh => hlt (hc.1 hh)), takeR_at tb _ h0 h1 b s e 0 (by rw [posR_toInt, if_neg hlt]; rfl), pre_row ln tb h e]

/-! ## The reference's run -/

open Idealize.SL.Sem

/-- Every run of the reference ends with these two results, the arguments as they were, and every semaphore at
    zero, since it has none. -/
theorem run_ref (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v9)
          = takeR (m ((c.tc : Thread nD τ).loc main_arg1)) (posR (m ((c.tc : Thread nD τ).loc main_arg0)))
      ∧ r.2.mem ((c.tc : Thread nD τ).loc main_v8) = posR (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h c).1.trans rfl, (h c).2.1.trans rfl, (h c).2.2⟩, sem_eq_zero_of_no_sems rfl r.2⟩)
    (Cert.ReferenceIdeal.Value.run m ρ)

end Cert.Proof.Ref

end
-- ==== Proof.Same.lean ====
/-
  The kernel printed for the words of the machine and the kernel printed for the reals are the same program over
  any floating-point values: their tables of bodies are equal, so a run of one is a run of the other.
-/
module

public import proofs.«01_k».proof.Proof.Gen.Kernel
public import proofs.«01_k».proof.Proof.Gen.KernelIdeal

@[expose] public section

noncomputable section

namespace Cert.Proof.Same

open Idealize.ShloMosaic Idealize.SL.Sem

universe u v

/-- Two sequences are equal when their first programs are and their continuations are at every result. -/
theorem bind_eq {M : Type u → Type v} [Bind M] {α β : Type u} {x y : M α} {f g : α → M β} (h : x = y) (hf : ∀ a, f a = g a) :
    x >>= f = y >>= g := by
  subst h; rw [funext hf]

variable (F : FTy → Type) [FloatOps F]

set_option maxHeartbeats 4000000 in -- fifty-two windows of the body, of up to a hundred operations each, are compared here
/-- The body but for its last operations: window by window. -/
theorem windows_eq : Cert.Kernel.k0_part53 (F := F) = Cert.KernelIdeal.k0_part53 (F := F) := by
  funext i
  repeat refine funext fun _ => ?_
  unfold Cert.Kernel.k0_part53 Cert.KernelIdeal.k0_part53
  iterate 52 refine bind_eq rfl fun _ => ?_
  rfl

/-- The whole body. -/
theorem body_eq : Cert.Kernel.cc0__pe_sc (F := F) = Cert.KernelIdeal.cc0__pe_sc (F := F) := by
  funext i
  repeat refine funext fun _ => ?_
  unfold Cert.Kernel.cc0__pe_sc Cert.KernelIdeal.cc0__pe_sc
  refine bind_eq ?_ fun _ => ?_
  · rw [windows_eq]
  · rfl

/-- The kernels' table of bodies. -/
theorem bodies_eq : Cert.Kernel.defs₀ (F := F) = Cert.KernelIdeal.defs₀ (F := F) := by
  unfold Cert.Kernel.defs₀ Cert.KernelIdeal.defs₀
  rw [body_eq]
  rfl

/-- The table of everything that the program calls. -/
theorem defs_eq : Cert.Kernel.defs (F := F) = Cert.KernelIdeal.defs (F := F) := by
  unfold Cert.Kernel.defs Cert.KernelIdeal.defs
  rw [bodies_eq]
  rfl

end Cert.Proof.Same

end
-- ==== Proof.lean ====
/-
  The claims about the kernel and its reference. Every run of the kernel ends with its two results at given values
  (`run_main`, over any floating-point values), so the frames over the bits and over the reals are one theorem read
  twice; the two results are the reference's (`EV_eq`, `PosM_eq`) under the precondition.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel over the words of the machine: it runs, leaves its arguments, and ends with every semaphore at zero. -/
theorem frame_kernel : Cert.quiescent_Kernel := by
  intro m ρ _
  rw [Cert.Proof.Same.defs_eq]
  exact (θ_run Cert.KernelIdeal.defs _ _).mono (fun _ h => ⟨fun c => ⟨(h.1 c).1, (h.1 c).2.1⟩, h.2⟩)
    (Cert.Proof.Tile.run_main (F := Bits) m ρ)

/-- The same over the reals. -/
theorem frame_ideal : Cert.quiescent_KernelIdeal := fun m ρ _ =>
  (θ_run Cert.KernelIdeal.defs _ _).mono (fun _ h => ⟨fun c => ⟨(h.1 c).1, (h.1 c).2.1⟩, h.2⟩)
    (Cert.Proof.Tile.run_main (F := Ideal) m ρ)

/-- The reference runs, leaves its arguments, and has no semaphore. -/
theorem frame_ref : Cert.quiescent_ReferenceIdeal := fun m ρ _ =>
  (θ_run Cert.ReferenceIdeal.defs _ _).mono (fun _ h => ⟨fun c => (h.1 c).2.2, h.2⟩) (Cert.Proof.Ref.run_ref (F := Ideal) m ρ)

/-- Over the reals the kernel's two results are the reference's. -/
theorem values : Cert.algebraic_KernelIdeal_ReferenceIdeal_pre_in_range := fun m g m' g' hpre harg =>
  ⟨fun c => Cert.Proof.Tile.EV (Cert.Proof.Tile.lnV m c) (Cert.Proof.Tile.tbV m c), fun c => Cert.Proof.Tile.PosM (Cert.Proof.Tile.lnV m c),
    (θ_run Cert.KernelIdeal.defs _ _).mono (fun _ h c => ⟨(h.1 c).2.2.1, (h.1 c).2.2.2, (h.1 c).1, (h.1 c).2.1⟩)
      (Cert.Proof.Tile.run_main (F := Ideal) m g),
    (θ_run Cert.ReferenceIdeal.defs _ _).mono (fun r h c => by
        obtain ⟨h1, h2, h3⟩ := h.1 c
        obtain ⟨a0, a1⟩ := harg c
        refine ⟨h1.trans ?_, h2.trans ?_, h3⟩
        · rw [a0, a1]; exact (Cert.Proof.Ref.EV_eq _ _ (hpre c)).symm
        · rw [a0]; exact (Cert.Proof.Ref.PosM_eq _).symm)
      (Cert.Proof.Ref.run_ref (F := Ideal) m' g')⟩

theorem claim : Cert.Claim := ⟨Cert.Kernel.Gen.facts, Cert.KernelIdeal.Gen.facts, Cert.ReferenceIdeal.Gen.facts, Cert.Pre_in_range.Gen.facts,
  frame_kernel, frame_ideal, fun m g _ => frame_ideal m g trivial, frame_ref, fun m g _ => frame_ref m g trivial, trivial, values⟩

end Cert.Proof

end
